-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_finite_rms [hPre_finite_rms : Cert.Pre_finite_rms.Facts] (m : (ℓ : Loc Cert.RmsIdeal.nD Cert.RmsIdeal.τ Cert.RmsIdeal.sig) → Buf (Elt Ideal) ℓ) : Prop :=
  ∀ c : Dev Cert.RmsIdeal.nD,
    (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.1 = (fun _ => 1#1)
    ∧ (Cert.Pre_finite_rms.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))).2.2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.1 = (fun _ => 1#1)
    ∧ (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wgate (m : (ℓ : Loc Cert.Wgate.nD Cert.Wgate.τ Cert.Wgate.sig) → Buf (Elt Bits) ℓ) : Prop :=
  True

def Pre_WgateIdeal (m : (ℓ : Loc Cert.WgateIdeal.nD Cert.WgateIdeal.τ Cert.WgateIdeal.sig) → Buf (Elt Ideal) ℓ) : Prop :=
  True

def Pre_WgateRefIdeal (m : (ℓ : Loc Cert.WgateRefIdeal.nD Cert.WgateRefIdeal.τ Cert.WgateRefIdeal.sig) → Buf (Elt Ideal) ℓ) : Prop :=
  True

def Pre_Hgate (m : (ℓ : Loc Cert.Hgate.nD Cert.Hgate.τ Cert.Hgate.sig) → Buf (Elt Bits) ℓ) : Prop :=
  True

def Pre_HgateIdeal (m : (ℓ : Loc Cert.HgateIdeal.nD Cert.HgateIdeal.τ Cert.HgateIdeal.sig) → Buf (Elt Ideal) ℓ) : Prop :=
  True

def Pre_HgateRefIdeal (m : (ℓ : Loc Cert.HgateRefIdeal.nD Cert.HgateRefIdeal.τ Cert.HgateRefIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_finite_rms [hRmsIdeal : Cert.RmsIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_finite_rms m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wgate [hWgate : Cert.Wgate.Facts] : Prop :=
  ∀ (m : (ℓ : Loc Cert.Wgate.nD Cert.Wgate.τ Cert.Wgate.sig) → Buf (Elt Bits) ℓ) (g : Dev Cert.Wgate.nD → PrngReg), Pre_Wgate m →
    θ_run (Cert.Wgate.defs (F := Bits)) (onTc (τ := Cert.Wgate.τ) (Cert.Wgate.main (F := Bits))) ⟨m, fun _ => 0, g⟩ (fun r => (∀ c : Dev Cert.Wgate.nD,
      r.2.mem ((c.tc : Thread Cert.Wgate.nD Cert.Wgate.τ).loc Cert.Wgate.main_arg0) = m ((c.tc : Thread Cert.Wgate.nD Cert.Wgate.τ).loc Cert.Wgate.main_arg0)
      ∧ r.2.mem ((c.tc : Thread Cert.Wgate.nD Cert.Wgate.τ).loc Cert.Wgate.main_arg1) = m ((c.tc : Thread Cert.Wgate.nD Cert.Wgate.τ).loc Cert.Wgate.main_arg1))
      ∧ r.2.sem = fun _ => 0)

def quiescent_WgateIdeal [hWgateIdeal : Cert.WgateIdeal.Facts] : Prop :=
  ∀ (m : (ℓ : Loc Cert.WgateIdeal.nD Cert.WgateIdeal.τ Cert.WgateIdeal.sig) → Buf (Elt Ideal) ℓ) (g : Dev Cert.WgateIdeal.nD → PrngReg), Pre_WgateIdeal m →
    θ_run (Cert.WgateIdeal.defs (F := Ideal)) (onTc (τ := Cert.WgateIdeal.τ) (Cert.WgateIdeal.main (F := Ideal))) ⟨m, fun _ => 0, g⟩ (fun r => (∀ c : Dev Cert.WgateIdeal.nD,
      r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
      ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1))
      ∧ r.2.sem = fun _ => 0)

def quiescent_WgateRefIdeal [hWgateRefIdeal : Cert.WgateRefIdeal.Facts] : Prop :=
  ∀ (m : (ℓ : Loc Cert.WgateRefIdeal.nD Cert.WgateRefIdeal.τ Cert.WgateRefIdeal.sig) → Buf (Elt Ideal) ℓ) (g : Dev Cert.WgateRefIdeal.nD → PrngReg), Pre_WgateRefIdeal m →
    θ_run (Cert.WgateRefIdeal.defs (F := Ideal)) (onTc (τ := Cert.WgateRefIdeal.τ) (Cert.WgateRefIdeal.main (F := Ideal))) ⟨m, fun _ => 0, g⟩ (fun r => (∀ c : Dev Cert.WgateRefIdeal.nD,
      r.2.mem ((c.tc : Thread Cert.WgateRefIdeal.nD Cert.WgateRefIdeal.τ).loc Cert.WgateRefIdeal.main_arg0) = m ((c.tc : Thread Cert.WgateRefIdeal.nD Cert.WgateRefIdeal.τ).loc Cert.WgateRefIdeal.main_arg0)
      ∧ r.2.mem ((c.tc : Thread Cert.WgateRefIdeal.nD Cert.WgateRefIdeal.τ).loc Cert.WgateRefIdeal.main_arg1) = m ((c.tc : Thread Cert.WgateRefIdeal.nD Cert.WgateRefIdeal.τ).loc Cert.WgateRefIdeal.main_arg1))
      ∧ r.2.sem = fun _ => 0)

def quiescent_Hgate [hHgate : Cert.Hgate.Facts] : Prop :=
  ∀ (m : (ℓ : Loc Cert.Hgate.nD Cert.Hgate.τ Cert.Hgate.sig) → Buf (Elt Bits) ℓ) (g : Dev Cert.Hgate.nD → PrngReg), Pre_Hgate m →
    θ_run (Cert.Hgate.defs (F := Bits)) (onTc (τ := Cert.Hgate.τ) (Cert.Hgate.main (F := Bits))) ⟨m, fun _ => 0, g⟩ (fun r => (∀ c : Dev Cert.Hgate.nD,
      r.2.mem ((c.tc : Thread Cert.Hgate.nD Cert.Hgate.τ).loc Cert.Hgate.main_arg0) = m ((c.tc : Thread Cert.Hgate.nD Cert.Hgate.τ).loc Cert.Hgate.main_arg0)
      ∧ r.2.mem ((c.tc : Thread Cert.Hgate.nD Cert.Hgate.τ).loc Cert.Hgate.main_arg1) = m ((c.tc : Thread Cert.Hgate.nD Cert.Hgate.τ).loc Cert.Hgate.main_arg1))
      ∧ r.2.sem = fun _ => 0)

def quiescent_HgateIdeal [hHgateIdeal : Cert.HgateIdeal.Facts] : Prop :=
  ∀ (m : (ℓ : Loc Cert.HgateIdeal.nD Cert.HgateIdeal.τ Cert.HgateIdeal.sig) → Buf (Elt Ideal) ℓ) (g : Dev Cert.HgateIdeal.nD → PrngReg), Pre_HgateIdeal m →
    θ_run (Cert.HgateIdeal.defs (F := Ideal)) (onTc (τ := Cert.HgateIdeal.τ) (Cert.HgateIdeal.main (F := Ideal))) ⟨m, fun _ => 0, g⟩ (fun r => (∀ c : Dev Cert.HgateIdeal.nD,
      r.2.mem ((c.tc : Thread Cert.HgateIdeal.nD Cert.HgateIdeal.τ).loc Cert.HgateIdeal.main_arg0) = m ((c.tc : Thread Cert.HgateIdeal.nD Cert.HgateIdeal.τ).loc Cert.HgateIdeal.main_arg0)
      ∧ r.2.mem ((c.tc : Thread Cert.HgateIdeal.nD Cert.HgateIdeal.τ).loc Cert.HgateIdeal.main_arg1) = m ((c.tc : Thread Cert.HgateIdeal.nD Cert.HgateIdeal.τ).loc Cert.HgateIdeal.main_arg1))
      ∧ r.2.sem = fun _ => 0)

def quiescent_HgateRefIdeal [hHgateRefIdeal : Cert.HgateRefIdeal.Facts] : Prop :=
  ∀ (m : (ℓ : Loc Cert.HgateRefIdeal.nD Cert.HgateRefIdeal.τ Cert.HgateRefIdeal.sig) → Buf (Elt Ideal) ℓ) (g : Dev Cert.HgateRefIdeal.nD → PrngReg), Pre_HgateRefIdeal m →
    θ_run (Cert.HgateRefIdeal.defs (F := Ideal)) (onTc (τ := Cert.HgateRefIdeal.τ) (Cert.HgateRefIdeal.main (F := Ideal))) ⟨m, fun _ => 0, g⟩ (fun r => (∀ c : Dev Cert.HgateRefIdeal.nD,
      r.2.mem ((c.tc : Thread Cert.HgateRefIdeal.nD Cert.HgateRefIdeal.τ).loc Cert.HgateRefIdeal.main_arg0) = m ((c.tc : Thread Cert.HgateRefIdeal.nD Cert.HgateRefIdeal.τ).loc Cert.HgateRefIdeal.main_arg0)
      ∧ r.2.mem ((c.tc : Thread Cert.HgateRefIdeal.nD Cert.HgateRefIdeal.τ).loc Cert.HgateRefIdeal.main_arg1) = m ((c.tc : Thread Cert.HgateRefIdeal.nD Cert.HgateRefIdeal.τ).loc Cert.HgateRefIdeal.main_arg1))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Rms_RmsIdeal : Prop :=
  True

def algebraic_RmsIdeal_RmsRefIdeal_pre_finite_rms [hRmsIdeal : Cert.RmsIdeal.Facts] [hRmsRefIdeal : Cert.RmsRefIdeal.Facts] [hPre_finite_rms : Cert.Pre_finite_rms.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_finite_rms m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v27) = v1 c
          ∧ r.2.mem ((c.tc : Thread Cert.MergeRefIdeal.nD Cert.MergeRefIdeal.τ).loc Cert.MergeRefIdeal.main_v24) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wgate_WgateIdeal : Prop :=
  True

def algebraic_WgateIdeal_WgateRefIdeal [hWgateIdeal : Cert.WgateIdeal.Facts] [hWgateRefIdeal : Cert.WgateRefIdeal.Facts] : Prop :=
  ∀ (m : (ℓ : Loc Cert.WgateIdeal.nD Cert.WgateIdeal.τ Cert.WgateIdeal.sig) → Buf (Elt Ideal) ℓ) (g : Dev Cert.WgateIdeal.nD → PrngReg)
    (m' : (ℓ : Loc Cert.WgateRefIdeal.nD Cert.WgateRefIdeal.τ Cert.WgateRefIdeal.sig) → Buf (Elt Ideal) ℓ) (g' : Dev Cert.WgateRefIdeal.nD → PrngReg), Pre_WgateIdeal m →
    (∀ c : Dev Cert.WgateIdeal.nD,
      m' ((c.tc : Thread Cert.WgateRefIdeal.nD Cert.WgateRefIdeal.τ).loc Cert.WgateRefIdeal.main_arg0) = m ((c.tc : Thread Cert.WgateIdeal.nD Cert.WgateIdeal.τ).loc Cert.WgateIdeal.main_arg0)
      ∧ m' ((c.tc : Thread Cert.WgateRefIdeal.nD Cert.WgateRefIdeal.τ).loc Cert.WgateRefIdeal.main_arg1) = m ((c.tc : Thread Cert.WgateIdeal.nD Cert.WgateIdeal.τ).loc Cert.WgateIdeal.main_arg1)) →
    ∃ (v0 : (c : Dev Cert.WgateIdeal.nD) → Buf (Elt Ideal) ((c.tc : Thread Cert.WgateIdeal.nD Cert.WgateIdeal.τ).loc Cert.WgateIdeal.main_v0)),
      θ_run (Cert.WgateIdeal.defs (F := Ideal)) (onTc (τ := Cert.WgateIdeal.τ) (Cert.WgateIdeal.main (F := Ideal))) ⟨m, fun _ => 0, g⟩ (fun r => ∀ c : Dev Cert.WgateIdeal.nD,
          r.2.mem ((c.tc : Thread Cert.WgateIdeal.nD Cert.WgateIdeal.τ).loc Cert.WgateIdeal.main_v0) = v0 c
          ∧ r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
          ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1))
      ∧ θ_run (Cert.WgateRefIdeal.defs (F := Ideal)) (onTc (τ := Cert.WgateRefIdeal.τ) (Cert.WgateRefIdeal.main (F := Ideal))) ⟨m', fun _ => 0, g'⟩ (fun r => ∀ c : Dev Cert.WgateRefIdeal.nD,
          r.2.mem ((c.tc : Thread Cert.WgateRefIdeal.nD Cert.WgateRefIdeal.τ).loc Cert.WgateRefIdeal.main_v8) = v0 c
          ∧ r.2.mem ((c.tc : Thread Cert.WgateRefIdeal.nD Cert.WgateRefIdeal.τ).loc Cert.WgateRefIdeal.main_arg0) = m' ((c.tc : Thread Cert.WgateRefIdeal.nD Cert.WgateRefIdeal.τ).loc Cert.WgateRefIdeal.main_arg0)
          ∧ r.2.mem ((c.tc : Thread Cert.WgateRefIdeal.nD Cert.WgateRefIdeal.τ).loc Cert.WgateRefIdeal.main_arg1) = m' ((c.tc : Thread Cert.WgateRefIdeal.nD Cert.WgateRefIdeal.τ).loc Cert.WgateRefIdeal.main_arg1))

def preserves_Hgate_HgateIdeal : Prop :=
  True

def algebraic_HgateIdeal_HgateRefIdeal [hHgateIdeal : Cert.HgateIdeal.Facts] [hHgateRefIdeal : Cert.HgateRefIdeal.Facts] : Prop :=
  ∀ (m : (ℓ : Loc Cert.HgateIdeal.nD Cert.HgateIdeal.τ Cert.HgateIdeal.sig) → Buf (Elt Ideal) ℓ) (g : Dev Cert.HgateIdeal.nD → PrngReg)
    (m' : (ℓ : Loc Cert.HgateRefIdeal.nD Cert.HgateRefIdeal.τ Cert.HgateRefIdeal.sig) → Buf (Elt Ideal) ℓ) (g' : Dev Cert.HgateRefIdeal.nD → PrngReg), Pre_HgateIdeal m →
    (∀ c : Dev Cert.HgateIdeal.nD,
      m' ((c.tc : Thread Cert.HgateRefIdeal.nD Cert.HgateRefIdeal.τ).loc Cert.HgateRefIdeal.main_arg0) = m ((c.tc : Thread Cert.HgateIdeal.nD Cert.HgateIdeal.τ).loc Cert.HgateIdeal.main_arg0)
      ∧ m' ((c.tc : Thread Cert.HgateRefIdeal.nD Cert.HgateRefIdeal.τ).loc Cert.HgateRefIdeal.main_arg1) = m ((c.tc : Thread Cert.HgateIdeal.nD Cert.HgateIdeal.τ).loc Cert.HgateIdeal.main_arg1)) →
    ∃ (v0 : (c : Dev Cert.HgateIdeal.nD) → Buf (Elt Ideal) ((c.tc : Thread Cert.HgateIdeal.nD Cert.HgateIdeal.τ).loc Cert.HgateIdeal.main_v0)),
      θ_run (Cert.HgateIdeal.defs (F := Ideal)) (onTc (τ := Cert.HgateIdeal.τ) (Cert.HgateIdeal.main (F := Ideal))) ⟨m, fun _ => 0, g⟩ (fun r => ∀ c : Dev Cert.HgateIdeal.nD,
          r.2.mem ((c.tc : Thread Cert.HgateIdeal.nD Cert.HgateIdeal.τ).loc Cert.HgateIdeal.main_v0) = v0 c
          ∧ r.2.mem ((c.tc : Thread Cert.HgateIdeal.nD Cert.HgateIdeal.τ).loc Cert.HgateIdeal.main_arg0) = m ((c.tc : Thread Cert.HgateIdeal.nD Cert.HgateIdeal.τ).loc Cert.HgateIdeal.main_arg0)
          ∧ r.2.mem ((c.tc : Thread Cert.HgateIdeal.nD Cert.HgateIdeal.τ).loc Cert.HgateIdeal.main_arg1) = m ((c.tc : Thread Cert.HgateIdeal.nD Cert.HgateIdeal.τ).loc Cert.HgateIdeal.main_arg1))
      ∧ θ_run (Cert.HgateRefIdeal.defs (F := Ideal)) (onTc (τ := Cert.HgateRefIdeal.τ) (Cert.HgateRefIdeal.main (F := Ideal))) ⟨m', fun _ => 0, g'⟩ (fun r => ∀ c : Dev Cert.HgateRefIdeal.nD,
          r.2.mem ((c.tc : Thread Cert.HgateRefIdeal.nD Cert.HgateRefIdeal.τ).loc Cert.HgateRefIdeal.main_v6) = v0 c
          ∧ r.2.mem ((c.tc : Thread Cert.HgateRefIdeal.nD Cert.HgateRefIdeal.τ).loc Cert.HgateRefIdeal.main_arg0) = m' ((c.tc : Thread Cert.HgateRefIdeal.nD Cert.HgateRefIdeal.τ).loc Cert.HgateRefIdeal.main_arg0)
          ∧ r.2.mem ((c.tc : Thread Cert.HgateRefIdeal.nD Cert.HgateRefIdeal.τ).loc Cert.HgateRefIdeal.main_arg1) = m' ((c.tc : Thread Cert.HgateRefIdeal.nD Cert.HgateRefIdeal.τ).loc Cert.HgateRefIdeal.main_arg1))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)) →
    ∃ (v0 : (c : Dev Cert.MergedIdeal.nD) → Buf (Elt Ideal) ((c.tc : Thread Cert.MergedIdeal.nD Cert.MergedIdeal.τ).loc Cert.MergedIdeal.main_v0)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v0) = v0 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v3) = v0 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v5) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)) →
    ∃ (v0 : (c : Dev Cert.FwdIdeal.nD) → Buf (Elt Ideal) ((c.tc : Thread Cert.FwdIdeal.nD Cert.FwdIdeal.τ).loc Cert.FwdIdeal.main_v1_0)) (v1 : (c : Dev Cert.FwdIdeal.nD) → Buf (Elt Ideal) ((c.tc : Thread Cert.FwdIdeal.nD Cert.FwdIdeal.τ).loc Cert.FwdIdeal.main_v1_1)) (v2 : (c : Dev Cert.FwdIdeal.nD) → Buf (Elt Ideal) ((c.tc : Thread Cert.FwdIdeal.nD Cert.FwdIdeal.τ).loc Cert.FwdIdeal.main_v1_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v1_0) = v0 c
          ∧ r.2.mem ((c.tc : Thread Cert.FwdIdeal.nD Cert.FwdIdeal.τ).loc Cert.FwdIdeal.main_v1_1) = v1 c
          ∧ r.2.mem ((c.tc : Thread Cert.FwdIdeal.nD Cert.FwdIdeal.τ).loc Cert.FwdIdeal.main_v1_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v26) = v0 c
          ∧ r.2.mem ((c.tc : Thread Cert.FwdRefIdeal.nD Cert.FwdRefIdeal.τ).loc Cert.FwdRefIdeal.main_v28) = v1 c
          ∧ r.2.mem ((c.tc : Thread Cert.FwdRefIdeal.nD Cert.FwdRefIdeal.τ).loc Cert.FwdRefIdeal.main_v30) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v2)) (v1 : (c : Dev Cert.DyIdeal.nD) → Buf (Elt Ideal) ((c.tc : Thread Cert.DyIdeal.nD Cert.DyIdeal.τ).loc Cert.DyIdeal.main_v5)) (v2 : (c : Dev Cert.DyIdeal.nD) → Buf (Elt Ideal) ((c.tc : Thread Cert.DyIdeal.nD Cert.DyIdeal.τ).loc Cert.DyIdeal.main_v8)) (v3 : (c : Dev Cert.DyIdeal.nD) → Buf (Elt Ideal) ((c.tc : Thread Cert.DyIdeal.nD Cert.DyIdeal.τ).loc Cert.DyIdeal.main_v11)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v2) = v0 c
          ∧ r.2.mem ((c.tc : Thread Cert.DyIdeal.nD Cert.DyIdeal.τ).loc Cert.DyIdeal.main_v5) = v1 c
          ∧ r.2.mem ((c.tc : Thread Cert.DyIdeal.nD Cert.DyIdeal.τ).loc Cert.DyIdeal.main_v8) = v2 c
          ∧ r.2.mem ((c.tc : Thread Cert.DyIdeal.nD Cert.DyIdeal.τ).loc Cert.DyIdeal.main_v11) = v3 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v9) = v0 c
          ∧ r.2.mem ((c.tc : Thread Cert.DyRefIdeal.nD Cert.DyRefIdeal.τ).loc Cert.DyRefIdeal.main_v11) = v1 c
          ∧ r.2.mem ((c.tc : Thread Cert.DyRefIdeal.nD Cert.DyRefIdeal.τ).loc Cert.DyRefIdeal.main_v13) = v2 c
          ∧ r.2.mem ((c.tc : Thread Cert.DyRefIdeal.nD Cert.DyRefIdeal.τ).loc Cert.DyRefIdeal.main_v15) = v3 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Attn_AttnIdeal : Prop :=
  IdealRules.named_const.Statement Cert.AttnIdeal.κ "mask" .f32 0xF149F2CA#32 ⊥
  ∧ IdealRules.named_const.Statement Cert.AttnIdeal.κ "scale_log2e" .f32 0x3E0293EE#32 (((11863283 / 134217728) * (Real.log 2)⁻¹ : ℝ) : EReal)
  ∧ IdealRules.named_const.Statement Cert.AttnIdeal.κ "log2e" .f32 0x3FB8AA3B#32 (((Real.log 2)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)) (v2 : (c : Dev Cert.AttnIdeal.nD) → Buf (Elt Ideal) ((c.tc : Thread Cert.AttnIdeal.nD Cert.AttnIdeal.τ).loc Cert.AttnIdeal.main_v2_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_v2_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_v54) = v1 c
          ∧ r.2.mem ((c.tc : Thread Cert.AttnRefIdeal.nD Cert.AttnRefIdeal.τ).loc Cert.AttnRefIdeal.main_v55) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hKernel : Cert.Kernel.Facts) (hKernelIdeal : Cert.KernelIdeal.Facts) (hReferenceIdeal : Cert.ReferenceIdeal.Facts) (hRms : Cert.Rms.Facts) (hRmsIdeal : Cert.RmsIdeal.Facts) (hRmsRefIdeal : Cert.RmsRefIdeal.Facts) (hMerge : Cert.Merge.Facts) (hMergeIdeal : Cert.MergeIdeal.Facts) (hMergeRefIdeal : Cert.MergeRefIdeal.Facts) (hWin : Cert.Win.Facts) (hWinIdeal : Cert.WinIdeal.Facts) (hWinRefIdeal : Cert.WinRefIdeal.Facts) (hWgate : Cert.Wgate.Facts) (hWgateIdeal : Cert.WgateIdeal.Facts) (hWgateRefIdeal : Cert.WgateRefIdeal.Facts) (hHgate : Cert.Hgate.Facts) (hHgateIdeal : Cert.HgateIdeal.Facts) (hHgateRefIdeal : Cert.HgateRefIdeal.Facts) (hMerged : Cert.Merged.Facts) (hMergedIdeal : Cert.MergedIdeal.Facts) (hMergedRefIdeal : Cert.MergedRefIdeal.Facts) (hWout : Cert.Wout.Facts) (hWoutIdeal : Cert.WoutIdeal.Facts) (hWoutRefIdeal : Cert.WoutRefIdeal.Facts) (hFwd : Cert.Fwd.Facts) (hFwdIdeal : Cert.FwdIdeal.Facts) (hFwdRefIdeal : Cert.FwdRefIdeal.Facts) (hIn : Cert.In.Facts) (hInIdeal : Cert.InIdeal.Facts) (hInRefIdeal : Cert.InRefIdeal.Facts) (hDy : Cert.Dy.Facts) (hDyIdeal : Cert.DyIdeal.Facts) (hDyRefIdeal : Cert.DyRefIdeal.Facts) (hAttn : Cert.Attn.Facts) (hAttnIdeal : Cert.AttnIdeal.Facts) (hAttnRefIdeal : Cert.AttnRefIdeal.Facts) (hPre_finite : Cert.Pre_finite.Facts) (hPre_finite_rms : Cert.Pre_finite_rms.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rms (hRms := hRms)
    ∧ quiescent_RmsIdeal (hRmsIdeal := hRmsIdeal)
    ∧ quiescent_RmsIdeal_pre_finite_rms (hRmsIdeal := hRmsIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_Merge (hMerge := hMerge)
    ∧ quiescent_MergeIdeal (hMergeIdeal := hMergeIdeal)
    ∧ quiescent_MergeRefIdeal (hMergeRefIdeal := hMergeRefIdeal)
    ∧ quiescent_Win (hWin := hWin)
    ∧ quiescent_WinIdeal (hWinIdeal := hWinIdeal)
    ∧ quiescent_WinRefIdeal (hWinRefIdeal := hWinRefIdeal)
    ∧ quiescent_Wgate (hWgate := hWgate)
    ∧ quiescent_WgateIdeal (hWgateIdeal := hWgateIdeal)
    ∧ quiescent_WgateRefIdeal (hWgateRefIdeal := hWgateRefIdeal)
    ∧ quiescent_Hgate (hHgate := hHgate)
    ∧ quiescent_HgateIdeal (hHgateIdeal := hHgateIdeal)
    ∧ quiescent_HgateRefIdeal (hHgateRefIdeal := hHgateRefIdeal)
    ∧ quiescent_Merged (hMerged := hMerged)
    ∧ quiescent_MergedIdeal (hMergedIdeal := hMergedIdeal)
    ∧ quiescent_MergedRefIdeal (hMergedRefIdeal := hMergedRefIdeal)
    ∧ quiescent_Wout (hWout := hWout)
    ∧ quiescent_WoutIdeal (hWoutIdeal := hWoutIdeal)
    ∧ quiescent_WoutRefIdeal (hWoutRefIdeal := hWoutRefIdeal)
    ∧ quiescent_Fwd (hFwd := hFwd)
    ∧ quiescent_FwdIdeal (hFwdIdeal := hFwdIdeal)
    ∧ quiescent_FwdRefIdeal (hFwdRefIdeal := hFwdRefIdeal)
    ∧ quiescent_In (hIn := hIn)
    ∧ quiescent_InIdeal (hInIdeal := hInIdeal)
    ∧ quiescent_InRefIdeal (hInRefIdeal := hInRefIdeal)
    ∧ quiescent_Dy (hDy := hDy)
    ∧ quiescent_DyIdeal (hDyIdeal := hDyIdeal)
    ∧ quiescent_DyRefIdeal (hDyRefIdeal := hDyRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_Rms_RmsIdeal
    ∧ algebraic_RmsIdeal_RmsRefIdeal_pre_finite_rms (hRmsIdeal := hRmsIdeal) (hRmsRefIdeal := hRmsRefIdeal) (hPre_finite_rms := hPre_finite_rms)
    ∧ preserves_Merge_MergeIdeal
    ∧ algebraic_MergeIdeal_MergeRefIdeal (hMergeIdeal := hMergeIdeal) (hMergeRefIdeal := hMergeRefIdeal)
    ∧ preserves_Win_WinIdeal
    ∧ algebraic_WinIdeal_WinRefIdeal (hWinIdeal := hWinIdeal) (hWinRefIdeal := hWinRefIdeal)
    ∧ preserves_Wgate_WgateIdeal
    ∧ algebraic_WgateIdeal_WgateRefIdeal (hWgateIdeal := hWgateIdeal) (hWgateRefIdeal := hWgateRefIdeal)
    ∧ preserves_Hgate_HgateIdeal
    ∧ algebraic_HgateIdeal_HgateRefIdeal (hHgateIdeal := hHgateIdeal) (hHgateRefIdeal := hHgateRefIdeal)
    ∧ preserves_Merged_MergedIdeal
    ∧ algebraic_MergedIdeal_MergedRefIdeal (hMergedIdeal := hMergedIdeal) (hMergedRefIdeal := hMergedRefIdeal)
    ∧ preserves_Wout_WoutIdeal
    ∧ algebraic_WoutIdeal_WoutRefIdeal (hWoutIdeal := hWoutIdeal) (hWoutRefIdeal := hWoutRefIdeal)
    ∧ preserves_Fwd_FwdIdeal
    ∧ algebraic_FwdIdeal_FwdRefIdeal (hFwdIdeal := hFwdIdeal) (hFwdRefIdeal := hFwdRefIdeal)
    ∧ preserves_In_InIdeal
    ∧ algebraic_InIdeal_InRefIdeal (hInIdeal := hInIdeal) (hInRefIdeal := hInRefIdeal)
    ∧ preserves_Dy_DyIdeal
    ∧ algebraic_DyIdeal_DyRefIdeal (hDyIdeal := hDyIdeal) (hDyRefIdeal := hDyRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite.lean ====
abbrev S8192x14336 : Shape := ⟨2, ![8192, 14336]⟩
abbrev S8192x8 : Shape := ⟨2, ![8192, 8]⟩
abbrev S8192x1024 : Shape := ⟨2, ![8192, 1024]⟩
abbrev S_ : Shape := ⟨0, ![]⟩

class Facts : Prop where
  bcast_S_S8192x14336 : S_.BroadcastsInDim S8192x14336 (![] : Fin 0 → Fin S8192x14336.rank)
  bcast_S_S8192x8 : S_.BroadcastsInDim S8192x8 (![] : Fin 0 → Fin S8192x8.rank)
  bcast_S_S8192x1024 : S_.BroadcastsInDim S8192x1024 (![] : Fin 0 → Fin S8192x1024.rank)

variable [Facts]

def fn {F : FTy → Type} [FloatOps F] (main_arg0 : FVec F S8192x14336 .f32) (main_arg1 : FVec F S8192x8 .f32) (main_arg2 : FVec F S8192x1024 .bf16) : IVec S8192x14336 1 × IVec S8192x8 1 × IVec S8192x1024 1 :=
  let main_v0 : FVec F S8192x14336 .f32 := Host.absf main_arg0
  let main_cst : FVec F S_ .f32 := constant S_ .f32 0x7F800000#32
  let main_v1 : FVec F S8192x14336 .f32 := broadcastInDim S8192x14336 ![] bcast_S_S8192x14336 main_cst
  let main_v2 : IVec S8192x14336 1 := cmpf .olt main_v0 main_v1
  let main_v3 : FVec F S8192x8 .f32 := Host.absf main_arg1
  let main_cst_0 : FVec F S_ .f32 := constant S_ .f32 0x7F800000#32
  let main_v4 : FVec F S8192x8 .f32 := broadcastInDim S8192x8 ![] bcast_S_S8192x8 main_cst_0
  let main_v5 : IVec S8192x8 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  (main_v2, main_v5, main_v8)
-- ==== Pre_finite_attn.lean ====
abbrev S8192x14336 : Shape := ⟨2, ![8192, 14336]⟩
abbrev S8192x8 : Shape := ⟨2, ![8192, 8]⟩
abbrev S_ : Shape := ⟨0, ![]⟩

class Facts : Prop where
  bcast_S_S8192x14336 : S_.BroadcastsInDim S8192x14336 (![] : Fin 0 → Fin S8192x14336.rank)
  bcast_S_S8192x8 : S_.BroadcastsInDim S8192x8 (![] : Fin 0 → Fin S8192x8.rank)

variable [Facts]

def fn {F : FTy → Type} [FloatOps F] (main_arg0 : FVec F S8192x14336 .f32) (main_arg1 : FVec F S8192x8 .f32) : IVec S8192x14336 1 × IVec S8192x8 1 :=
  let main_v0 : FVec F S8192x14336 .f32 := Host.absf main_arg0
  let main_cst : FVec F S_ .f32 := constant S_ .f32 0x7F800000#32
  let main_v1 : FVec F S8192x14336 .f32 := broadcastInDim S8192x14336 ![] bcast_S_S8192x14336 main_cst
  let main_v2 : IVec S8192x14336 1 := cmpf .olt main_v0 main_v1
  let main_v3 : FVec F S8192x8 .f32 := Host.absf main_arg1
  let main_cst_0 : FVec F S_ .f32 := constant S_ .f32 0x7F800000#32
  let main_v4 : FVec F S8192x8 .f32 := broadcastInDim S8192x8 ![] bcast_S_S8192x8 main_cst_0
  let main_v5 : IVec S8192x8 1 := cmpf .olt main_v3 main_v4
  (main_v2, main_v5)
-- ==== Pre_finite_rms.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S8192x2048 .f32) (main_arg2 : FVec F S2048 .f32) (main_arg3 : FVec F S8192x2048 .f32) : IVec S8192x2048 1 × IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Kernel.lean ====
abbrev S8192x14336 : Shape := ⟨2, ![8192, 14336]⟩
abbrev S8192x8 : Shape := ⟨2, ![8192, 8]⟩
abbrev S8192x1024 : Shape := ⟨2, ![8192, 1024]⟩
abbrev S36 : Shape := ⟨1, ![36]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x128x8192 : Shape := ⟨3, ![8, 128, 8192]⟩
abbrev S1024x128 : Shape := ⟨2, ![1024, 128]⟩
abbrev S1 : Shape := ⟨1, ![1]⟩
abbrev S1x1024x1 : Shape := ⟨3, ![1, 1024, 1]⟩
abbrev S1x1x1024 : Shape := ⟨3, ![1, 1, 1024]⟩
abbrev S8192x128 : Shape := ⟨2, ![8192, 128]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 75
  | .vmem => 25
  | .smem => 2
  | _ => 0

abbrev bufTy : (tb : Table) → Fin (tcTables nBuf tb) → BufTy
  | .hbm, ⟨0, _⟩ => ⟨S8192x14336, .f32⟩
  | .hbm, ⟨1, _⟩ => ⟨S8192x8, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8192x8x128, .f32⟩
  | .hbm, ⟨46, _⟩ => ⟨S8x128x8192, .f32⟩
  | .hbm, ⟨47, _⟩ => ⟨S8192x8x128, .f32⟩
  | .hbm, ⟨48, _⟩ => ⟨S8192x1024, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S8x8192, .f32⟩
  | .hbm, ⟨61, _⟩ => ⟨S8x8192, .f32⟩
  | .hbm, ⟨62, _⟩ => ⟨S8x8192x1, .f32⟩
  | .hbm, ⟨63, _⟩ => ⟨S8x1x8192, .f32⟩
  | .hbm, ⟨64, _⟩ => ⟨S8192x1024, .f32⟩
  | .hbm, ⟨65, _⟩ => ⟨S8192x1024, .f32⟩
  | .hbm, ⟨66, _⟩ => ⟨S8192x8x128, .f32⟩
  | .hbm, ⟨67, _⟩ => ⟨S_, .f32⟩
  | .hbm, ⟨68, _⟩ => ⟨S8192x8, .f32⟩
  | .hbm, ⟨69, _⟩ => ⟨S8x8192, .f32⟩
  | .hbm, ⟨70, _⟩ => ⟨S8x1x8192, .f32⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8x8192x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S8192x128, .f32⟩
  | .local _ .vmem, ⟨15, _⟩ => ⟨S8192x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1024x1, .f32⟩
  | .local _ .vmem, ⟨21, _⟩ => ⟨S1x1024x1, .f32⟩
  | .local _ .vmem, ⟨22, _⟩ => ⟨S1024x128, .f32⟩
  | .local _ .vmem, ⟨23, _⟩ => ⟨S1024x128, .f32⟩
  | .local _ .vmem, ⟨24, _⟩ => ⟨S1024x1, .f32⟩
  | .local _ .smem, ⟨0, _⟩ => ⟨S36, .i32⟩
  | .local _ .smem, ⟨1, _⟩ => ⟨S36, .i32⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev main_v57_2 : Ref sig .tc := ⟨.hbm, 73, rfl⟩
abbrev main_v57_3 : Ref sig .tc := ⟨.hbm, 74, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v72 : BitVec 32 := Scalar.muli v1 c1024_i32
  v72
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v72 : BitVec 32 := Scalar.muli v1 c1024_i32
  let v73 : BitVec 32 := v72
  let v74 : Index := Scalar.indexCast v73
  let c0_41 : Index := 0#32
  ![v74.toNat, 0]
def k0_mult2 (v1 : BitVec 32) : BitVec 32 :=
  let c1024_i32 : BitVec 32 := 1024#32
  let v77 : BitVec 32 := Scalar.muli v1 c1024_i32
  v77
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) : Fin 2 → Nat :=
  let c1024_i32 : BitVec 32 := 1024#32
  let v77 : BitVec 32 := Scalar.muli v1 c1024_i32
  let v78 : BitVec 32 := v77
  let v79 : Index := Scalar.indexCast v78
  let c0_42 : Index := 0#32
  ![v79.toNat, 0]

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x128.size a ≤ S8192x128.size a) ∧
  (∀ (k0_h4 : k0_cond4 v1 v3 = 1#1), 1024 ∣ (k0_mult2 v1).toNat) ∧
  (∀ (k0_h4 : k0_cond4 v1 v3 = 1#1), ∀ a, (k0_off3 v1) a + S1024x128.size a ≤ S8192x128.size a)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x128.size a ≤ S8192x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 1024 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1024x128.size a ≤ S8192x128.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c16_i32 : BitVec 32 := 16#32
  let v2 : BitVec 32 := Scalar.addi c16_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x14336 : Shape := ⟨2, ![8192, 14336]⟩
abbrev S8192x8 : Shape := ⟨2, ![8192, 8]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x128x8192 : Shape := ⟨3, ![8, 128, 8192]⟩
abbrev S8x8192x128 : Shape := ⟨3, ![8, 8192, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x14336, .f32⟩
  | .hbm, ⟨1, _⟩ => ⟨S8192x8, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .i1⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .i1⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S8x8192, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8192x8x128, .f32⟩
  | .hbm, ⟨72, _⟩ => ⟨S8x128x8192, .f32⟩
  | .hbm, ⟨73, _⟩ => ⟨S8192x8x128, .f32⟩
  | .hbm, ⟨74, _⟩ => ⟨S8192x1024, .f32⟩
  | .hbm, ⟨75, _⟩ => ⟨S8192x1024, .f32⟩
  | .hbm, ⟨76, _⟩ => ⟨S8192x8x128, .f32⟩
  | .hbm, ⟨77, _⟩ => ⟨S8x128x8192, .f32⟩
  | .hbm, ⟨78, _⟩ => ⟨S8x8192x8192, .f32⟩
  | .hbm, ⟨79, _⟩ => ⟨S8x128x8192, .f32⟩
  | .hbm, ⟨80, _⟩ => ⟨S8192x8x128, .f32⟩
  | .hbm, ⟨81, _⟩ => ⟨S8192x1024, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S8x8192x1, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S8x8192x8192, .f32⟩
  | .hbm, ⟨100, _⟩ => ⟨S_, .f32⟩
  | .hbm, ⟨101, _⟩ => ⟨S8x8192, .f32⟩
  | .hbm, ⟨102, _⟩ => ⟨S8x1x8192, .f32⟩
  | .hbm, ⟨103, _⟩ => ⟨S_, .f32⟩
  | .hbm, ⟨104, _⟩ => ⟨S8x8192, .f32⟩
  | .hbm, ⟨105, _⟩ => ⟨S8192x8, .f32⟩
  | .hbm, ⟨106, _⟩ => ⟨S_, .f32⟩
  | .hbm, ⟨107, _⟩ => ⟨S8x8192, .f32⟩
  | .hbm, ⟨108, _⟩ => ⟨S8x8192x1, .f32⟩
  | .hbm, ⟨109, _⟩ => ⟨S_, .f32⟩
  | .hbm, ⟨110, _⟩ => ⟨S8x8192, .f32⟩
  | .hbm, ⟨111, _⟩ => ⟨S8192x8, .f32⟩
  | .hbm, ⟨112, _⟩ => ⟨S8192x8, .f32⟩
  | .hbm, ⟨113, _⟩ => ⟨S_, .f32⟩
  | .hbm, ⟨114, _⟩ => ⟨S8x8192x8192, .f32⟩
  | .hbm, ⟨115, _⟩ => ⟨S8x8192x8192, .f32⟩
  | .hbm, ⟨116, _⟩ => ⟨S8x8192x128, .f32⟩
  | .hbm, ⟨117, _⟩ => ⟨S8192x8x128, .f32⟩
  | .hbm, ⟨118, _⟩ => ⟨S8x8192x128, .f32⟩
  | .hbm, ⟨119, _⟩ => ⟨S8192x8x128, .f32⟩
  | .hbm, ⟨120, _⟩ => ⟨S8192x1024, .f32⟩
  | .hbm, ⟨121, _⟩ => ⟨S8192x1024, .f32⟩
  | .hbm, ⟨122, _⟩ => ⟨S8192x1024, .bf16⟩
  | .hbm, ⟨123, _⟩ => ⟨S8192x1024, .bf16⟩
  | .hbm, ⟨124, _⟩ => ⟨S8x8192, .f32⟩
  | .hbm, ⟨125, _⟩ => ⟨S8x8192x1, .f32⟩
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_v22_1 : Ref sig .tc := ⟨.hbm, 28, rfl⟩
abbrev main_call0_v2 : Ref sig .tc := ⟨.hbm, 29, rfl⟩
abbrev main_v22_0 : Ref sig .tc := ⟨.hbm, 30, rfl⟩
abbrev main_call0_cst : Ref sig .tc := ⟨.hbm, 31, rfl⟩
abbrev main_v22_2 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Rms.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Merge.lean ====
abbrev S8192x2048 : Shape := ⟨2, ![8192, 2048]⟩
abbrev S8192x8192 : Shape := ⟨2, ![8192, 8192]⟩
abbrev S4x2048 : Shape := ⟨2, ![4, 2048]⟩
abbrev S8192 : Shape := ⟨1, ![8192]⟩
abbrev S1x8192 : Shape := ⟨2, ![1, 8192]⟩
abbrev S_ : Shape := ⟨0, ![]⟩
abbrev S512x512 : Shape := ⟨2, ![512, 512]⟩
abbrev S4x512 : Shape := ⟨2, ![4, 512]⟩
abbrev S512 : Shape := ⟨1, ![512]⟩
abbrev S1x512 : Shape := ⟨2, ![1, 512]⟩

abbrev nBuf : Space → Nat
  | .hbm => 20
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S4x2048, .f32⟩
  | .hbm, ⟨3, _⟩ => ⟨S8192x8192, .bf16⟩
  | .hbm, ⟨4, _⟩ => ⟨S8192, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .bf16⟩
  | .hbm, ⟨17, _⟩ => ⟨S8192x8192, .bf16⟩
  | .hbm, ⟨18, _⟩ => ⟨S8192x8192, .bf16⟩
  | .hbm, ⟨19, _⟩ => ⟨S4x2048, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512, .f32⟩
  | .local _ .vmem, ⟨11, _⟩ => ⟨S4x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MergeRefIdeal.lean ====
abbrev S8192x2048 : Shape := ⟨2, ![8192, 2048]⟩
abbrev S8192x8192 : Shape := ⟨2, ![8192, 8192]⟩
abbrev S4x2048 : Shape := ⟨2, ![4, 2048]⟩
abbrev S8192x4x2048 : Shape := ⟨3, ![8192, 4, 2048]⟩
abbrev S1x4x2048 : Shape := ⟨3, ![1, 4, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S4x2048, .f32⟩
  | .hbm, ⟨3, _⟩ => ⟨S8192x8192, .bf16⟩
  | .hbm, ⟨4, _⟩ => ⟨S8192x8192, .f32⟩
  | .hbm, ⟨5, _⟩ => ⟨S8192x4x2048, .f32⟩
  | .hbm, ⟨6, _⟩ => ⟨S1x4x2048, .f32⟩
  | .hbm, ⟨7, _⟩ => ⟨S8192x4x2048, .f32⟩
  | .hbm, ⟨8, _⟩ => ⟨S8192x4x2048, .f32⟩
  | .hbm, ⟨9, _⟩ => ⟨S8192x4x2048, .f32⟩
  | .hbm, ⟨10, _⟩ => ⟨S8192x4x2048, .f32⟩
  | .hbm, ⟨11, _⟩ => ⟨S_, .f32⟩
  | .hbm, ⟨12, _⟩ => ⟨S8192x4x2048, .f32⟩
  | .hbm, ⟨13, _⟩ => ⟨S8192x4x2048, .f32⟩
  | .hbm, ⟨14, _⟩ => ⟨S_, .f32⟩
  | .hbm, ⟨15, _⟩ => ⟨S8192x4x2048, .f32⟩
  | .hbm, ⟨16, _⟩ => ⟨S8192x4x2048, .f32⟩
  | .hbm, ⟨17, _⟩ => ⟨S_, .f32⟩
  | .hbm, ⟨18, _⟩ => ⟨S8192x4x2048, .f32⟩
  | .hbm, ⟨19, _⟩ => ⟨S8192x4x2048, .f32⟩
  | .hbm, ⟨20, _⟩ => ⟨S8192x4x2048, .f32⟩
  | .hbm, ⟨21, _⟩ => ⟨S8192x4x2048, .f32⟩
  | .hbm, ⟨22, _⟩ => ⟨S8192x4x2048, .f32⟩
  | .hbm, ⟨23, _⟩ => ⟨S_, .f32⟩
  | .hbm, ⟨24, _⟩ => ⟨S8192x2048, .f32⟩
  | .hbm, ⟨25, _⟩ => ⟨S8192x4x2048, .f32⟩
  | .hbm, ⟨26, _⟩ => ⟨S8192x4x2048, .f32⟩
  | .hbm, ⟨27, _⟩ => ⟨S8192x4x2048, .f32⟩
  | .hbm, ⟨28, _⟩ => ⟨S8192x8192, .f32⟩
  | .hbm, ⟨29, _⟩ => ⟨S8192x4x2048, .f32⟩
  | .hbm, ⟨30, _⟩ => ⟨S_, .f32⟩
  | .hbm, ⟨31, _⟩ => ⟨S4x2048, .f32⟩
  | .hbm, ⟨32, _⟩ => ⟨S1x4x2048, .f32⟩
  | .hbm, ⟨33, _⟩ => ⟨S_, .f32⟩
  | .hbm, ⟨34, _⟩ => ⟨S4x2048, .f32⟩
  | .hbm, ⟨35, _⟩ => ⟨S8192x8192, .f32⟩
  | .hbm, ⟨36, _⟩ => ⟨S8192x8192, .bf16⟩
  | .hbm, ⟨37, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Win.lean ====
abbrev S8192x14336 : Shape := ⟨2, ![8192, 14336]⟩
abbrev S8192x2048 : Shape := ⟨2, ![8192, 2048]⟩
abbrev S14336x2048 : Shape := ⟨2, ![14336, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x14336, .bf16⟩
  | .hbm, ⟨1, _⟩ => ⟨S8192x2048, .bf16⟩
  | .hbm, ⟨2, _⟩ => ⟨S14336x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![14, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S8192x14336 : Shape := ⟨2, ![8192, 14336]⟩
abbrev S8192x2048 : Shape := ⟨2, ![8192, 2048]⟩
abbrev S_ : Shape := ⟨0, ![]⟩
abbrev S2048x14336 : Shape := ⟨2, ![2048, 14336]⟩
abbrev S14336x2048 : Shape := ⟨2, ![14336, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S8192x2048, .bf16⟩
  | .hbm, ⟨2, _⟩ => ⟨S_, .f32⟩
  | .hbm, ⟨3, _⟩ => ⟨S2048x14336, .f32⟩
  | .hbm, ⟨4, _⟩ => ⟨S8192x2048, .f32⟩
  | .hbm, ⟨5, _⟩ => ⟨S8192x14336, .f32⟩
  | .hbm, ⟨6, _⟩ => ⟨S8192x14336, .f32⟩
  | .hbm, ⟨7, _⟩ => ⟨S14336x2048, .f32⟩
  | .hbm, ⟨8, _⟩ => ⟨S2048x14336, .f32⟩
  | .hbm, ⟨9, _⟩ => ⟨S14336x2048, .f32⟩
  | .hbm, ⟨10, _⟩ => ⟨S14336x2048, .bf16⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wgate.lean ====
abbrev S8192x2048 : Shape := ⟨2, ![8192, 2048]⟩
abbrev S8192x8192 : Shape := ⟨2, ![8192, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.shrui arg1 c1_i32
  let c1_i32_0 : BitVec 32 := 1#32
  let v1 : BitVec 32 := Scalar.andi arg1 c1_i32_0
  let c0_i32 : BitVec 32 := 0#32
  ![v0.toNat, arg0.toNat, v1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgateRefIdeal.lean ====
abbrev S8192x2048 : Shape := ⟨2, ![8192, 2048]⟩
abbrev S8192x8192 : Shape := ⟨2, ![8192, 8192]⟩
abbrev S_ : Shape := ⟨0, ![]⟩
abbrev S4x2048x2048 : Shape := ⟨3, ![4, 2048, 2048]⟩
abbrev S8192x4x2048 : Shape := ⟨3, ![8192, 4, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S_, .f32⟩
  | .hbm, ⟨4, _⟩ => ⟨S4x2048x2048, .f32⟩
  | .hbm, ⟨5, _⟩ => ⟨S8192x4x2048, .f32⟩
  | .hbm, ⟨6, _⟩ => ⟨S8192x8192, .f32⟩
  | .hbm, ⟨7, _⟩ => ⟨S8192x8192, .f32⟩
  | .hbm, ⟨8, _⟩ => ⟨S8192x4x2048, .f32⟩
  | .hbm, ⟨9, _⟩ => ⟨S4x2048x2048, .f32⟩
  | .hbm, ⟨10, _⟩ => ⟨S4x2048x2048, .f32⟩
  | .hbm, ⟨11, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Hgate.lean ====
abbrev S8192x8192 : Shape := ⟨2, ![8192, 8192]⟩
abbrev S4x2048x2048 : Shape := ⟨3, ![4, 2048, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgateRefIdeal.lean ====
abbrev S8192x8192 : Shape := ⟨2, ![8192, 8192]⟩
abbrev S4x2048x2048 : Shape := ⟨3, ![4, 2048, 2048]⟩
abbrev S_ : Shape := ⟨0, ![]⟩
abbrev S8192x2048 : Shape := ⟨2, ![8192, 2048]⟩
abbrev S8192x4x2048 : Shape := ⟨3, ![8192, 4, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S4x2048x2048, .f32⟩
  | .hbm, ⟨5, _⟩ => ⟨S8192x4x2048, .f32⟩
  | .hbm, ⟨6, _⟩ => ⟨S8192x8192, .f32⟩
  | .hbm, ⟨7, _⟩ => ⟨S8192x8192, .f32⟩
  | .hbm, ⟨8, _⟩ => ⟨S8192x4x2048, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merged.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wout.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Fwd.lean ====
abbrev S8192x2048 : Shape := ⟨2, ![8192, 2048]⟩
abbrev S8192x1024 : Shape := ⟨2, ![8192, 1024]⟩
abbrev S4x2048x2048 : Shape := ⟨3, ![4, 2048, 2048]⟩
abbrev S4x2048 : Shape := ⟨2, ![4, 2048]⟩
abbrev S4x1024x2048 : Shape := ⟨3, ![4, 1024, 2048]⟩
abbrev S4x1x2048 : Shape := ⟨3, ![4, 1, 2048]⟩
abbrev S8192x8192 : Shape := ⟨2, ![8192, 8192]⟩
abbrev S1024x2048 : Shape := ⟨2, ![1024, 2048]⟩
abbrev S1024x1024 : Shape := ⟨2, ![1024, 1024]⟩
abbrev S1x2048x512 : Shape := ⟨3, ![1, 2048, 512]⟩
abbrev S1x1x512 : Shape := ⟨3, ![1, 1, 512]⟩
abbrev S1x1024x512 : Shape := ⟨3, ![1, 1024, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 12
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4x2048x2048, .bf16⟩
  | .hbm, ⟨6, _⟩ => ⟨S4x2048, .f32⟩
  | .hbm, ⟨7, _⟩ => ⟨S4x1024x2048, .bf16⟩
  | .hbm, ⟨8, _⟩ => ⟨S4x1x2048, .f32⟩
  | .hbm, ⟨9, _⟩ => ⟨S8192x2048, .bf16⟩
  | .hbm, ⟨10, _⟩ => ⟨S8192x8192, .bf16⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x1x512, .f32⟩
  | .local _ .vmem, ⟨13, _⟩ => ⟨S1x1x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 4], ![false, false, false]⟩

def k0_cond5 (i : grid0.Coords) : BitVec 1 :=
  let arg2 : BitVec 32 := BitVec.ofNat 32 (i 2).val
  let c3_i32_14 : BitVec 32 := 3#32
  let v27 : BitVec 1 := Scalar.cmpi .eq arg2 c3_i32_14
  let v28 : BitVec 32 := Scalar.extui v27
  let c0_i32_15 : BitVec 32 := 0#32
  let v29 : BitVec 1 := Scalar.cmpi .ne v28 c0_i32_15
  v29

def k0_cond1 (i : grid0.Coords) : BitVec 1 :=
  let arg2 : BitVec 32 := BitVec.ofNat 32 (i 2).val
  let c0_i32 : BitVec 32 := 0#32
  let v15 : BitVec 1 := Scalar.cmpi .eq arg2 c0_i32
  let v16 : BitVec 32 := Scalar.extui v15
  let c0_i32_10 : BitVec 32 := 0#32
  let v17 : BitVec 1 := Scalar.cmpi .ne v16 c0_i32_10
  v17

def k0_cond2 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_11 : BitVec 32 := 0#32
  let v20 : BitVec 1 := Scalar.cmpi .ne v19 c0_i32_11
  v20

def k0_cond3 (i : grid0.Coords) : BitVec 1 :=
  let arg2 : BitVec 32 := BitVec.ofNat 32 (i 2).val
  let c2_i32 : BitVec 32 := 2#32
  let v21 : BitVec 1 := Scalar.cmpi .eq arg2 c2_i32
  let v22 : BitVec 32 := Scalar.extui v21
  let c0_i32_12 : BitVec 32 := 0#32
  let v23 : BitVec 1 := Scalar.cmpi .ne v22 c0_i32_12
  v23

def k0_cond4 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== FwdRefIdeal.lean ====
abbrev S8192x2048 : Shape := ⟨2, ![8192, 2048]⟩
abbrev S8192x1024 : Shape := ⟨2, ![8192, 1024]⟩
abbrev S4x2048x2048 : Shape := ⟨3, ![4, 2048, 2048]⟩
abbrev S4x2048 : Shape := ⟨2, ![4, 2048]⟩
abbrev S4x1024x2048 : Shape := ⟨3, ![4, 1024, 2048]⟩
abbrev S8192x4x2048 : Shape := ⟨3, ![8192, 4, 2048]⟩
abbrev S1x4x2048 : Shape := ⟨3, ![1, 4, 2048]⟩
abbrev S_ : Shape := ⟨0, ![]⟩
abbrev S1x8192x1024 : Shape := ⟨3, ![1, 8192, 1024]⟩
abbrev S4x8192x1024 : Shape := ⟨3, ![4, 8192, 1024]⟩
abbrev S4x2048x8192 : Shape := ⟨3, ![4, 2048, 8192]⟩
abbrev S8192x8192 : Shape := ⟨2, ![8192, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4x2048x2048, .bf16⟩
  | .hbm, ⟨6, _⟩ => ⟨S4x2048, .f32⟩
  | .hbm, ⟨7, _⟩ => ⟨S4x1024x2048, .bf16⟩
  | .hbm, ⟨8, _⟩ => ⟨S8192x2048, .f32⟩
  | .hbm, ⟨9, _⟩ => ⟨S4x2048x2048, .f32⟩
  | .hbm, ⟨10, _⟩ => ⟨S8192x4x2048, .f32⟩
  | .hbm, ⟨11, _⟩ => ⟨S1x4x2048, .f32⟩
  | .hbm, ⟨12, _⟩ => ⟨S8192x4x2048, .f32⟩
  | .hbm, ⟨13, _⟩ => ⟨S8192x4x2048, .f32⟩
  | .hbm, ⟨14, _⟩ => ⟨S8192x4x2048, .f32⟩
  | .hbm, ⟨15, _⟩ => ⟨S8192x4x2048, .f32⟩
  | .hbm, ⟨16, _⟩ => ⟨S_, .f32⟩
  | .hbm, ⟨17, _⟩ => ⟨S8192x4x2048, .f32⟩
  | .hbm, ⟨18, _⟩ => ⟨S8192x4x2048, .f32⟩
  | .hbm, ⟨19, _⟩ => ⟨S_, .f32⟩
  | .hbm, ⟨20, _⟩ => ⟨S8192x4x2048, .f32⟩
  | .hbm, ⟨21, _⟩ => ⟨S8192x4x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S4x8192x1024, .f32⟩
  | .hbm, ⟨31, _⟩ => ⟨S4x1024x2048, .f32⟩
  | .hbm, ⟨32, _⟩ => ⟨S4x2048x8192, .f32⟩
  | .hbm, ⟨33, _⟩ => ⟨S8192x4x2048, .f32⟩
  | .hbm, ⟨34, _⟩ => ⟨S8192x4x2048, .f32⟩
  | .hbm, ⟨35, _⟩ => ⟨S_, .f32⟩
  | .hbm, ⟨36, _⟩ => ⟨S8192x2048, .f32⟩
  | .hbm, ⟨37, _⟩ => ⟨S8192x2048, .bf16⟩
  | .hbm, ⟨38, _⟩ => ⟨S8192x8192, .f32⟩
  | .hbm, ⟨39, _⟩ => ⟨S8192x8192, .bf16⟩
  | .hbm, ⟨40, _⟩ => ⟨S8192x8192, .f32⟩
  | .hbm, ⟨41, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== In.lean ====
abbrev S8192x2048 : Shape := ⟨2, ![8192, 2048]⟩
abbrev S14336x2048 : Shape := ⟨2, ![14336, 2048]⟩
abbrev S8192x14336 : Shape := ⟨2, ![8192, 14336]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S14336x2048, .bf16⟩
  | .hbm, ⟨2, _⟩ => ⟨S8192x14336, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S14336x2048 : Shape := ⟨2, ![14336, 2048]⟩
abbrev S2048x14336 : Shape := ⟨2, ![2048, 14336]⟩
abbrev S8192x14336 : Shape := ⟨2, ![8192, 14336]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S14336x2048, .bf16⟩
  | .hbm, ⟨2, _⟩ => ⟨S8192x2048, .f32⟩
  | .hbm, ⟨3, _⟩ => ⟨S14336x2048, .f32⟩
  | .hbm, ⟨4, _⟩ => ⟨S2048x14336, .f32⟩
  | .hbm, ⟨5, _⟩ => ⟨S8192x14336, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dy.lean ====
abbrev S8192x8192 : Shape := ⟨2, ![8192, 8192]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x8192, .bf16⟩
  | .hbm, ⟨1, _⟩ => ⟨S4x1024x2048, .bf16⟩
  | .hbm, ⟨2, _⟩ => ⟨S1x1024x2048, .bf16⟩
  | .hbm, ⟨3, _⟩ => ⟨S1024x2048, .bf16⟩
  | .hbm, ⟨4, _⟩ => ⟨S8192x1024, .f32⟩
  | .hbm, ⟨5, _⟩ => ⟨S1x1024x2048, .bf16⟩
  | .hbm, ⟨6, _⟩ => ⟨S1024x2048, .bf16⟩
  | .hbm, ⟨7, _⟩ => ⟨S8192x1024, .f32⟩
  | .hbm, ⟨8, _⟩ => ⟨S1x1024x2048, .bf16⟩
  | .hbm, ⟨9, _⟩ => ⟨S1024x2048, .bf16⟩
  | .hbm, ⟨10, _⟩ => ⟨S8192x1024, .f32⟩
  | .hbm, ⟨11, _⟩ => ⟨S1x1024x2048, .bf16⟩
  | .hbm, ⟨12, _⟩ => ⟨S1024x2048, .bf16⟩
  | .hbm, ⟨13, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x1024, .f32⟩
  | .local _ .vmem, ⟨14, _⟩ => ⟨S1024x1024, .f32⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== DyRefIdeal.lean ====
abbrev S8192x8192 : Shape := ⟨2, ![8192, 8192]⟩
abbrev S4x1024x2048 : Shape := ⟨3, ![4, 1024, 2048]⟩
abbrev S8192x4x2048 : Shape := ⟨3, ![8192, 4, 2048]⟩
abbrev S_ : Shape := ⟨0, ![]⟩
abbrev S4x8192x1024 : Shape := ⟨3, ![4, 8192, 1024]⟩
abbrev S4x2048x8192 : Shape := ⟨3, ![4, 2048, 8192]⟩
abbrev S1x8192x1024 : Shape := ⟨3, ![1, 8192, 1024]⟩
abbrev S8192x1024 : Shape := ⟨2, ![8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x1024x2048, .bf16⟩
  | .hbm, ⟨2, _⟩ => ⟨S8192x8192, .f32⟩
  | .hbm, ⟨3, _⟩ => ⟨S8192x4x2048, .f32⟩
  | .hbm, ⟨4, _⟩ => ⟨S_, .f32⟩
  | .hbm, ⟨5, _⟩ => ⟨S4x8192x1024, .f32⟩
  | .hbm, ⟨6, _⟩ => ⟨S4x1024x2048, .f32⟩
  | .hbm, ⟨7, _⟩ => ⟨S4x2048x8192, .f32⟩
  | .hbm, ⟨8, _⟩ => ⟨S8192x4x2048, .f32⟩
  | .hbm, ⟨9, _⟩ => ⟨S4x2048x8192, .f32⟩
  | .hbm, ⟨10, _⟩ => ⟨S4x8192x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Attn.lean ====
abbrev S8192x14336 : Shape := ⟨2, ![8192, 14336]⟩
abbrev S8192x8 : Shape := ⟨2, ![8192, 8]⟩
abbrev S36 : Shape := ⟨1, ![36]⟩
abbrev S8x8192 : Shape := ⟨2, ![8, 8192]⟩
abbrev S8x1x8192 : Shape := ⟨3, ![8, 1, 8192]⟩
abbrev S8192x1024 : Shape := ⟨2, ![8192, 1024]⟩
abbrev S8x8192x1 : Shape := ⟨3, ![8, 8192, 1]⟩
abbrev S1024x128 : Shape := ⟨2, ![1024, 128]⟩
abbrev S1 : Shape := ⟨1, ![1]⟩
abbrev S1x1x1024 : Shape := ⟨3, ![1, 1, 1024]⟩
abbrev S1x1024x1 : Shape := ⟨3, ![1, 1024, 1]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 7
  | .vmem => 19
  | .smem => 2
  | _ => 0

abbrev bufTy : (tb : Table) → Fin (tcTables nBuf tb) → BufTy
  | .hbm, ⟨0, _⟩ => ⟨S8192x14336, .f32⟩
  | .hbm, ⟨1, _⟩ => ⟨S8192x8, .f32⟩
  | .hbm, ⟨2, _⟩ => ⟨S8x8192, .f32⟩
  | .hbm, ⟨3, _⟩ => ⟨S8x1x8192, .f32⟩
  | .hbm, ⟨4, _⟩ => ⟨S8192x1024, .f32⟩
  | .hbm, ⟨5, _⟩ => ⟨S8x8192x1, .f32⟩
  | .hbm, ⟨6, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1024x128, .bf16⟩
  | .local _ .vmem, ⟨15, _⟩ => ⟨S1024x128, .bf16⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .smem, ⟨0, _⟩ => ⟨S36, .i32⟩
  | .local _ .smem, ⟨1, _⟩ => ⟨S36, .i32⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c16_i32 : BitVec 32 := 16#32
  let v2 : BitVec 32 := Scalar.addi c16_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c24_i32 : BitVec 32 := 24#32
  let v2 : BitVec 32 := Scalar.addi c24_i32 arg0
  let c0_i32 : BitVec 32 := 0#32
  ![v1.toNat, v2.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | "scale_log2e" => some (((11863283 / 134217728) * (Real.log 2)⁻¹ : ℝ) : EReal)
  | _ => none
-- ==== AttnRefIdeal.lean ====
abbrev S8192x14336 : Shape := ⟨2, ![8192, 14336]⟩
abbrev S8192x8 : Shape := ⟨2, ![8192, 8]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x128x8192 : Shape := ⟨3, ![8, 128, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x14336, .f32⟩
  | .hbm, ⟨1, _⟩ => ⟨S8192x8, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8192, .i32⟩
  | .hbm, ⟨21, _⟩ => ⟨S1x1x8192, .i32⟩
  | .hbm, ⟨22, _⟩ => ⟨S1x8192x1, .i32⟩
  | .hbm, ⟨23, _⟩ => ⟨S1x8192x8192, .i32⟩
  | .hbm, ⟨24, _⟩ => ⟨S1x8192x8192, .i32⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8192x8x128, .f32⟩
  | .hbm, ⟨46, _⟩ => ⟨S8x128x8192, .f32⟩
  | .hbm, ⟨47, _⟩ => ⟨S8192x8x128, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192, .f32⟩
  | .hbm, ⟨68, _⟩ => ⟨S8x8192, .f32⟩
  | .hbm, ⟨69, _⟩ => ⟨S8x8192, .f32⟩
  | .hbm, ⟨70, _⟩ => ⟨S8x8192, .f32⟩
  | .hbm, ⟨71, _⟩ => ⟨S_, .f32⟩
  | .hbm, ⟨72, _⟩ => ⟨S8x8192, .f32⟩
  | .hbm, ⟨73, _⟩ => ⟨S8x8192, .f32⟩
  | .hbm, ⟨74, _⟩ => ⟨S8x8192, .f32⟩
  | .hbm, ⟨75, _⟩ => ⟨S8x8192x1, .f32⟩
  | .hbm, ⟨76, _⟩ => ⟨S8192x1024, .bf16⟩
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Own.lean ====
/-
  Loads and stores of a memref whose contents are known: the run holds "the memref reads `X`", a load hands the
  values of `X` in the rectangle to what follows, a store replaces them.
-/
module

public import Idealize.ShloMosaic.Lib.Pipeline.TableIdle

@[expose] public section

noncomputable section

namespace Cert.Own

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {s : Shape} {e : EltTy} {α : Type}

local notation "𝕄" => MT nD τ sig Ix Val Name U Lvl

/-- `X` with the elements of the rectangle `r` replaced by `w`. -/
def putAt {β : Type} (r : Rect s) (X : s.Idx → β) (w : r.shape.Idx → β) (y : s.Idx) : β :=
  open Classical in if h : ∃ x, r.emb x = y then w h.choose else X y

theorem putAt_emb {β : Type} (r : Rect s) (X : s.Idx → β) (w : r.shape.Idx → β) (x : r.shape.Idx) :
    putAt r X w (r.emb x) = w x := by
  have h : ∃ x', r.emb x' = r.emb x := ⟨x, rfl⟩
  unfold putAt
  rw [dif_pos h]
  exact congrArg w (r.emb.injective h.choose_spec)

theorem putAt_of_not {β : Type} (r : Rect s) (X : s.Idx → β) (w : r.shape.Idx → β) (y : s.Idx) (h : ¬ ∃ x, r.emb x = y) :
    putAt r X w y = X y := dif_neg h

theorem read_access (m : Memref sig c.2.kind .vmem s e) (r : Rect s) (f : m.view.ty.Contents Val) :
    (m.access r).read Val f = fun x => m.view.read Val f (r.emb x) := rfl

theorem read_write_access (m : Memref sig c.2.kind .vmem s e) (r : Rect s) (f : m.view.ty.Contents Val) (w : r.shape.Idx → Val e) :
    m.view.read Val ((m.access r).write Val f w Finset.univ) = putAt r (m.view.read Val f) w := by
  funext y
  by_cases h : ∃ x, r.emb x = y
  · obtain ⟨x, rfl⟩ := h
    rw [putAt_emb]
    exact congrFun (View.read_write_univ (v := m.access r) f w) x
  · rw [putAt_of_not _ _ _ _ h]
    refine View.read_slice_write_of_not_mem (v := m.view) r f w _ ?_
    intro hy
    obtain ⟨x, -, hx⟩ := Finset.mem_map.mp hy
    exact h ⟨x, hx⟩

variable {Q : α → sProp (MT nD τ sig Ix Val Name U Lvl)}

/-- A load through a rectangle. -/
theorem load {m : Memref sig c.2.kind .vmem s e} {r : Rect s} {hl : m.view.LoadsAt r.toLoadRect} {q : PosShare TreeShare}
    {X : s.Idx → Val e} {k : (r.shape.Idx → Val e) → Prog (TpuEff nD τ sig Val Λ c.2) α} :
    (owns c m q X : sProp 𝕄)
      ⊢ iprop((owns c m q X -∗ wp frame (wpE defs 𝒱 c bd) E (k fun x => X (r.emb x)) Q)
          -∗ wp frame (wpE defs 𝒱 c bd) E (.op (.load m r.toLoadRect hl) k) Q) := by
  unfold owns
  iintro ⟨%f, %hf, H⟩ Hk
  iapply (wp_load_rect 𝒱 c bd E (m := m) (r := r) (View.set_slice_subset _ _)) $$ H
  iintro H
  rw [read_access, hf]
  iapply Hk
  iexists f
  isplitr; · ipureintro; exact hf
  iexact H

/-- A store through a rectangle. -/
theorem store {m : Memref sig c.2.kind .vmem s e} {r : Rect s} {X : s.Idx → Val e} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (owns c m fullShare X : sProp 𝕄)
      ⊢ iprop((owns c m fullShare (putAt r X w) -∗ wp frame (wpE defs 𝒱 c bd) E (k ⟨⟩) Q)
          -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (View.set_slice_subset _ _)) $$ H
  iintro H
  iapply Hk
  iexists _
  isplitr
  swap; · iexact H
  ipureintro; rw [read_write_access, hf]

section Whole

variable {off : Fin s.rank → ℕ} {inb : ∀ a, off a + s.size a ≤ s.size a}

theorem off_zero (inb : ∀ a, off a + s.size a ≤ s.size a) (a : Fin s.rank) : off a = 0 := by
  have := inb a; omega

theorem emb_all (x : s.Idx) : (Rect.unit off s.size inb).emb x = x := by
  funext a
  apply Fin.ext
  show off a + 1 * (x a).val = (x a).val
  rw [off_zero inb a]; omega

theorem putAt_all {β : Type} (X w : s.Idx → β) : putAt (Rect.unit off s.size inb) X w = w := by
  funext y
  exact (congrArg (putAt (Rect.unit off s.size inb) X w) (emb_all (inb := inb) y).symm).trans (putAt_emb (Rect.unit off s.size inb) X w y)

/-- A load of all of the memref. -/
theorem loadAll {m : Memref sig c.2.kind .vmem s e} {hl : m.view.LoadsAt (Rect.unit off s.size inb).toLoadRect} {q : PosShare TreeShare}
    {X : s.Idx → Val e} {k : (s.Idx → Val e) → Prog (TpuEff nD τ sig Val Λ c.2) α} :
    (owns c m q X : sProp 𝕄)
      ⊢ iprop((owns c m q X -∗ wp frame (wpE defs 𝒱 c bd) E (k X) Q)
          -∗ wp frame (wpE defs 𝒱 c bd) E (.op (.load m (Rect.unit off s.size inb).toLoadRect hl) k) Q) := by
  have h := load (Q := Q) (defs := defs) 𝒱 c bd E (m := m) (r := Rect.unit off s.size inb) (hl := hl) (q := q) (X := X) (k := k)
  have hX : (fun x => X ((Rect.unit off s.size inb).emb x)) = X := funext fun x => congrArg X (emb_all x)
  rw [hX] at h
  exact h

/-- A store over all of the memref. -/
theorem storeAll {m : Memref sig c.2.kind .vmem s e} {X w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} :
    (owns c m fullShare X : sProp 𝕄)
      ⊢ iprop((owns c m fullShare w -∗ wp frame (wpE defs 𝒱 c bd) E (k ⟨⟩) Q)
          -∗ wp frame (wpE defs 𝒱 c bd) E (.op (.store m (Rect.unit off s.size inb) w Finset.univ hx hm) k) Q) := by
  have h := store (Q := Q) (defs := defs) 𝒱 c bd E (m := m) (r := Rect.unit off s.size inb) (X := X) (w := w) (hx := hx) (hm := hm) (k := k)
  rw [putAt_all] at h
  exact h

end Whole

end Cert.Own
-- ==== Proof.KI.Step.lean ====
/-
  One grid point of the attention gradient: what it computes, as a function of the blocks it is given and of what the
  accumulators hold (`St`), and the run of the kernel's body, piece by piece, leaving exactly that.
-/
module

public import proofs.«01_k».proof.Proof.Gen.KernelIdeal.Skeleton
public import proofs.«01_k».proof.Proof.Gen.KernelIdeal.Launch
public import proofs.«01_k».proof.Proof.Own

@[expose] public section

noncomputable section

namespace Cert.KernelIdeal.Own

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the body carries from point to point: the key side's sums and the queries' gradient. -/
structure St (F : FTy → Type) where
  dk : Vec F S1024x128 .f32
  dv : Vec F S1024x128 .f32
  dc : Vec F S1024x1 .f32
  dq : Vec F S8192x128 .f32

/-- The blocks a point is given. -/
structure Blk (F : FTy → Type) where
  q : Vec F S1024x128 .f32
  k : Vec F S1024x128 .f32
  v : Vec F S1024x128 .f32
  dO : Vec F S1024x128 .bf16
  c : Vec F S1x1024x1 .f32
  lse : Vec F S1x1x1024 .f32
  dl : Vec F S1x1x1024 .f32

/-- The rows of the queries' gradient a point below the diagonal, and one on it, adds to. -/
abbrev rows2 (v1 : BitVec 32) (h : ∀ a, (k0_off2 v1) a + S1024x128.size a ≤ S8192x128.size a) : Rect S8192x128 :=
  Rect.unit (s := S8192x128) (k0_off2 v1) S1024x128.size h
abbrev rows3 (v1 : BitVec 32) (h : ∀ a, (k0_off3 v1) a + S1024x128.size a ≤ S8192x128.size a) : Rect S8192x128 :=
  Rect.unit (s := S8192x128) (k0_off3 v1) S1024x128.size h

/-- The step below the diagonal. -/
def stepU (v1 : BitVec 32) (h : ∀ a, (k0_off2 v1) a + S1024x128.size a ≤ S8192x128.size a) (b : Blk F) (s : St F) : St F where
  dv := k0_pay20 b.q b.dO b.k b.c b.lse s.dv
  dc := k0_pay6 (k0_pay19 b.q b.k b.c b.lse) (k0_pay21 b.dO b.v) b.dl s.dc
  dk := k0_pay8 (k0_pay18 b.q) (k0_pay19 b.q b.k b.c b.lse) (k0_pay21 b.dO b.v) b.dl s.dk
  dq := putAt (rows2 v1 h) s.dq
    (k0_pay9 b.k (k0_pay19 b.q b.k b.c b.lse) (k0_pay21 b.dO b.v) b.dl fun x => s.dq ((rows2 v1 h).emb x))

/-- The step on the diagonal. -/
def stepD (v1 : BitVec 32) (h : ∀ a, (k0_off3 v1) a + S1024x128.size a ≤ S8192x128.size a) (b : Blk F) (s : St F) : St F where
  dv := k0_pay24 b.q b.dO b.k b.c b.lse s.dv
  dc := k0_pay11 b.dO (k0_pay23 b.q b.k b.c b.lse) b.v b.dl s.dc
  dk := k0_pay13 b.dO (k0_pay22 b.q) (k0_pay23 b.q b.k b.c b.lse) b.v b.dl s.dk
  dq := putAt (rows3 v1 h) s.dq
    (k0_pay14 b.dO b.k (k0_pay23 b.q b.k b.c b.lse) b.v b.dl fun x => s.dq ((rows3 v1 h).emb x))

/-- The condition `i = j`, as the body computes it before it clears the key side's sums. -/
abbrev condE (v1 v3 : BitVec 32) : Prop := Scalar.cmpi .ne (Scalar.extui (Scalar.cmpi .eq v1 v3)) 0#32 = 1#1

/-- The clearing of the queries' gradient at a head's first point, -/
def clearQ (c1 : BitVec 1) (s : St F) : St F := if c1 = 1#1 then { s with dq := k0_pay1 } else s
/-- and of the key side's sums at a key tile's first point. -/
def clearK (v1 v3 : BitVec 32) (s : St F) : St F :=
  if condE v1 v3 then { s with dk := k0_pay2, dv := k0_pay3, dc := k0_pay4 } else s

/-- The whole point. -/
def addU (v1 v3 : BitVec 32) (hc : k0_chk1 v1 v3) (b : Blk F) (s : St F) : St F :=
  if h : k0_cond3 v1 v3 = 1#1 then stepU v1 (k0_off2_inb v1 v3 hc h) b s else s
def addD (v1 v3 : BitVec 32) (hc : k0_chk1 v1 v3) (b : Blk F) (s : St F) : St F :=
  if h : k0_cond4 v1 v3 = 1#1 then stepD v1 (k0_off3_inb v1 v3 hc h) b s else s
def next (c1 : BitVec 1) (v1 v3 : BitVec 32) (hc : k0_chk1 v1 v3) (b : Blk F) (s : St F) : St F :=
  addD v1 v3 hc b (addU v1 v3 hc b (clearK v1 v3 (clearQ c1 s)))

section Pieces

variable (A4 A5 A6 : Memref sig .tc .vmem S1024x128 .f32) (A7 : Memref sig .tc .vmem S1024x128 .bf16)
  (A8 : Memref sig .tc .vmem S1x1024x1 .f32) (A9 A10 : Memref sig .tc .vmem S1x1x1024 .f32)
  (A11 : Memref sig .tc .vmem S8192x128 .f32) (A12 A13 : Memref sig .tc .vmem S1024x128 .bf16) (h12 : A12.IsWhole) (h13 : A13.IsWhole)
  (A14 : Memref sig .tc .vmem S1x1024x1 .f32) (A15 A16 : Memref sig .tc .vmem S1024x128 .f32) (A17 : Memref sig .tc .vmem S1024x1 .f32)

abbrev rT : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rQ : Rect S8192x128 := Rect.unit (s := S8192x128) ![0, 0] S8192x128.size inb_S8192x128_S8192x128_0_0
abbrev rK : Rect S1x1024x1 := Rect.unit (s := S1x1024x1) ![0, 0, 0] S1x1024x1.size inb_S1x1024x1_S1x1024x1_0_0_0
abbrev rL : Rect S1x1x1024 := Rect.unit (s := S1x1x1024) ![0, 0, 0] S1x1x1024.size inb_S1x1x1024_S1x1x1024_0_0_0

abbrev ldT (A : Memref sig .tc .vmem S1024x128 .f32) (k : Vec F S1024x128 .f32 → Prog (TpuEff nD τ sig (Elt F) Λ₀ .tc) PUnit.{1}) : Prog (TpuEff nD τ sig (Elt F) Λ₀ .tc) PUnit.{1} :=
  .op (.load A rT.toLoadRect (View.loadsAt_vmem h_S1024x128)) k
abbrev ldB (A : Memref sig .tc .vmem S1024x128 .bf16) (k : Vec F S1024x128 .bf16 → Prog (TpuEff nD τ sig (Elt F) Λ₀ .tc) PUnit.{1}) : Prog (TpuEff nD τ sig (Elt F) Λ₀ .tc) PUnit.{1} :=
  .op (.load A rT.toLoadRect (View.loadsAt_vmem h_S1024x128)) k
abbrev ldC (A : Memref sig .tc .vmem S1024x1 .f32) (k : Vec F S1024x1 .f32 → Prog (TpuEff nD τ sig (Elt F) Λ₀ .tc) PUnit.{1}) : Prog (TpuEff nD τ sig (Elt F) Λ₀ .tc) PUnit.{1} :=
  .op (.load A rC.toLoadRect (View.loadsAt_vmem h_S1024x1)) k
abbrev ldK (A : Memref sig .tc .vmem S1x1024x1 .f32) (k : Vec F S1x1024x1 .f32 → Prog (TpuEff nD τ sig (Elt F) Λ₀ .tc) PUnit.{1}) : Prog (TpuEff nD τ sig (Elt F) Λ₀ .tc) PUnit.{1} :=
  .op (.load A rK.toLoadRect (View.loadsAt_vmem h_S1x1024x1)) k
abbrev ldL (A : Memref sig .tc .vmem S1x1x1024 .f32) (k : Vec F S1x1x1024 .f32 → Prog (TpuEff nD τ sig (Elt F) Λ₀ .tc) PUnit.{1}) : Prog (TpuEff nD τ sig (Elt F) Λ₀ .tc) PUnit.{1} :=
  .op (.load A rL.toLoadRect (View.loadsAt_vmem h_S1x1x1024)) k
abbrev stT (A : Memref sig .tc .vmem S1024x128 .f32) (w : FVec F S1024x128 .f32) (k : PUnit.{1} → Prog (TpuEff nD τ sig (Elt F) Λ₀ .tc) PUnit.{1}) : Prog (TpuEff nD τ sig (Elt F) Λ₀ .tc) PUnit.{1} :=
  .op (.store A rT w Finset.univ (View.stores_vmem_bits_univ h_S1024x128 rfl) (.inl rfl)) k
abbrev stC (A : Memref sig .tc .vmem S1024x1 .f32) (w : FVec F S1024x1 .f32) (k : PUnit.{1} → Prog (TpuEff nD τ sig (Elt F) Λ₀ .tc) PUnit.{1}) : Prog (TpuEff nD τ sig (Elt F) Λ₀ .tc) PUnit.{1} :=
  .op (.store A rC w Finset.univ (View.stores_vmem_bits_univ h_S1024x1 rfl) (.inl rfl)) k
abbrev stK (A : Memref sig .tc .vmem S1x1024x1 .f32) (w : FVec F S1x1024x1 .f32) (k : PUnit.{1} → Prog (TpuEff nD τ sig (Elt F) Λ₀ .tc) PUnit.{1}) : Prog (TpuEff nD τ sig (Elt F) Λ₀ .tc) PUnit.{1} :=
  .op (.store A rK w Finset.univ (View.stores_vmem_bits_univ h_S1x1024x1 rfl) (.inl rfl)) k
abbrev stB (A : Memref sig .tc .vmem S1024x128 .bf16) (hA : A.IsWhole) (w : FVec F S1024x128 .bf16) (k : PUnit.{1} → Prog (TpuEff nD τ sig (Elt F) Λ₀ .tc) PUnit.{1}) : Prog (TpuEff nD τ sig (Elt F) Λ₀ .tc) PUnit.{1} :=
  .op (.store A rT w Finset.univ (View.stores_vmem h_S1024x128 (hA.storeExact_slice rfl _ packedbf16_S1024x128_S1024x128_0_0) (fun _ => rfl)) (.inl rfl)) k

/-- Clearing the queries' gradient. -/
abbrev pClearQ (c1 : BitVec 1) (kk : PUnit.{1} → Prog (TpuEff nD τ sig (Elt F) Λ₀ .tc) PUnit.{1}) : Prog (TpuEff nD τ sig (Elt F) Λ₀ .tc) PUnit.{1} :=
  if c1 = 1#1 then
    .op (.load A11 rQ.toLoadRect (View.loadsAt_vmem h_S8192x128)) fun (_ : Vec F S8192x128 .f32) =>
    .op (.store A11 rQ (k0_pay1 (F := F)) Finset.univ (View.stores_vmem_bits_univ h_S8192x128 rfl) (.inl rfl)) kk
  else kk ⟨⟩

/-- Clearing the key side's sums. -/
abbrev pClearK (v1 v3 : BitVec 32) (kk : PUnit.{1} → Prog (TpuEff nD τ sig (Elt F) Λ₀ .tc) PUnit.{1}) : Prog (TpuEff nD τ sig (Elt F) Λ₀ .tc) PUnit.{1} :=
  if condE v1 v3 then
    ldT A15 fun _ => stT A15 k0_pay2 fun _ => ldT A16 fun _ => stT A16 k0_pay3 fun _ => ldC A17 fun _ => stC A17 k0_pay4 kk
  else kk ⟨⟩

/-- The step below the diagonal. -/
abbrev pU (v1 v3 : BitVec 32) (hc : k0_chk1 v1 v3) (kk : PUnit.{1} → Prog (TpuEff nD τ sig (Elt F) Λ₀ .tc) PUnit.{1}) : Prog (TpuEff nD τ sig (Elt F) Λ₀ .tc) PUnit.{1} :=
  if h : k0_cond3 v1 v3 = 1#1 then
    ldT A4 fun q => ldB A7 fun dO => ldT A5 fun k => ldK A8 fun c => ldL A9 fun lse => ldT A16 fun dv => ldT A16 fun _ =>
    stT A16 (k0_pay20 q dO k c lse dv) fun _ => ldT A6 fun v => ldL A10 fun dl => ldC A17 fun dc => ldC A17 fun _ =>
    stC A17 (k0_pay6 (k0_pay19 q k c lse) (k0_pay21 dO v) dl dc) fun _ => ldT A15 fun dk => ldT A15 fun _ =>
    stT A15 (k0_pay8 (k0_pay18 q) (k0_pay19 q k c lse) (k0_pay21 dO v) dl dk) fun _ =>
    .op (.load A11 (rows2 v1 (k0_off2_inb v1 v3 hc h)).toLoadRect (View.loadsAt_vmem h_S1024x128)) fun (dq : Vec F S1024x128 .f32) =>
    .op (.load A11 (rows2 v1 (k0_off2_inb v1 v3 hc h)).toLoadRect (View.loadsAt_vmem h_S1024x128)) fun (_ : Vec F S1024x128 .f32) =>
    .op (.store A11 (rows2 v1 (k0_off2_inb v1 v3 hc h)) (k0_pay9 k (k0_pay19 q k c lse) (k0_pay21 dO v) dl dq) Finset.univ
      (View.stores_vmem_bits_univ h_S1024x128 rfl) (.inl rfl)) kk
  else kk ⟨⟩

/-- The step on the diagonal. -/
abbrev pD (v1 v3 : BitVec 32) (hc : k0_chk1 v1 v3) (kk : PUnit.{1} → Prog (TpuEff nD τ sig (Elt F) Λ₀ .tc) PUnit.{1}) : Prog (TpuEff nD τ sig (Elt F) Λ₀ .tc) PUnit.{1} :=
  if h : k0_cond4 v1 v3 = 1#1 then
    ldT A4 fun q => ldB A7 fun dO => ldT A5 fun k => ldK A8 fun c => ldL A9 fun lse => ldT A16 fun dv => ldT A16 fun _ =>
    stT A16 (k0_pay24 q dO k c lse dv) fun _ => ldT A6 fun v => ldL A10 fun dl => ldC A17 fun dc => ldC A17 fun _ =>
    stC A17 (k0_pay11 dO (k0_pay23 q k c lse) v dl dc) fun _ => ldT A15 fun dk => ldT A15 fun _ =>
    stT A15 (k0_pay13 dO (k0_pay22 q) (k0_pay23 q k c lse) v dl dk) fun _ =>
    .op (.load A11 (rows3 v1 (k0_off3_inb v1 v3 hc h)).toLoadRect (View.loadsAt_vmem h_S1024x128)) fun (dq : Vec F S1024x128 .f32) =>
    .op (.load A11 (rows3 v1 (k0_off3_inb v1 v3 hc h)).toLoadRect (View.loadsAt_vmem h_S1024x128)) fun (_ : Vec F S1024x128 .f32) =>
    .op (.store A11 (rows3 v1 (k0_off3_inb v1 v3 hc h)) (k0_pay14 dO k (k0_pay23 q k c lse) v dl dq) Finset.univ
      (View.stores_vmem_bits_univ h_S1024x128 rfl) (.inl rfl)) kk
  else kk ⟨⟩

/-- The stores of the key side's results. -/
abbrev pOut (v1 : BitVec 32) (kk : PUnit.{1} → Prog (TpuEff nD τ sig (Elt F) Λ₀ .tc) PUnit.{1}) : Prog (TpuEff nD τ sig (Elt F) Λ₀ .tc) PUnit.{1} :=
  if k0_cond5 v1 = 1#1 then
    ldT A15 fun dk => ldB A12 fun _ => stB A12 h12 (k0_pay15 dk) fun _ => ldT A16 fun dv => ldB A13 fun _ => stB A13 h13 (k0_pay16 dv) fun _ =>
    ldC A17 fun dc => ldK A14 fun _ => stK A14 (k0_pay17 dc) kk
  else kk ⟨⟩

/-- All the pieces, from the two words on. -/
abbrev pAll (c1 : BitVec 1) (v1 v3 : BitVec 32) (hc : k0_chk1 v1 v3) : Prog (TpuEff nD τ sig (Elt F) Λ₀ .tc) PUnit.{1} :=
  pClearQ A11 c1 fun _ => pClearK A15 A16 A17 v1 v3 fun _ =>
  pU A4 A5 A6 A7 A8 A9 A10 A11 A15 A16 A17 v1 v3 hc fun _ =>
  pD A4 A5 A6 A7 A8 A9 A10 A11 A15 A16 A17 v1 v3 hc fun _ =>
  pOut A12 A13 h12 h13 A14 A15 A16 A17 v1 fun _ => .ret ⟨⟩

/-- The reading of a table's word. -/
abbrev rW (i : grid0.Coords) : Rect S36 := Rect.unit (s := S36) (k0_off1 i) S1.size (k0_off1_inb i)
abbrev xW : S1.Idx := Shape.Idx.first (numel1_S1.symm ▸ Nat.one_pos)

end Pieces

/-- The body is its pieces in order. -/
theorem body_eq (i : grid0.Coords) (arg2 : Memref sig .tc .smem S36 .i32) (harg2 : arg2.IsWhole) (arg3 : Memref sig .tc .smem S36 .i32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S1x1024x1 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S8192x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x1 .f32) (harg17 : arg17.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 =
      smemLoadElt arg2 (rW i) (View.loads_smem_one rfl numel1_S1) xW fun (v1 : Elt F .i32) =>
      smemLoadElt arg3 (rW i) (View.loads_smem_one rfl numel1_S1) xW fun (v3 : Elt F .i32) =>
      .op (.assume (k0_chk1 v1 v3) (k0_chk1.dec v1 v3)) fun hc =>
      pAll arg4 arg5 arg6 arg7 arg8 arg9 arg10 arg11 arg12 arg13 harg12 harg13 arg14 arg15 arg16 arg17 (k0_cond1 i) v1 v3 hc.down := by
  rw [cc0_attn_bwd_eq_skeleton]
  unfold cc0_attn_bwd_skel
  unfold smemLoad smemLoadElt
  simp only [Prog.lift, Prog.bind_op, Prog.bind_ret]
  refine congrArg (Prog.op _) (funext fun f1 => ?_)
  refine congrArg (Prog.op _) (funext fun f3 => ?_)
  refine congrArg (Prog.op _) (funext fun hc => ?_)
  simp only [k0_part1_eq_skeleton, k0_part2_eq_skeleton, k0_part1_skel, k0_part2_skel, Prog.lift, Prog.bind_op, Prog.bind_ret, Prog.bind_assoc, Prog.pure_eq_ret]
  rfl

end Cert.KernelIdeal.Own
-- ==== Proof.KI.Triple.lean ====
/-
  The run of one grid point: each piece of the body takes the accumulators from what they hold to what the step's
  function says, and so does the whole.
-/
module

public import proofs.«01_k».proof.Proof.KI.Step

@[expose] public section

noncomputable section

namespace Cert.KernelIdeal.Own

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- No loop's variant is counted. -/
abbrev 𝒱₀ : Variants := Variants.none

variable (c : Dev nD)
  (A4 A5 A6 : Memref sig .tc .vmem S1024x128 .f32) (A7 : Memref sig .tc .vmem S1024x128 .bf16)
  (A8 : Memref sig .tc .vmem S1x1024x1 .f32) (A9 A10 : Memref sig .tc .vmem S1x1x1024 .f32)
  (A11 : Memref sig .tc .vmem S8192x128 .f32) (A12 A13 : Memref sig .tc .vmem S1024x128 .bf16) (h12 : A12.IsWhole) (h13 : A13.IsWhole)
  (A14 : Memref sig .tc .vmem S1x1024x1 .f32) (A15 A16 : Memref sig .tc .vmem S1024x128 .f32) (A17 : Memref sig .tc .vmem S1024x1 .f32)

/-- Holding the accumulators, -/
def hSt (s : St F) : sProp (MT nD τ sig Unit (Elt F) ℕ (UR sig nD τ) ℕ) :=
  iprop(owns (c : Thread nD τ) A15 fullShare s.dk ∗ owns (c : Thread nD τ) A16 fullShare s.dv ∗
    owns (c : Thread nD τ) A17 fullShare s.dc ∗ owns (c : Thread nD τ) A11 fullShare s.dq)

/-- and the blocks. -/
def hBlk (b : Blk F) : sProp (MT nD τ sig Unit (Elt F) ℕ (UR sig nD τ) ℕ) :=
  iprop(owns (c : Thread nD τ) A4 fullShare b.q ∗ owns (c : Thread nD τ) A5 fullShare b.k ∗
    owns (c : Thread nD τ) A6 fullShare b.v ∗ owns (c : Thread nD τ) A7 fullShare b.dO ∗ owns (c : Thread nD τ) A8 fullShare b.c ∗
    owns (c : Thread nD τ) A9 fullShare b.lse ∗ owns (c : Thread nD τ) A10 fullShare b.dl)

/-- Holding the key side's results' buffers. -/
def hOut (dk dv : Vec F S1024x128 .bf16) (dc : Vec F S1x1024x1 .f32) : sProp (MT nD τ sig Unit (Elt F) ℕ (UR sig nD τ) ℕ) :=
  iprop(owns (c : Thread nD τ) A12 fullShare dk ∗ owns (c : Thread nD τ) A13 fullShare dv ∗ owns (c : Thread nD τ) A14 fullShare dc)

variable {Q : PUnit.{1} → sProp (MT nD τ sig Unit (Elt F) ℕ (UR sig nD τ) ℕ)}
  {kk : PUnit.{1} → Prog (TpuEff nD τ sig (Elt F) Λ₀ .tc) PUnit.{1}}

theorem sound_clearQ (c1 : BitVec 1) (s : St F) :
    (hSt c A11 A15 A16 A17 s : sProp (MT nD τ sig Unit (Elt F) ℕ (UR sig nD τ) ℕ)) ⊢
      iprop((hSt c A11 A15 A16 A17 (clearQ c1 s) -∗ wp frame (wpE defs₀ 𝒱₀ (c : Thread nD τ) none) Set.univ (kk ⟨⟩) Q)
        -∗ wp frame (wpE defs₀ 𝒱₀ (c : Thread nD τ) none) Set.univ (pClearQ A11 c1 kk) Q) := by
  unfold hSt clearQ pClearQ
  split
  · iintro ⟨Hk, Hv, Hc, Hq⟩ K
    iapply (loadAll 𝒱₀ (c : Thread nD τ) none Set.univ (m := A11)) $$ Hq
    iintro Hq
    iapply (storeAll 𝒱₀ (c : Thread nD τ) none Set.univ (m := A11)) $$ Hq
    iintro Hq
    iapply K
    isplitl [Hk]; · iexact Hk
    isplitl [Hv]; · iexact Hv
    isplitl [Hc]; · iexact Hc
    iexact Hq
  · iintro ⟨Hk, Hv, Hc, Hq⟩ K
    iapply K
    isplitl [Hk]; · iexact Hk
    isplitl [Hv]; · iexact Hv
    isplitl [Hc]; · iexact Hc
    iexact Hq

theorem sound_clearK (v1 v3 : BitVec 32) (s : St F) :
    (hSt c A11 A15 A16 A17 s : sProp (MT nD τ sig Unit (Elt F) ℕ (UR sig nD τ) ℕ)) ⊢
      iprop((hSt c A11 A15 A16 A17 (clearK v1 v3 s) -∗ wp frame (wpE defs₀ 𝒱₀ (c : Thread nD τ) none) Set.univ (kk ⟨⟩) Q)
        -∗ wp frame (wpE defs₀ 𝒱₀ (c : Thread nD τ) none) Set.univ (pClearK A15 A16 A17 v1 v3 kk) Q) := by
  unfold hSt clearK pClearK
  split
  · iintro ⟨Hk, Hv, Hc, Hq⟩ K
    iapply (loadAll 𝒱₀ (c : Thread nD τ) none Set.univ (m := A15)) $$ Hk
    iintro Hk
    iapply (storeAll 𝒱₀ (c : Thread nD τ) none Set.univ (m := A15)) $$ Hk
    iintro Hk
    iapply (loadAll 𝒱₀ (c : Thread nD τ) none Set.univ (m := A16)) $$ Hv
    iintro Hv
    iapply (storeAll 𝒱₀ (c : Thread nD τ) none Set.univ (m := A16)) $$ Hv
    iintro Hv
    iapply (loadAll 𝒱₀ (c : Thread nD τ) none Set.univ (m := A17)) $$ Hc
    iintro Hc
    iapply (storeAll 𝒱₀ (c : Thread nD τ) none Set.univ (m := A17)) $$ Hc
    iintro Hc
    iapply K
    isplitl [Hk]; · iexact Hk
    isplitl [Hv]; · iexact Hv
    isplitl [Hc]; · iexact Hc
    iexact Hq
  · iintro ⟨Hk, Hv, Hc, Hq⟩ K
    iapply K
    isplitl [Hk]; · iexact Hk
    isplitl [Hv]; · iexact Hv
    isplitl [Hc]; · iexact Hc
    iexact Hq

theorem sound_U (v1 v3 : BitVec 32) (hc : k0_chk1 v1 v3) (b : Blk F) (s : St F) :
    (iprop(hSt c A11 A15 A16 A17 s ∗ hBlk c A4 A5 A6 A7 A8 A9 A10 b) : sProp (MT nD τ sig Unit (Elt F) ℕ (UR sig nD τ) ℕ)) ⊢
      iprop((iprop(hSt c A11 A15 A16 A17 (addU v1 v3 hc b s) ∗ hBlk c A4 A5 A6 A7 A8 A9 A10 b)
          -∗ wp frame (wpE defs₀ 𝒱₀ (c : Thread nD τ) none) Set.univ (kk ⟨⟩) Q)
        -∗ wp frame (wpE defs₀ 𝒱₀ (c : Thread nD τ) none) Set.univ (pU A4 A5 A6 A7 A8 A9 A10 A11 A15 A16 A17 v1 v3 hc kk) Q) := by
  unfold hSt hBlk addU pU
  split
  · next h =>
    unfold stepU
    iintro ⟨⟨Hk, Hv, Hc, Hq⟩, H4, H5, H6, H7, H8, H9, H10⟩ K
    iapply (loadAll 𝒱₀ (c : Thread nD τ) none Set.univ (m := A4)) $$ H4
    iintro H4
    iapply (loadAll 𝒱₀ (c : Thread nD τ) none Set.univ (m := A7)) $$ H7
    iintro H7
    iapply (loadAll 𝒱₀ (c : Thread nD τ) none Set.univ (m := A5)) $$ H5
    iintro H5
    iapply (loadAll 𝒱₀ (c : Thread nD τ) none Set.univ (m := A8)) $$ H8
    iintro H8
    iapply (loadAll 𝒱₀ (c : Thread nD τ) none Set.univ (m := A9)) $$ H9
    iintro H9
    iapply (loadAll 𝒱₀ (c : Thread nD τ) none Set.univ (m := A16)) $$ Hv
    iintro Hv
    iapply (loadAll 𝒱₀ (c : Thread nD τ) none Set.univ (m := A16)) $$ Hv
    iintro Hv
    iapply (storeAll 𝒱₀ (c : Thread nD τ) none Set.univ (m := A16)) $$ Hv
    iintro Hv
    iapply (loadAll 𝒱₀ (c : Thread nD τ) none Set.univ (m := A6)) $$ H6
    iintro H6
    iapply (loadAll 𝒱₀ (c : Thread nD τ) none Set.univ (m := A10)) $$ H10
    iintro H10
    iapply (loadAll 𝒱₀ (c : Thread nD τ) none Set.univ (m := A17)) $$ Hc
    iintro Hc
    iapply (loadAll 𝒱₀ (c : Thread nD τ) none Set.univ (m := A17)) $$ Hc
    iintro Hc
    iapply (storeAll 𝒱₀ (c : Thread nD τ) none Set.univ (m := A17)) $$ Hc
    iintro Hc
    iapply (loadAll 𝒱₀ (c : Thread nD τ) none Set.univ (m := A15)) $$ Hk
    iintro Hk
    iapply (loadAll 𝒱₀ (c : Thread nD τ) none Set.univ (m := A15)) $$ Hk
    iintro Hk
    iapply (storeAll 𝒱₀ (c : Thread nD τ) none Set.univ (m := A15)) $$ Hk
    iintro Hk
    iapply (load 𝒱₀ (c : Thread nD τ) none Set.univ (m := A11)) $$ Hq
    iintro Hq
    iapply (load 𝒱₀ (c : Thread nD τ) none Set.univ (m := A11)) $$ Hq
    iintro Hq
    iapply (store 𝒱₀ (c : Thread nD τ) none Set.univ (m := A11)) $$ Hq
    iintro Hq
    iapply K
    isplitl [Hk Hv Hc Hq]
    · isplitl [Hk]; · iexact Hk
      isplitl [Hv]; · iexact Hv
      isplitl [Hc]; · iexact Hc
      iexact Hq
    isplitl [H4]; · iexact H4
    isplitl [H5]; · iexact H5
    isplitl [H6]; · iexact H6
    isplitl [H7]; · iexact H7
    isplitl [H8]; · iexact H8
    isplitl [H9]; · iexact H9
    iexact H10
  · iintro H K
    iapply K
    iexact H

theorem sound_D (v1 v3 : BitVec 32) (hc : k0_chk1 v1 v3) (b : Blk F) (s : St F) :
    (iprop(hSt c A11 A15 A16 A17 s ∗ hBlk c A4 A5 A6 A7 A8 A9 A10 b) : sProp (MT nD τ sig Unit (Elt F) ℕ (UR sig nD τ) ℕ)) ⊢
      iprop((iprop(hSt c A11 A15 A16 A17 (addD v1 v3 hc b s) ∗ hBlk c A4 A5 A6 A7 A8 A9 A10 b)
          -∗ wp frame (wpE defs₀ 𝒱₀ (c : Thread nD τ) none) Set.univ (kk ⟨⟩) Q)
        -∗ wp frame (wpE defs₀ 𝒱₀ (c : Thread nD τ) none) Set.univ (pD A4 A5 A6 A7 A8 A9 A10 A11 A15 A16 A17 v1 v3 hc kk) Q) := by
  unfold hSt hBlk addD pD
  split
  · next h =>
    unfold stepD
    iintro ⟨⟨Hk, Hv, Hc, Hq⟩, H4, H5, H6, H7, H8, H9, H10⟩ K
    iapply (loadAll 𝒱₀ (c : Thread nD τ) none Set.univ (m := A4)) $$ H4
    iintro H4
    iapply (loadAll 𝒱₀ (c : Thread nD τ) none Set.univ (m := A7)) $$ H7
    iintro H7
    iapply (loadAll 𝒱₀ (c : Thread nD τ) none Set.univ (m := A5)) $$ H5
    iintro H5
    iapply (loadAll 𝒱₀ (c : Thread nD τ) none Set.univ (m := A8)) $$ H8
    iintro H8
    iapply (loadAll 𝒱₀ (c : Thread nD τ) none Set.univ (m := A9)) $$ H9
    iintro H9
    iapply (loadAll 𝒱₀ (c : Thread nD τ) none Set.univ (m := A16)) $$ Hv
    iintro Hv
    iapply (loadAll 𝒱₀ (c : Thread nD τ) none Set.univ (m := A16)) $$ Hv
    iintro Hv
    iapply (storeAll 𝒱₀ (c : Thread nD τ) none Set.univ (m := A16)) $$ Hv
    iintro Hv
    iapply (loadAll 𝒱₀ (c : Thread nD τ) none Set.univ (m := A6)) $$ H6
    iintro H6
    iapply (loadAll 𝒱₀ (c : Thread nD τ) none Set.univ (m := A10)) $$ H10
    iintro H10
    iapply (loadAll 𝒱₀ (c : Thread nD τ) none Set.univ (m := A17)) $$ Hc
    iintro Hc
    iapply (loadAll 𝒱₀ (c : Thread nD τ) none Set.univ (m := A17)) $$ Hc
    iintro Hc
    iapply (storeAll 𝒱₀ (c : Thread nD τ) none Set.univ (m := A17)) $$ Hc
    iintro Hc
    iapply (loadAll 𝒱₀ (c : Thread nD τ) none Set.univ (m := A15)) $$ Hk
    iintro Hk
    iapply (loadAll 𝒱₀ (c : Thread nD τ) none Set.univ (m := A15)) $$ Hk
    iintro Hk
    iapply (storeAll 𝒱₀ (c : Thread nD τ) none Set.univ (m := A15)) $$ Hk
    iintro Hk
    iapply (load 𝒱₀ (c : Thread nD τ) none Set.univ (m := A11)) $$ Hq
    iintro Hq
    iapply (load 𝒱₀ (c : Thread nD τ) none Set.univ (m := A11)) $$ Hq
    iintro Hq
    iapply (store 𝒱₀ (c : Thread nD τ) none Set.univ (m := A11)) $$ Hq
    iintro Hq
    iapply K
    isplitl [Hk Hv Hc Hq]
    · isplitl [Hk]; · iexact Hk
      isplitl [Hv]; · iexact Hv
      isplitl [Hc]; · iexact Hc
      iexact Hq
    isplitl [H4]; · iexact H4
    isplitl [H5]; · iexact H5
    isplitl [H6]; · iexact H6
    isplitl [H7]; · iexact H7
    isplitl [H8]; · iexact H8
    isplitl [H9]; · iexact H9
    iexact H10
  · iintro H K
    iapply K
    iexact H

theorem sound_out (v1 : BitVec 32) (s : St F) (dk dv : Vec F S1024x128 .bf16) (dc : Vec F S1x1024x1 .f32) :
    (iprop(hSt c A11 A15 A16 A17 s ∗ hOut c A12 A13 A14 dk dv dc) : sProp (MT nD τ sig Unit (Elt F) ℕ (UR sig nD τ) ℕ)) ⊢
      iprop((iprop(hSt c A11 A15 A16 A17 s ∗ hOut c A12 A13 A14 (if k0_cond5 v1 = 1#1 then k0_pay15 s.dk else dk)
          (if k0_cond5 v1 = 1#1 then k0_pay16 s.dv else dv) (if k0_cond5 v1 = 1#1 then k0_pay17 s.dc else dc))
          -∗ wp frame (wpE defs₀ 𝒱₀ (c : Thread nD τ) none) Set.univ (kk ⟨⟩) Q)
        -∗ wp frame (wpE defs₀ 𝒱₀ (c : Thread nD τ) none) Set.univ (pOut A12 A13 h12 h13 A14 A15 A16 A17 v1 kk) Q) := by
  unfold hSt hOut pOut
  by_cases h : k0_cond5 v1 = 1#1
  · simp only [if_pos h]
    iintro ⟨⟨Hk, Hv, Hc, Hq⟩, H12, H13, H14⟩ K
    iapply (loadAll 𝒱₀ (c : Thread nD τ) none Set.univ (m := A15)) $$ Hk
    iintro Hk
    iapply (loadAll 𝒱₀ (c : Thread nD τ) none Set.univ (m := A12)) $$ H12
    iintro H12
    iapply (storeAll 𝒱₀ (c : Thread nD τ) none Set.univ (m := A12)) $$ H12
    iintro H12
    iapply (loadAll 𝒱₀ (c : Thread nD τ) none Set.univ (m := A16)) $$ Hv
    iintro Hv
    iapply (loadAll 𝒱₀ (c : Thread nD τ) none Set.univ (m := A13)) $$ H13
    iintro H13
    iapply (storeAll 𝒱₀ (c : Thread nD τ) none Set.univ (m := A13)) $$ H13
    iintro H13
    iapply (loadAll 𝒱₀ (c : Thread nD τ) none Set.univ (m := A17)) $$ Hc
    iintro Hc
    iapply (loadAll 𝒱₀ (c : Thread nD τ) none Set.univ (m := A14)) $$ H14
    iintro H14
    iapply (storeAll 𝒱₀ (c : Thread nD τ) none Set.univ (m := A14)) $$ H14
    iintro H14
    iapply K
    isplitl [Hk Hv Hc Hq]
    · isplitl [Hk]; · iexact Hk
      isplitl [Hv]; · iexact Hv
      isplitl [Hc]; · iexact Hc
      iexact Hq
    isplitl [H12]; · iexact H12
    isplitl [H13]; · iexact H13
    iexact H14
  · simp only [if_neg h]
    iintro H K
    iapply K
    iexact H

/-- The whole point, from the two words on. -/
theorem sound_all (c1 : BitVec 1) (v1 v3 : BitVec 32) (hc : k0_chk1 v1 v3) (b : Blk F) (s : St F)
    (dk dv : Vec F S1024x128 .bf16) (dc : Vec F S1x1024x1 .f32) :
    (iprop(hSt c A11 A15 A16 A17 s ∗ hBlk c A4 A5 A6 A7 A8 A9 A10 b ∗ hOut c A12 A13 A14 dk dv dc) : sProp (MT nD τ sig Unit (Elt F) ℕ (UR sig nD τ) ℕ)) ⊢
      wp frame (wpE defs₀ 𝒱₀ (c : Thread nD τ) none) Set.univ
        (pAll A4 A5 A6 A7 A8 A9 A10 A11 A12 A13 h12 h13 A14 A15 A16 A17 c1 v1 v3 hc) fun _ =>
        iprop(hSt c A11 A15 A16 A17 (next c1 v1 v3 hc b s) ∗ hBlk c A4 A5 A6 A7 A8 A9 A10 b ∗
          hOut c A12 A13 A14 (if k0_cond5 v1 = 1#1 then k0_pay15 (next c1 v1 v3 hc b s).dk else dk)
          (if k0_cond5 v1 = 1#1 then k0_pay16 (next c1 v1 v3 hc b s).dv else dv)
          (if k0_cond5 v1 = 1#1 then k0_pay17 (next c1 v1 v3 hc b s).dc else dc)) := by
  iintro ⟨HS, HB, HO⟩
  iapply (sound_clearQ c A11 A15 A16 A17 c1 s) $$ HS
  iintro HS
  iapply (sound_clearK c A11 A15 A16 A17 v1 v3 _) $$ HS
  iintro HS
  iapply (sound_U c A4 A5 A6 A7 A8 A9 A10 A11 A15 A16 A17 v1 v3 hc b _) $$ [HS HB]
  · isplitl [HS]; · iexact HS
    iexact HB
  iintro ⟨HS, HB⟩
  iapply (sound_D c A4 A5 A6 A7 A8 A9 A10 A11 A15 A16 A17 v1 v3 hc b _) $$ [HS HB]
  · isplitl [HS]; · iexact HS
    iexact HB
  iintro ⟨HS, HB⟩
  iapply (sound_out c A11 A12 A13 h12 h13 A14 A15 A16 A17 v1 _ dk dv dc) $$ [HS HO]
  · isplitl [HS]; · iexact HS
    iexact HO
  iintro ⟨HS, HO⟩
  iapply (le_wp_ret frame _ _ _ _)
  isplitl [HS]; · iexact HS
  isplitl [HB]; · iexact HB
  iexact HO

end Cert.KernelIdeal.Own
-- ==== Proof.KI.Tab.lean ====
/-
  The two tables the launch reads: their contents are literals, and everything of the schedule that depends on them is
  decided here, point by point.
-/
module

public import proofs.«01_k».proof.Proof.KI.Triple
public import Idealize.ShloMosaic.PureOps.Ideal
public import Idealize.ShloMosaic.Lib.Pipeline.TableIdle
public import Idealize.ShloMosaic.Lib.Pipeline.FrameBody

@[expose] public section

noncomputable section

namespace Cert.KernelIdeal.Own

open Cert.KernelIdeal Cert.KernelIdeal.Gen Cert.Own
open Idealize.ShloMosaic Idealize.ShloMosaic.TcCoe

variable {F : FTy → Type} [FloatOps F] [Named F]

/-- The tables' contents. -/
def pfT : pre0.Contents (Elt F) := fun
  | 0 => fun i => lit0 (S36.rowMajor i)
  | 1 => fun i => lit1 (S36.rowMajor i)

set_option maxRecDepth 100000 in
theorem pfT_okI : ok0 (F := Ideal) pfT := by
  decide +kernel

theorem pfT_ok : ok0 (F := F) pfT := pfT_okI

/-- The tables, passed. -/
def aT : (p : Fin 1) → (pcfgs (F := F) p).Adm := fun _ => ⟨pfT, pfT_ok⟩

/-- The launch's schedule at these tables. -/
abbrev cfgT : Pipeline.Cfg sig Λ₀ := Pipeline.pin (pcfgs (F := F)) aT 0

/-- A point's words: the query tile and the key tile. -/
def wI (i : grid0.Coords) : BitVec 32 := lit0 (S36.rowMajor ((rW i).emb xW))
def wJ (i : grid0.Coords) : BitVec 32 := lit1 (S36.rowMajor ((rW i).emb xW))

set_option maxRecDepth 100000 in
/-- The body's side condition. -/
theorem hcT : ∀ i : grid0.Coords, k0_chk1 (wI i) (wJ i) := by decide +kernel

set_option maxRecDepth 100000 in
/-- The first point clears everything. -/
theorem first : ∀ t : Fin grid0.N, t.val = 0 → k0_cond1 (grid0.coords t) = 1#1 ∧ condE (wI (grid0.coords t)) (wJ (grid0.coords t)) := by
  decide +kernel

set_option maxRecDepth 100000 in
theorem flush7I : ∀ t : Fin grid0.N, ((cfgT (F := Ideal)).win (7 : Fin 11)).flushF t = true →
    ∀ h : t.val + 1 < grid0.N, k0_cond1 (grid0.coords ⟨t.val + 1, h⟩) = 1#1 := by
  decide +kernel

set_option maxRecDepth 100000 in
theorem flushKI : ∀ t : Fin grid0.N, (((cfgT (F := Ideal)).win (8 : Fin 11)).flushF t = true ∨ ((cfgT (F := Ideal)).win (9 : Fin 11)).flushF t = true
    ∨ ((cfgT (F := Ideal)).win (10 : Fin 11)).flushF t = true) → k0_cond5 (wI (grid0.coords t)) = 1#1 := by
  decide +kernel

set_option maxRecDepth 100000 in
theorem idle7I : ∀ i : grid0.Coords, idle0 (F := Ideal) pfT 7 i = false := by
  decide +kernel

set_option maxRecDepth 100000 in
theorem idleKI : ∀ i : grid0.Coords, (idle0 (F := Ideal) pfT 8 i = !(k0_cond5 (wI i) == 1#1)) ∧ (idle0 (F := Ideal) pfT 9 i = !(k0_cond5 (wI i) == 1#1))
    ∧ (idle0 (F := Ideal) pfT 10 i = !(k0_cond5 (wI i) == 1#1)) := by
  decide +kernel

/-- A write-back of the queries' gradient is followed by a point that clears it; -/
theorem flush7 (t : Fin grid0.N) (hf : ((cfgT (F := F)).win (7 : Fin 11)).flush t = true) (h : t.val + 1 < grid0.N) :
    k0_cond1 (grid0.coords ⟨t.val + 1, h⟩) = 1#1 :=
  flush7I t ((Pipeline.Window.flush_eq_flushF _ t).symm.trans hf) h

/-- the key side's results are written back only where they were stored. -/
theorem flush8 (t : Fin grid0.N) (hf : ((cfgT (F := F)).win (8 : Fin 11)).flush t = true) : k0_cond5 (wI (grid0.coords t)) = 1#1 :=
  flushKI t (.inl ((Pipeline.Window.flush_eq_flushF _ t).symm.trans hf))
theorem flush9 (t : Fin grid0.N) (hf : ((cfgT (F := F)).win (9 : Fin 11)).flush t = true) : k0_cond5 (wI (grid0.coords t)) = 1#1 :=
  flushKI t (.inr (.inl ((Pipeline.Window.flush_eq_flushF _ t).symm.trans hf)))
theorem flush10 (t : Fin grid0.N) (hf : ((cfgT (F := F)).win (10 : Fin 11)).flush t = true) : k0_cond5 (wI (grid0.coords t)) = 1#1 :=
  flushKI t (.inr (.inr ((Pipeline.Window.flush_eq_flushF _ t).symm.trans hf)))

theorem idle7 (i : grid0.Coords) : (cfgT (F := F)).idle (7 : Fin 11) i = false := idle7I i
theorem idle8 (i : grid0.Coords) : (cfgT (F := F)).idle (8 : Fin 11) i = !(k0_cond5 (wI i) == 1#1) := (idleKI i).1
theorem idle9 (i : grid0.Coords) : (cfgT (F := F)).idle (9 : Fin 11) i = !(k0_cond5 (wI i) == 1#1) := (idleKI i).2.1
theorem idle10 (i : grid0.Coords) : (cfgT (F := F)).idle (10 : Fin 11) i = !(k0_cond5 (wI i) == 1#1) := (idleKI i).2.2

end Cert.KernelIdeal.Own
-- ==== Proof.KI.Traj.lean ====
/-
  What the accumulators hold after each point, the launch's proof data, and the body's obligation.
-/
module

public import proofs.«01_k».proof.Proof.KI.Tab

@[expose] public section

noncomputable section

namespace Cert.KernelIdeal.Own

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The arrays behind the windows when the launch begins. -/
abbrev Arrs (F : FTy → Type) (c : Dev nD) : Type := (b : Ref sig .tc) → Buf (Elt F) ((c.tc : Thread nD τ).loc b)

section Traj

variable {c : Dev nD} (V : Arrs F c)

/-- A window's block at a point. -/
abbrev blkAt (w : Fin 11) (t : Fin grid0.N) : ((cfgT (F := F)).win w).block.Idx → Elt F ((cfgT (F := F)).win w).elt :=
  (((cfgT (F := F)).win w).blk t).view.read (Elt F) (V (Pipeline.arrRef spec0 w))

/-- The blocks the body reads at a point. -/
def bOf (t : Fin grid0.N) : Blk F where
  q := blkAt V 0 t
  k := blkAt V 1 t
  v := blkAt V 2 t
  dO := blkAt V 3 t
  c := blkAt V 4 t
  lse := blkAt V 5 t
  dl := blkAt V 6 t

/-- One point's step. -/
def stepAt (t : Fin grid0.N) (s : St F) : St F :=
  next (k0_cond1 (grid0.coords t)) (wI (grid0.coords t)) (wJ (grid0.coords t)) (hcT _) (bOf V t) s

/-- What the accumulators hold before point `n`. -/
def st : ℕ → St F
  | 0 => ⟨k0_pay2, k0_pay3, k0_pay4, k0_pay1⟩
  | n + 1 => if h : n < grid0.N then stepAt V ⟨n, h⟩ (st n) else st n

theorem st_succ (t : Fin grid0.N) : st V (t.val + 1) = stepAt V t (st V t.val) := by
  rw [st, dif_pos t.isLt]

/-- A point does not look at what it clears. -/
theorem stepAt_congr (t : Fin grid0.N) (s s' : St F)
    (hk : ¬ condE (wI (grid0.coords t)) (wJ (grid0.coords t)) → s.dk = s'.dk ∧ s.dv = s'.dv ∧ s.dc = s'.dc)
    (hq : ¬ k0_cond1 (grid0.coords t) = 1#1 → s.dq = s'.dq) : stepAt V t s = stepAt V t s' := by
  have e : clearK (wI (grid0.coords t)) (wJ (grid0.coords t)) (clearQ (k0_cond1 (grid0.coords t)) s)
      = clearK (wI (grid0.coords t)) (wJ (grid0.coords t)) (clearQ (k0_cond1 (grid0.coords t)) s') := by
    obtain ⟨a, b, d, e⟩ := s
    obtain ⟨a', b', d', e'⟩ := s'
    unfold clearK clearQ
    by_cases h1 : k0_cond1 (grid0.coords t) = 1#1 <;> by_cases h2 : condE (wI (grid0.coords t)) (wJ (grid0.coords t))
    · rw [if_pos h1, if_pos h1, if_pos h2, if_pos h2]
    · obtain ⟨rfl, rfl, rfl⟩ := hk h2; rw [if_pos h1, if_pos h1]
    · obtain rfl := hq h1; rw [if_neg h1, if_neg h1, if_pos h2, if_pos h2]
    · obtain ⟨rfl, rfl, rfl⟩ := hk h2; obtain rfl := hq h1; rfl
  unfold stepAt next
  rw [e]

end Traj

/-- The body's own buffers before point `n`: what the accumulators hold once a point has run. -/
def PhiS (c : Dev nD) (V : Arrs F c) (n : ℕ) : sProp (MT nD τ sig Unit (Elt F) ℕ (UR sig nD τ) ℕ) :=
  iprop((∃ dk dv dc, ⌜n ≠ 0 → dk = (st V n).dk ∧ dv = (st V n).dv ∧ dc = (st V n).dc⌝ ∗
      owns (c : Thread nD τ) (Memref.whole cc0_scratch0) fullShare dk ∗ owns (c : Thread nD τ) (Memref.whole cc0_scratch1) fullShare dv ∗
      owns (c : Thread nD τ) (Memref.whole cc0_scratch2) fullShare dc) ∗
    (∃ r, prngReg c r) ∗ Pipeline.ΦT (U := UR sig nD τ) pre0 (pfT (F := F)) c)

/-- The launch's proof data. -/
def dat (c : Dev nD) (V : Arrs F c) : Pipeline.Dat τ (Elt F) Unit ℕ (UR sig nD τ) ℕ (cfgT (F := F)) c where
  A w := V (Pipeline.arrRef spec0 w)
  after := fun
    | 0 => fun t => blkAt V 0 t
    | 1 => fun t => blkAt V 1 t
    | 2 => fun t => blkAt V 2 t
    | 3 => fun t => blkAt V 3 t
    | 4 => fun t => blkAt V 4 t
    | 5 => fun t => blkAt V 5 t
    | 6 => fun t => blkAt V 6 t
    | 7 => fun t => (st V (t.val + 1)).dq
    | 8 => fun t => k0_pay15 (st V (t.val + 1)).dk
    | 9 => fun t => k0_pay16 (st V (t.val + 1)).dv
    | 10 => fun t => k0_pay17 (st V (t.val + 1)).dc
    | ⟨_ + 11, h⟩ => absurd h (Nat.not_lt.2 (Nat.le_add_left _ _))
  Φ t := PhiS c V t.val
  q := fun w => Pipeline.shareOf spec0 w
  owed _ := 0

/-- `dat` once per launch of the program (there is one). -/
def dats (V : (c : Dev nD) → Arrs F c) : (p : Fin 1) → (c : Dev nD) → Pipeline.Dat τ (Elt F) Unit ℕ (UR sig nD τ) ℕ (Pipeline.pin (pcfgs (F := F)) aT p) c
  | 0, c => dat c (V c)
  | ⟨_ + 1, h⟩, _ => absurd h (Nat.not_lt.2 (Nat.le_add_left _ _))

section Before

variable (c : Dev nD) (V : Arrs F c) (t : Fin grid0.N)

/-- An input's buffer holds its block. -/
theorem before0 (d) : (dat c V).before (0 : Fin 11) t d = blkAt V 0 t :=
  (dat c V).before_in_eq_fetched (0 : Fin 11) rfl (fun _ => rfl) (fun _ _ _ => rfl) (fun _ => rfl) t d
theorem before1 (d) : (dat c V).before (1 : Fin 11) t d = blkAt V 1 t :=
  (dat c V).before_in_eq_fetched (1 : Fin 11) rfl (fun _ => rfl) (fun _ _ _ => rfl) (fun _ => rfl) t d
theorem before2 (d) : (dat c V).before (2 : Fin 11) t d = blkAt V 2 t :=
  (dat c V).before_in_eq_fetched (2 : Fin 11) rfl (fun _ => rfl) (fun _ _ _ => rfl) (fun _ => rfl) t d
theorem before3 (d) : (dat c V).before (3 : Fin 11) t d = blkAt V 3 t :=
  (dat c V).before_in_eq_fetched (3 : Fin 11) rfl (fun _ => rfl) (fun _ _ _ => rfl) (fun _ => rfl) t d
theorem before4 (d) : (dat c V).before (4 : Fin 11) t d = blkAt V 4 t :=
  (dat c V).before_in_eq_fetched (4 : Fin 11) rfl (fun _ => rfl) (fun _ _ _ => rfl) (fun _ => rfl) t d
theorem before5 (d) : (dat c V).before (5 : Fin 11) t d = blkAt V 5 t :=
  (dat c V).before_in_eq_fetched (5 : Fin 11) rfl (fun _ => rfl) (fun _ _ _ => rfl) (fun _ => rfl) t d
theorem before6 (d) : (dat c V).before (6 : Fin 11) t d = blkAt V 6 t :=
  (dat c V).before_in_eq_fetched (6 : Fin 11) rfl (fun _ => rfl) (fun _ _ _ => rfl) (fun _ => rfl) t d

/-- The queries' gradient's buffer holds what the point before left, or is cleared at this point. -/
theorem before7 (d) (h : ¬ k0_cond1 (grid0.coords t) = 1#1) : (dat c V).before (7 : Fin 11) t d = (st V t.val).dq := by
  have ht : t.val ≠ 0 := fun e => h (first t e).1
  have hlt : t.val - 1 < grid0.N := Nat.lt_of_le_of_lt (Nat.sub_le _ _) t.isLt
  rw [(dat c V).before_of_pos (7 : Fin 11) t ht (((cfgT (F := F)).win (7 : Fin 11)).fetch_out rfl t) d, if_neg]
  · unfold Pipeline.Dat.left
    rw [idle7]
    show (st V (t.val - 1 + 1)).dq = _
    rw [Nat.sub_add_cancel (Nat.pos_of_ne_zero ht)]
  · intro hf
    have e := flush7 (F := F) ⟨t.val - 1, hlt⟩ hf (by rw [Nat.sub_add_cancel (Nat.pos_of_ne_zero ht)]; exact t.isLt)
    refine h ?_
    have e2 : (⟨t.val - 1 + 1, by rw [Nat.sub_add_cancel (Nat.pos_of_ne_zero ht)]; exact t.isLt⟩ : Fin grid0.N) = t :=
      Fin.ext (Nat.sub_add_cancel (Nat.pos_of_ne_zero ht))
    rwa [e2] at e

end Before

end Cert.KernelIdeal.Own
-- ==== Proof.KI.Oblig.lean ====
/-
  The body's obligation at every point of the launch.
-/
module

public import proofs.«01_k».proof.Proof.KI.Traj

@[expose] public section

noncomputable section

namespace Cert.KernelIdeal.Own

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Body

variable (c : Dev nD) (i : grid0.Coords)
  (A4 A5 A6 : Memref sig .tc .vmem S1024x128 .f32) (A7 : Memref sig .tc .vmem S1024x128 .bf16)
  (A8 : Memref sig .tc .vmem S1x1024x1 .f32) (A9 A10 : Memref sig .tc .vmem S1x1x1024 .f32)
  (A11 : Memref sig .tc .vmem S8192x128 .f32) (A12 A13 : Memref sig .tc .vmem S1024x128 .bf16)
  (A14 : Memref sig .tc .vmem S1x1024x1 .f32)
  (h4 : A4.IsWhole) (h5 : A5.IsWhole) (h6 : A6.IsWhole) (h7 : A7.IsWhole) (h8 : A8.IsWhole) (h9 : A9.IsWhole) (h10 : A10.IsWhole)
  (h11 : A11.IsWhole) (h12 : A12.IsWhole) (h13 : A13.IsWhole) (h14 : A14.IsWhole)

/-- The body at a point, the tables held at their contents. -/
theorem sound_body (b : Blk F) (s : St F) (dk dv : Vec F S1024x128 .bf16) (dc : Vec F S1x1024x1 .f32) :
    (iprop(Pipeline.ΦT (U := UR sig nD τ) pre0 (pfT (F := F)) c ∗
        hSt c A11 (Memref.whole cc0_scratch0) (Memref.whole cc0_scratch1) (Memref.whole cc0_scratch2) s ∗
        hBlk c A4 A5 A6 A7 A8 A9 A10 b ∗ hOut c A12 A13 A14 dk dv dc) : sProp (MT nD τ sig Unit (Elt F) ℕ (UR sig nD τ) ℕ)) ⊢
      wp frame (wpE defs₀ 𝒱₀ (c : Thread nD τ) none) Set.univ
        (cc0_attn_bwd i (Memref.whole main_c) (Memref.isWhole_whole _) (Memref.whole main_c_0) (Memref.isWhole_whole _)
          A4 h4 A5 h5 A6 h6 A7 h7 A8 h8 A9 h9 A10 h10 A11 h11 A12 h12 A13 h13 A14 h14
          (Memref.whole cc0_scratch0) (Memref.isWhole_whole _) (Memref.whole cc0_scratch1) (Memref.isWhole_whole _)
          (Memref.whole cc0_scratch2) (Memref.isWhole_whole _)) fun _ =>
        iprop(Pipeline.ΦT (U := UR sig nD τ) pre0 (pfT (F := F)) c ∗
          hSt c A11 (Memref.whole cc0_scratch0) (Memref.whole cc0_scratch1) (Memref.whole cc0_scratch2)
            (next (k0_cond1 i) (wI i) (wJ i) (hcT i) b s) ∗
          hBlk c A4 A5 A6 A7 A8 A9 A10 b ∗
          hOut c A12 A13 A14 (if k0_cond5 (wI i) = 1#1 then k0_pay15 (next (k0_cond1 i) (wI i) (wJ i) (hcT i) b s).dk else dk)
            (if k0_cond5 (wI i) = 1#1 then k0_pay16 (next (k0_cond1 i) (wI i) (wJ i) (hcT i) b s).dv else dv)
            (if k0_cond5 (wI i) = 1#1 then k0_pay17 (next (k0_cond1 i) (wI i) (wJ i) (hcT i) b s).dc else dc)) := by
  rw [body_eq]
  have eT : (Pipeline.ΦT (U := UR sig nD τ) pre0 (pfT (F := F)) c : sProp (MT nD τ sig Unit (Elt F) ℕ (UR sig nD τ) ℕ))
      = iprop((((Memref.whole main_c).view.loc (c : Thread nD τ)) ↦[Finset.univ]{fullShare.right} (fun i => lit0 (S36.rowMajor i))) ∗
        (((Memref.whole main_c_0).view.loc (c : Thread nD τ)) ↦[Finset.univ]{fullShare.right} (fun i => lit1 (S36.rowMajor i)))) :=
    bigSep_univ_eq_bigSepL [(0 : Fin 2), (1 : Fin 2)] (by decide) (by decide) _
  rw [eT]
  iintro ⟨⟨H2, H3⟩, HS, HB, HO⟩
  iapply (wp_smemLoadElt 𝒱₀ (c : Thread nD τ) none Set.univ (m := Memref.whole main_c) (r := rW i) (Finset.subset_univ _)) $$ H2
  iintro H2
  iapply (wp_smemLoadElt 𝒱₀ (c : Thread nD τ) none Set.univ (m := Memref.whole main_c_0) (r := rW i) (Finset.subset_univ _)) $$ H3
  iintro H3
  iapply (wp_assume 𝒱₀ (c : Thread nD τ) none Set.univ (show k0_chk1 (wI i) (wJ i) from hcT i))
  iapply (wp_wand frame _) $$ [HS HB HO]
  · iapply (sound_all c A4 A5 A6 A7 A8 A9 A10 A11 A12 A13 h12 h13 A14 (Memref.whole cc0_scratch0) (Memref.whole cc0_scratch1)
      (Memref.whole cc0_scratch2) (k0_cond1 i) (wI i) (wJ i) (hcT i) b s dk dv dc)
    isplitl [HS]; · iexact HS
    isplitl [HB]; · iexact HB
    iexact HO
  iintro %_ ⟨HS, HB, HO⟩
  isplitl [H2 H3]
  · isplitl [H2]; · iexact H2
    iexact H3
  isplitl [HS]; · iexact HS
  isplitl [HB]; · iexact HB
  iexact HO

end Body

theorem defs₀_row (t : Fin grid0.N) (s : (w : Fin 11) → Fin (spec0 w).nbuf) :
    defs₀ (F := F) .tc (0 : Fin 1) (t, s) = cc0_attn_bwd (grid0.coords t) (Memref.whole main_c) (Memref.isWhole_whole _) (Memref.whole main_c_0) (Memref.isWhole_whole _)
      (spec0_0.stage (s 0)) (hstage0_0 ((s 0).cast nbuf0_0)) (spec0_1.stage (s 1)) (hstage0_1 ((s 1).cast nbuf0_1))
      (spec0_2.stage (s 2)) (hstage0_2 ((s 2).cast nbuf0_2)) (spec0_3.stage (s 3)) (hstage0_3 ((s 3).cast nbuf0_3))
      (spec0_4.stage (s 4)) (hstage0_4 ((s 4).cast nbuf0_4)) (spec0_5.stage (s 5)) (hstage0_5 ((s 5).cast nbuf0_5))
      (spec0_6.stage (s 6)) (hstage0_6 ((s 6).cast nbuf0_6)) (spec0_7.stage (s 7)) (hstage0_7 ((s 7).cast nbuf0_7))
      (spec0_8.stage (s 8)) (hstage0_8 ((s 8).cast nbuf0_8)) (spec0_9.stage (s 9)) (hstage0_9 ((s 9).cast nbuf0_9))
      (spec0_10.stage (s 10)) (hstage0_10 ((s 10).cast nbuf0_10)) (Memref.whole cc0_scratch0) (Memref.isWhole_whole _)
      (Memref.whole cc0_scratch1) (Memref.isWhole_whole _) (Memref.whole cc0_scratch2) (Memref.isWhole_whole _) := by
  unfold defs₀; rw [Defs.onTc_tc]

section Leaf

variable (c : Dev nD) (V : Arrs F c) (t : Fin grid0.N)

/-- What a result's buffer holds after a point that may have stored it. -/
theorem leaf (w : Fin 11) (hi : (cfgT (F := F)).idle w (grid0.coords t) = !(k0_cond5 (wI (grid0.coords t)) == 1#1))
    (hf : ((cfgT (F := F)).win w).flush t = true → k0_cond5 (wI (grid0.coords t)) = 1#1) (d)
    (X) (hX : X = if k0_cond5 (wI (grid0.coords t)) = 1#1 then (dat c V).after w t else (dat c V).before w t d) :
    owns (c : Thread nD τ) (((cfgT (F := F)).win w).stage ((cfgT (F := F)).slots t w)) fullShare X
      ⊢ (dat c V).leavesExact w t := by
  subst hX
  by_cases h : k0_cond5 (wI (grid0.coords t)) = 1#1
  · rw [if_pos h, Pipeline.Dat.leavesExact]
    rw [show (cfgT (F := F)).idle w ((cfgT (F := F)).grid.coords t) = false by
      rw [show (cfgT (F := F)).idle w ((cfgT (F := F)).grid.coords t) = _ from hi, h]; rfl]
  · rw [if_neg h, (dat c V).leavesExact_idle w t (by
      rw [show (cfgT (F := F)).idle w ((cfgT (F := F)).grid.coords t) = _ from hi]; simpa using h)
      (by cases hb : ((cfgT (F := F)).win w).flush t with
          | false => rfl
          | true => exact absurd (hf hb) h)]
    iintro H; iexists d; iexact H

/-- The resident gradient of the queries is written at every point. -/
theorem leaf7 : owns (c : Thread nD τ) (((cfgT (F := F)).win 7).stage ((cfgT (F := F)).slots t 7)) fullShare (st V (t.val + 1)).dq
      ⊢ (dat c V).leavesExact 7 t := by
  rw [Pipeline.Dat.leavesExact]
  rw [show (cfgT (F := F)).idle 7 ((cfgT (F := F)).grid.coords t) = false from idle7 _]
  exact .rfl

end Leaf

/-- What the invariant says before a point, opened. -/
theorem phi_open (c : Dev nD) (V : Arrs F c) (t : Fin grid0.N) : (dat c V).Φ t.castSucc ⊢
    iprop((∃ dk dv dc, ⌜t.val ≠ 0 → dk = (st V t.val).dk ∧ dv = (st V t.val).dv ∧ dc = (st V t.val).dc⌝
      ∗ owns (c : Thread nD τ) (Memref.whole cc0_scratch0) fullShare dk ∗ owns (c : Thread nD τ) (Memref.whole cc0_scratch1) fullShare dv
      ∗ owns (c : Thread nD τ) (Memref.whole cc0_scratch2) fullShare dc) ∗ (∃ r, prngReg c r) ∗ Pipeline.ΦT pre0 pfT c) := .rfl

/-- The invariant after a point. -/
theorem phi_close (c : Dev nD) (V : Arrs F c) (t : Fin grid0.N) :
    iprop((owns (c : Thread nD τ) (Memref.whole cc0_scratch0) fullShare (st V (t.val + 1)).dk
      ∗ owns (c : Thread nD τ) (Memref.whole cc0_scratch1) fullShare (st V (t.val + 1)).dv
      ∗ owns (c : Thread nD τ) (Memref.whole cc0_scratch2) fullShare (st V (t.val + 1)).dc) ∗ (∃ r, prngReg c r) ∗ Pipeline.ΦT pre0 pfT c)
      ⊢ (dat c V).Φ t.succ := by
  show _ ⊢ PhiS c V (t.val + 1)
  unfold PhiS
  iintro ⟨⟨HS0, HS1, HS2⟩, Hp, HT⟩
  isplitl [HS0 HS1 HS2]
  · iexists (st V (t.val + 1)).dk, (st V (t.val + 1)).dv, (st V (t.val + 1)).dc
    isplitr; · ipureintro; exact fun _ => ⟨rfl, rfl, rfl⟩
    isplitl [HS0]; · iexact HS0
    isplitl [HS1]; · iexact HS1
    iexact HS2
  isplitl [Hp]; · iexact Hp
  iexact HT

/-- The obligation. -/
theorem hbody (c : Dev nD) (V : Arrs F c) : Pipeline.BodyObligationLoose (dat c V) defs₀ 𝒱₀ () Set.univ := fun t => by
  rw [Gen.bigSep_W0, Gen.bigSep_W0, defs₀_row]
  iintro ⟨H, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩⟩
  ihave HH := (phi_open c V t) $$ H
  icases HH with ⟨⟨%dk, %dv, %dc, %hs, HS0, HS1, HS2⟩, Hp, HT⟩
  rw [before0, before1, before2, before3, before4, before5, before6]
  iapply (wp_wand frame _) $$ [HS0 HS1 HS2 HT H0 H1 H2 H3 H4 H5 H6 H7 H8 H9 H10]
  · iapply (sound_body c (grid0.coords t) _ _ _ _ _ _ _ _ _ _ _ _ _ _ _ _ _ _ _ _ _ _ (bOf V t)
      ⟨dk, dv, dc, (dat c V).before (7 : Fin 11) t d7⟩ ((dat c V).before (8 : Fin 11) t d8) ((dat c V).before (9 : Fin 11) t d9)
      ((dat c V).before (10 : Fin 11) t d10))
    isplitl [HT]; · iexact HT
    isplitl [HS0 HS1 HS2 H7]
    · unfold hSt
      isplitl [HS0]; · iexact HS0
      isplitl [HS1]; · iexact HS1
      isplitl [HS2]; · iexact HS2
      iexact H7
    isplitl [H0 H1 H2 H3 H4 H5 H6]
    · unfold hBlk
      isplitl [H0]; · iexact H0
      isplitl [H1]; · iexact H1
      isplitl [H2]; · iexact H2
      isplitl [H3]; · iexact H3
      isplitl [H4]; · iexact H4
      isplitl [H5]; · iexact H5
      iexact H6
    unfold hOut
    isplitl [H8]; · iexact H8
    isplitl [H9]; · iexact H9
    iexact H10
  have e : stepAt V t ⟨dk, dv, dc, (dat c V).before (7 : Fin 11) t d7⟩ = st V (t.val + 1) := by
    rw [st_succ]
    refine stepAt_congr V t _ _ (fun h => ?_) fun h => before7 c V t d7 h
    exact hs fun h0 => h (first t h0).2
  unfold stepAt at e
  rw [e]
  unfold hSt hBlk hOut
  iintro %_ ⟨HT, ⟨HS0, HS1, HS2, H7⟩, ⟨H0, H1, H2, H3, H4, H5, H6⟩, H8, H9, H10⟩
  isplitl [HS0 HS1 HS2 Hp HT]
  · iapply (phi_close c V t)
    isplitl [HS0 HS1 HS2]
    · isplitl [HS0]; · iexact HS0
      isplitl [HS1]; · iexact HS1
      iexact HS2
    isplitl [Hp]; · iexact Hp
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaf7 c V t); iexact H7
  isplitl [H8]
  · iapply (leaf c V t (8 : Fin 11) (idle8 _) (flush8 t) d8 _ rfl); iexact H8
  isplitl [H9]
  · iapply (leaf c V t (9 : Fin 11) (idle9 _) (flush9 t) d9 _ rfl); iexact H9
  iapply (leaf c V t (10 : Fin 11) (idle10 _) (flush10 t) d10 _ rfl); iexact H10

end Cert.KernelIdeal.Own
-- ==== Proof.KI.Run.lean ====
/-
  The whole run: what the host lines before the launch leave, and the launch itself.
-/
module

public import proofs.«01_k».proof.Proof.KI.Oblig
public import Idealize.ShloMosaic.Lib.Pipeline.FrameSuffix
public import Idealize.ShloMosaic.Lib.StableHlo.RunRead

@[expose] public section

noncomputable section

namespace Cert.KernelIdeal.Own

open Cert.KernelIdeal Cert.KernelIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The host lines before the launch, in their stretches. -/
abbrev lines : List (List (HloOp τ sig (Elt F))) := [hostOps0, hostOps0_1, hostOps0_2]

/-- The host lines after the two tables. -/
abbrev rest : List (HloOp τ sig (Elt F)) := (lines (F := F)).flatten.drop 2

/-- What the host lines after the two tables write, in order. -/
def restW : List (Ref sig .tc) :=
  [main_v0, main_v1, main_v2, main_v3, main_v4, main_v5, main_cst, main_v6, main_v7, main_v8, main_v9, main_v10, main_v11,
   main_v12, main_v13, main_v14, main_v15, main_v16, main_v17, main_v18, main_v19, main_v20, main_v21, main_cst_1,
   main_call0_v0, main_call0_v1, main_call0_v2, main_v22, main_cst_2, main_v23, main_cst_3, main_v24, main_v25, main_v26,
   main_v27, main_v28, main_v29, main_cst_4, main_v30, main_v31, main_v32, main_v33, main_v34, main_v35, main_v36, main_v37,
   main_cst_5, main_v38, main_v39, main_v40, main_v41, main_v42, main_cst_6, main_v43, main_v44, main_v45, main_v46,
   main_v47, main_v48, main_v49, main_v50, main_v51, main_v52, main_v53, main_cst_7, main_v54, main_v55, main_v56]

theorem rest_writes : (rest (F := F)).map HloOp.writes = restW.map fun w => {Proc.devRef (τ := τ) .tc w} := rfl

theorem lines_eq : (lines (F := F)).flatten = StableHlo.nullary main_c (fun i => lit0 (S36.rowMajor i))
    :: StableHlo.nullary main_c_0 (fun i => lit1 (S36.rowMajor i)) :: rest := rfl

theorem nm_c : main_c ∉ restW := by decide
theorem nm_c0 : main_c_0 ∉ restW := by decide
theorem nm_a0 : main_arg0 ∉ restW := by decide
theorem nm_a1 : main_arg1 ∉ restW := by decide
theorem nm_a2 : main_arg2 ∉ restW := by decide

section Entry

variable (m : (ℓ : Loc nD τ sig) → Buf (Elt F) ℓ) (c : Dev nD)

/-- What every buffer holds when the launch begins. -/
def atLaunch : Valuation τ sig (Elt F) := StableHlo.after (lines (F := F)).flatten (fun b => m (c, b))

/-- An argument is left as it was. -/
theorem atLaunch_arg (r : Ref sig .tc) (h : r ∉ restW) (h0 : r ≠ main_c) (h1 : r ≠ main_c_0) :
    atLaunch m c (Proc.devRef .tc r) = m (c, Proc.devRef .tc r) := by
  unfold atLaunch
  rw [lines_eq, StableHlo.after_cons, StableHlo.after_cons, StableHlo.after_unwritten restW rest_writes h,
    StableHlo.nullary_result_ne _ _ _ _ h1, StableHlo.nullary_result_ne _ _ _ _ h0]

theorem atLaunch_c0 : atLaunch m c (Proc.devRef .tc main_c_0) = (fun i => lit1 (S36.rowMajor i)) := by
  unfold atLaunch
  rw [lines_eq, StableHlo.after_cons, StableHlo.after_cons, StableHlo.after_unwritten restW rest_writes nm_c0,
    StableHlo.nullary_result]
  rfl

theorem atLaunch_c : atLaunch m c (Proc.devRef .tc main_c) = (fun i => lit0 (S36.rowMajor i)) := by
  unfold atLaunch
  rw [lines_eq, StableHlo.after_cons, StableHlo.after_cons, StableHlo.after_unwritten restW rest_writes nm_c,
    StableHlo.nullary_result_ne _ _ _ _ (by decide), StableHlo.nullary_result]
  rfl

/-- The same, by reference. -/
def atL (c : Dev nD) : Arrs F c := fun b => atLaunch m c (Proc.devRef .tc b)

end Entry

section Out

variable (m : (ℓ : Loc nD τ sig) → Buf (Elt F) ℓ) (r : PUnit × MemSt nD τ sig (Elt F)) (c : Dev nD)

/-- The launch's own post. -/
abbrev FP : Prop := Pipeline.FramePost (Pipeline.pin (pcfgs (F := F)) aT) (dats fun c => atL m c) 0
  (Pipeline.afterTail pcfgs aT (dats fun c => atL m c) 0 (fun c => atLaunch m c) []) r

/-- A result's array after the launch. -/
abbrev resAt (w : Fin 11) := (dats (fun c => atL m c) 0 c).arrAt w (cfgT (F := F)).N

theorem out7 (h : FP m r) : r.2.mem ((c.tc : Thread nD τ).loc main_v57_0) = resAt m c (7 : Fin 11) := (h c).1 (7 : Fin 11)
theorem out8 (h : FP m r) : r.2.mem ((c.tc : Thread nD τ).loc main_v57_1) = resAt m c (8 : Fin 11) := (h c).1 (8 : Fin 11)
theorem out9 (h : FP m r) : r.2.mem ((c.tc : Thread nD τ).loc main_v57_2) = resAt m c (9 : Fin 11) := (h c).1 (9 : Fin 11)
theorem out10 (h : FP m r) : r.2.mem ((c.tc : Thread nD τ).loc main_v57_3) = resAt m c (10 : Fin 11) := (h c).1 (10 : Fin 11)

theorem in0 (h : FP m r) : r.2.mem ((c.tc : Thread nD τ).loc main_arg0) = atL m c main_arg0 :=
  ((h c).1 (0 : Fin 11)).trans (((dats (fun c => atL m c) 0 c).arrAt_in (0 : Fin 11) rfl _))

theorem in3 (h : FP m r) : r.2.mem ((c.tc : Thread nD τ).loc main_arg2) = atL m c main_arg2 :=
  ((h c).1 (3 : Fin 11)).trans (((dats (fun c => atL m c) 0 c).arrAt_in (3 : Fin 11) rfl _))

theorem rest1 : main_arg1 ∈ Pipeline.restRefs sig spec0 := by decide

theorem ne1 : ∀ w, Pipeline.arrRef spec0 w ≠ main_arg1 := by decide

theorem in1 (h : FP m r) : r.2.mem ((c.tc : Thread nD τ).loc main_arg1) = atL m c main_arg1 := by
  refine ((h c).2 main_arg1 rest1).trans ?_
  unfold Pipeline.afterTail
  rw [List.flatten_nil, StableHlo.after_nil]
  exact Pipeline.withArrays_of_ne spec0 c (atLaunch m c) _ main_arg1 ne1

theorem at0 : atL m c main_arg0 = m ((c.tc : Thread nD τ).loc main_arg0) :=
  atLaunch_arg m c main_arg0 nm_a0 (by decide) (by decide)

theorem at1 : atL m c main_arg1 = m ((c.tc : Thread nD τ).loc main_arg1) :=
  atLaunch_arg m c main_arg1 nm_a1 (by decide) (by decide)

theorem at2 : atL m c main_arg2 = m ((c.tc : Thread nD τ).loc main_arg2) :=
  atLaunch_arg m c main_arg2 nm_a2 (by decide) (by decide)

end Out

/-- What the program leaves: the results as the launch's write-backs made them, the arguments as they were, the
    semaphores at rest. -/
def Post (m : (ℓ : Loc nD τ sig) → Buf (Elt F) ℓ) (r : PUnit × MemSt nD τ sig (Elt F)) : Prop :=
  (∀ c : Dev nD, r.2.mem ((c.tc : Thread nD τ).loc main_v57_0) = resAt m c (7 : Fin 11)
    ∧ r.2.mem ((c.tc : Thread nD τ).loc main_v57_1) = resAt m c (8 : Fin 11)
    ∧ r.2.mem ((c.tc : Thread nD τ).loc main_v57_2) = resAt m c (9 : Fin 11)
    ∧ r.2.mem ((c.tc : Thread nD τ).loc main_v57_3) = resAt m c (10 : Fin 11)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

theorem post_of (m : (ℓ : Loc nD τ sig) → Buf (Elt F) ℓ) (r : PUnit × MemSt nD τ sig (Elt F)) (h : FP m r)
    (hs : r.2.sem = fun _ => 0) : Post m r :=
  ⟨fun c => ⟨out7 m r c h, out8 m r c h, out9 m r c h, out10 m r c h, (in0 m r c h).trans (at0 m c), (in1 m r c h).trans (at1 m c),
    (in3 m r c h).trans (at2 m c)⟩, hs⟩

/-- The invariant at the first point. -/
theorem hin (c : Dev nD) (V : Arrs F c) :
    iprop((Pipeline.ΦA spec0 c : sProp (MT nD τ sig Unit (Elt F) ℕ (UR sig nD τ) ℕ)) ∗ Pipeline.ΦT pre0 pfT c) ⊢ (dat c V).Φ 0 := by
  show _ ⊢ PhiS c V 0
  unfold PhiS Pipeline.ΦA
  rw [scopedRest0_eq]
  simp only [owns_whole]
  iintro ⟨⟨⟨⟨%d0, H0⟩, ⟨%d1, H1⟩, ⟨%d2, H2⟩⟩, Hp⟩, HT⟩
  isplitl [H0 H1 H2]
  · iexists d0, d1, d2
    isplitr; · ipureintro; exact fun h => absurd rfl h
    isplitl [H0]; · iexact H0
    isplitl [H1]; · iexact H1
    iexact H2
  isplitl [Hp]; · iexact Hp
  iexact HT

/-- The invariant after the last. -/
theorem hout (c : Dev nD) (V : Arrs F c) :
    (dat c V).Φ (Fin.last grid0.N) ⊢ (Pipeline.ΦA spec0 c : sProp (MT nD τ sig Unit (Elt F) ℕ (UR sig nD τ) ℕ)) := by
  show PhiS c V grid0.N ⊢ _
  unfold PhiS Pipeline.ΦA
  rw [scopedRest0_eq]
  simp only [owns_whole]
  iintro ⟨⟨%d0, %d1, %d2, %h, H0, H1, H2⟩, Hp, HT⟩
  isplitl [H0 H1 H2]
  · isplitl [H0]; · iexists d0; iexact H0
    isplitl [H1]; · iexists d1; iexact H1
    iexists d2; iexact H2
  iexact Hp

/-- The run. -/
theorem run (m : (ℓ : Loc nD τ sig) → Buf (Elt F) ℓ) (g : Dev nD → PrngReg) :
    θ_run (defs (F := F)) (onTc (τ := τ) (main (F := F))) ⟨m, fun _ => 0, g⟩ (Post m) := by
  refine Pipeline.θ_run_frameP_around_track_shared (pcfgs (F := F)) aT (dats fun c => atL m c) 0 launch₀0 (defs₀ (F := F)) 𝒱₀ m g (main (F := F))
    (fun c => hbody c _) (fun c w h => rfl) (fun c t => rfl) (fun c => atLaunch m c) []
    (fun _ h => absurd h List.not_mem_nil) (fun _ h => absurd h List.not_mem_nil) (fun _ h => absurd h List.not_mem_nil)
    (Pipeline.hmainP_around (pcfgs (F := F)) 0 (defs₀ (F := F)) 𝒱₀ m (main (F := F)) lines []
      ⟨hostOps0_sub, hostOps0_1_sub, hostOps0_2_sub⟩ ?_ main_chain)
    (fun c w => rfl) (fun c k => ?_) (fun c => hin c _) (fun c => hout c _) (Post m) (fun r h => ?_)
  · exact ⟨StableHlo.forall_fresh_of_map rfl, StableHlo.forall_fresh_of_map rfl, StableHlo.forall_fresh_of_map rfl⟩
  · match k with
    | 0 => exact atLaunch_c m c
    | 1 => exact atLaunch_c0 m c
  · exact post_of m r h.1 h.2

end Cert.KernelIdeal.Own

end
-- ==== Proof.Math.lean ====
/-
  The attention gradient of one head in plain real arithmetic: rows and columns are natural numbers, sums run over
  ranges, and nothing of a program is mentioned. The two ways of computing it, through a shifted exponential and through
  the saved logarithm, are shown equal, and sums over all rows are cut into tiles.
-/
module

public import Mathlib.Analysis.SpecialFunctions.Log.Basic
public import Mathlib.Analysis.SpecialFunctions.Pow.Real
public import Mathlib.Data.EReal.Operations
public import Mathlib.Algebra.BigOperators.Field

@[expose] public section

noncomputable section

namespace Cert.Own

open Finset

/-- The scaling of the products of queries and keys. -/
def sc : ℝ := 11863283 / 134217728

/-- One head: its queries, keys, values, the output's gradient, and the running sums of the gates. -/
structure Head where
  q : ℕ → ℕ → ℝ
  k : ℕ → ℕ → ℝ
  v : ℕ → ℕ → ℝ
  o : ℕ → ℕ → ℝ
  c : ℕ → ℝ

namespace Head

variable (H : Head)

/-- The product of a query and a key. -/
def qk (t s : ℕ) : ℝ := ∑ d ∈ range 128, H.q t d * H.k s d
/-- The weight's exponent, but for what only the query decides. -/
def lg (t s : ℕ) : ℝ := H.qk t s * sc - H.c s
/-- The causal exponentials, and their sum. -/
def ez (t s : ℕ) : ℝ := if s ≤ t then Real.exp (H.lg t s) else 0
def z (t : ℕ) : ℝ := ∑ s ∈ range 8192, H.ez t s
/-- The weights. -/
def p (t s : ℕ) : ℝ := H.ez t s / H.z t
/-- The weights' gradient, its mean under the weights, and the exponents' gradient. -/
def dp (t s : ℕ) : ℝ := ∑ d ∈ range 128, H.o t d * H.v s d
def de (t : ℕ) : ℝ := ∑ s ∈ range 8192, H.p t s * H.dp t s
def ds (t s : ℕ) : ℝ := H.p t s * (H.dp t s - H.de t)

/-- The four gradients. -/
def gq (t d : ℕ) : ℝ := ∑ s ∈ range 8192, H.ds t s * (H.k s d * sc)
def gk (s d : ℕ) : ℝ := ∑ t ∈ range 8192, H.ds t s * (H.q t d * sc)
def gv (s d : ℕ) : ℝ := ∑ t ∈ range 8192, H.p t s * H.o t d
def gc (s : ℕ) : ℝ := -∑ t ∈ range 8192, H.ds t s

theorem ez_nonneg (t s : ℕ) : 0 ≤ H.ez t s := by
  unfold ez; split
  · exact (Real.exp_pos _).le
  · exact le_rfl

theorem z_pos {t : ℕ} (ht : t < 8192) : 0 < H.z t := by
  refine Finset.sum_pos' (fun s _ => H.ez_nonneg t s) ⟨t, mem_range.2 ht, ?_⟩
  unfold ez; rw [if_pos le_rfl]; exact Real.exp_pos _

theorem p_of_lt {t s : ℕ} (h : t < s) : H.p t s = 0 := by
  unfold p ez; rw [if_neg (by omega), zero_div]

theorem ds_of_lt {t s : ℕ} (h : t < s) : H.ds t s = 0 := by
  unfold ds; rw [H.p_of_lt h, zero_mul]

theorem sum_p {t : ℕ} (ht : t < 8192) : ∑ s ∈ range 8192, H.p t s = 1 := by
  unfold p; rw [← Finset.sum_div]; exact div_self (H.z_pos ht).ne'

/-- A query's row of the exponents' gradient sums to zero. -/
theorem sum_ds {t : ℕ} (ht : t < 8192) : ∑ s ∈ range 8192, H.ds t s = 0 := by
  have e : ∀ s, H.ds t s = H.p t s * H.dp t s - H.p t s * H.de t := fun s => by unfold ds; ring
  simp only [e]
  rw [Finset.sum_sub_distrib, ← Finset.sum_mul, H.sum_p ht, one_mul]
  exact sub_self _

/-- The exponentials shifted by `M`, which may depend on the query; and their sum. -/
def es (M : ℕ → ℝ) (t s : ℕ) : ℝ := if s ≤ t then Real.exp (H.qk t s * sc + H.c t - H.c s - M t) else 0
def zs (M : ℕ → ℝ) (t : ℕ) : ℝ := ∑ s ∈ range 8192, H.es M t s

theorem es_eq (M : ℕ → ℝ) (t s : ℕ) : H.es M t s = Real.exp (H.c t - M t) * H.ez t s := by
  unfold es ez lg; split
  · rw [← Real.exp_add]; congr 1; ring
  · rw [mul_zero]

theorem zs_eq (M : ℕ → ℝ) (t : ℕ) : H.zs M t = Real.exp (H.c t - M t) * H.z t := by
  unfold zs z; rw [Finset.mul_sum]; exact Finset.sum_congr rfl fun s _ => H.es_eq M t s

theorem zs_pos (M : ℕ → ℝ) {t : ℕ} (ht : t < 8192) : 0 < H.zs M t := by
  rw [zs_eq]; exact mul_pos (Real.exp_pos _) (H.z_pos ht)

/-- The weights do not depend on the shift. -/
theorem p_shift (M : ℕ → ℝ) (t s : ℕ) : H.es M t s / H.zs M t = H.p t s := by
  rw [es_eq, zs_eq, p, mul_div_mul_left _ _ (Real.exp_ne_zero _)]

/-- The exponents' gradient, as differentiating the quotient gives it. -/
theorem ds_shift (M : ℕ → ℝ) {t : ℕ} (s : ℕ) :
    (H.dp t s / H.zs M t + -∑ x ∈ range 8192, H.dp t x * (1 / (H.zs M t * H.zs M t)) * H.es M t x) * H.es M t s = H.ds t s := by
  have e : ∑ x ∈ range 8192, H.dp t x * (1 / (H.zs M t * H.zs M t)) * H.es M t x = H.de t / H.zs M t := by
    unfold de
    rw [Finset.sum_div]
    refine Finset.sum_congr rfl fun x _ => ?_
    rw [← H.p_shift M t x]; ring
  rw [e, ds, ← H.p_shift M t s]; ring

/-- The saved logarithm. -/
def lse (M : ℕ → ℝ) (t : ℕ) : ℝ := M t + Real.log (H.zs M t) - H.c t

/-- The weights from the saved logarithm. -/
theorem p_lse (M : ℕ → ℝ) {t s : ℕ} (ht : t < 8192) (h : s ≤ t) : Real.exp (H.lg t s - H.lse M t) = H.p t s := by
  rw [← H.p_shift M t s]
  have hz := H.zs_pos M ht
  have e : H.lg t s - H.lse M t = (H.qk t s * sc + H.c t - H.c s - M t) - Real.log (H.zs M t) := by unfold lse lg; ring
  rw [es, if_pos h, e, Real.exp_sub, Real.exp_log hz]

/-- The same with powers of two, every factor scaled by the binary logarithm of `e`. -/
theorem p_exp2 (M : ℕ → ℝ) {t s : ℕ} (ht : t < 8192) (h : s ≤ t) :
    (2 : ℝ).rpow (∑ d ∈ range 128, H.k s d * (H.q t d * (11863283 / 134217728 * (Real.log 2)⁻¹)) - H.c s * (Real.log 2)⁻¹
      - H.lse M t * (Real.log 2)⁻¹) = H.p t s := by
  rw [← H.p_lse M ht h]
  have h2 : Real.log 2 ≠ 0 := (Real.log_pos (by norm_num)).ne'
  rw [Real.rpow_eq_pow, Real.rpow_def_of_pos (by norm_num)]
  congr 1
  have e : ∑ d ∈ range 128, H.k s d * (H.q t d * (11863283 / 134217728 * (Real.log 2)⁻¹)) = H.qk t s * sc * (Real.log 2)⁻¹ := by
    unfold qk sc
    rw [Finset.sum_mul, Finset.sum_mul]
    exact Finset.sum_congr rfl fun d _ => by ring
  rw [e]; unfold lg; field_simp

/-- The mean of the weights' gradient, from the output. -/
theorem de_out (t : ℕ) : ∑ d ∈ range 128, H.o t d * ∑ s ∈ range 8192, H.v s d * H.p t s = H.de t := by
  unfold de dp
  simp only [Finset.mul_sum]
  rw [Finset.sum_comm]
  exact Finset.sum_congr rfl fun s _ => Finset.sum_congr rfl fun d _ => by ring

/-! ## Tiles of 1024 rows -/

/-- A tile pair's part of each gradient. -/
def tq (i j r d : ℕ) : ℝ := ∑ x ∈ range 1024, H.ds (1024 * i + r) (1024 * j + x) * (H.k (1024 * j + x) d * sc)
def tk (i j r d : ℕ) : ℝ := ∑ x ∈ range 1024, H.ds (1024 * i + x) (1024 * j + r) * (H.q (1024 * i + x) d * sc)
def tv (i j r d : ℕ) : ℝ := ∑ x ∈ range 1024, H.p (1024 * i + x) (1024 * j + r) * H.o (1024 * i + x) d
def tc (i j r : ℕ) : ℝ := ∑ x ∈ range 1024, H.ds (1024 * i + x) (1024 * j + r)

end Head

/-- A sum over the rows is the sum over the tiles of the sums over each tile's rows. -/
theorem sum_tiles (f : ℕ → ℝ) : ∀ n, ∑ t ∈ range (1024 * n), f t = ∑ i ∈ range n, ∑ x ∈ range 1024, f (1024 * i + x)
  | 0 => rfl
  | n + 1 => by
    rw [Nat.mul_succ, Finset.sum_range_add, sum_tiles f n]
    exact (Finset.sum_range_succ _ n).symm

theorem sum_8192 (f : ℕ → ℝ) : ∑ t ∈ range 8192, f t = ∑ i ∈ range 8, ∑ x ∈ range 1024, f (1024 * i + x) := sum_tiles f 8

namespace Head

variable (H : Head)

theorem gq_tiles (i r d : ℕ) : H.gq (1024 * i + r) d = ∑ j ∈ range 8, H.tq i j r d := sum_8192 _
theorem gk_tiles (j r d : ℕ) : H.gk (1024 * j + r) d = ∑ i ∈ range 8, H.tk i j r d := sum_8192 _
theorem gv_tiles (j r d : ℕ) : H.gv (1024 * j + r) d = ∑ i ∈ range 8, H.tv i j r d := sum_8192 _
theorem gc_tiles (j r : ℕ) : H.gc (1024 * j + r) = -∑ i ∈ range 8, H.tc i j r := congrArg Neg.neg (sum_8192 _)

/-- Tiles above the diagonal contribute nothing. -/
theorem tq_zero {i j r : ℕ} (d : ℕ) (h : i < j) (hr : r < 1024) : H.tq i j r d = 0 :=
  Finset.sum_eq_zero fun x _ => by rw [H.ds_of_lt (by omega), zero_mul]
theorem tk_zero {i j : ℕ} (r d : ℕ) (h : i < j) : H.tk i j r d = 0 :=
  Finset.sum_eq_zero fun x hx => by rw [H.ds_of_lt (by have := mem_range.1 hx; omega), zero_mul]
theorem tv_zero {i j : ℕ} (r d : ℕ) (h : i < j) : H.tv i j r d = 0 :=
  Finset.sum_eq_zero fun x hx => by rw [H.p_of_lt (by have := mem_range.1 hx; omega), zero_mul]
theorem tc_zero {i j : ℕ} (r : ℕ) (h : i < j) : H.tc i j r = 0 :=
  Finset.sum_eq_zero fun x hx => H.ds_of_lt (by have := mem_range.1 hx; omega)

end Head

/-- A sum over `Fin n` of reals, as an extended real. -/
theorem coe_sum_fin (n : ℕ) (f : ℕ → ℝ) : ∑ k : Fin n, ((f k.val : ℝ) : EReal) = ((∑ k ∈ range n, f k : ℝ) : EReal) := by
  rw [Finset.sum_range]
  exact (map_sum (⟨⟨Real.toEReal, EReal.coe_zero⟩, EReal.coe_add⟩ : ℝ →+ EReal) _ _).symm

end Cert.Own
-- ==== Proof.Lits.lean ====
/-
  The value of each literal the programs use, arithmetic on reals inside the extended reals, and the causal mask's
  comparison of indices.
-/
module

public import proofs.«01_k».proof.Proof.Math
public import Idealize.ShloMosaic.PureOps.Ideal
public import Idealize.ShloMosaic.PureOps.Ideal.Laws

@[expose] public section

noncomputable section

namespace Cert.Own

open Idealize.ShloMosaic

theorem lit_sc : Ideal.ofBits .f32 0x3DB504F3#32 = ((sc : ℝ) : EReal) := by
  simp [Ideal.ofBits, Ideal.ieee, sc, -EReal.coe_mul]; norm_num
theorem lit_one : Ideal.ofBits .f32 0x3F800000#32 = ((1 : ℝ) : EReal) := by
  simp [Ideal.ofBits, Ideal.ieee, -EReal.coe_mul]; try norm_num
theorem lit_bot : Ideal.ofBits .f32 0xFF800000#32 = ⊥ := by
  simp [Ideal.ofBits, Ideal.ieee]
theorem lit_inf : Ideal.ofBits .f32 0x7F800000#32 = ⊤ := by
  simp [Ideal.ofBits, Ideal.ieee]
theorem lit_inf16 : Ideal.ofBits .bf16 0x7F80#16 = ⊤ := by
  simp [Ideal.ofBits, Ideal.ieee]

theorem div_real {y : ℝ} (h : y ≠ 0) (x : ℝ) : Ideal.div (x : EReal) (y : EReal) = ((x / y : ℝ) : EReal) := by
  rw [Ideal.div_coe h, ← EReal.coe_mul, mul_one_div]

/-- Comparing two small indices as words. -/
theorem cmpi_sle {a b : ℕ} (ha : a < 8192) (hb : b < 8192) {α : Type} (x y : α) :
    Scalar.select (IntOp.cmpi .sle (BitVec.ofNat 32 a) (BitVec.ofNat 32 b)) x y = if a ≤ b then x else y := by
  have ea : (BitVec.ofNat 32 a).toInt = a := by rw [BitVec.toInt_ofNat']; unfold Int.bmod; norm_num; omega
  have eb : (BitVec.ofNat 32 b).toInt = b := by rw [BitVec.toInt_ofNat']; unfold Int.bmod; norm_num; omega
  unfold Scalar.select IntOp.cmpi
  simp only [BitVec.sle, ea, eb]
  by_cases h : a ≤ b
  · rw [if_pos h, if_pos (by simp [h])]
  · rw [if_neg h, if_neg (by simp [h])]

/-- A maximum over an axis of reals and `⊥`s, one of them real, is a real. -/
theorem fold_max_real {ι : Type} (s : Finset ι) (f : ι → EReal) (ht : ∀ k ∈ s, f k < ⊤) (hb : ∃ k ∈ s, ⊥ < f k) :
    ((s.fold max ⊥ f).toReal : EReal) = s.fold max ⊥ f := by
  refine EReal.coe_toReal (ne_of_lt ?_) (ne_of_gt ?_)
  · exact (Finset.fold_max_lt (c := (⊤ : EReal))).2 ⟨bot_lt_top, ht⟩
  · exact (Finset.lt_fold_max (c := (⊥ : EReal))).2 (.inr hb)

end Cert.Own
-- ==== Proof.Heads.lean ====
/-
  The heads of real-valued arguments: a head's queries, keys and values are columns of one array, the gates and the
  output's gradient columns of the two others.
-/
module

public import proofs.«01_k».proof.Proof.Lits

@[expose] public section

noncomputable section

namespace Cert.Own

open Idealize.ShloMosaic

/-- An index of a matrix, from two naturals. -/
def ix2 (n m : ℕ) (hn : 0 < n) (hm : 0 < m) (a b : ℕ) : (⟨2, ![n, m]⟩ : Shape).Idx := fun x => match x with
  | ⟨0, _⟩ => ⟨a % n, Nat.mod_lt _ hn⟩
  | ⟨1, _⟩ => ⟨b % m, Nat.mod_lt _ hm⟩

theorem eq_ix2 {n m : ℕ} (hn : 0 < n) (hm : 0 < m) (i : (⟨2, ![n, m]⟩ : Shape).Idx) {a b : ℕ} (ha : (i 0).val = a) (hb : (i 1).val = b) :
    i = ix2 n m hn hm a b := by
  subst ha hb
  funext x
  match x with
  | ⟨0, _⟩ => exact Fin.ext (Nat.mod_eq_of_lt (i 0).isLt).symm
  | ⟨1, _⟩ => exact Fin.ext (Nat.mod_eq_of_lt (i 1).isLt).symm

variable (X0 : (⟨2, ![8192, 14336]⟩ : Shape).Idx → ℝ) (X1 : (⟨2, ![8192, 8]⟩ : Shape).Idx → ℝ)
  (X2 : (⟨2, ![8192, 1024]⟩ : Shape).Idx → ℝ)

def uAt (t b : ℕ) : ℝ := X0 (ix2 8192 14336 (by decide) (by decide) t b)
def cAt (t h : ℕ) : ℝ := X1 (ix2 8192 8 (by decide) (by decide) t h)
def oAt (t b : ℕ) : ℝ := X2 (ix2 8192 1024 (by decide) (by decide) t b)

theorem uAt_eq (i : (⟨2, ![8192, 14336]⟩ : Shape).Idx) {t b : ℕ} (ht : (i 0).val = t) (hb : (i 1).val = b) : X0 i = uAt X0 t b :=
  congrArg X0 (eq_ix2 _ _ i ht hb)
theorem cAt_eq (i : (⟨2, ![8192, 8]⟩ : Shape).Idx) {t b : ℕ} (ht : (i 0).val = t) (hb : (i 1).val = b) : X1 i = cAt X1 t b :=
  congrArg X1 (eq_ix2 _ _ i ht hb)
theorem oAt_eq (i : (⟨2, ![8192, 1024]⟩ : Shape).Idx) {t b : ℕ} (ht : (i 0).val = t) (hb : (i 1).val = b) : X2 i = oAt X2 t b :=
  congrArg X2 (eq_ix2 _ _ i ht hb)

/-- Head `h`. -/
def hd (h : ℕ) : Head where
  q t d := uAt X0 t (128 * h + d)
  k t d := uAt X0 t (1024 + 128 * h + d)
  v t d := uAt X0 t (2048 + 128 * h + d)
  o t d := oAt X2 t (128 * h + d)
  c t := cAt X1 t h

end Cert.Own
-- ==== Proof.Ref.lean ====
/-
  What the reference computes on real-valued arguments: each stage is the head's quantity of the same meaning, up to the
  softmax and its logarithm's ingredients.
-/
module

public import proofs.«01_k».proof.Proof.Gen.ReferenceIdeal.Read
public import proofs.«01_k».proof.Proof.Heads

@[expose] public section

noncomputable section

namespace Cert.ReferenceIdeal.Own

open Cert.ReferenceIdeal Cert.ReferenceIdeal.Gen Cert.ReferenceIdeal.Read Cert.Own Idealize.ShloMosaic

variable (X0 : S8192x14336.Idx → ℝ) (X1 : S8192x8.Idx → ℝ) (X2 : S8192x1024.Idx → ℝ)

/-- The arguments, as the programs hold them. -/
abbrev a0 : (⟨S8192x14336, .f32⟩ : BufTy).Contents (Elt Ideal) := fun i => (X0 i : EReal)
abbrev a1 : (⟨S8192x8, .f32⟩ : BufTy).Contents (Elt Ideal) := fun i => (X1 i : EReal)
abbrev a2 : (⟨S8192x1024, .bf16⟩ : BufTy).Contents (Elt Ideal) := fun i => (X2 i : EReal)

abbrev H (h : ℕ) : Head := hd X0 X1 X2 h

theorem v3_val (i : S8192x8x128.Idx) : val_main_v3 (F := Ideal) (a0 X0) i = (((H X0 X1 X2 (i 1).val).q (i 0).val (i 2).val : ℝ) : EReal) := by
  rw [val_main_v3_apply, val_main_v0_apply]
  have h1 : (i 1).val < 8 := (i 1).isLt
  have h2 : (i 2).val < 128 := (i 2).isLt
  exact congrArg Real.toEReal (uAt_eq X0 _ (by show (((i 0).val * 8 + (i 1).val) * 128 + (i 2).val) / 1024 = _; omega)
    (by show (((i 0).val * 8 + (i 1).val) * 128 + (i 2).val) % 1024 = _; omega))

theorem v4_val (i : S8192x8x128.Idx) : val_main_v4 (F := Ideal) (a0 X0) i = (((H X0 X1 X2 (i 1).val).k (i 0).val (i 2).val : ℝ) : EReal) := by
  rw [val_main_v4_apply, val_main_v1_apply]
  have h1 : (i 1).val < 8 := (i 1).isLt
  have h2 : (i 2).val < 128 := (i 2).isLt
  exact congrArg Real.toEReal (uAt_eq X0 _ (by show (((i 0).val * 8 + (i 1).val) * 128 + (i 2).val) / 1024 = _; omega)
    (by show 1024 + (((i 0).val * 8 + (i 1).val) * 128 + (i 2).val) % 1024 = _; omega))

theorem v51_val (i : S8192x8x128.Idx) : val_main_v51 (F := Ideal) (a0 X0) i = (((H X0 X1 X2 (i 1).val).v (i 0).val (i 2).val : ℝ) : EReal) := by
  rw [val_main_v51_apply, val_main_v2_apply]
  have h1 : (i 1).val < 8 := (i 1).isLt
  have h2 : (i 2).val < 128 := (i 2).isLt
  exact congrArg Real.toEReal (uAt_eq X0 _ (by show (((i 0).val * 8 + (i 1).val) * 128 + (i 2).val) / 1024 = _; omega)
    (by show 2048 + (((i 0).val * 8 + (i 1).val) * 128 + (i 2).val) % 1024 = _; omega))

theorem v57_val (i : S8x128x8192.Idx) : val_main_v57 (F := Ideal) (a2 X2) i = (((H X0 X1 X2 (i 0).val).o (i 2).val (i 1).val : ℝ) : EReal) := by
  rw [val_main_v57_apply, val_main_v56_apply, val_main_v55_apply]
  have h1 : (i 0).val < 8 := (i 0).isLt
  have h2 : (i 1).val < 128 := (i 1).isLt
  exact congrArg Real.toEReal (oAt_eq X2 _ (by show (((i 2).val * 8 + (i 0).val) * 128 + (i 1).val) / 1024 = _; omega)
    (by show (((i 2).val * 8 + (i 0).val) * 128 + (i 1).val) % 1024 = _; omega))

/-- The products of queries and keys. -/
theorem v5_val (i : S8x8192x8192.Idx) :
    val_main_v5 (F := Ideal) (a0 X0) i = (((H X0 X1 X2 (i 0).val).qk (i 1).val (i 2).val : ℝ) : EReal) := by
  rw [val_main_v5_apply]
  refine Eq.trans (Finset.sum_congr rfl fun k _ => ?_) (coe_sum_fin 128 fun d => (H X0 X1 X2 (i 0).val).q (i 1).val d * (H X0 X1 X2 (i 0).val).k (i 2).val d)
  rw [v3_val X0 X1 X2, v4_val X0 X1 X2, EReal.coe_mul]

theorem v8_val (i : S8x8192.Idx) : val_main_v8 (F := Ideal) (a1 X1) i = (((H X0 X1 X2 (i 0).val).c (i 1).val : ℝ) : EReal) := by
  rw [val_main_v8_apply]; exact congrArg Real.toEReal (cAt_eq X1 _ rfl rfl)

theorem v10_val (i : S8x8192x8192.Idx) : val_main_v10 (F := Ideal) (a1 X1) i = (((H X0 X1 X2 (i 0).val).c (i 1).val : ℝ) : EReal) := by
  rw [val_main_v10_apply, val_main_v9_apply]; exact v8_val X0 X1 X2 _

theorem v14_val (i : S8x8192x8192.Idx) : val_main_v14 (F := Ideal) (a1 X1) i = (((H X0 X1 X2 (i 0).val).c (i 2).val : ℝ) : EReal) := by
  rw [val_main_v14_apply, val_main_v13_apply, val_main_v12_apply]; exact congrArg Real.toEReal (cAt_eq X1 _ rfl rfl)

/-- The logits, before the mask. -/
theorem v15_val (i : S8x8192x8192.Idx) :
    val_main_v15 (F := Ideal) (a0 X0) (a1 X1) i = (((H X0 X1 X2 (i 0).val).qk (i 1).val (i 2).val * sc + (H X0 X1 X2 (i 0).val).c (i 1).val
      - (H X0 X1 X2 (i 0).val).c (i 2).val : ℝ) : EReal) := by
  rw [val_main_v15_apply, val_main_v11_apply, val_main_v7_apply, v5_val X0 X1 X2, v10_val X0 X1 X2, v14_val X0 X1 X2, val_main_v6_apply,
    val_main_cst_apply, Ideal.ofBits_def, lit_sc, EReal.coe_sub, EReal.coe_add, EReal.coe_mul]
  rfl

/-- The mask. -/
theorem mask_val (i : S8x8192x8192.Idx) {α : Type} (x y : α) :
    Scalar.select (val_main_v22_1 (F := Ideal) i) x y = if (i 2).val ≤ (i 1).val then x else y := by
  rw [val_main_v22_1_apply, val_main_v21_apply, val_main_v19_apply, val_main_v20_apply, val_main_v17_apply, val_main_v18_apply,
    val_main_v16_apply, val_main_v16_apply]
  exact cmpi_sle (i 2).isLt (i 1).isLt x y

/-- The masked logits. -/
theorem v22_val (i : S8x8192x8192.Idx) :
    val_main_v22_0 (F := Ideal) (a0 X0) (a1 X1) i = if (i 2).val ≤ (i 1).val then
      (((H X0 X1 X2 (i 0).val).qk (i 1).val (i 2).val * sc + (H X0 X1 X2 (i 0).val).c (i 1).val
      - (H X0 X1 X2 (i 0).val).c (i 2).val : ℝ) : EReal) else ⊥ := by
  rw [val_main_v22_0_apply, mask_val, v15_val X0 X1 X2, val_main_call0_v2_apply, val_main_call0_v0_apply, val_main_cst_0_apply,
    Ideal.ofBits_def, lit_bot]

/-- A row's greatest logit. -/
def M (h t : ℕ) : ℝ := EReal.toReal (val_main_v23 (F := Ideal) (a0 X0) (a1 X1) (ix2 8 8192 (by decide) (by decide) h t))

include X2 in
theorem v23_val (i : S8x8192.Idx) : val_main_v23 (F := Ideal) (a0 X0) (a1 X1) i = ((M X0 X1 (i 0).val (i 1).val : ℝ) : EReal) := by
  unfold M
  rw [← eq_ix2 (n := 8) (m := 8192) (by decide) (by decide) i rfl rfl]
  unfold val_main_v23
  rw [Host.reduce_eq_fold_single (f := FloatOps.maximumf) (a := 2) _ _ reducesTo_S8x8192x8192_S8x8192_d2 (by decide) h_S_]
  have e : val_main_cst_1 (F := Ideal) (Shape.Idx.first h_S_) = ⊥ := (val_main_cst_1_apply _).trans lit_bot
  rw [e]
  refine (fold_max_real _ _ (fun k _ => ?_) ⟨⟨(i 1).val, (i 1).isLt⟩, Finset.mem_univ _, ?_⟩).symm
  · rw [Function.comp_apply, v22_val X0 X1 X2]; split
    · exact EReal.coe_lt_top _
    · exact bot_lt_top
  · rw [Function.comp_apply, v22_val X0 X1 X2, if_pos]
    · exact EReal.bot_lt_coe _
    · exact le_rfl

include X2 in
theorem v30_val (i : S8x8192.Idx) : val_main_v30 (F := Ideal) (a0 X0) (a1 X1) i = ((M X0 X1 (i 0).val (i 1).val : ℝ) : EReal) := by
  rw [val_main_v30_apply, v23_val X0 X1 X2, val_main_v29_apply, val_main_cst_3_apply, Ideal.ofBits_def, lit_bot]
  exact max_eq_right bot_le

/-- The shifted exponentials, their sum, and the weights. -/
theorem v43_val (i : S8x8192x8192.Idx) :
    val_main_v43 (F := Ideal) (a0 X0) (a1 X1) i = (((H X0 X1 X2 (i 0).val).es (M X0 X1 (i 0).val) (i 1).val (i 2).val : ℝ) : EReal) := by
  rw [val_main_v43_apply, val_main_v42_apply, v22_val X0 X1 X2, val_main_v41_apply, val_main_v40_apply, v30_val X0 X1 X2]
  unfold Head.es
  rw [Ideal.hostUnary_exp_def, Ideal.subf_def]
  split
  · rw [← EReal.coe_sub, Ideal.exp_coe]
  · rw [EReal.bot_sub, Ideal.exp_bot]; rfl

theorem v44_val (i : S8x8192.Idx) :
    val_main_v44 (F := Ideal) (a0 X0) (a1 X1) i = (((H X0 X1 X2 (i 0).val).zs (M X0 X1 (i 0).val) (i 1).val : ℝ) : EReal) := by
  rw [val_main_v44_apply, val_main_cst_9_apply, Ideal.ofBits_def, Ideal.ofBits_zero_f32, zero_add]
  refine Eq.trans (Finset.sum_congr rfl fun k _ => ?_) (coe_sum_fin 8192 fun s => (H X0 X1 X2 (i 0).val).es (M X0 X1 (i 0).val) (i 1).val s)
  rw [v43_val X0 X1 X2]

theorem zs_ne (h : ℕ) {t : ℕ} (ht : t < 8192) : (H X0 X1 X2 h).zs (M X0 X1 h) t ≠ 0 := ((H X0 X1 X2 h).zs_pos _ ht).ne'

theorem v47_val (i : S8x8192x8192.Idx) :
    val_main_v47 (F := Ideal) (a0 X0) (a1 X1) i = (((H X0 X1 X2 (i 0).val).p (i 1).val (i 2).val : ℝ) : EReal) := by
  rw [val_main_v47_apply, v43_val X0 X1 X2, val_main_v46_apply, val_main_v45_apply, v44_val X0 X1 X2, Ideal.hostDivf_def]
  refine (div_real (zs_ne X0 X1 X2 _ (i 1).isLt) _).trans (congrArg Real.toEReal ?_)
  exact (H X0 X1 X2 (i 0).val).p_shift _ _ _

end Cert.ReferenceIdeal.Own
-- ==== Proof.Ref2.lean ====
/-
  What the reference computes on real-valued arguments, from the softmax's gradient to its four results.
-/
module

public import proofs.«01_k».proof.Proof.Ref

@[expose] public section

noncomputable section

namespace Cert.ReferenceIdeal.Own

open Cert.ReferenceIdeal Cert.ReferenceIdeal.Gen Cert.ReferenceIdeal.Read Cert.Own Idealize.ShloMosaic

variable (X0 : S8192x14336.Idx → ℝ) (X1 : S8192x8.Idx → ℝ) (X2 : S8192x1024.Idx → ℝ)

/-- The weights' gradient. -/
theorem v58_val (i : S8x8192x8192.Idx) :
    val_main_v58 (F := Ideal) (a0 X0) (a2 X2) i = (((H X0 X1 X2 (i 0).val).dp (i 1).val (i 2).val : ℝ) : EReal) := by
  rw [val_main_v58_apply]
  refine Eq.trans (Finset.sum_congr rfl fun k _ => ?_) (coe_sum_fin 128 fun d => (H X0 X1 X2 (i 0).val).o (i 1).val d * (H X0 X1 X2 (i 0).val).v (i 2).val d)
  rw [v57_val X0 X1 X2, v51_val X0 X1 X2, EReal.coe_mul]

theorem v45_val (i : S8x8192x1.Idx) :
    val_main_v45 (F := Ideal) (a0 X0) (a1 X1) i = (((H X0 X1 X2 (i 0).val).zs (M X0 X1 (i 0).val) (i 1).val : ℝ) : EReal) := by
  rw [val_main_v45_apply]; exact v44_val X0 X1 X2 _

theorem v50_val (i : S8x8192x1.Idx) :
    val_main_v50 (F := Ideal) (a0 X0) (a1 X1) i = ((1 / ((H X0 X1 X2 (i 0).val).zs (M X0 X1 (i 0).val) (i 1).val
      * (H X0 X1 X2 (i 0).val).zs (M X0 X1 (i 0).val) (i 1).val) : ℝ) : EReal) := by
  have hz := zs_ne X0 X1 X2 (i 0).val (i 1).isLt
  rw [val_main_v50_apply, val_main_v49_apply, val_main_cst_10_apply, Ideal.ofBits_def, lit_one, val_main_v48_apply, v45_val X0 X1 X2,
    Ideal.hostDivf_def, Ideal.mulf_def, ← EReal.coe_mul, div_real (mul_ne_zero hz hz)]

/-- Minus the weights' gradient against the weights, over the sum. -/
theorem v65_val (i : S8x8192.Idx) :
    val_main_v65 (F := Ideal) (a0 X0) (a1 X1) (a2 X2) i = ((∑ x ∈ Finset.range 8192, (H X0 X1 X2 (i 0).val).dp (i 1).val x
      * (1 / ((H X0 X1 X2 (i 0).val).zs (M X0 X1 (i 0).val) (i 1).val * (H X0 X1 X2 (i 0).val).zs (M X0 X1 (i 0).val) (i 1).val))
      * (H X0 X1 X2 (i 0).val).es (M X0 X1 (i 0).val) (i 1).val x : ℝ) : EReal) := by
  rw [val_main_v65_apply, val_main_cst_11_apply, Ideal.ofBits_def, Ideal.ofBits_zero_f32, zero_add, ← coe_sum_fin]
  refine Finset.sum_congr rfl fun k _ => ?_
  rw [val_main_v64_apply, val_main_v63_apply, v58_val X0 X1 X2, v43_val X0 X1 X2, val_main_v62_apply, v50_val X0 X1 X2,
    Ideal.mulf_def, Ideal.mulf_def, ← EReal.coe_mul, ← EReal.coe_mul]

theorem v71_val (i : S8x8192x8192.Idx) :
    val_main_v71 (F := Ideal) (a0 X0) (a1 X1) (a2 X2) i = ((-∑ x ∈ Finset.range 8192, (H X0 X1 X2 (i 0).val).dp (i 1).val x
      * (1 / ((H X0 X1 X2 (i 0).val).zs (M X0 X1 (i 0).val) (i 1).val * (H X0 X1 X2 (i 0).val).zs (M X0 X1 (i 0).val) (i 1).val))
      * (H X0 X1 X2 (i 0).val).es (M X0 X1 (i 0).val) (i 1).val x : ℝ) : EReal) := by
  rw [val_main_v71_apply, val_main_v70_apply, val_main_cst_12_apply, Ideal.ofBits_def, Ideal.ofBits_zero_f32, zero_add, Fin.sum_univ_one,
    val_main_v67_apply, val_main_v66_apply, v65_val X0 X1 X2]
  have h0 : (i 0).val < 8 := (i 0).isLt
  have h1 : (i 1).val < 8192 := (i 1).isLt
  have e0 : ((i 0).val * 8192 + (i 1).val) * 1 / 8192 = (i 0).val := by omega
  have e1 : ((i 0).val * 8192 + (i 1).val) * 1 % 8192 = (i 1).val := by omega
  show -(Real.toEReal _) = _
  rw [← EReal.coe_neg]
  show ((-∑ x ∈ Finset.range 8192, (H X0 X1 X2 (((i 0).val * 8192 + (i 1).val) * 1 / 8192)).dp (((i 0).val * 8192 + (i 1).val) * 1 % 8192) x
      * (1 / ((H X0 X1 X2 (((i 0).val * 8192 + (i 1).val) * 1 / 8192)).zs (M X0 X1 (((i 0).val * 8192 + (i 1).val) * 1 / 8192)) (((i 0).val * 8192 + (i 1).val) * 1 % 8192)
        * (H X0 X1 X2 (((i 0).val * 8192 + (i 1).val) * 1 / 8192)).zs (M X0 X1 (((i 0).val * 8192 + (i 1).val) * 1 / 8192)) (((i 0).val * 8192 + (i 1).val) * 1 % 8192)))
      * (H X0 X1 X2 (((i 0).val * 8192 + (i 1).val) * 1 / 8192)).es (M X0 X1 (((i 0).val * 8192 + (i 1).val) * 1 / 8192)) (((i 0).val * 8192 + (i 1).val) * 1 % 8192) x : ℝ) : EReal) = _
  rw [e0, e1]

/-- The exponents' gradient. -/
theorem v74_val (i : S8x8192x8192.Idx) :
    val_main_v74 (F := Ideal) (a0 X0) (a1 X1) (a2 X2) i = (((H X0 X1 X2 (i 0).val).ds (i 1).val (i 2).val : ℝ) : EReal) := by
  have hz := zs_ne X0 X1 X2 (i 0).val (i 1).isLt
  rw [val_main_v74_apply, mask_val]
  split
  · rw [val_main_v73_apply, val_main_v72_apply, val_main_v69_apply, v58_val X0 X1 X2, v71_val X0 X1 X2, v43_val X0 X1 X2, val_main_v68_apply,
      v45_val X0 X1 X2, Ideal.hostDivf_def, Ideal.addf_def, Ideal.mulf_def]
    rw [div_real hz, ← EReal.coe_add, ← EReal.coe_mul]
    exact congrArg Real.toEReal ((H X0 X1 X2 (i 0).val).ds_shift _ _)
  · rename_i h
    rw [(H X0 X1 X2 (i 0).val).ds_of_lt (Nat.lt_of_not_le h), val_main_call1_v0_apply, val_main_call1_cst_apply, Ideal.ofBits_def,
      Ideal.ofBits_zero_f32]
    rfl

theorem v86_val (i : S8x8192x8192.Idx) :
    val_main_v86 (F := Ideal) (a0 X0) (a1 X1) (a2 X2) i = (((H X0 X1 X2 (i 0).val).ds (i 1).val (i 2).val * sc : ℝ) : EReal) := by
  rw [val_main_v86_apply, v74_val X0 X1 X2, val_main_v85_apply, val_main_cst_17_apply, Ideal.ofBits_def, lit_sc, Ideal.mulf_def, ← EReal.coe_mul]

/-- The gradient of the queries, -/
theorem v92_val (i : S8192x1024.Idx) :
    val_main_v92 (F := Ideal) (a0 X0) (a1 X1) (a2 X2) i = (((H X0 X1 X2 ((i 1).val / 128)).gq (i 0).val ((i 1).val % 128) : ℝ) : EReal) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v92_apply, val_main_v90_apply, val_main_v89_apply]
  refine Eq.trans (Finset.sum_congr rfl fun k _ => ?_) (coe_sum_fin 8192 fun s => (H X0 X1 X2 ((i 1).val / 128)).ds (i 0).val s
    * ((H X0 X1 X2 ((i 1).val / 128)).k s ((i 1).val % 128) * sc))
  rw [v86_val X0 X1 X2, v4_val X0 X1 X2, ← EReal.coe_mul]
  show (((H X0 X1 X2 (((i 0).val * 1024 + (i 1).val) / 128 % 8)).ds (((i 0).val * 1024 + (i 1).val) / 1024) k.val * sc
    * (H X0 X1 X2 (((i 0).val * 1024 + (i 1).val) / 128 % 8)).k k.val (((i 0).val * 1024 + (i 1).val) % 128) : ℝ) : EReal) = _
  rw [e0, e1, e2]
  exact congrArg Real.toEReal (by ring)

/-- of the keys, -/
theorem v93_val (i : S8192x1024.Idx) :
    val_main_v93 (F := Ideal) (a0 X0) (a1 X1) (a2 X2) i = (((H X0 X1 X2 ((i 1).val / 128)).gk (i 0).val ((i 1).val % 128) : ℝ) : EReal) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v93_apply, Ideal.truncf_def, val_main_v91_apply, val_main_v88_apply, val_main_v87_apply]
  refine Eq.trans (Finset.sum_congr rfl fun k _ => ?_) (coe_sum_fin 8192 fun t => (H X0 X1 X2 ((i 1).val / 128)).ds t (i 0).val
    * ((H X0 X1 X2 ((i 1).val / 128)).q t ((i 1).val % 128) * sc))
  rw [v86_val X0 X1 X2, v3_val X0 X1 X2, ← EReal.coe_mul]
  show (((H X0 X1 X2 (((i 0).val * 1024 + (i 1).val) / 128 % 8)).ds k.val (((i 0).val * 1024 + (i 1).val) / 1024) * sc
    * (H X0 X1 X2 (((i 0).val * 1024 + (i 1).val) / 128 % 8)).q k.val (((i 0).val * 1024 + (i 1).val) % 128) : ℝ) : EReal) = _
  rw [e0, e1, e2]
  exact congrArg Real.toEReal (by ring)

/-- of the values, -/
theorem v94_val (i : S8192x1024.Idx) :
    val_main_v94 (F := Ideal) (a0 X0) (a1 X1) (a2 X2) i = (((H X0 X1 X2 ((i 1).val / 128)).gv (i 0).val ((i 1).val % 128) : ℝ) : EReal) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v94_apply, Ideal.truncf_def, val_main_v61_apply, val_main_v60_apply, val_main_v59_apply]
  refine Eq.trans (Finset.sum_congr rfl fun k _ => ?_) (coe_sum_fin 8192 fun t => (H X0 X1 X2 ((i 1).val / 128)).p t (i 0).val
    * (H X0 X1 X2 ((i 1).val / 128)).o t ((i 1).val % 128))
  rw [v57_val X0 X1 X2, v47_val X0 X1 X2, ← EReal.coe_mul]
  show (((H X0 X1 X2 (((i 0).val * 1024 + (i 1).val) / 128 % 8)).o k.val (((i 0).val * 1024 + (i 1).val) % 128)
    * (H X0 X1 X2 (((i 0).val * 1024 + (i 1).val) / 128 % 8)).p k.val (((i 0).val * 1024 + (i 1).val) / 1024) : ℝ) : EReal) = _
  rw [e0, e1, e2]
  exact congrArg Real.toEReal (by ring)

theorem v78_val (i : S8x8192.Idx) :
    val_main_v78 (F := Ideal) (a0 X0) (a1 X1) (a2 X2) i = (((H X0 X1 X2 (i 0).val).gc (i 1).val : ℝ) : EReal) := by
  have h0 : (i 0).val < 8 := (i 0).isLt
  have h1 : (i 1).val < 8192 := (i 1).isLt
  have e0 : ((i 0).val * 1 + 0) * 8192 + (i 1).val = (i 0).val * 8192 + (i 1).val := by omega
  have e1 : ((i 0).val * 8192 + (i 1).val) / 8192 = (i 0).val := by omega
  have e2 : ((i 0).val * 8192 + (i 1).val) % 8192 = (i 1).val := by omega
  rw [val_main_v78_apply, val_main_cst_14_apply, Ideal.ofBits_def, Ideal.ofBits_zero_f32, zero_add, Fin.sum_univ_one, val_main_v77_apply,
    val_main_v76_apply, val_main_cst_13_apply, Ideal.ofBits_def, Ideal.ofBits_zero_f32, zero_add]
  unfold Head.gc
  rw [← Finset.sum_neg_distrib]
  refine Eq.trans (Finset.sum_congr rfl fun k _ => ?_) (coe_sum_fin 8192 fun t => -(H X0 X1 X2 (i 0).val).ds t (i 1).val)
  rw [val_main_v75_apply, v74_val X0 X1 X2]
  show -(((H X0 X1 X2 ((((i 0).val * 1 + 0) * 8192 + (i 1).val) / 8192)).ds k.val ((((i 0).val * 1 + 0) * 8192 + (i 1).val) % 8192) : ℝ) : EReal) = _
  rw [e0, e1, e2, EReal.coe_neg]

theorem v82_val (i : S8x8192.Idx) : val_main_v82 (F := Ideal) (a0 X0) (a1 X1) (a2 X2) i = 0 := by
  have h0 : (i 0).val < 8 := (i 0).isLt
  have h1 : (i 1).val < 8192 := (i 1).isLt
  rw [val_main_v82_apply, val_main_cst_16_apply, Ideal.ofBits_def, Ideal.ofBits_zero_f32, zero_add, Fin.sum_univ_one, val_main_v81_apply,
    val_main_v80_apply, val_main_cst_15_apply, Ideal.ofBits_def, Ideal.ofBits_zero_f32, zero_add]
  refine Eq.trans (Finset.sum_congr rfl fun k _ => v74_val X0 X1 X2 _)
    ((coe_sum_fin 8192 fun s => (H X0 X1 X2 ((((i 0).val * 8192 + (i 1).val) * 1 + 0) / 8192)).ds ((((i 0).val * 8192 + (i 1).val) * 1 + 0) % 8192) s).trans ?_)
  rw [Head.sum_ds _ (Nat.mod_lt _ (by decide))]
  rfl

/-- and of the gates' running sums. -/
theorem v96_val (i : S8x8192x1.Idx) :
    val_main_v96 (F := Ideal) (a0 X0) (a1 X1) (a2 X2) i = (((H X0 X1 X2 (i 0).val).gc (i 1).val : ℝ) : EReal) := by
  rw [val_main_v96_apply, val_main_v95_apply, val_main_v84_apply, val_main_v79_apply, val_main_v83_apply, v82_val X0 X1 X2, v78_val X0 X1 X2]
  exact add_zero _

/-- The output, whose rows against the output's gradient give the mean the kernel is handed. -/
theorem v54_val (i : S8192x1024.Idx) :
    val_main_v54 (F := Ideal) (a0 X0) (a1 X1) i = ((∑ s ∈ Finset.range 8192, (H X0 X1 X2 ((i 1).val / 128)).v s ((i 1).val % 128)
      * (H X0 X1 X2 ((i 1).val / 128)).p (i 0).val s : ℝ) : EReal) := by
  have h0 : (i 0).val < 8192 := (i 0).isLt
  have h1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v54_apply, val_main_v53_apply, val_main_v52_apply]
  refine Eq.trans (Finset.sum_congr rfl fun k _ => ?_) (coe_sum_fin 8192 fun s => (H X0 X1 X2 ((i 1).val / 128)).v s ((i 1).val % 128)
    * (H X0 X1 X2 ((i 1).val / 128)).p (i 0).val s)
  rw [v51_val X0 X1 X2, v47_val X0 X1 X2, ← EReal.coe_mul]
  show (((H X0 X1 X2 (((i 0).val * 1024 + (i 1).val) / 128 % 8)).v k.val (((i 0).val * 1024 + (i 1).val) % 128)
    * (H X0 X1 X2 (((i 0).val * 1024 + (i 1).val) / 128 % 8)).p (((i 0).val * 1024 + (i 1).val) / 1024) k.val : ℝ) : EReal) = _
  rw [e0, e1, e2]

end Cert.ReferenceIdeal.Own
-- ==== Proof.KI.HostVal.lean ====
/-
  What the host computes for the launch: the saved logarithm and the mean under the weights of their gradient, in the
  terms of the reference's own stages, and their values on real arguments.
-/
module

public import proofs.«01_k».proof.Proof.Ref2
public import proofs.«01_k».proof.Proof.Gen.KernelIdeal.Launch

@[expose] public section

noncomputable section

namespace Cert.KernelIdeal.Own

open Cert.KernelIdeal Cert.KernelIdeal.Gen Cert.Own
open Idealize.ShloMosaic Idealize.ShloMosaic.TcCoe
open Cert.ReferenceIdeal.Read Cert.ReferenceIdeal.Own

/-- The saved logarithm from the logits `L` and the cumulative gates `g`. -/
def lseOf (L : FVec Ideal S8x8192x8192 .f32) (g : FVec Ideal S8x8192 .f32) :
    FVec Ideal S8x8192 .f32 :=
  subf (addf (Host.reduce FloatOps.maximumf L (constant S_ .f32 0xFF800000#32) reducesTo_S8x8192x8192_S8x8192_d2 h_S_)
    (Host.log (Host.reduceAdd (Host.exp (subf L (broadcastInDim S8x8192x8192 ![0, 1, 2] bcast_S8x8192x1_S8x8192x8192_0_1_2
      (broadcastInDim S8x8192x1 ![0, 1] bcast_S8x8192_S8x8192x1_0_1
        (Host.reduce FloatOps.maximumf L (constant S_ .f32 0xFF800000#32) reducesTo_S8x8192x8192_S8x8192_d2 h_S_)))))
      (constant S_ .f32 0x00000000#32) reducesTo_S8x8192x8192_S8x8192_d2 h_S_))) g

/-- The mean of the weights' gradient, from the output `o` and its gradient. -/
def deOf (w : FVec Ideal S8192x1024 .bf16) (o : FVec Ideal S8192x1024 .f32) :
    FVec Ideal S8192x8 .f32 :=
  Host.reduceAdd (shapeCast S8192x8x128 (mulf (extf .f32 w bitsLt_bf16_f32) o) shapeCasts_S8192x1024_S8192x8x128)
    (constant S_ .f32 0x00000000#32) reducesTo_S8192x8x128_S8192x8_d2 h_S_

/-- The reference's stages on real arguments. -/
abbrev refL (X0 : S8192x14336.Idx → ℝ) (X1 : S8192x8.Idx → ℝ) : FVec Ideal S8x8192x8192 .f32 := val_main_v22_0 (F := Ideal) (a0 X0) (a1 X1)
abbrev refM (X0 : S8192x14336.Idx → ℝ) (X1 : S8192x8.Idx → ℝ) : FVec Ideal S8x8192 .f32 := val_main_v23 (F := Ideal) (a0 X0) (a1 X1)
abbrev refM' (X0 : S8192x14336.Idx → ℝ) (X1 : S8192x8.Idx → ℝ) : FVec Ideal S8x8192 .f32 := val_main_v30 (F := Ideal) (a0 X0) (a1 X1)
abbrev refZ (X0 : S8192x14336.Idx → ℝ) (X1 : S8192x8.Idx → ℝ) : FVec Ideal S8x8192 .f32 := val_main_v44 (F := Ideal) (a0 X0) (a1 X1)
abbrev refC (X1 : S8192x8.Idx → ℝ) : FVec Ideal S8x8192 .f32 := val_main_v8 (F := Ideal) (a1 X1)
abbrev refO (X0 : S8192x14336.Idx → ℝ) (X1 : S8192x8.Idx → ℝ) : FVec Ideal S8192x1024 .f32 := val_main_v54 (F := Ideal) (a0 X0) (a1 X1)
abbrev refW (X2 : S8192x1024.Idx → ℝ) : FVec Ideal S8192x1024 .bf16 := a2 X2

variable (X0 : S8192x14336.Idx → ℝ) (X1 : S8192x8.Idx → ℝ) (X2 : S8192x1024.Idx → ℝ)

theorem max_eq : refM X0 X1 = refM' X0 X1 :=
  funext fun i => (v23_val X0 X1 (fun _ => 0) i).trans (v30_val X0 X1 (fun _ => 0) i).symm

theorem lseOf_val (i : S8x8192.Idx) : lseOf (refL X0 X1) (refC X1) i
    = (((H X0 X1 X2 (i 0).val).lse (M X0 X1 (i 0).val) (i 1).val : ℝ) : EReal) := by
  have e : lseOf (refL X0 X1) (refC X1)
      = subf (addf (refM X0 X1) (Host.log (Host.reduceAdd (Host.exp (subf (refL X0 X1)
        (broadcastInDim S8x8192x8192 ![0, 1, 2] bcast_S8x8192x1_S8x8192x8192_0_1_2
          (broadcastInDim S8x8192x1 ![0, 1] bcast_S8x8192_S8x8192x1_0_1 (refM X0 X1)))))
        (constant S_ .f32 0x00000000#32) reducesTo_S8x8192x8192_S8x8192_d2 h_S_))) (refC X1) := rfl
  rw [e, max_eq]
  have hz := (H X0 X1 X2 (i 0).val).zs_pos (M X0 X1 (i 0).val) (i 1).isLt
  have e' : ∀ (m s g : FVec Ideal S8x8192 .f32), subf (addf m (Host.log s)) g i
      = ((m i + Ideal.log (s i) : EReal) - g i : EReal) := fun _ _ _ => rfl
  refine (e' (refM' X0 X1) (refZ X0 X1) (refC X1)).trans ?_
  have k1 : refM' X0 X1 i = ((M X0 X1 (i 0).val (i 1).val : ℝ) : EReal) := v30_val X0 X1 X2 i
  have k2 : refZ X0 X1 i = (((H X0 X1 X2 (i 0).val).zs (M X0 X1 (i 0).val) (i 1).val : ℝ) : EReal) := v44_val X0 X1 X2 i
  have k3 : refC X1 i = (((H X0 X1 X2 (i 0).val).c (i 1).val : ℝ) : EReal) := v8_val X0 X1 X2 i
  rw [k1, k2, k3, Ideal.log_coe, if_neg (not_le.mpr hz), ← EReal.coe_add, ← EReal.coe_sub]
  rfl

theorem deOf_val (i : S8192x8.Idx) : deOf (refW X2) (refO X0 X1) i
    = (((H X0 X1 X2 (i 1).val).de (i 0).val : ℝ) : EReal) := by
  have h0 : (i 0).val < 8192 := (i 0).isLt
  have h1 : (i 1).val < 8 := (i 1).isLt
  unfold deOf
  generalize hx : shapeCast S8192x8x128 (mulf (extf .f32 (refW X2) bitsLt_bf16_f32) (refO X0 X1))
    shapeCasts_S8192x1024_S8192x8x128 = x
  have hv : ∀ z : S8192x8x128.Idx, x z = (((H X0 X1 X2 (z 1).val).o (z 0).val (z 2).val
      * ∑ s ∈ Finset.range 8192, (H X0 X1 X2 (z 1).val).v s (z 2).val * (H X0 X1 X2 (z 1).val).p (z 0).val s : ℝ) : EReal) := by
    intro z
    have z0 : (z 0).val < 8192 := (z 0).isLt
    have z1 : (z 1).val < 8 := (z 1).isLt
    have z2 : (z 2).val < 128 := (z 2).isLt
    have e0 : (((z 0).val * 8 + (z 1).val) * 128 + (z 2).val) / 1024 = (z 0).val := by omega
    have e1 : (((z 0).val * 8 + (z 1).val) * 128 + (z 2).val) % 1024 / 128 = (z 1).val := by omega
    have e2 : (((z 0).val * 8 + (z 1).val) * 128 + (z 2).val) % 1024 % 128 = (z 2).val := by omega
    rw [← hx]
    refine (shapeCast_apply _ shapeCasts_S8192x1024_S8192x8x128 z (idx_main_v56 z) ?_).trans ?_
    · rewrite [Shape.rowMajor_val_two, Shape.rowMajor_val_three]
      show (((z 0).val * 8 + (z 1).val) * 128 + (z 2).val) / 1024 * 1024 + (((z 0).val * 8 + (z 1).val) * 128 + (z 2).val) % 1024
        = ((z 0).val * 8 + (z 1).val) * 128 + (z 2).val
      omega
    · have e : ∀ (w : S8192x1024.Idx), (mulf (extf .f32 (refW X2) bitsLt_bf16_f32) (refO X0 X1)) w
        = ((X2 w : EReal) * (refO X0 X1 w : EReal) : EReal) := fun _ => rfl
      refine (e _).trans ?_
      have k := fun w : S8192x1024.Idx => show refO X0 X1 w = _ from v54_val X0 X1 X2 w
      rw [k, ← EReal.coe_mul]
      refine congrArg Real.toEReal (congrArg₂ (· * ·) (oAt_eq X2 _ e0 (by show _ = 128 * (z 1).val + (z 2).val; show (((z 0).val * 8 + (z 1).val) * 128 + (z 2).val) % 1024 = _; omega)) ?_)
      show ∑ s ∈ Finset.range 8192, (H X0 X1 X2 ((((z 0).val * 8 + (z 1).val) * 128 + (z 2).val) % 1024 / 128)).v s ((((z 0).val * 8 + (z 1).val) * 128 + (z 2).val) % 1024 % 128)
        * (H X0 X1 X2 ((((z 0).val * 8 + (z 1).val) * 128 + (z 2).val) % 1024 / 128)).p ((((z 0).val * 8 + (z 1).val) * 128 + (z 2).val) / 1024) s = _
      rw [e0, e1, e2]
  simp only [Host.reduceAdd, Ideal.hostReduceAdd_def]
  rw [Ideal.hostReduceAdd_single reducesTo_S8192x8x128_S8192x8_d2 (by decide)]
  have ez : constant (F := Ideal) S_ .f32 0x00000000#32 (Shape.Idx.first h_S_) = (0 : EReal) := Ideal.ofBits_zero_f32
  rw [ez, zero_add, ← (H X0 X1 X2 (i 1).val).de_out (i 0).val]
  refine Eq.trans (Finset.sum_congr rfl fun k _ => hv _) (coe_sum_fin 128 fun d => (H X0 X1 X2 (i 1).val).o (i 0).val d
    * ∑ s ∈ Finset.range 8192, (H X0 X1 X2 (i 1).val).v s d * (H X0 X1 X2 (i 1).val).p (i 0).val s)

end Cert.KernelIdeal.Own
-- ==== Proof.KI.Sched.lean ====
/-
  The schedule in numbers: a point's head, query tile and key tile, what its conditions mean, and where its blocks lie.
-/
module

public import proofs.«01_k».proof.Proof.KI.Traj
public import Idealize.ShloMosaic.Lib.Pipeline.ValueKit

@[expose] public section

noncomputable section

namespace Cert.KernelIdeal.Own

open Cert.KernelIdeal Cert.KernelIdeal.Gen Cert.Own
open Idealize.ShloMosaic Idealize.ShloMosaic.TcCoe

/-- A point's head, query tile and key tile. -/
def hh (t : Fin grid0.N) : ℕ := t.val / 36
def ti (t : Fin grid0.N) : ℕ := (wI (grid0.coords t)).toNat
def tj (t : Fin grid0.N) : ℕ := (wJ (grid0.coords t)).toNat

set_option maxRecDepth 100000 in
theorem bounds : ∀ t : Fin grid0.N, hh t < 8 ∧ ti t < 8 ∧ tj t ≤ ti t := by decide +kernel

set_option maxRecDepth 100000 in
/-- What the body's conditions mean. -/
theorem conds : ∀ t : Fin grid0.N, (k0_cond1 (grid0.coords t) = 1#1 ↔ t.val % 36 = 0)
    ∧ (condE (wI (grid0.coords t)) (wJ (grid0.coords t)) ↔ ti t = tj t)
    ∧ (k0_cond3 (wI (grid0.coords t)) (wJ (grid0.coords t)) = 1#1 ↔ ¬ ti t = tj t)
    ∧ (k0_cond4 (wI (grid0.coords t)) (wJ (grid0.coords t)) = 1#1 ↔ ti t = tj t)
    ∧ (k0_cond5 (wI (grid0.coords t)) = 1#1 ↔ ti t = 7) := by decide +kernel

set_option maxRecDepth 100000 in
/-- The rows of the queries' gradient a point adds to. -/
theorem offs : ∀ t : Fin grid0.N, k0_off2 (wI (grid0.coords t)) 0 = 1024 * ti t ∧ k0_off2 (wI (grid0.coords t)) 1 = 0
    ∧ k0_off3 (wI (grid0.coords t)) 0 = 1024 * ti t ∧ k0_off3 (wI (grid0.coords t)) 1 = 0 := by decide +kernel

set_option maxRecDepth 100000 in
/-- A head begins at the first tile pair; -/
theorem head_start : ∀ t : Fin grid0.N, t.val % 36 = 0 → ti t = 0 ∧ tj t = 0 := by decide +kernel

set_option maxRecDepth 100000 in
/-- and goes on down a key tile's column, then to the next column's diagonal. -/
theorem head_step : ∀ t : Fin grid0.N, ∀ h : t.val + 1 < grid0.N, ¬ (t.val + 1) % 36 = 0 → hh ⟨t.val + 1, h⟩ = hh t ∧
    ((ti ⟨t.val + 1, h⟩ = tj ⟨t.val + 1, h⟩ ∧ ti t = 7 ∧ tj ⟨t.val + 1, h⟩ = tj t + 1)
      ∨ (¬ ti ⟨t.val + 1, h⟩ = tj ⟨t.val + 1, h⟩ ∧ ti ⟨t.val + 1, h⟩ = ti t + 1 ∧ tj ⟨t.val + 1, h⟩ = tj t)) := by decide +kernel

set_option maxRecDepth 100000 in
/-- Where the blocks lie. -/
theorem ixI : ∀ t : Fin grid0.N,
    (((cfgT (F := Ideal)).win (0 : Fin 11)).index t = ![ti t, hh t] ∧ ((cfgT (F := Ideal)).win (1 : Fin 11)).index t = ![tj t, 8 + hh t]
      ∧ ((cfgT (F := Ideal)).win (2 : Fin 11)).index t = ![tj t, 16 + hh t] ∧ ((cfgT (F := Ideal)).win (3 : Fin 11)).index t = ![ti t, hh t])
    ∧ (((cfgT (F := Ideal)).win (4 : Fin 11)).index t = ![hh t, tj t, 0] ∧ ((cfgT (F := Ideal)).win (5 : Fin 11)).index t = ![hh t, 0, ti t]
      ∧ ((cfgT (F := Ideal)).win (6 : Fin 11)).index t = ![hh t, 0, ti t]) := by decide +kernel

set_option maxRecDepth 100000 in
theorem ixO : ∀ t : Fin grid0.N,
    ((cfgT (F := Ideal)).win (7 : Fin 11)).index t = ![0, hh t] ∧ ((cfgT (F := Ideal)).win (8 : Fin 11)).index t = ![tj t, hh t]
      ∧ ((cfgT (F := Ideal)).win (9 : Fin 11)).index t = ![tj t, hh t] ∧ ((cfgT (F := Ideal)).win (10 : Fin 11)).index t = ![hh t, tj t, 0] := by
  decide +kernel

set_option maxRecDepth 100000 in
/-- The queries' gradient is written back at a head's last tile pair. -/
theorem flush7_at : ∀ t : Fin grid0.N, ((cfgT (F := Ideal)).win (7 : Fin 11)).flushF t = true → ti t = 7 ∧ tj t = 7 := by
  decide +kernel

set_option maxRecDepth 100000 in
theorem cov7 : ((cfgT (F := Ideal)).win (7 : Fin 11)).Covers := by decide +kernel
set_option maxRecDepth 100000 in
theorem cov8 : ((cfgT (F := Ideal)).win (8 : Fin 11)).Covers := by decide +kernel
set_option maxRecDepth 100000 in
theorem cov9 : ((cfgT (F := Ideal)).win (9 : Fin 11)).Covers := by decide +kernel
set_option maxRecDepth 100000 in
theorem cov10 : ((cfgT (F := Ideal)).win (10 : Fin 11)).Covers := by decide +kernel

end Cert.KernelIdeal.Own
-- ==== Proof.KI.Pay.lean ====
/-
  What one grid point adds, in the reals: given a query tile's and a key tile's rows of a head, the weights, the exponents'
  gradient and the tile pair's part of each of the four gradients.
-/
module

public import proofs.«01_k».proof.Proof.KI.Step
public import proofs.«01_k».proof.Proof.Heads
public import Idealize.ShloMosaic.Lib.Pipeline.Value
public import Idealize.ShloMosaic.Lib.ValueIdx

@[expose] public section

noncomputable section

namespace Cert.KernelIdeal.Own

open Cert.KernelIdeal Cert.KernelIdeal.Gen Cert.Own Idealize.ShloMosaic

/-! ## Products of matrices read at an index -/

abbrev dA := dot_S1024x128_S1024x128_S1024x1024_1_1_0_0_n_n
abbrev dB := dot_S1024x1024_S1024x128_S1024x128_1_0_0_1_n_n
abbrev dC := dot_S1024x1024_S1024x128_S1024x128_0_0_1_1_n_n

theorem lA0 (i : S1024x1024.Idx) (q : dA.contr.Idx) : (dA.lhsIdx i q 0).val = (i 0).val := by
  unfold DotDims.lhsIdx
  rw [dif_neg (show ¬(0 : Fin S1024x128.rank) ∈ dA.lhsBatch by decide), dif_pos (show (0 : Fin S1024x128.rank) ∈ dA.lhsNonContracting by decide)]
  rfl
theorem rA0 (i : S1024x1024.Idx) (q : dA.contr.Idx) : (dA.rhsIdx i q 0).val = (i 1).val := by
  unfold DotDims.rhsIdx
  rw [dif_neg (show ¬(0 : Fin S1024x128.rank) ∈ dA.rhsBatch by decide), dif_pos (show (0 : Fin S1024x128.rank) ∈ dA.rhsNonContracting by decide)]
  rfl
theorem lB0 (i : S1024x128.Idx) (q : dB.contr.Idx) : (dB.lhsIdx i q 0).val = (i 0).val := by
  unfold DotDims.lhsIdx
  rw [dif_neg (show ¬(0 : Fin S1024x1024.rank) ∈ dB.lhsBatch by decide), dif_pos (show (0 : Fin S1024x1024.rank) ∈ dB.lhsNonContracting by decide)]
  rfl
theorem rB1 (i : S1024x128.Idx) (q : dB.contr.Idx) : (dB.rhsIdx i q 1).val = (i 1).val := by
  unfold DotDims.rhsIdx
  rw [dif_neg (show ¬(1 : Fin S1024x128.rank) ∈ dB.rhsBatch by decide), dif_pos (show (1 : Fin S1024x128.rank) ∈ dB.rhsNonContracting by decide)]
  rfl
theorem lC1 (i : S1024x128.Idx) (q : dC.contr.Idx) : (dC.lhsIdx i q 1).val = (i 0).val := by
  unfold DotDims.lhsIdx
  rw [dif_neg (show ¬(1 : Fin S1024x1024.rank) ∈ dC.lhsBatch by decide), dif_pos (show (1 : Fin S1024x1024.rank) ∈ dC.lhsNonContracting by decide)]
  rfl
theorem rC1 (i : S1024x128.Idx) (q : dC.contr.Idx) : (dC.rhsIdx i q 1).val = (i 1).val := by
  unfold DotDims.rhsIdx
  rw [dif_neg (show ¬(1 : Fin S1024x128.rank) ∈ dC.rhsBatch by decide), dif_pos (show (1 : Fin S1024x128.rank) ∈ dC.rhsNonContracting by decide)]
  rfl

/-- Rows against rows. -/
theorem matA {φ₁ φ₂ : FTy} (a : FVec Ideal S1024x128 φ₁) (b : FVec Ideal S1024x128 φ₂) (f g : ℕ → ℕ → ℝ)
    (ha : ∀ y, a y = (f (y 0).val (y 1).val : EReal)) (hb : ∀ y, b y = (g (y 0).val (y 1).val : EReal)) (i : S1024x1024.Idx) :
    FloatOps.matmul dA none a b (constant S1024x1024 .f32 0x00000000#32) i
      = ((∑ d ∈ Finset.range 128, f (i 0).val d * g (i 1).val d : ℝ) : EReal) := by
  rw [Ideal.matmul_constant_zero_apply, ← coe_sum_fin, ← Equiv.sum_comp (ValueIdx.contrEquiv1 dA 128 rfl rfl).symm]
  refine Finset.sum_congr rfl fun k _ => ?_
  have hk := ValueIdx.contrEquiv1_symm_val dA 128 rfl rfl k
  rw [ha, hb, ← EReal.coe_mul, lA0, rA0, dA.lhsIdx_val_of_single rfl i _, dA.rhsIdx_val_of_single rfl i _]
  exact congrArg (fun n => ((f (i 0).val n * g (i 1).val n : ℝ) : EReal)) hk

/-- Rows against columns. -/
theorem matB {φ₁ φ₂ : FTy} (a : FVec Ideal S1024x1024 φ₁) (b : FVec Ideal S1024x128 φ₂) (f g : ℕ → ℕ → ℝ)
    (ha : ∀ y, a y = (f (y 0).val (y 1).val : EReal)) (hb : ∀ y, b y = (g (y 0).val (y 1).val : EReal)) (i : S1024x128.Idx) :
    FloatOps.matmul dB none a b (constant S1024x128 .f32 0x00000000#32) i
      = ((∑ x ∈ Finset.range 1024, f (i 0).val x * g x (i 1).val : ℝ) : EReal) := by
  rw [Ideal.matmul_constant_zero_apply, ← coe_sum_fin, ← Equiv.sum_comp (ValueIdx.contrEquiv1 dB 1024 rfl rfl).symm]
  refine Finset.sum_congr rfl fun k _ => ?_
  have hk := ValueIdx.contrEquiv1_symm_val dB 1024 rfl rfl k
  rw [ha, hb, ← EReal.coe_mul, lB0, rB1, dB.lhsIdx_val_of_single rfl i _, dB.rhsIdx_val_of_single rfl i _]
  exact congrArg (fun n => ((f (i 0).val n * g n (i 1).val : ℝ) : EReal)) hk

/-- Columns against columns. -/
theorem matC {φ₁ φ₂ : FTy} (a : FVec Ideal S1024x1024 φ₁) (b : FVec Ideal S1024x128 φ₂) (f g : ℕ → ℕ → ℝ)
    (ha : ∀ y, a y = (f (y 0).val (y 1).val : EReal)) (hb : ∀ y, b y = (g (y 0).val (y 1).val : EReal)) (i : S1024x128.Idx) :
    FloatOps.matmul dC none a b (constant S1024x128 .f32 0x00000000#32) i
      = ((∑ x ∈ Finset.range 1024, f x (i 0).val * g x (i 1).val : ℝ) : EReal) := by
  rw [Ideal.matmul_constant_zero_apply, ← coe_sum_fin, ← Equiv.sum_comp (ValueIdx.contrEquiv1 dC 1024 rfl rfl).symm]
  refine Finset.sum_congr rfl fun k _ => ?_
  have hk := ValueIdx.contrEquiv1_symm_val dC 1024 rfl rfl k
  rw [ha, hb, ← EReal.coe_mul, lC1, rC1, dC.lhsIdx_val_of_single rfl i _, dC.rhsIdx_val_of_single rfl i _]
  exact congrArg (fun n => ((f n (i 0).val * g n (i 1).val : ℝ) : EReal)) hk

/-! ## Layout -/

/-- A row vector spread down the rows, and a column vector along the columns. -/
theorem row_apply (x : FVec Ideal S1x1024 .f32) (i : S1024x1024.Idx) :
    broadcastTo S1024x1024 x broadcasts_S1x1024_S1024x1024 i = x (ix2 1 1024 (by decide) (by decide) 0 (i 1).val) :=
  broadcastTo_apply x _ i _ fun a => match a with
    | ⟨0, _⟩ => rfl
    | ⟨1, _⟩ => Nat.mod_eq_of_lt (i 1).isLt
theorem col_apply (x : FVec Ideal S1024x1 .f32) (i : S1024x1024.Idx) :
    broadcastTo S1024x1024 x broadcasts_S1024x1_S1024x1024 i = x (ix2 1024 1 (by decide) (by decide) (i 0).val 0) :=
  broadcastTo_apply x _ i _ fun a => match a with
    | ⟨0, _⟩ => Nat.mod_eq_of_lt (i 0).isLt
    | ⟨1, _⟩ => rfl

/-- Dropping unit axes. -/
theorem rowCast_apply (x : Vec Ideal S1x1x1024 .f32) (g : ℕ → ℝ) (hx : ∀ y, x y = (g (y 2).val : EReal)) (i : S1x1024.Idx) :
    shapeCast S1x1024 x shapeCasts_S1x1x1024_S1x1024 i = (g (i 1).val : EReal) := by
  refine (shapeCast_apply x _ i (fun a => match a with | ⟨0, _⟩ => ⟨0, Nat.one_pos⟩ | ⟨1, _⟩ => ⟨0, Nat.one_pos⟩ | ⟨2, _⟩ => ⟨(i 1).val, (i 1).isLt⟩) ?_).trans (hx _)
  rw [Shape.rowMajor_val_two, Shape.rowMajor_val_three]
  have h0 : (i 0).val < 1 := (i 0).isLt
  show (0 * 1 + 0) * 1024 + (i 1).val = (i 0).val * 1024 + (i 1).val
  omega
theorem colCast_apply (x : Vec Ideal S1x1024x1 .f32) (g : ℕ → ℝ) (hx : ∀ y, x y = (g (y 1).val : EReal)) (i : S1024x1.Idx) :
    shapeCast S1024x1 x shapeCasts_S1x1024x1_S1024x1 i = (g (i 0).val : EReal) := by
  refine (shapeCast_apply x _ i (fun a => match a with | ⟨0, _⟩ => ⟨0, Nat.one_pos⟩ | ⟨1, _⟩ => ⟨(i 0).val, (i 0).isLt⟩ | ⟨2, _⟩ => ⟨0, Nat.one_pos⟩) ?_).trans (hx _)
  rw [Shape.rowMajor_val_two, Shape.rowMajor_val_three]
  have h0 : (i 1).val < 1 := (i 1).isLt
  show (0 * 1024 + (i 0).val) * 1 + 0 = (i 0).val * 1 + (i 1).val
  omega
theorem colUncast_apply (x : FVec Ideal S1024x1 .f32) (i : S1x1024x1.Idx) :
    shapeCast S1x1024x1 x shapeCasts_S1024x1_S1x1024x1 i = x (ix2 1024 1 (by decide) (by decide) (i 1).val 0) := by
  refine shapeCast_apply x _ i _ ?_
  rw [Shape.rowMajor_val_two, Shape.rowMajor_val_three]
  have h0 : (i 0).val < 1 := (i 0).isLt
  have h1 : (i 1).val < 1024 := (i 1).isLt
  have h2 : (i 2).val < 1 := (i 2).isLt
  show (i 1).val % 1024 * 1 + 0 % 1 = ((i 0).val * 1024 + (i 1).val) * 1 + (i 2).val
  omega
theorem sameT (x : FVec Ideal S1024x128 .f32) (i : S1024x128.Idx) : shapeCast S1024x128 x shapeCasts_S1024x128_S1024x128 i = x i :=
  shapeCast_apply x _ i i rfl
theorem sameC (x : FVec Ideal S1024x1 .f32) (i : S1024x1.Idx) : shapeCast S1024x1 x shapeCasts_S1024x1_S1024x1 i = x i :=
  shapeCast_apply x _ i i rfl
theorem newCol_apply (x : FVec Ideal S1024 .f32) (i : S1024x1.Idx) :
    shapeCast S1024x1 x shapeCasts_S1024_S1024x1 i = x (fun a => match a with | ⟨0, _⟩ => ⟨(i 0).val, (i 0).isLt⟩) := by
  refine shapeCast_apply x _ i _ ?_
  rw [Shape.rowMajor_val_one, Shape.rowMajor_val_two]
  have h1 : (i 1).val < 1 := (i 1).isLt
  show (i 0).val = (i 0).val * 1 + (i 1).val
  omega
/-- A row's sum. -/
theorem rowSum_apply (x : FVec Ideal S1024x1024 .f32) (f : ℕ → ℕ → ℝ) (hx : ∀ y, x y = (f (y 0).val (y 1).val : EReal)) (i : S1024.Idx) :
    multiReduction .add [1] S1024 x 0x00000000#32 reduces_S1024x1024_S1024 (.inl rfl) rfl i
      = ((∑ k ∈ Finset.range 1024, f (i 0).val k : ℝ) : EReal) := by
  refine (Ideal.multiReduction_add_single x _ _ _ _ i).trans ?_
  refine Eq.trans (Finset.sum_congr rfl fun k _ => hx _) ?_
  exact coe_sum_fin 1024 fun k => f (i 0).val k

/-! ## The payloads -/

/-- The blocks hold the rows of query tile `i` and key tile `j` of a head. -/
structure Rd (b : Blk Ideal) (H : Head) (M : ℕ → ℝ) (i j : ℕ) : Prop where
  q : ∀ y, b.q y = (H.q (1024 * i + (y 0).val) (y 1).val : EReal)
  k : ∀ y, b.k y = (H.k (1024 * j + (y 0).val) (y 1).val : EReal)
  v : ∀ y, b.v y = (H.v (1024 * j + (y 0).val) (y 1).val : EReal)
  dO : ∀ y, b.dO y = (H.o (1024 * i + (y 0).val) (y 1).val : EReal)
  c : ∀ y, b.c y = (H.c (1024 * j + (y 1).val) : EReal)
  lse : ∀ y, b.lse y = (H.lse M (1024 * i + (y 2).val) : EReal)
  dl : ∀ y, b.dl y = (H.de (1024 * i + (y 2).val) : EReal)

theorem named_log2e : Named.named (F := Ideal) κ "log2e" (φ := .f32) 0x3FB8AA3B#32 = (((Real.log 2)⁻¹ : ℝ) : EReal) :=
  IdealRules.named_const.ideal_named_scalar _ _ _ _ rfl
theorem named_scale : Named.named (F := Ideal) κ "scale_log2e" (φ := .f32) 0x3E0293EE#32
    = (((11863283 / 134217728) * (Real.log 2)⁻¹ : ℝ) : EReal) :=
  IdealRules.named_const.ideal_named_scalar _ _ _ _ rfl

/-- The queries scaled for powers of two. -/
def scaled (q : Vec Ideal S1024x128 .f32) : FVec Ideal S1024x128 .bf16 :=
  truncf .bf16 (mulf (q : FVec Ideal S1024x128 .f32) (broadcast S1024x128 (Named.named κ "scale_log2e" 0x3E0293EE#32))) bitsLt_bf16_f32
theorem scaled_apply (q : Vec Ideal S1024x128 .f32) (z : S1024x128.Idx) :
    scaled q z = (q z * (((11863283 / 134217728) * (Real.log 2)⁻¹ : ℝ) : EReal) : EReal) :=
  congrArg (fun w : EReal => (q z * w : EReal)) named_scale

variable {b : Blk Ideal} {H : Head} {M : ℕ → ℝ} {i j : ℕ} (R : Rd b H M i j)
include R

/-- The weights of queries not before the key. -/
theorem pay19_apply (hi : i < 8) (y : S1024x1024.Idx) (hy : 1024 * j + (y 0).val ≤ 1024 * i + (y 1).val) :
    k0_pay19 b.q b.k b.c b.lse y = (H.p (1024 * i + (y 1).val) (1024 * j + (y 0).val) : EReal) := by
  have h1 : (y 1).val < 1024 := (y 1).isLt
  have h0 : (y 0).val < 1024 := (y 0).isLt
  rw [← H.p_exp2 M (show 1024 * i + (y 1).val < 8192 by omega) hy]
  have e : k0_pay19 b.q b.k b.c b.lse y = Ideal.exp2 (
    (FloatOps.matmul dA none (truncf .bf16 (b.k : FVec Ideal S1024x128 .f32) bitsLt_bf16_f32) (scaled b.q) (constant S1024x1024 .f32 0x00000000#32) y : EReal)
    - (broadcastTo S1024x1024 (fun z => (shapeCast S1024x1 b.c shapeCasts_S1x1024x1_S1024x1 z * Named.named (F := Ideal) κ "log2e" (φ := .f32) 0x3FB8AA3B#32 : EReal)) broadcasts_S1024x1_S1024x1024 y : EReal)
    - (broadcastTo S1024x1024 (fun z => (shapeCast S1x1024 b.lse shapeCasts_S1x1x1024_S1x1024 z * Named.named (F := Ideal) κ "log2e" (φ := .f32) 0x3FB8AA3B#32 : EReal)) broadcasts_S1x1024_S1024x1024 y : EReal)) := rfl
  rw [e, row_apply, col_apply, rowCast_apply b.lse (fun n => H.lse M (1024 * i + n)) R.lse, colCast_apply b.c (fun n => H.c (1024 * j + n)) R.c, named_log2e,
    matA (truncf .bf16 (b.k : FVec Ideal S1024x128 .f32) bitsLt_bf16_f32) (scaled b.q) (fun n d => H.k (1024 * j + n) d) (fun n d => H.q (1024 * i + n) d * (11863283 / 134217728 * (Real.log 2)⁻¹)) R.k
      (fun z => by rw [scaled_apply, R.q]; exact (EReal.coe_mul _ _).symm),
    ← EReal.coe_mul, ← EReal.coe_mul, ← EReal.coe_sub, ← EReal.coe_sub, Ideal.exp2_coe]
  show ((Real.rpow 2 ((∑ d ∈ Finset.range 128, _) - H.c (1024 * j + (y 0).val % 1024) * (Real.log 2)⁻¹
    - H.lse M (1024 * i + (y 1).val % 1024) * (Real.log 2)⁻¹) : ℝ) : EReal) = _
  rw [Nat.mod_eq_of_lt h0, Nat.mod_eq_of_lt h1]

/-- The same with the mask, on the diagonal. -/
theorem pay23_apply (hi : i < 8) (hij : i = j) (y : S1024x1024.Idx) :
    k0_pay23 b.q b.k b.c b.lse y = (H.p (1024 * i + (y 1).val) (1024 * j + (y 0).val) : EReal) := by
  have h1 : (y 1).val < 1024 := (y 1).isLt
  have h0 : (y 0).val < 1024 := (y 0).isLt
  show Scalar.select (IntOp.cmpi .sle (iota .tc S1024x1024 32 [0] iota_S1024x1024_d0_w32 y) (iota .tc S1024x1024 32 [1] iota_S1024x1024_d1_w32 y))
    (k0_pay19 b.q b.k b.c b.lse y) (Ideal.ofBits .f32 0x00000000#32) = _
  rw [iota_single_apply, iota_single_apply, cmpi_sle (by omega) (by omega), Ideal.ofBits_zero_f32]
  split
  · exact pay19_apply R hi y (by omega)
  · rw [H.p_of_lt (by omega)]; rfl

/-- The weights' gradient. -/
theorem pay21_apply (y : S1024x1024.Idx) :
    k0_pay21 b.dO b.v y = (H.dp (1024 * i + (y 1).val) (1024 * j + (y 0).val) : EReal) := by
  refine (matA b.v b.dO (fun n d => H.v (1024 * j + n) d) (fun n d => H.o (1024 * i + n) d) R.v R.dO y).trans ?_
  exact congrArg Real.toEReal (Finset.sum_congr rfl fun d _ => mul_comm _ _)

/-- The exponents' gradient from the weights, -/
theorem ds_apply (p : FVec Ideal S1024x1024 .f32) (hp : ∀ y, p y = (H.p (1024 * i + (y 1).val) (1024 * j + (y 0).val) : EReal)) (y : S1024x1024.Idx) :
    k0_pay5 p (k0_pay21 b.dO b.v) b.dl y = (H.ds (1024 * i + (y 1).val) (1024 * j + (y 0).val) : EReal) := by
  have h1 : (y 1).val < 1024 := (y 1).isLt
  have e : k0_pay5 p (k0_pay21 b.dO b.v) b.dl y = ((p y : EReal) * ((k0_pay21 b.dO b.v y : EReal)
    - (broadcastTo S1024x1024 (shapeCast S1x1024 b.dl shapeCasts_S1x1x1024_S1x1024) broadcasts_S1x1024_S1024x1024 y : EReal)) : EReal) := rfl
  rw [e, row_apply, rowCast_apply b.dl (fun n => H.de (1024 * i + n)) R.dl, hp, pay21_apply R, ← EReal.coe_sub, ← EReal.coe_mul]
  show ((_ * (_ - H.de (1024 * i + (y 1).val % 1024)) : ℝ) : EReal) = _
  rw [Nat.mod_eq_of_lt h1]
  rfl
omit R in
/-- however the body spells it. -/
theorem pay10_eq (p : FVec Ideal S1024x1024 .f32) : k0_pay10 b.dO p b.v b.dl = k0_pay5 p (k0_pay21 b.dO b.v) b.dl := rfl

omit R in
theorem pay11_eq (p : FVec Ideal S1024x1024 .f32) (x : Vec Ideal S1024x1 .f32) :
    k0_pay11 b.dO p b.v b.dl x = k0_pay6 p (k0_pay21 b.dO b.v) b.dl x := rfl
omit R in
theorem pay13_eq (p : FVec Ideal S1024x1024 .f32) (x : Vec Ideal S1024x128 .f32) :
    k0_pay13 b.dO (k0_pay22 b.q) p b.v b.dl x = k0_pay8 (k0_pay18 b.q) p (k0_pay21 b.dO b.v) b.dl x := rfl
omit R in
theorem pay14_eq (p : FVec Ideal S1024x1024 .f32) (x : Vec Ideal S1024x128 .f32) :
    k0_pay14 b.dO b.k p b.v b.dl x = k0_pay9 b.k p (k0_pay21 b.dO b.v) b.dl x := rfl

/-- What the point adds to the values' gradient, -/
theorem dv_apply (p : FVec Ideal S1024x1024 .f32) (hp : ∀ y, p y = (H.p (1024 * i + (y 1).val) (1024 * j + (y 0).val) : EReal))
    (x : Vec Ideal S1024x128 .f32) (y : S1024x128.Idx) :
    shapeCast S1024x128 (addf x (FloatOps.matmul (φ₂ := .bf16) dB none (truncf .bf16 p bitsLt_bf16_f32) (b.dO : FVec Ideal S1024x128 .bf16) (constant S1024x128 .f32 0x00000000#32)))
      shapeCasts_S1024x128_S1024x128 y = (x y + (H.tv i j (y 0).val (y 1).val : ℝ) : EReal) := by
  rw [sameT]
  refine congrArg (fun w : EReal => (x y + w : EReal)) ?_
  exact matB (φ₁ := .bf16) p b.dO (fun n m => H.p (1024 * i + m) (1024 * j + n)) (fun n d => H.o (1024 * i + n) d) hp R.dO y
/-- to the gates', -/
theorem dc_apply (p : FVec Ideal S1024x1024 .f32) (hp : ∀ y, p y = (H.p (1024 * i + (y 1).val) (1024 * j + (y 0).val) : EReal))
    (x : Vec Ideal S1024x1 .f32) (y : S1024x1.Idx) :
    k0_pay6 p (k0_pay21 b.dO b.v) b.dl x y = (x y - (H.tc i j (y 0).val : ℝ) : EReal) := by
  refine (sameC (subf (x : FVec Ideal S1024x1 .f32) (shapeCast S1024x1 (multiReduction .add [1] S1024 (k0_pay5 p (k0_pay21 b.dO b.v) b.dl) 0x00000000#32
    reduces_S1024x1024_S1024 (.inl rfl) rfl) shapeCasts_S1024_S1024x1)) y).trans (congrArg (fun w : EReal => (x y - w : EReal)) ?_)
  rw [newCol_apply, rowSum_apply _ (fun n m => H.ds (1024 * i + m) (1024 * j + n)) (ds_apply R p hp)]
  rfl
/-- to the keys', -/
theorem dk_apply (p : FVec Ideal S1024x1024 .f32) (hp : ∀ y, p y = (H.p (1024 * i + (y 1).val) (1024 * j + (y 0).val) : EReal))
    (x : Vec Ideal S1024x128 .f32) (y : S1024x128.Idx) :
    k0_pay8 (k0_pay18 b.q) p (k0_pay21 b.dO b.v) b.dl x y = (x y + (H.tk i j (y 0).val (y 1).val : ℝ) : EReal) := by
  refine (sameT (addf (x : FVec Ideal S1024x128 .f32) (FloatOps.matmul dB none (k0_pay7 p (k0_pay21 b.dO b.v) b.dl) (k0_pay18 b.q)
    (constant S1024x128 .f32 0x00000000#32))) y).trans (congrArg (fun w : EReal => (x y + w : EReal)) ?_)
  refine matB (φ₁ := .bf16) (φ₂ := .bf16) (k0_pay5 p (k0_pay21 b.dO b.v) b.dl) (k0_pay18 b.q) (fun n m => H.ds (1024 * i + m) (1024 * j + n))
    (fun n d => H.q (1024 * i + n) d * sc) (ds_apply R p hp) (fun z => ?_) y
  show b.q z * Ideal.ofBits .f32 0x3DB504F3#32 = _
  rw [lit_sc, R.q, EReal.coe_mul]
/-- and to the queries'. -/
theorem dq_apply (p : FVec Ideal S1024x1024 .f32) (hp : ∀ y, p y = (H.p (1024 * i + (y 1).val) (1024 * j + (y 0).val) : EReal))
    (x : Vec Ideal S1024x128 .f32) (y : S1024x128.Idx) :
    k0_pay9 b.k p (k0_pay21 b.dO b.v) b.dl x y = (x y + (H.tq i j (y 0).val (y 1).val : ℝ) : EReal) := by
  refine congrArg₂ (fun u w : EReal => u + w) (sameT _ y) ?_
  refine matC (φ₁ := .bf16) (φ₂ := .bf16) (k0_pay5 p (k0_pay21 b.dO b.v) b.dl) (fun z => b.k z * Ideal.ofBits .f32 0x3DB504F3#32)
    (fun n m => H.ds (1024 * i + m) (1024 * j + n)) (fun n d => H.k (1024 * j + n) d * sc) (ds_apply R p hp) (fun z => ?_) y
  rw [lit_sc, R.k, EReal.coe_mul]

end Cert.KernelIdeal.Own
-- ==== Proof.KI.Blocks.lean ====
/-
  The blocks a point is given are the rows of its query tile and key tile of its head.
-/
module

public import proofs.«01_k».proof.Proof.KI.Sched
public import proofs.«01_k».proof.Proof.KI.Pay

@[expose] public section

noncomputable section

namespace Cert.KernelIdeal.Own

open Cert.KernelIdeal Cert.KernelIdeal.Gen Cert.Own
open Idealize.ShloMosaic Idealize.ShloMosaic.TcCoe

section Emb

variable (t : Fin grid0.N)

/-- A coordinate of an element of a block in its array. -/
theorem emb_val (w : Fin 11) (hk : ((cfgT (F := Ideal)).win w).kind = .blocked) (y) (a) :
    ((((cfgT (F := Ideal)).win w).rect t).emb y a : ℕ) = ((cfgT (F := Ideal)).win w).index t a * ((cfgT (F := Ideal)).win w).size a + y a :=
  Pipeline.Window.rect_emb_val _ t y a hk

end Emb

variable {c : Dev nD} (V : Arrs Ideal c) (t : Fin grid0.N)
variable (X0 : S8192x14336.Idx → ℝ) (X1 : S8192x8.Idx → ℝ) (X2 : S8192x1024.Idx → ℝ) (M : ℕ → ℕ → ℝ)

/-- The arrays the launch reads. -/
structure Reads : Prop where
  u : ∀ i : S8192x14336.Idx, V main_arg0 i = (X0 i : EReal)
  o : ∀ i : S8192x1024.Idx, V main_arg2 i = (X2 i : EReal)
  c : ∀ i : S8x8192x1.Idx, V main_v49 i = ((hd X0 X1 X2 (i 0).val).c (i 1).val : EReal)
  lse : ∀ i : S8x1x8192.Idx, V main_v50 i = ((hd X0 X1 X2 (i 0).val).lse (M (i 0).val) (i 2).val : EReal)
  dl : ∀ i : S8x1x8192.Idx, V main_v56 i = ((hd X0 X1 X2 (i 0).val).de (i 2).val : EReal)

variable {V X0 X1 X2 M} (R : Reads V X0 X1 X2 M)
include R

theorem rd : Rd (bOf V t) (hd X0 X1 X2 (hh t)) (M (hh t)) (ti t) (tj t) where
  q y := by
    refine (R.u ((((cfgT (F := Ideal)).win (0 : Fin 11)).rect t).emb y)).trans (congrArg Real.toEReal (uAt_eq X0 _ ?_ ?_))
    · rw [emb_val t 0 rfl, (ixI t).1.1]; exact congrArg (· + (y 0).val) (Nat.mul_comm _ _)
    · rw [emb_val t 0 rfl, (ixI t).1.1]; exact congrArg (· + (y 1).val) (Nat.mul_comm _ _)
  k y := by
    refine (R.u ((((cfgT (F := Ideal)).win (1 : Fin 11)).rect t).emb y)).trans (congrArg Real.toEReal (uAt_eq X0 _ ?_ ?_))
    · rw [emb_val t 1 rfl, (ixI t).1.2.1]; exact congrArg (· + (y 0).val) (Nat.mul_comm _ _)
    · rw [emb_val t 1 rfl, (ixI t).1.2.1]
      show (8 + hh t) * 128 + (y 1).val = 1024 + 128 * hh t + (y 1).val
      omega
  v y := by
    refine (R.u ((((cfgT (F := Ideal)).win (2 : Fin 11)).rect t).emb y)).trans (congrArg Real.toEReal (uAt_eq X0 _ ?_ ?_))
    · rw [emb_val t 2 rfl, (ixI t).1.2.2.1]; exact congrArg (· + (y 0).val) (Nat.mul_comm _ _)
    · rw [emb_val t 2 rfl, (ixI t).1.2.2.1]
      show (16 + hh t) * 128 + (y 1).val = 2048 + 128 * hh t + (y 1).val
      omega
  dO y := by
    refine (R.o ((((cfgT (F := Ideal)).win (3 : Fin 11)).rect t).emb y)).trans (congrArg Real.toEReal (oAt_eq X2 _ ?_ ?_))
    · rw [emb_val t 3 rfl, (ixI t).1.2.2.2]; exact congrArg (· + (y 0).val) (Nat.mul_comm _ _)
    · rw [emb_val t 3 rfl, (ixI t).1.2.2.2]; exact congrArg (· + (y 1).val) (Nat.mul_comm _ _)
  c y := by
    refine (R.c ((((cfgT (F := Ideal)).win (4 : Fin 11)).rect t).emb y)).trans ?_
    have e0 : (((((cfgT (F := Ideal)).win (4 : Fin 11)).rect t).emb y (0 : Fin 3)) : ℕ) = hh t := by
      refine (emb_val t 4 rfl y (0 : Fin 3)).trans ?_
      rw [(ixI t).2.1]
      have h : (y 0).val < 1 := (y 0).isLt
      show hh t * 1 + (y 0).val = hh t
      omega
    have e1 : (((((cfgT (F := Ideal)).win (4 : Fin 11)).rect t).emb y (1 : Fin 3)) : ℕ) = 1024 * tj t + (y 1).val := by
      refine (emb_val t 4 rfl y (1 : Fin 3)).trans ?_
      rw [(ixI t).2.1]
      exact congrArg (· + (y 1).val) (Nat.mul_comm _ _)
    exact congrArg₂ (fun n m => (((hd X0 X1 X2 n).c m : ℝ) : EReal)) e0 e1
  lse y := by
    refine (R.lse ((((cfgT (F := Ideal)).win (5 : Fin 11)).rect t).emb y)).trans ?_
    have e0 : (((((cfgT (F := Ideal)).win (5 : Fin 11)).rect t).emb y (0 : Fin 3)) : ℕ) = hh t := by
      refine (emb_val t 5 rfl y (0 : Fin 3)).trans ?_
      rw [(ixI t).2.2.1]
      have h : (y 0).val < 1 := (y 0).isLt
      show hh t * 1 + (y 0).val = hh t
      omega
    have e1 : (((((cfgT (F := Ideal)).win (5 : Fin 11)).rect t).emb y (2 : Fin 3)) : ℕ) = 1024 * ti t + (y 2).val := by
      refine (emb_val t 5 rfl y (2 : Fin 3)).trans ?_
      rw [(ixI t).2.2.1]
      exact congrArg (· + (y 2).val) (Nat.mul_comm _ _)
    exact congrArg₂ (fun n m => (((hd X0 X1 X2 n).lse (M n) m : ℝ) : EReal)) e0 e1
  dl y := by
    refine (R.dl ((((cfgT (F := Ideal)).win (6 : Fin 11)).rect t).emb y)).trans ?_
    have e0 : (((((cfgT (F := Ideal)).win (6 : Fin 11)).rect t).emb y (0 : Fin 3)) : ℕ) = hh t := by
      refine (emb_val t 6 rfl y (0 : Fin 3)).trans ?_
      rw [(ixI t).2.2.2]
      have h : (y 0).val < 1 := (y 0).isLt
      show hh t * 1 + (y 0).val = hh t
      omega
    have e1 : (((((cfgT (F := Ideal)).win (6 : Fin 11)).rect t).emb y (2 : Fin 3)) : ℕ) = 1024 * ti t + (y 2).val := by
      refine (emb_val t 6 rfl y (2 : Fin 3)).trans ?_
      rw [(ixI t).2.2.2]
      exact congrArg (· + (y 2).val) (Nat.mul_comm _ _)
    exact congrArg₂ (fun n m => (((hd X0 X1 X2 n).de m : ℝ) : EReal)) e0 e1

end Cert.KernelIdeal.Own
-- ==== Proof.KI.Host.lean ====
/-
  What the arrays hold when the launch begins, on real arguments.
-/
module

public import proofs.«01_k».proof.Proof.KI.Run
public import proofs.«01_k».proof.Proof.KI.HostVal
public import proofs.«01_k».proof.Proof.KI.Blocks

@[expose] public section

noncomputable section

namespace Cert.KernelIdeal.Own

open Cert.KernelIdeal Cert.KernelIdeal.Gen Cert.Own
open Idealize.ShloMosaic Idealize.ShloMosaic.TcCoe
open Cert.ReferenceIdeal.Read Cert.ReferenceIdeal.Own

section Lines

variable (W : Valuation τ sig (Elt Ideal))

/-- After the lines up to the mask; -/
abbrev mid : Valuation τ sig (Elt Ideal) := StableHlo.after hostOps0_1 (StableHlo.after hostOps0 W)

theorem mid_L : mid W (Proc.devRef .tc main_v22) = val_main_v22_0 (F := Ideal) (W (Proc.devRef .tc main_arg0)) (W (Proc.devRef .tc main_arg1)) := by
  simp only [mid, hostOps0, hostOps0_1, StableHlo.TRef.nullary, StableHlo.TRef.ternary, StableHlo.TRef.unary, StableHlo.TRef.toBuf, StableHlo.TRef.ofBuf, cast_eq]
  after_results_simp <;> rfl

theorem mid_v : mid W (Proc.devRef .tc main_v2) = val_main_v2 (F := Ideal) (W (Proc.devRef .tc main_arg0)) := by
  simp only [mid, hostOps0, hostOps0_1, StableHlo.TRef.nullary, StableHlo.TRef.ternary, StableHlo.TRef.unary, StableHlo.TRef.toBuf, StableHlo.TRef.ofBuf, cast_eq]
  after_results_simp <;> rfl

theorem mid_c : mid W (Proc.devRef .tc main_arg1) = W (Proc.devRef .tc main_arg1) := by
  simp only [mid, hostOps0, hostOps0_1, StableHlo.TRef.nullary, StableHlo.TRef.ternary, StableHlo.TRef.unary, StableHlo.TRef.toBuf, StableHlo.TRef.ofBuf, cast_eq]
  after_results_simp <;> rfl

theorem mid_o : mid W (Proc.devRef .tc main_arg2) = W (Proc.devRef .tc main_arg2) := by
  simp only [mid, hostOps0, hostOps0_1, StableHlo.TRef.nullary, StableHlo.TRef.ternary, StableHlo.TRef.unary, StableHlo.TRef.toBuf, StableHlo.TRef.ofBuf, cast_eq]
  after_results_simp <;> rfl

/-- The output from the logits and the values. -/
def outOf (L : FVec Ideal S8x8192x8192 .f32) (v : FVec Ideal S8192x1024 .f32) : FVec Ideal S8192x1024 .f32 :=
  shapeCast S8192x1024 (transpose S8192x8x128 [2, 0, 1] (Host.dotGeneral dot_S8192x8x128_S8x8192x8192_S8x128x8192_0_2_2_1_1_0 none
    (shapeCast S8192x8x128 v shapeCasts_S8192x1024_S8192x8x128)
    (Host.divf (expOf L) (broadcastInDim S8x8192x8192 ![0, 1, 2] bcast_S8x8192x1_S8x8192x8192_0_1_2 (broadcastInDim S8x8192x1 ![0, 1] bcast_S8x8192_S8x8192x1_0_1
      (Host.reduceAdd (expOf L) (constant S_ .f32 0x00000000#32) reducesTo_S8x8192x8192_S8x8192_d2 h_S_)))))
    transposes_S8x128x8192_S8192x8x128_2_0_1) shapeCasts_S8192x8x128_S8192x1024
where
  /-- The shifted exponentials. -/
  expOf (L : FVec Ideal S8x8192x8192 .f32) : FVec Ideal S8x8192x8192 .f32 :=
    Host.exp (subf L (broadcastInDim S8x8192x8192 ![0, 1, 2] bcast_S8x8192x1_S8x8192x8192_0_1_2 (broadcastInDim S8x8192x1 ![0, 1] bcast_S8x8192_S8x8192x1_0_1
      (maximumf (broadcastInDim S8x8192 ![] bcast_S_S8x8192 (constant S_ .f32 0xFF800000#32))
        (Host.reduce FloatOps.maximumf L (constant S_ .f32 0xFF800000#32) reducesTo_S8x8192x8192_S8x8192_d2 h_S_)))))

/-- and after the rest. -/
theorem end_c : StableHlo.after hostOps0_2 W (Proc.devRef .tc main_v49)
    = (broadcastInDim S8x8192x1 ![0, 1] bcast_S8x8192_S8x8192x1_0_1 (transpose S8x8192 [1, 0] (W (Proc.devRef .tc main_arg1)) transposes_S8192x8_S8x8192_1_0)) := by
  simp only [hostOps0_2]
  after_results_simp <;> rfl

theorem end_lse : StableHlo.after hostOps0_2 W (Proc.devRef .tc main_v50)
    = (broadcastInDim S8x1x8192 ![0, 2] bcast_S8x8192_S8x1x8192_0_2 (lseOf (W (Proc.devRef .tc main_v22))
        (transpose S8x8192 [1, 0] (W (Proc.devRef .tc main_arg1)) transposes_S8192x8_S8x8192_1_0))) := by
  simp only [hostOps0_2]
  after_results_simp <;> rfl

theorem end_dl : StableHlo.after hostOps0_2 W (Proc.devRef .tc main_v56)
    = (broadcastInDim S8x1x8192 ![0, 2] bcast_S8x8192_S8x1x8192_0_2 (transpose S8x8192 [1, 0]
        (deOf (W (Proc.devRef .tc main_arg2)) (outOf (W (Proc.devRef .tc main_v22)) (W (Proc.devRef .tc main_v2)))) transposes_S8192x8_S8x8192_1_0)) := by
  simp only [hostOps0_2]
  after_results_simp <;> rfl

theorem after_both (l l' : List (HloOp τ sig (Elt Ideal))) : StableHlo.after (l ++ l') W = StableHlo.after l' (StableHlo.after l W) := by
  induction l generalizing W with
  | nil => rfl
  | cons o l ih => exact ih _

theorem lines_split : StableHlo.after (lines (F := Ideal)).flatten W = StableHlo.after hostOps0_2 (mid W) := by
  have e : (lines (F := Ideal)).flatten = hostOps0 ++ (hostOps0_1 ++ hostOps0_2) := rfl
  rw [e, after_both, after_both]

end Lines

variable (X0 : S8192x14336.Idx → ℝ) (X1 : S8192x8.Idx → ℝ) (X2 : S8192x1024.Idx → ℝ)

/-- A row of the queries, from a matrix by heads. -/
theorem bcast_row (x : FVec Ideal S8x8192 .f32) (i : S8x1x8192.Idx) :
    broadcastInDim S8x1x8192 ![0, 2] bcast_S8x8192_S8x1x8192_0_2 x i = x (idx_main_v13 i) :=
  broadcastInDim_apply _ bcast_S8x8192_S8x1x8192_0_2 x i (idx_main_v13 i) (fun a => match a with
    | ⟨0, _⟩ => by show (i 0).val = if (8 : Nat) = 1 then 0 else (i 0).val; rw [if_neg (by decide)]
    | ⟨1, _⟩ => by show (i 2).val = if (8192 : Nat) = 1 then 0 else (i 2).val; rw [if_neg (by decide)])

theorem swap_heads (x : FVec Ideal S8192x8 .f32) (i : S8x8192.Idx) :
    transpose S8x8192 [1, 0] x transposes_S8192x8_S8x8192_1_0 i = x (idx_main_v8 i) :=
  transpose_apply [1, 0] x transposes_S8192x8_S8x8192_1_0 i (idx_main_v8 i) (fun b => match b with
    | ⟨0, _⟩ => rfl
    | ⟨1, _⟩ => rfl)

/-- The lines' last three results from real arguments. -/
theorem lines_c (W : Valuation τ sig (Elt Ideal)) (h1 : W (Proc.devRef .tc main_arg1) = a1 X1) :
    StableHlo.after (lines (F := Ideal)).flatten W (Proc.devRef .tc main_v49) = val_main_v9 (F := Ideal) (a1 X1) := by
  rw [lines_split, end_c, mid_c, h1]
  rfl

theorem lines_lse (W : Valuation τ sig (Elt Ideal)) (h0 : W (Proc.devRef .tc main_arg0) = a0 X0)
    (h1 : W (Proc.devRef .tc main_arg1) = a1 X1) :
    StableHlo.after (lines (F := Ideal)).flatten W (Proc.devRef .tc main_v50)
      = broadcastInDim S8x1x8192 ![0, 2] bcast_S8x8192_S8x1x8192_0_2 (lseOf (refL X0 X1) (refC X1)) := by
  rw [lines_split, end_lse, mid_c, mid_L, h0, h1]
  rfl

theorem lines_dl (W : Valuation τ sig (Elt Ideal)) (h0 : W (Proc.devRef .tc main_arg0) = a0 X0)
    (h1 : W (Proc.devRef .tc main_arg1) = a1 X1) (h2 : W (Proc.devRef .tc main_arg2) = a2 X2) :
    StableHlo.after (lines (F := Ideal)).flatten W (Proc.devRef .tc main_v56)
      = broadcastInDim S8x1x8192 ![0, 2] bcast_S8x8192_S8x1x8192_0_2 (transpose S8x8192 [1, 0]
          (deOf (refW X2) (refO X0 X1)) transposes_S8192x8_S8x8192_1_0) := by
  have ho : ∀ x0 x1, outOf (val_main_v22_0 (F := Ideal) x0 x1) (val_main_v2 (F := Ideal) x0) = val_main_v54 (F := Ideal) x0 x1 := fun _ _ => rfl
  rw [lines_split, end_dl, mid_o, mid_L, mid_v, ho, h0, h1, h2]

/-- What the launch reads. -/
theorem reads (m : (ℓ : Loc nD τ sig) → Buf (Elt Ideal) ℓ) (c : Dev nD)
    (h0 : m ((c.tc : Thread nD τ).loc main_arg0) = a0 X0) (h1 : m ((c.tc : Thread nD τ).loc main_arg1) = a1 X1)
    (h2 : m ((c.tc : Thread nD τ).loc main_arg2) = a2 X2) : Reads (atL m c) X0 X1 X2 (M X0 X1) where
  u i := (congrFun ((at0 m c).trans h0) i)
  o i := (congrFun ((at2 m c).trans h2) i)
  c i := by
    have e : atL m c main_v49 = _ := lines_c X1 (fun b => m (c, b)) h1
    rw [e]
    exact (val_main_v9_apply _ _).trans (v8_val X0 X1 X2 _)
  lse i := by
    have e : atL m c main_v50 = _ := lines_lse X0 X1 (fun b => m (c, b)) h0 h1
    rw [e]
    exact (bcast_row _ _).trans (lseOf_val X0 X1 X2 _)
  dl i := by
    have e : atL m c main_v56 = _ := lines_dl X0 X1 X2 (fun b => m (c, b)) h0 h1 h2
    rw [e]
    exact (bcast_row _ _).trans ((swap_heads _ _).trans (deOf_val X0 X1 X2 _))

end Cert.KernelIdeal.Own
-- ==== Proof.KI.Accum.lean ====
/-
  What one point adds to the sums, and what the sums are after each point.
-/
module

public import proofs.«01_k».proof.Proof.KI.Blocks

@[expose] public section

noncomputable section

namespace Cert.KernelIdeal.Own

open Cert.KernelIdeal Cert.KernelIdeal.Gen Cert.Own
open Idealize.ShloMosaic Idealize.ShloMosaic.TcCoe
open Finset

/-- Adding to the rows of one query tile. -/
theorem put_rows {off : Fin 2 → ℕ} (h : ∀ a, off a + S1024x128.size a ≤ S8192x128.size a) {i : ℕ} (h0 : off 0 = 1024 * i) (h1 : off 1 = 0)
    (X : S8192x128.Idx → EReal) (w : S1024x128.Idx → EReal) (g : ℕ → ℕ → ℝ)
    (hw : ∀ x, w x = X ((Rect.unit (s := S8192x128) off S1024x128.size h).emb x) + ((g (x 0).val (x 1).val : ℝ) : EReal)) (y : S8192x128.Idx) :
    putAt (Rect.unit (s := S8192x128) off S1024x128.size h) X w y
      = X y + ((if (y 0).val / 1024 = i then g ((y 0).val % 1024) (y 1).val else 0 : ℝ) : EReal) := by
  have hy0 : (y 0).val < 8192 := (y 0).isLt
  have hy1 : (y 1).val < 128 := (y 1).isLt
  by_cases hi : (y 0).val / 1024 = i
  · rw [if_pos hi]
    let x : S1024x128.Idx := ix2 1024 128 (by omega) (by omega) ((y 0).val % 1024) (y 1).val
    have x0 : (x 0).val = (y 0).val % 1024 := Nat.mod_eq_of_lt (Nat.mod_lt _ (by omega))
    have x1 : (x 1).val = (y 1).val := Nat.mod_eq_of_lt hy1
    have e : (Rect.unit (s := S8192x128) off S1024x128.size h).emb x = y := by
      funext a
      apply Fin.ext
      match a with
      | 0 => show off 0 + 1 * (x 0).val = (y 0).val; omega
      | 1 => show off 1 + 1 * (x 1).val = (y 1).val; omega
    have := putAt_emb (Rect.unit (s := S8192x128) off S1024x128.size h) X w x
    rw [e] at this
    rw [this, hw x, e, x0, x1]
  · rw [if_neg hi, putAt_of_not _ _ _ _ ?_, EReal.coe_zero, add_zero]
    rintro ⟨x, rfl⟩
    apply hi
    have hx : (x 0).val < 1024 := (x 0).isLt
    show (off 0 + 1 * (x 0).val) / 1024 = i
    omega

/-- `s'` is `s` with the parts of the tile pair `i`, `j` added. -/
structure Added (H : Head) (i j : ℕ) (s s' : St Ideal) : Prop where
  dk : ∀ y, s'.dk y = (s.dk y + (H.tk i j (y 0).val (y 1).val : ℝ) : EReal)
  dv : ∀ y, s'.dv y = (s.dv y + (H.tv i j (y 0).val (y 1).val : ℝ) : EReal)
  dc : ∀ y, s'.dc y = (s.dc y - (H.tc i j (y 0).val : ℝ) : EReal)
  dq : ∀ y, s'.dq y = (s.dq y + ((if (y 0).val / 1024 = i then H.tq i j ((y 0).val % 1024) (y 1).val else 0 : ℝ) : EReal) : EReal)

section Step

variable (b : Blk Ideal) {H : Head} {M : ℕ → ℝ} {i j : ℕ} (R : Rd b H M i j) (hi : i < 8) (s : St Ideal) (v1 : BitVec 32)
include R hi

theorem stepU_added (h : ∀ a, (k0_off2 v1) a + S1024x128.size a ≤ S8192x128.size a) (h0 : k0_off2 v1 0 = 1024 * i) (h1 : k0_off2 v1 1 = 0)
    (hij : j < i) : Added H i j s (stepU v1 h b s) := by
  have hp : ∀ y, k0_pay19 b.q b.k b.c b.lse y = (H.p (1024 * i + (y 1).val) (1024 * j + (y 0).val) : EReal) := fun y =>
    pay19_apply R hi y (by have h0 : (y 0).val < 1024 := (y 0).isLt; omega)
  generalize hP : k0_pay19 b.q b.k b.c b.lse = p at hp
  have e1 : (stepU v1 h b s).dk = k0_pay8 (k0_pay18 b.q) p (k0_pay21 b.dO b.v) b.dl s.dk := by rw [← hP]; rfl
  have e2 : (stepU v1 h b s).dv = shapeCast S1024x128 (addf s.dv (FloatOps.matmul (φ₂ := .bf16) dB none (truncf .bf16 p bitsLt_bf16_f32)
    (b.dO : FVec Ideal S1024x128 .bf16) (constant S1024x128 .f32 0x00000000#32))) shapeCasts_S1024x128_S1024x128 := by rw [← hP]; rfl
  have e3 : (stepU v1 h b s).dc = k0_pay6 p (k0_pay21 b.dO b.v) b.dl s.dc := by rw [← hP]; rfl
  have e4 : (stepU v1 h b s).dq = putAt (rows2 v1 h) s.dq (k0_pay9 b.k p (k0_pay21 b.dO b.v) b.dl fun x => s.dq ((rows2 v1 h).emb x)) := by
    rw [← hP]; rfl
  refine ⟨fun y => ?_, fun y => ?_, fun y => ?_, fun y => ?_⟩
  · rw [e1]; exact dk_apply R p hp s.dk y
  · rw [e2]; exact dv_apply R p hp s.dv y
  · rw [e3]; exact dc_apply R p hp s.dc y
  · rw [e4]
    have hw := dq_apply R p hp fun x => s.dq ((rows2 v1 h).emb x)
    generalize (k0_pay9 b.k p (k0_pay21 b.dO b.v) b.dl fun x => s.dq ((rows2 v1 h).emb x)) = w at hw
    exact put_rows h h0 h1 s.dq w (H.tq i j) hw y

theorem stepD_added (h : ∀ a, (k0_off3 v1) a + S1024x128.size a ≤ S8192x128.size a) (h0 : k0_off3 v1 0 = 1024 * i) (h1 : k0_off3 v1 1 = 0)
    (hij : i = j) : Added H i j s (stepD v1 h b s) := by
  have hp : ∀ y, k0_pay23 b.q b.k b.c b.lse y = (H.p (1024 * i + (y 1).val) (1024 * j + (y 0).val) : EReal) := pay23_apply R hi hij
  generalize hP : k0_pay23 b.q b.k b.c b.lse = p at hp
  have e1 : (stepD v1 h b s).dk = k0_pay8 (k0_pay18 b.q) p (k0_pay21 b.dO b.v) b.dl s.dk := by
    rw [← hP, ← pay13_eq]; rfl
  have e2 : (stepD v1 h b s).dv = shapeCast S1024x128 (addf s.dv (FloatOps.matmul (φ₂ := .bf16) dB none (truncf .bf16 p bitsLt_bf16_f32)
    (b.dO : FVec Ideal S1024x128 .bf16) (constant S1024x128 .f32 0x00000000#32))) shapeCasts_S1024x128_S1024x128 := by rw [← hP]; rfl
  have e3 : (stepD v1 h b s).dc = k0_pay6 p (k0_pay21 b.dO b.v) b.dl s.dc := by rw [← hP, ← pay11_eq]; rfl
  have e4 : (stepD v1 h b s).dq = putAt (rows3 v1 h) s.dq (k0_pay9 b.k p (k0_pay21 b.dO b.v) b.dl fun x => s.dq ((rows3 v1 h).emb x)) := by
    rw [← hP, ← pay14_eq]; rfl
  refine ⟨fun y => ?_, fun y => ?_, fun y => ?_, fun y => ?_⟩
  · rw [e1]; exact dk_apply R p hp s.dk y
  · rw [e2]; exact dv_apply R p hp s.dv y
  · rw [e3]; exact dc_apply R p hp s.dc y
  · rw [e4]
    have hw := dq_apply R p hp fun x => s.dq ((rows3 v1 h).emb x)
    generalize (k0_pay9 b.k p (k0_pay21 b.dO b.v) b.dl fun x => s.dq ((rows3 v1 h).emb x)) = w at hw
    exact put_rows h h0 h1 s.dq w (H.tq i j) hw y

end Step

section Points

variable {c : Dev nD} (V : Arrs Ideal c) (Hd : ℕ → Head) (M : ℕ → ℕ → ℝ)
variable (R : ∀ t : Fin grid0.N, Rd (bOf V t) (Hd (hh t)) (M (hh t)) (ti t) (tj t))

/-- What a point finds once it has cleared what it clears. -/
def cleared (t : Fin grid0.N) (s : St Ideal) : St Ideal :=
  clearK (wI (grid0.coords t)) (wJ (grid0.coords t)) (clearQ (k0_cond1 (grid0.coords t)) s)

include R in
theorem stepAt_added (t : Fin grid0.N) (s : St Ideal) : Added (Hd (hh t)) (ti t) (tj t) (cleared t s) (stepAt V t s) := by
  obtain ⟨b1, b2, b3⟩ := bounds t
  obtain ⟨c1, cE, c3, c4, c5⟩ := conds t
  obtain ⟨o1, o2, o3, o4⟩ := offs t
  unfold stepAt next addD addU
  by_cases h : ti t = tj t
  · rw [dif_pos (c4.mpr h), dif_neg (fun h' => c3.mp h' h)]
    exact stepD_added _ (R t) b2 _ _ _ o3 o4 h
  · rw [dif_neg (fun h' => h (c4.mp h')), dif_pos (c3.mpr h)]
    exact stepU_added _ (R t) b2 _ _ _ o1 o2 (by omega)

theorem cleared_dk (t : Fin grid0.N) (s : St Ideal) (h : ti t = tj t) :
    (∀ y, (cleared t s).dk y = ((0 : ℝ) : EReal)) ∧ (∀ y, (cleared t s).dv y = ((0 : ℝ) : EReal)) ∧ ∀ y, (cleared t s).dc y = ((0 : ℝ) : EReal) := by
  unfold cleared clearK
  rw [if_pos ((conds t).2.1.mpr h)]
  exact ⟨fun y => Ideal.ofBits_zero_f32, fun y => Ideal.ofBits_zero_f32, fun y => Ideal.ofBits_zero_f32⟩

theorem kept_dk (t : Fin grid0.N) (s : St Ideal) (h : ¬ ti t = tj t) :
    (cleared t s).dk = s.dk ∧ (cleared t s).dv = s.dv ∧ (cleared t s).dc = s.dc := by
  unfold cleared clearK clearQ
  rw [if_neg (fun h' => h ((conds t).2.1.mp h'))]
  split_ifs <;> exact ⟨rfl, rfl, rfl⟩

theorem cleared_dq (t : Fin grid0.N) (s : St Ideal) (h : t.val % 36 = 0) (y) : (cleared t s).dq y = ((0 : ℝ) : EReal) := by
  unfold cleared clearK clearQ
  rw [if_pos ((conds t).1.mpr h)]
  split_ifs <;> exact Ideal.ofBits_zero_f32

theorem kept_dq (t : Fin grid0.N) (s : St Ideal) (h : ¬ t.val % 36 = 0) : (cleared t s).dq = s.dq := by
  unfold cleared clearK clearQ
  rw [if_neg (fun h' => h ((conds t).1.mp h'))]
  split_ifs <;> rfl

/-- The sums after the tile pair `i`, `j`. -/
structure Sums (H : Head) (i j : ℕ) (s : St Ideal) : Prop where
  dk : ∀ y, s.dk y = ((∑ a ∈ range (i + 1), H.tk a j (y 0).val (y 1).val : ℝ) : EReal)
  dv : ∀ y, s.dv y = ((∑ a ∈ range (i + 1), H.tv a j (y 0).val (y 1).val : ℝ) : EReal)
  dc : ∀ y, s.dc y = ((-∑ a ∈ range (i + 1), H.tc a j (y 0).val : ℝ) : EReal)
  dq : ∀ y, s.dq y = ((∑ b ∈ range j, H.tq ((y 0).val / 1024) b ((y 0).val % 1024) (y 1).val
    + (if (y 0).val / 1024 ≤ i then H.tq ((y 0).val / 1024) j ((y 0).val % 1024) (y 1).val else 0) : ℝ) : EReal)

/-- What a point must find for the sums to be right after it. -/
structure Before (H : Head) (i j : ℕ) (s : St Ideal) : Prop where
  dk : ∀ y, s.dk y = ((∑ a ∈ range i, H.tk a j (y 0).val (y 1).val : ℝ) : EReal)
  dv : ∀ y, s.dv y = ((∑ a ∈ range i, H.tv a j (y 0).val (y 1).val : ℝ) : EReal)
  dc : ∀ y, s.dc y = ((-∑ a ∈ range i, H.tc a j (y 0).val : ℝ) : EReal)
  dq : ∀ y, s.dq y = ((∑ b ∈ range j, H.tq ((y 0).val / 1024) b ((y 0).val % 1024) (y 1).val
    + (if (y 0).val / 1024 < i then H.tq ((y 0).val / 1024) j ((y 0).val % 1024) (y 1).val else 0) : ℝ) : EReal)

theorem sums_of {H : Head} {i j : ℕ} {s s' : St Ideal} (B : Before H i j s) (A : Added H i j s s') : Sums H i j s' where
  dk y := by rw [A.dk, B.dk, ← EReal.coe_add, sum_range_succ]
  dv y := by rw [A.dv, B.dv, ← EReal.coe_add, sum_range_succ]
  dc y := by rw [A.dc, B.dc, ← EReal.coe_sub, sum_range_succ, neg_add, sub_eq_add_neg]
  dq y := by
    rw [A.dq, B.dq, ← EReal.coe_add, add_assoc]
    refine congrArg (fun w : ℝ => ((_ + w : ℝ) : EReal)) ?_
    rcases Nat.lt_trichotomy ((y 0).val / 1024) i with h | h | h
    · rw [if_pos h, if_neg (by omega), if_pos h.le, add_zero]
    · rw [if_neg (by omega), if_pos h, if_pos h.le, zero_add, h]
    · rw [if_neg (by omega), if_neg (by omega), if_neg (by omega), zero_add]

/-- Tiles above the diagonal add nothing. -/
theorem above {f : ℕ → ℝ} {i : ℕ} (h : ∀ a, a < i → f a = 0) : ∑ a ∈ range i, f a = 0 :=
  sum_eq_zero fun a ha => h a (mem_range.mp ha)

/-- At a head's start; -/
theorem before_start (H : Head) (t : Fin grid0.N) (s : St Ideal) (h : t.val % 36 = 0) : Before H (ti t) (tj t) (cleared t s) := by
  obtain ⟨e1, e2⟩ := head_start t h
  obtain ⟨k1, k2, k3⟩ := cleared_dk t s (e1.trans e2.symm)
  rw [e1, e2]
  exact ⟨fun y => by rw [k1, range_zero, sum_empty], fun y => by rw [k2, range_zero, sum_empty], fun y => by rw [k3, range_zero, sum_empty, neg_zero],
    fun y => by rw [cleared_dq t s h, range_zero, sum_empty, if_neg (Nat.not_lt_zero _), add_zero]⟩

/-- at the next key tile's diagonal; -/
theorem before_diag (H : Head) (t : Fin grid0.N) (s : St Ideal) (h : ¬ t.val % 36 = 0) (hd : ti t = tj t) {j : ℕ} (hj : tj t = j + 1)
    (S : Sums H 7 j s) : Before H (ti t) (tj t) (cleared t s) := by
  obtain ⟨k1, k2, k3⟩ := cleared_dk t s hd
  refine ⟨fun y => ?_, fun y => ?_, fun y => ?_, fun y => ?_⟩
  · rw [k1, above fun a ha => H.tk_zero _ _ (hd ▸ ha)]
  · rw [k2, above fun a ha => H.tv_zero _ _ (hd ▸ ha)]
  · rw [k3, above fun a ha => H.tc_zero _ (hd ▸ ha), neg_zero]
  · have hy0 : (y 0).val < 8192 := (y 0).isLt
    rw [kept_dq t s h, S.dq, if_pos (by omega), hj, sum_range_succ]
    refine congrArg Real.toEReal ?_
    split_ifs with h'
    · rw [H.tq_zero (i := (y 0).val / 1024) (j := j + 1) _ (by omega) (Nat.mod_lt _ (by omega)), add_zero]
    · rw [add_zero]

/-- and further down a column. -/
theorem before_below (H : Head) (t : Fin grid0.N) (s : St Ideal) (h : ¬ t.val % 36 = 0) (hd : ¬ ti t = tj t) {i : ℕ} (hi : ti t = i + 1)
    (S : Sums H i (tj t) s) : Before H (ti t) (tj t) (cleared t s) := by
  obtain ⟨k1, k2, k3⟩ := kept_dk t s hd
  refine ⟨fun y => ?_, fun y => ?_, fun y => ?_, fun y => ?_⟩
  · rw [k1, S.dk, hi]
  · rw [k2, S.dv, hi]
  · rw [k3, S.dc, hi]
  · rw [kept_dq t s h, S.dq, hi]
    simp only [Nat.lt_succ_iff]

include R in
/-- The sums after every point. -/
theorem sums (n : ℕ) (hn : n < grid0.N) : Sums (Hd (hh ⟨n, hn⟩)) (ti ⟨n, hn⟩) (tj ⟨n, hn⟩) (st V (n + 1)) := by
  induction n with
  | zero =>
    rw [st_succ V ⟨0, hn⟩]
    exact sums_of (before_start _ _ _ rfl) (stepAt_added V Hd M R _ _)
  | succ n ih =>
    have ih := ih (by omega)
    rw [st_succ V ⟨n + 1, hn⟩]
    refine sums_of ?_ (stepAt_added V Hd M R _ _)
    by_cases h : (n + 1) % 36 = 0
    · exact before_start _ _ _ h
    · obtain ⟨eh, ⟨h1, h2, h3⟩ | ⟨h1, h2, h3⟩⟩ := head_step ⟨n, by omega⟩ hn h
      · rw [← eh, h2] at ih
        exact before_diag _ _ _ h h1 h3 ih
      · rw [← eh, ← h3] at ih
        exact before_below _ _ _ h h1 h2 ih

end Points

end Cert.KernelIdeal.Own
-- ==== Proof.KI.Value.lean ====
/-
  The launch's results: every array ends holding the reference's gradient.
-/
module

public import proofs.«01_k».proof.Proof.KI.Host
public import proofs.«01_k».proof.Proof.KI.Accum

@[expose] public section

noncomputable section

namespace Cert.KernelIdeal.Own

open Cert.KernelIdeal Cert.KernelIdeal.Gen Cert.Own
open Idealize.ShloMosaic Idealize.ShloMosaic.TcCoe
open Cert.ReferenceIdeal.Read Cert.ReferenceIdeal.Own
open Finset

variable (X0 : S8192x14336.Idx → ℝ) (X1 : S8192x8.Idx → ℝ) (X2 : S8192x1024.Idx → ℝ)

/-- The four gradients, laid out as the results are. -/
def outQ : FVec Ideal S8192x1024 .f32 := fun i => (((hd X0 X1 X2 ((i 1).val / 128)).gq (i 0).val ((i 1).val % 128) : ℝ) : EReal)
def outK : FVec Ideal S8192x1024 .bf16 := fun i => (((hd X0 X1 X2 ((i 1).val / 128)).gk (i 0).val ((i 1).val % 128) : ℝ) : EReal)
def outV : FVec Ideal S8192x1024 .bf16 := fun i => (((hd X0 X1 X2 ((i 1).val / 128)).gv (i 0).val ((i 1).val % 128) : ℝ) : EReal)
def outC : FVec Ideal S8x8192x1 .f32 := fun i => (((hd X0 X1 X2 (i 0).val).gc (i 1).val : ℝ) : EReal)

variable {X0 X1 X2}

theorem outQ_at (i : S8192x1024.Idx) {r d h : ℕ} (h0 : (i 0).val = r) (h1 : (i 1).val = h * 128 + d) (hd' : d < 128) :
    outQ X0 X1 X2 i = (((hd X0 X1 X2 h).gq r d : ℝ) : EReal) := by
  unfold outQ; rw [h0, h1, show (h * 128 + d) / 128 = h by omega, show (h * 128 + d) % 128 = d by omega]
theorem outK_at (i : S8192x1024.Idx) {r d h : ℕ} (h0 : (i 0).val = r) (h1 : (i 1).val = h * 128 + d) (hd' : d < 128) :
    outK X0 X1 X2 i = (((hd X0 X1 X2 h).gk r d : ℝ) : EReal) := by
  unfold outK; rw [h0, h1, show (h * 128 + d) / 128 = h by omega, show (h * 128 + d) % 128 = d by omega]
theorem outV_at (i : S8192x1024.Idx) {r d h : ℕ} (h0 : (i 0).val = r) (h1 : (i 1).val = h * 128 + d) (hd' : d < 128) :
    outV X0 X1 X2 i = (((hd X0 X1 X2 h).gv r d : ℝ) : EReal) := by
  unfold outV; rw [h0, h1, show (h * 128 + d) / 128 = h by omega, show (h * 128 + d) % 128 = d by omega]
theorem outC_at (i : S8x8192x1.Idx) {r h : ℕ} (h0 : (i 0).val = h) (h1 : (i 1).val = r) :
    outC X0 X1 X2 i = (((hd X0 X1 X2 h).gc r : ℝ) : EReal) := by
  unfold outC; rw [h0, h1]

variable (m : (ℓ : Loc nD τ sig) → Buf (Elt Ideal) ℓ) (c : Dev nD)
  (R : Reads (atL m c) X0 X1 X2 (Cert.ReferenceIdeal.Own.M X0 X1))
include R

/-- The sums after a point. -/
theorem sums_at (t : Fin grid0.N) : Sums (hd X0 X1 X2 (hh t)) (ti t) (tj t) (st (atL m c) (t.val + 1)) :=
  sums (atL m c) (hd X0 X1 X2) (Cert.ReferenceIdeal.Own.M X0 X1) (fun t => rd t R) t.val t.isLt

omit R in
/-- A column's last point is in the last row of tiles. -/
theorem last_row (t : Fin grid0.N) (h : k0_cond5 (wI (grid0.coords t)) = 1#1) : ti t = 7 := (conds t).2.2.2.2.mp h

theorem res7 : resAt m c (7 : Fin 11) = outQ X0 X1 X2 := by
  refine (dat c (atL m c)).arrAt_eq_of_covers (7 : Fin 11) (outQ X0 X1 X2) cov7 fun t hf y => ?_
  obtain ⟨hi, hj⟩ := flush7_at t ((Pipeline.Window.flush_eq_flushF _ t).symm.trans hf)
  have S := sums_at m c R t
  rw [hi, hj] at S
  have hy0 : ((y : S8192x128.Idx) 0).val < 8192 := ((y : S8192x128.Idx) 0).isLt
  have e0 : ((((cfgT (F := Ideal)).win (7 : Fin 11)).rect t).emb y 0 : ℕ) = 1024 * (((y : S8192x128.Idx) 0).val / 1024) + ((y : S8192x128.Idx) 0).val % 1024 := by
    rw [emb_val t 7 rfl, (ixO t).1]
    show 0 * 8192 + ((y : S8192x128.Idx) 0).val = _
    omega
  have e1 : ((((cfgT (F := Ideal)).win (7 : Fin 11)).rect t).emb y 1 : ℕ) = hh t * 128 + ((y : S8192x128.Idx) 1).val := by
    rw [emb_val t 7 rfl, (ixO t).1]; rfl
  refine (S.dq y).trans (Eq.trans (congrArg Real.toEReal ?_) (outQ_at _ e0 e1 ((y : S8192x128.Idx) 1).isLt).symm)
  rw [Head.gq_tiles, if_pos (by omega), sum_range_succ _ 7]

theorem res8 : resAt m c (8 : Fin 11) = outK X0 X1 X2 := by
  refine (dat c (atL m c)).arrAt_eq_of_covers (8 : Fin 11) (outK X0 X1 X2) cov8 fun t hf y => ?_
  have S := sums_at m c R t
  rw [last_row t (flush8 t hf)] at S
  have e0 : ((((cfgT (F := Ideal)).win (8 : Fin 11)).rect t).emb y 0 : ℕ) = 1024 * tj t + ((y : S1024x128.Idx) 0).val := by
    rw [emb_val t 8 rfl, (ixO t).2.1]; exact congrArg (· + _) (Nat.mul_comm _ _)
  have e1 : ((((cfgT (F := Ideal)).win (8 : Fin 11)).rect t).emb y 1 : ℕ) = hh t * 128 + ((y : S1024x128.Idx) 1).val := by
    rw [emb_val t 8 rfl, (ixO t).2.1]; rfl
  refine (S.dk y).trans (Eq.trans (congrArg Real.toEReal ?_) (outK_at _ e0 e1 ((y : S1024x128.Idx) 1).isLt).symm)
  rw [Head.gk_tiles]

theorem res9 : resAt m c (9 : Fin 11) = outV X0 X1 X2 := by
  refine (dat c (atL m c)).arrAt_eq_of_covers (9 : Fin 11) (outV X0 X1 X2) cov9 fun t hf y => ?_
  have S := sums_at m c R t
  rw [last_row t (flush9 t hf)] at S
  have e0 : ((((cfgT (F := Ideal)).win (9 : Fin 11)).rect t).emb y 0 : ℕ) = 1024 * tj t + ((y : S1024x128.Idx) 0).val := by
    rw [emb_val t 9 rfl, (ixO t).2.2.1]; exact congrArg (· + _) (Nat.mul_comm _ _)
  have e1 : ((((cfgT (F := Ideal)).win (9 : Fin 11)).rect t).emb y 1 : ℕ) = hh t * 128 + ((y : S1024x128.Idx) 1).val := by
    rw [emb_val t 9 rfl, (ixO t).2.2.1]; rfl
  refine (S.dv y).trans (Eq.trans (congrArg Real.toEReal ?_) (outV_at _ e0 e1 ((y : S1024x128.Idx) 1).isLt).symm)
  rw [Head.gv_tiles]

theorem res10 : resAt m c (10 : Fin 11) = outC X0 X1 X2 := by
  refine (dat c (atL m c)).arrAt_eq_of_covers (10 : Fin 11) (outC X0 X1 X2) cov10 fun t hf y => ?_
  have S := sums_at m c R t
  rw [last_row t (flush10 t hf)] at S
  have e0 : ((((cfgT (F := Ideal)).win (10 : Fin 11)).rect t).emb y 0 : ℕ) = hh t := by
    have h : ((y : S1x1024x1.Idx) 0).val < 1 := ((y : S1x1024x1.Idx) 0).isLt
    rw [emb_val t 10 rfl, (ixO t).2.2.2]
    show hh t * 1 + ((y : S1x1024x1.Idx) 0).val = _
    omega
  have e1 : ((((cfgT (F := Ideal)).win (10 : Fin 11)).rect t).emb y 1 : ℕ) = 1024 * tj t + ((y : S1x1024x1.Idx) 1).val := by
    rw [emb_val t 10 rfl, (ixO t).2.2.2]; exact congrArg (· + _) (Nat.mul_comm _ _)
  refine ((colUncast_apply _ y).trans (S.dc _)).trans (Eq.trans (congrArg Real.toEReal ?_) (outC_at _ e0 e1).symm)
  rw [Head.gc_tiles]
  have h : ((y : S1x1024x1.Idx) 1).val < 1024 := ((y : S1x1024x1.Idx) 1).isLt
  have e : ((ix2 1024 1 (by decide) (by decide) ((y : S1x1024x1.Idx) 1).val 0 : S1024x1.Idx) 0).val = ((y : S1x1024x1.Idx) 1).val :=
    Nat.mod_eq_of_lt h
  rw [e]

end Cert.KernelIdeal.Own
-- ==== Proof.Finite.lean ====
/-
  What the precondition says: every entry of the three arguments is a real.
-/
module

public import proofs.«01_k».proof.Defs
public import proofs.«01_k».proof.Proof.Gen.Pre_finite
public import proofs.«01_k».proof.Proof.Lits

@[expose] public section

noncomputable section

namespace Cert.Own

open Idealize.ShloMosaic Idealize.ShloMosaic.TcCoe

/-- An extended real below the infinite in size is a real. -/
theorem real_of_lt {x l : EReal} (hl : l = ⊤) (h : Ideal.cmp .olt (max x (-x)) l = 1#1) : x = (x.toReal : EReal) := by
  subst hl
  have h' : max x (-x) < ⊤ := by
    by_contra hn
    simp [Ideal.cmp, hn] at h
  refine (EReal.coe_toReal ?_ ?_).symm
  · rintro rfl; simp at h'
  · rintro rfl; simp at h'

/-- So the precondition makes the arguments real. -/
theorem real_args {x0 : FVec Ideal Cert.Pre_finite.S8192x14336 .f32} {x1 : FVec Ideal Cert.Pre_finite.S8192x8 .f32} {x2 : FVec Ideal Cert.Pre_finite.S8192x1024 .bf16}
    (h0 : (Cert.Pre_finite.fn (F := Ideal) x0 x1 x2).1 = fun _ => 1#1) (h1 : (Cert.Pre_finite.fn (F := Ideal) x0 x1 x2).2.1 = fun _ => 1#1)
    (h2 : (Cert.Pre_finite.fn (F := Ideal) x0 x1 x2).2.2 = fun _ => 1#1) :
    (x0 = fun i => ((x0 i).toReal : EReal)) ∧ (x1 = fun i => ((x1 i).toReal : EReal)) ∧ (x2 = fun i => ((x2 i).toReal : EReal)) :=
  ⟨funext fun i => real_of_lt lit_inf (congrFun h0 i), funext fun i => real_of_lt lit_inf (congrFun h1 i),
    funext fun i => real_of_lt lit_inf16 (congrFun h2 i)⟩

end Cert.Own
-- ==== Proof.Prod.lean ====
/-
  Products of matrices with exact arithmetic, as sums over the contracted index, and such sums cut into tiles. Entries are
  extended reals throughout: only the order of additions and of factors changes.
-/
module

public import Idealize.ShloMosaic.Lib.ValueIdx
public import Idealize.ShloMosaic.Lib.Pipeline.Value
public import Idealize.ShloMosaic.PureOps.Ideal.Laws
public import Mathlib.Algebra.BigOperators.Fin

@[expose] public section

noncomputable section

namespace Cert.Own

open Idealize.ShloMosaic Finset

/-- A matrix is a function of two numbers. -/
theorem exists_fun2 {β : Type} [Inhabited β] {M N : ℕ} (x : (⟨2, ![M, N]⟩ : Shape).Idx → β) :
    ∃ f : ℕ → ℕ → β, ∀ y, x y = f (y 0).val (y 1).val := by
  classical
  refine ⟨fun a b => if h : ∃ y, (y 0).val = a ∧ (y 1).val = b then x h.choose else default, fun y => ?_⟩
  have h : ∃ z : (⟨2, ![M, N]⟩ : Shape).Idx, (z 0).val = (y 0).val ∧ (z 1).val = (y 1).val := ⟨y, rfl, rfl⟩
  dsimp only
  rw [dif_pos h]
  refine congrArg x (funext fun a => Fin.ext ?_)
  match a with
  | ⟨0, _⟩ => exact h.choose_spec.1.symm
  | ⟨1, _⟩ => exact h.choose_spec.2.symm

/-- An array of three axes is a function of three numbers. -/
theorem exists_fun3 {β : Type} [Inhabited β] {L M N : ℕ} (x : (⟨3, ![L, M, N]⟩ : Shape).Idx → β) :
    ∃ f : ℕ → ℕ → ℕ → β, ∀ y, x y = f (y 0).val (y 1).val (y 2).val := by
  classical
  refine ⟨fun a b c => if h : ∃ y, (y 0).val = a ∧ (y 1).val = b ∧ (y 2).val = c then x h.choose else default, fun y => ?_⟩
  have h : ∃ z : (⟨3, ![L, M, N]⟩ : Shape).Idx, (z 0).val = (y 0).val ∧ (z 1).val = (y 1).val ∧ (z 2).val = (y 2).val :=
    ⟨y, rfl, rfl, rfl⟩
  dsimp only
  rw [dif_pos h]
  refine congrArg x (funext fun a => Fin.ext ?_)
  match a with
  | ⟨0, _⟩ => exact h.choose_spec.1.symm
  | ⟨1, _⟩ => exact h.choose_spec.2.1.symm
  | ⟨2, _⟩ => exact h.choose_spec.2.2.symm

/-- A sum over `n` tiles of `T`. -/
theorem sum_tiled {β : Type} [AddCommMonoid β] (T : ℕ) (f : ℕ → β) : ∀ n, ∑ r ∈ range (T * n), f r = ∑ k ∈ range n, ∑ x ∈ range T, f (T * k + x)
  | 0 => by simp
  | n + 1 => by rw [sum_range_succ, ← sum_tiled T f n, Nat.mul_succ, sum_range_add]

section Dot

variable {K M N : ℕ} {φ₁ φ₂ : FTy}

/-- Columns against columns. -/
theorem matTN (D : DotDims ⟨2, ![K, M]⟩ ⟨2, ![K, N]⟩ ⟨2, ![M, N]⟩) (h1 : D.lhsContracting = [0]) (h2 : D.rhsContracting = [0])
    (h3 : D.lhsNonContracting = [1]) (h4 : D.rhsNonContracting = [1]) (h5 : D.lhsBatch = []) (h6 : D.rhsBatch = [])
    (a : FVec Ideal ⟨2, ![K, M]⟩ φ₁) (b : FVec Ideal ⟨2, ![K, N]⟩ φ₂) (f g : ℕ → ℕ → EReal)
    (ha : ∀ y, a y = f (y 0).val (y 1).val) (hb : ∀ y, b y = g (y 0).val (y 1).val) (i : (⟨2, ![M, N]⟩ : Shape).Idx) :
    FloatOps.matmul D none a b (constant ⟨2, ![M, N]⟩ .f32 0x00000000#32) i = ∑ r ∈ range K, f r (i 0).val * g r (i 1).val := by
  obtain ⟨l1, l2, l3, l4, l5, l6, wf⟩ := D
  subst h1 h2 h3 h4 h5 h6
  rw [Ideal.matmul_constant_zero_apply, ← Fin.sum_univ_eq_sum_range (fun r => f r (i 0).val * g r (i 1).val),
    ← Equiv.sum_comp (ValueIdx.contrEquiv1 _ K rfl rfl).symm]
  refine sum_congr rfl fun k _ => ?_
  have hk := ValueIdx.contrEquiv1_symm_val (DotDims.mk [0] [0] [1] [1] [] [] wf) K rfl rfl k
  rw [ha, hb]
  refine congrArg₂ (· * ·) (congrArg₂ f ((DotDims.lhsIdx_val_of_single _ rfl i _).trans hk) ?_)
    (congrArg₂ g ((DotDims.rhsIdx_val_of_single _ rfl i _).trans hk) ?_)
  · unfold DotDims.lhsIdx
    rw [dif_neg (by simp), dif_pos (by simp)]; rfl
  · unfold DotDims.rhsIdx
    rw [dif_neg (by simp), dif_pos (by simp)]; rfl

/-- Rows against rows. -/
theorem matNT (D : DotDims ⟨2, ![M, K]⟩ ⟨2, ![N, K]⟩ ⟨2, ![M, N]⟩) (h1 : D.lhsContracting = [1]) (h2 : D.rhsContracting = [1])
    (h3 : D.lhsNonContracting = [0]) (h4 : D.rhsNonContracting = [0]) (h5 : D.lhsBatch = []) (h6 : D.rhsBatch = [])
    (a : FVec Ideal ⟨2, ![M, K]⟩ φ₁) (b : FVec Ideal ⟨2, ![N, K]⟩ φ₂) (f g : ℕ → ℕ → EReal)
    (ha : ∀ y, a y = f (y 0).val (y 1).val) (hb : ∀ y, b y = g (y 0).val (y 1).val) (i : (⟨2, ![M, N]⟩ : Shape).Idx) :
    FloatOps.matmul D none a b (constant ⟨2, ![M, N]⟩ .f32 0x00000000#32) i = ∑ r ∈ range K, f (i 0).val r * g (i 1).val r := by
  obtain ⟨l1, l2, l3, l4, l5, l6, wf⟩ := D
  subst h1 h2 h3 h4 h5 h6
  rw [Ideal.matmul_constant_zero_apply, ← Fin.sum_univ_eq_sum_range (fun r => f (i 0).val r * g (i 1).val r),
    ← Equiv.sum_comp (ValueIdx.contrEquiv1 _ K rfl rfl).symm]
  refine sum_congr rfl fun k _ => ?_
  have hk := ValueIdx.contrEquiv1_symm_val (DotDims.mk [1] [1] [0] [0] [] [] wf) K rfl rfl k
  rw [ha, hb]
  refine congrArg₂ (· * ·) (congrArg₂ f ?_ ((DotDims.lhsIdx_val_of_single _ rfl i _).trans hk))
    (congrArg₂ g ?_ ((DotDims.rhsIdx_val_of_single _ rfl i _).trans hk))
  · unfold DotDims.lhsIdx
    rw [dif_neg (by simp), dif_pos (by simp)]; rfl
  · unfold DotDims.rhsIdx
    rw [dif_neg (by simp), dif_pos (by simp)]; rfl

end Dot

end Cert.Own
-- ==== Proof.Rms.lean ====
/-
  The gradient of the norm of a row, with the residual's gradient added, and the gradient of the norm's weights.
-/
module

public import proofs.«01_k».proof.Defs
public import proofs.«01_k».proof.Proof.Prod
public import proofs.«01_k».proof.Proof.Finite
public import proofs.«01_k».proof.Proof.Gen.Pre_finite_rms
public import proofs.«01_k».proof.Proof.Gen.RmsIdeal.Frame
public import proofs.«01_k».proof.Proof.Gen.RmsRefIdeal.Run
public import proofs.«01_k».proof.Proof.Gen.RmsRefIdeal.Read
public import Idealize.ShloMosaic.Lib.Pipeline.ValueKit
public import Idealize.ShloMosaic.PureOps.Ideal.Laws

@[expose] public section

noncomputable section

namespace Cert.RmsIdeal.Own

open Cert.RmsIdeal Cert.RmsIdeal.Gen Cert.Own
open Idealize.ShloMosaic Idealize.ShloMosaic.TcCoe Idealize.SL.Sem Finset

/-! ## The literals -/

/-- The word of 1e-6. -/
def eps : ℝ := 8796093 / 8796093022208

theorem lit_eps : FloatOps.ofBits (F := Ideal) .f32 0x358637BD#32 = ((eps : ℝ) : EReal) := by
  show Ideal.ofBits .f32 _ = _
  simp [Ideal.ofBits, Ideal.ieee, eps, -EReal.coe_mul]; norm_num
theorem lit_width : FloatOps.ofBits (F := Ideal) .f32 0x45000000#32 = ((2048 : ℝ) : EReal) := by
  show Ideal.ofBits .f32 _ = _
  simp [Ideal.ofBits, Ideal.ieee, -EReal.coe_mul]; norm_num
theorem lit_half : FloatOps.ofBits (F := Ideal) .f32 0xBF000000#32 = ((-(1 / 2) : ℝ) : EReal) := by
  show Ideal.ofBits .f32 _ = _
  simp [Ideal.ofBits, Ideal.ieee, -EReal.coe_mul]; norm_num
theorem lit_zero : FloatOps.ofBits (F := Ideal) .f32 0x00000000#32 = 0 := Ideal.ofBits_zero_f32

/-! ## One row, in reals -/

variable (H X D : ℕ → ℕ → ℝ) (W : ℕ → ℝ)

/-- The mean square of a row, with the small constant. -/
def ms (r : ℕ) : ℝ := (∑ k ∈ range 2048, X r k * X r k) / 2048 + eps

theorem ms_pos (r : ℕ) : 0 < ms X r := by
  have : 0 ≤ ∑ k ∈ range 2048, X r k * X r k := sum_nonneg fun k _ => mul_self_nonneg _
  unfold ms eps
  positivity

/-- The row's factor. -/
def iv (r : ℕ) : ℝ := (Real.sqrt (ms X r))⁻¹

theorem iv_sq (r : ℕ) : iv X r / ms X r = iv X r * iv X r * iv X r := by
  have h := ms_pos X r
  have hs : Real.sqrt (ms X r) ≠ 0 := (Real.sqrt_pos.mpr h).ne'
  unfold iv
  nth_rewrite 2 [← Real.mul_self_sqrt h.le]
  field_simp

/-- The gradient at an entry of the input. -/
def dx (r k : ℕ) : ℝ :=
  D r k + iv X r * (H r k * W k - X r k * iv X r * ((∑ j ∈ range 2048, H r j * W j * (X r j * iv X r)) / 2048))

/-- The gradient at a weight. -/
def dw (k : ℕ) : ℝ := ∑ r ∈ range 8192, H r k * (X r k * iv X r)

/-- What the mean square's gradient brings to each entry, twice. -/
def side (r : ℕ) : ℝ := (∑ j ∈ range 2048, X r j * (H r j * W j)) * (-(1 / 2) * (iv X r / ms X r)) / 2048

theorem dx_eq (r k : ℕ) :
    D r k + H r k * W k * iv X r + X r k * side H X W r + side H X W r * X r k = dx H X D W r k := by
  have e : ∑ j ∈ range 2048, H r j * W j * (X r j * iv X r) = (∑ j ∈ range 2048, X r j * (H r j * W j)) * iv X r := by
    rw [sum_mul]; exact sum_congr rfl fun j _ => by ring
  unfold side dx
  rw [iv_sq, e]
  ring

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## The reference -/

section Ref

open Cert.RmsRefIdeal.Read

variable {X0 X1 X3 : S8192x2048.Idx → EReal} {X2 : S2048.Idx → EReal}
  (h0 : ∀ y, X0 y = (H (y 0).val (y 1).val : EReal)) (h1 : ∀ y, X1 y = (X (y 0).val (y 1).val : EReal))
  (h2 : ∀ y, X2 y = (W (y 0).val : EReal)) (h3 : ∀ y, X3 y = (D (y 0).val (y 1).val : EReal))

include h1 in
theorem ref_v6 (i : Cert.RmsRefIdeal.S8192x1.Idx) : val_main_v6 (F := Ideal) X1 i = (ms X (i 0).val : EReal) := by
  rw [val_main_v6_apply, val_main_v5_apply, val_main_v4_apply, val_main_v3_apply, val_main_v2_apply, val_main_v1_apply, val_main_cst_apply,
    val_main_cst_0_apply, val_main_cst_1_apply, lit_eps, lit_width, lit_zero, zero_add]
  have e : ∑ k : Fin 2048, val_main_v0 (F := Ideal) X1 (idx_main_v1 (idx_main_v2 i) k)
      = ((∑ k ∈ range 2048, X (i 0).val k * X (i 0).val k : ℝ) : EReal) := by
    rw [← coe_sum_fin 2048 fun k => X (i 0).val k * X (i 0).val k]
    refine sum_congr rfl fun k _ => ?_
    rw [val_main_v0_apply, h1, EReal.coe_mul]
    rfl
  rw [e]
  exact (congrArg (fun z : EReal => z + (eps : EReal)) (div_real (by norm_num) _)).trans (EReal.coe_add _ _).symm

include h1 in
theorem ref_v7 (i : Cert.RmsRefIdeal.S8192x1.Idx) : val_main_v7 (F := Ideal) X1 i = (iv X (i 0).val : EReal) := by
  rw [val_main_v7_apply, ref_v6 X h1]
  exact rsqrt_real (ms_pos X _)

include h0 h2 in
theorem ref_v20 (i : S8192x2048.Idx) : val_main_v20 (F := Ideal) X0 X2 i = ((H (i 0).val (i 1).val * W (i 1).val : ℝ) : EReal) := by
  rw [val_main_v20_apply, val_main_v19_apply, val_main_v13_apply, h0, h2, EReal.coe_mul]
  rfl

include h0 h1 h2 in
theorem ref_v32 (i : S8192x2048.Idx) : val_main_v32 (F := Ideal) X0 X1 X2 i = (side H X W (i 0).val : EReal) := by
  rw [val_main_v32_apply, val_main_v31_apply, val_main_cst_7_apply, lit_zero, zero_add, Fin.sum_univ_one, val_main_v30_apply,
    val_main_v29_apply, val_main_cst_6_apply, val_main_v28_apply, val_main_v24_apply, val_main_v23_apply, val_main_cst_5_apply,
    val_main_v10_apply, val_main_v9_apply, val_main_cst_2_apply, val_main_v8_apply, ref_v7 X h1, ref_v6 X h1, lit_zero, lit_width, lit_half, zero_add]
  have e : ∀ q : Cert.RmsRefIdeal.S8192.Idx, (q 0).val = (i 0).val → ∑ k : Fin 2048, val_main_v22 (F := Ideal) X0 X1 X2 (idx_main_v23 q k)
      = ((∑ k ∈ range 2048, X (i 0).val k * (H (i 0).val k * W k) : ℝ) : EReal) := fun q hq => by
    rw [← coe_sum_fin 2048 fun k => X (i 0).val k * (H (i 0).val k * W k)]
    refine sum_congr rfl fun k _ => ?_
    rw [val_main_v22_apply, h1, ref_v20 H W h0 h2, ← hq, EReal.coe_mul]
    rfl
  rw [e _ (by show (i 0).val * 1 + 0 = _; omega)]
  show Ideal.div (_ * (_ * Ideal.div (iv X (i 0).val : EReal) (ms X (i 0).val : EReal))) _ = _
  rw [div_real (ms_pos X _).ne', ← EReal.coe_mul, ← EReal.coe_mul, div_real (by norm_num)]
  rfl

include h0 h1 h2 h3 in
theorem ref_dx (i : S8192x2048.Idx) : val_main_v36 (F := Ideal) X0 X1 X2 X3 i = (dx H X D W (i 0).val (i 1).val : EReal) := by
  rw [val_main_v36_apply, val_main_v35_apply, val_main_v34_apply, val_main_v33_apply, val_main_v27_apply, val_main_v26_apply,
    val_main_v25_apply, ref_v32 H X W h0 h1 h2, ref_v20 H W h0 h2, ref_v7 X h1, h1, h3, ← dx_eq, EReal.coe_add, EReal.coe_add, EReal.coe_add,
    EReal.coe_mul, EReal.coe_mul, EReal.coe_mul (side H X W _)]
  rfl

include h0 h1 in
theorem ref_dw (i : S1x2048.Idx) : val_main_v37 (F := Ideal) X0 X1 i = (dw H X (i 1).val : EReal) := by
  rw [val_main_v37_apply, val_main_v21_apply, val_main_cst_4_apply, lit_zero, zero_add, Fin.sum_univ_one, val_main_v18_apply,
    val_main_v17_apply, val_main_cst_3_apply, lit_zero, zero_add]
  unfold dw
  rw [← coe_sum_fin 8192 fun r => H r (i 1).val * (X r (i 1).val * iv X r)]
  refine sum_congr rfl fun k _ => ?_
  rw [val_main_v16_apply, val_main_v12_apply, val_main_v11_apply, ref_v7 X h1, h0, h1]
  refine (mul_comm (G := EReal) _ _).trans ?_
  rw [EReal.coe_mul, EReal.coe_mul, show (idx_main_v17 (idx_main_v18 (idx_main_v21 (idx_main_v37 i) 0)) k 1).val = (i 1).val by
    show 0 * 2048 + (i 1).val = _; omega]
  rfl

end Ref

/-! ## The kernel's arithmetic -/

section Pay

variable {s : ℕ} {x0 x1 x3 : Vec Ideal S512x2048 .f32} {x2 xs : Vec Ideal S1x2048 .f32}
  (h0 : ∀ y, x0 y = (H (512 * s + (y 0).val) (y 1).val : EReal)) (h1 : ∀ y, x1 y = (X (512 * s + (y 0).val) (y 1).val : EReal))
  (h2 : ∀ y, x2 y = (W (y 1).val : EReal)) (h3 : ∀ y, x3 y = (D (512 * s + (y 0).val) (y 1).val : EReal))

/-- A row's sum, put back as a column. -/
theorem rowSum (x : FVec Ideal S512x2048 .f32) (f : ℕ → ℕ → ℝ) (hx : ∀ y, x y = (f (y 0).val (y 1).val : EReal)) (y : S512x1.Idx) :
    shapeCast S512x1 (multiReduction .add [1] S512 x 0x00000000#32 reduces_S512x2048_S512 (.inl rfl) rfl) shapeCasts_S512_S512x1 y
      = ((∑ k ∈ range 2048, f (y 0).val k : ℝ) : EReal) := by
  rw [shapeCast_apply _ _ _ (fun a => match a with | ⟨0, _⟩ => ⟨(y 0).val, (y 0).isLt⟩ : S512.Idx) (by
    have hy : (y 1).val < 1 := (y 1).isLt
    rw [Shape.rowMajor_val_one, Shape.rowMajor_val_two]
    show (y 0).val = (y 0).val * 1 + (y 1).val
    omega)]
  refine (Ideal.multiReduction_add_single x _ _ _ _ _).trans ((sum_congr rfl fun k _ => hx _).trans ?_)
  exact coe_sum_fin 2048 fun k => f (y 0).val k

theorem col_bcast (x : FVec Ideal S512x1 .f32) (f : ℕ → ℝ) (hx : ∀ y, x y = (f (y 0).val : EReal)) (y : S512x2048.Idx) :
    broadcastTo S512x2048 x broadcasts_S512x1_S512x2048 y = (f (y 0).val : EReal) := by
  rw [broadcastTo_apply _ _ y (fun a => match a with
      | ⟨0, _⟩ => ⟨(y 0).val, (y 0).isLt⟩
      | ⟨1, _⟩ => ⟨0, Nat.one_pos⟩ : S512x1.Idx) (fun a => match a with
      | ⟨0, _⟩ => rfl
      | ⟨1, _⟩ => rfl), hx]

theorem row_bcast (x : FVec Ideal S1x2048 .f32) (f : ℕ → ℝ) (hx : ∀ y, x y = (f (y 1).val : EReal)) (y : S512x2048.Idx) :
    broadcastTo S512x2048 x broadcasts_S1x2048_S512x2048 y = (f (y 1).val : EReal) := by
  rw [broadcastTo_apply _ _ y (fun a => match a with
      | ⟨0, _⟩ => ⟨0, Nat.one_pos⟩
      | ⟨1, _⟩ => ⟨(y 1).val, (y 1).isLt⟩ : S1x2048.Idx) (fun a => match a with
      | ⟨0, _⟩ => rfl
      | ⟨1, _⟩ => rfl), hx]

include h1 in
theorem pay2_at (y : S512x1.Idx) : k0_pay2 x1 y = (iv X (512 * s + (y 0).val) : EReal) := by
  unfold k0_pay2
  refine Eq.trans ?_ (rsqrt_real (ms_pos X (512 * s + (y 0).val)))
  have hS := rowSum (mulf (F := Ideal) (φ := .f32) x1 x1) (fun r k => X (512 * s + r) k * X (512 * s + r) k)
    (fun y => (congrArg₂ (fun x y : EReal => x * y) (h1 y) (h1 y)).trans (EReal.coe_mul _ _).symm) y
  exact congrArg Ideal.rsqrt ((congrArg₂ (fun x y : EReal => x + y) ((congrArg₂ Ideal.div hS lit_width).trans (div_real (by norm_num) _)) lit_eps).trans
    (EReal.coe_add _ _).symm)

include h1 in
theorem pay3_at (y : S512x2048.Idx) : k0_pay3 x1 y = ((X (512 * s + (y 0).val) (y 1).val * iv X (512 * s + (y 0).val) : ℝ) : EReal) := by
  unfold k0_pay3
  exact (congrArg₂ (fun x y : EReal => x * y) (h1 y) (col_bcast _ (fun r => iv X (512 * s + r)) (pay2_at X h1) y)).trans (EReal.coe_mul _ _).symm

include h0 h1 h2 h3 in
theorem pay4_at (y : S512x2048.Idx) : k0_pay4 x1 x0 x2 x3 y = (dx H X D W (512 * s + (y 0).val) (y 1).val : EReal) := by
  have e15 : ∀ y, mulf (F := Ideal) (φ := .f32) x0 (broadcastTo S512x2048 x2 broadcasts_S1x2048_S512x2048) y
      = ((H (512 * s + (y 0).val) (y 1).val * W (y 1).val : ℝ) : EReal) := fun y =>
    (congrArg₂ (fun x y : EReal => x * y) (h0 y) (row_bcast _ W h2 y)).trans (EReal.coe_mul _ _).symm
  have e17 := fun y => (congrArg₂ (fun x y : EReal => x * y) (e15 y) (pay3_at X h1 y)).trans (EReal.coe_mul _ _).symm
  unfold k0_pay4
  simp only [shapeCast_self]
  have e21 : ∀ y, divf (F := Ideal) (φ := .f32) (shapeCast S512x1 (multiReduction .add [1] S512 (mulf (F := Ideal) (φ := .f32) (mulf (F := Ideal) (φ := .f32) x0 (broadcastTo S512x2048 x2 broadcasts_S1x2048_S512x2048)) (k0_pay3 x1))
      0x00000000#32 reduces_S512x2048_S512 (.inl rfl) rfl) shapeCasts_S512_S512x1) (broadcast S512x1 (Scalar.ofBits (F := Ideal) .f32 0x45000000#32)) y
      = (((∑ j ∈ range 2048, H (512 * s + (y 0).val) j * W j * (X (512 * s + (y 0).val) j * iv X (512 * s + (y 0).val))) / 2048 : ℝ) : EReal) := fun y =>
    (congrArg₂ Ideal.div (rowSum _ (fun r j => H (512 * s + r) j * W j * (X (512 * s + r) j * iv X (512 * s + r))) e17 y) lit_width).trans (div_real (by norm_num) _)
  have e22 := col_bcast _ (fun r => (∑ j ∈ range 2048, H (512 * s + r) j * W j * (X (512 * s + r) j * iv X (512 * s + r))) / 2048) e21 y
  have e25 := col_bcast _ (fun r => iv X (512 * s + r)) (pay2_at X h1) y
  refine (congrArg₂ (fun x y : EReal => x + y) (h3 y) (congrArg₂ (fun x y : EReal => x * y) e25 (congrArg₂ (fun x y : EReal => x - y) (e15 y)
    (congrArg₂ (fun x y : EReal => x * y) (pay3_at X h1 y) e22)))).trans ?_
  unfold dx
  dsimp only
  rw [← EReal.coe_mul, ← EReal.coe_sub, ← EReal.coe_mul, ← EReal.coe_add]

include h0 h1 in
theorem pay5_at (y : S1x2048.Idx) : k0_pay5 x1 x0 y
    = ((∑ r ∈ range 512, H (512 * s + r) (y 1).val * (X (512 * s + r) (y 1).val * iv X (512 * s + r)) : ℝ) : EReal) := by
  unfold k0_pay5
  rw [shapeCast_apply _ _ _ (fun a => match a with | ⟨0, _⟩ => ⟨(y 1).val, (y 1).isLt⟩ : S2048.Idx) (by
    have hy : (y 0).val < 1 := (y 0).isLt
    rw [Shape.rowMajor_val_one, Shape.rowMajor_val_two]
    show (y 1).val = (y 0).val * 2048 + (y 1).val
    omega)]
  refine (Ideal.multiReduction_add_single _ _ _ _ _ _).trans (Eq.trans (sum_congr rfl fun k _ => ?_)
    (coe_sum_fin 512 fun r => H (512 * s + r) (y 1).val * (X (512 * s + r) (y 1).val * iv X (512 * s + r))))
  exact (congrArg₂ (fun x y : EReal => x * y) (h0 _) (pay3_at X h1 _)).trans (EReal.coe_mul _ _).symm

end Pay

/-! ## The grid's points -/

theorem hz : (![0, 0] : Fin 2 → Nat) = fun _ => 0 := funext fun a => by fin_cases a <;> rfl

section Cases

variable {F : FTy → Type} [FloatOps F] (c : Dev nD) (i : grid0.Coords)
  (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .f32) (h4 : a4.IsWhole)
  (a5 : Memref sig .tc .vmem S512x2048 .f32) (h5 : a5.IsWhole) (a6 : Memref sig .tc .vmem S1x2048 .f32) (h6 : a6.IsWhole)
  (x0 x1 x3 : Vec F S512x2048 .f32) (x2 xs : Vec F S1x2048 .f32)

theorem dx_A (hc0 : cond0_0 i) (hc1 : ¬cond0_1 i) : out0_A_4 c i a1 h1 a2 h2 a3 h3 a4 h4 a5 h5 a6 h6 hc0 hc1 x0 x1 x2 x3 = k0_pay4 x1 x0 x2 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  rw [View.canon_unit_zero hz]
  simp only [View.readAt_eq_ld, h1.read_unread, h2.read_unread, h3.read_unread, h4.read_unread, View.ld_unit_zero (S := S512x2048) hz, View.ld_unit_zero (S := S1x2048) hz, shapeCast_self]

theorem dx_B (hc0 : ¬cond0_0 i) (hc1 : cond0_1 i) : out0_B_4 c i a1 h1 a2 h2 a3 h3 a4 h4 a5 h5 a6 h6 hc0 hc1 x0 x1 x2 x3 xs = k0_pay4 x1 x0 x2 x3 := by
  unfold out0_B_4
  rw [View.read_writes_eq_canon _ _ _ (cover0_B_4 c i a1 h1 a2 h2 a3 h3 a4 h4 a5 h5 a6 h6 hc0 hc1 x0 x1 x2 x3 xs)]
  unfold kernelRun0_B
  dsimp only
  rw [View.canon_unit_zero hz]
  simp only [View.readAt_eq_ld, h1.read_unread, h2.read_unread, h3.read_unread, h4.read_unread, View.ld_unit_zero (S := S512x2048) hz, View.ld_unit_zero (S := S1x2048) hz, shapeCast_self]

/-- The weights' sums at the first point, and at every other point over what the point before left. -/
theorem dw_A (hc0 : cond0_0 i) (hc1 : ¬cond0_1 i) : out0_A_5 c i a1 h1 a2 h2 a3 h3 a4 h4 a5 h5 a6 h6 hc0 hc1 x0 x1 x2 x3 = k0_pay5 x1 x0 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero hz]
  simp only [View.readAt_eq_ld, h1.read_unread, h2.read_unread, View.ld_unit_zero (S := S512x2048) hz, View.ld_unit_zero (S := S1x2048) hz, shapeCast_self]

theorem dw_B (hc0 : ¬cond0_0 i) (hc1 : cond0_1 i) : out0_B_5 c i a1 h1 a2 h2 a3 h3 a4 h4 a5 h5 a6 h6 hc0 hc1 x0 x1 x2 x3 xs = k0_pay1 (k0_pay5 x1 x0) xs := by
  unfold out0_B_5
  rw [View.read_writes_eq_canon _ _ _ (cover0_B_5 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h6.read_unread, View.ld_unit_zero (S := S512x2048) hz, View.ld_unit_zero (S := S1x2048) hz, shapeCast_self]

end Cases

set_option maxRecDepth 100000 in
/-- Where the blocks lie: a point has 512 rows and all the weights. -/
theorem ix : ∀ t : Fin grid0.N, (cfg0.win 0).index t = ![t.val, 0] ∧ (cfg0.win 1).index t = ![t.val, 0]
    ∧ (cfg0.win 2).index t = ![0, 0] ∧ (cfg0.win 3).index t = ![t.val, 0] ∧ (cfg0.win 4).index t = ![t.val, 0]
    ∧ (cfg0.win 5).index t = ![0, 0] := by decide +kernel

set_option maxRecDepth 100000 in
theorem cov4 : (cfg0.win 4).Covers := by decide +kernel
set_option maxRecDepth 100000 in
theorem cov5 : (cfg0.win 5).Covers := by decide +kernel

/-- A coordinate of an element of a block in its array. -/
theorem emb_val (w : Fin 6) (t : Fin cfg0.N) (hk : (cfg0.win w).kind = .blocked) (y) (a) :
    (((cfg0.win w).rect t).emb y a : ℕ) = (cfg0.win w).index t a * (cfg0.win w).size a + y a :=
  Pipeline.Window.rect_emb_val _ t y a hk

/-- The host's line puts the weights in a row. -/
theorem weights_eq {F : FTy → Type} [FloatOps F] (m : (ℓ : Loc nD τ sig) → Buf (Elt F) ℓ) (c : Dev nD) :
    V m c main_v0 = broadcastInDim S1x2048 ![1] bcast_S2048_S1x2048_1 (m ((c.tc : Thread nD τ).loc main_arg2)) := by
  after_results_simp <;> rfl

section Run

variable (m : (ℓ : Loc nD τ sig) → Buf (Elt Ideal) ℓ) (c : Dev nD)
  (h0 : ∀ y : S8192x2048.Idx, m ((c.tc : Thread nD τ).loc main_arg0) y = (H (y 0).val (y 1).val : EReal))
  (h1 : ∀ y : S8192x2048.Idx, m ((c.tc : Thread nD τ).loc main_arg1) y = (X (y 0).val (y 1).val : EReal))
  (h2 : ∀ y : S2048.Idx, m ((c.tc : Thread nD τ).loc main_arg2) y = (W (y 0).val : EReal))
  (h3 : ∀ y : S8192x2048.Idx, m ((c.tc : Thread nD τ).loc main_arg3) y = (D (y 0).val (y 1).val : EReal))

theorem row_eq {t a : ℕ} (y : ℕ) (h : a = t) : a * 512 + y = 512 * t + y := by omega
theorem col_eq {a : ℕ} (y : ℕ) (h : a = 0) : a * 2048 + y = y := by omega

include h0 in
theorem blk0 (t : Fin cfg0.N) (y : S512x2048.Idx) : iblk m c 0 t y = (H (512 * t.val + (y 0).val) (y 1).val : EReal) := by
  refine (congrFun (V_main_arg0 m c) _).trans ((h0 (((cfg0.win 0).rect t).emb y)).trans (congrArg _ (congrArg₂ H ?_ ?_)))
  · exact (emb_val 0 t rfl y 0).trans (row_eq _ (congrFun (ix t).1 0))
  · exact (emb_val 0 t rfl y 1).trans (col_eq _ (congrFun (ix t).1 1))

include h1 in
theorem blk1 (t : Fin cfg0.N) (y : S512x2048.Idx) : iblk m c 1 t y = (X (512 * t.val + (y 0).val) (y 1).val : EReal) := by
  refine (congrFun (V_main_arg1 m c) _).trans ((h1 (((cfg0.win 1).rect t).emb y)).trans (congrArg _ (congrArg₂ X ?_ ?_)))
  · exact (emb_val 1 t rfl y 0).trans (row_eq _ (congrFun (ix t).2.1 0))
  · exact (emb_val 1 t rfl y 1).trans (col_eq _ (congrFun (ix t).2.1 1))

include h2 in
theorem weights_at (y : S1x2048.Idx) : V m c main_v0 y = (W (y 1).val : EReal) := by
  rw [weights_eq, broadcastInDim_apply _ _ _ y (fun a => match a with | ⟨0, _⟩ => ⟨(y 1).val, (y 1).isLt⟩ : S2048.Idx) (fun a => match a with
      | ⟨0, _⟩ => rfl)]
  exact h2 _

include h2 in
theorem blk2 (t : Fin cfg0.N) (y : S1x2048.Idx) : iblk m c 2 t y = (W (y 1).val : EReal) := by
  refine (weights_at W m c h2 (((cfg0.win 2).rect t).emb y)).trans (congrArg _ (congrArg W ?_))
  exact (emb_val 2 t rfl y 1).trans (col_eq _ (congrFun (ix t).2.2.1 1))

include h3 in
theorem blk3 (t : Fin cfg0.N) (y : S512x2048.Idx) : iblk m c 3 t y = (D (512 * t.val + (y 0).val) (y 1).val : EReal) := by
  refine (congrFun (V_main_arg3 m c) _).trans ((h3 (((cfg0.win 3).rect t).emb y)).trans (congrArg _ (congrArg₂ D ?_ ?_)))
  · exact (emb_val 3 t rfl y 0).trans (row_eq _ (congrFun (ix t).2.2.2.1 0))
  · exact (emb_val 3 t rfl y 1).trans (col_eq _ (congrFun (ix t).2.2.2.1 1))

include h0 h1 h2 h3 in
/-- A point's rows of the input's gradient. -/
theorem dx_at (t : Fin cfg0.N) (y : S512x2048.Idx) :
    (outsAt0 m c t.val t.isLt).1 y = (dx H X D W (512 * t.val + (y 0).val) (y 1).val : EReal) := by
  have hN : t.val < 16 := Nat.lt_of_lt_of_eq t.isLt N_0
  have p := pay4_at H X D W (blk0 H m c h0 t) (blk1 X m c h1 t) (blk2 W m c h2 t) (blk3 D m c h3 t) y
  by_cases h : t.val = 0
  · rw [outsAt0_A m c t (by omega) (by omega)]; dsimp only; rw [dx_A]; exact p
  · rw [outsAt0_B m c t (by omega) (by omega)]; dsimp only; rw [dx_B]; exact p

include h0 h1 in
/-- The weights' sums after a point: the rows so far. -/
theorem dw_at : ∀ (n : ℕ) (hn : n < cfg0.N) (y : S1x2048.Idx), (outsAt0 m c n hn).2 y
    = ((∑ r ∈ range (512 * n + 512), H r (y 1).val * (X r (y 1).val * iv X r) : ℝ) : EReal)
  | n, hn, y => by
    have hN : n < 16 := Nat.lt_of_lt_of_eq hn N_0
    have p := pay5_at H X (blk0 H m c h0 ⟨n, hn⟩) (blk1 X m c h1 ⟨n, hn⟩) y
    by_cases h : n = 0
    · subst h
      rw [outsAt0_A m c ⟨0, hn⟩ (by dsimp only) (by dsimp only; omega)]
      dsimp only
      rw [dw_A, p]
      simp only [Nat.mul_zero, Nat.zero_add]
    · rw [outsAt0_B m c ⟨n, hn⟩ (by dsimp only; omega) (by dsimp only; omega)]
      dsimp only
      rw [dw_B]
      unfold k0_pay1
      rw [shapeCast_self]
      refine (congrArg₂ (fun x y : EReal => x + y) (dw_at (n - 1) (Nat.lt_of_le_of_lt (Nat.sub_le _ _) hn) y) p).trans ?_
      rw [← EReal.coe_add, show 512 * (n - 1) + 512 = 512 * n by omega, sum_range_add]
termination_by n => n
decreasing_by omega

include h0 h1 h2 h3 in
theorem final4 : (dats m 0 c).arrAt 4 cfg0.N
    = Cert.RmsRefIdeal.Read.val_main_v36 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ cov4 fun t ht y => ?_
  refine ((congrFun (after0_4 m c t) y).trans (dx_at H X D W m c h0 h1 h2 h3 t y)).trans ((ref_dx H X D W h0 h1 h2 h3 _).trans ?_).symm
  refine congrArg _ (congrArg₂ (dx H X D W) ?_ ?_)
  · exact (emb_val 4 t rfl y 0).trans (row_eq _ (congrFun (ix t).2.2.2.2.1 0))
  · exact (emb_val 4 t rfl y 1).trans (col_eq _ (congrFun (ix t).2.2.2.2.1 1))

include h0 h1 in
theorem final5 : (dats m 0 c).arrAt 5 cfg0.N
    = Cert.RmsRefIdeal.Read.val_main_v37 (F := Ideal) (m ((c.tc : Thread nD τ).loc main_arg0)) (m ((c.tc : Thread nD τ).loc main_arg1)) := by
  refine (dats m 0 c).arrAt_eq_of_covers 5 _ cov5 fun t ht y => ?_
  have h := (flush0_5 t).mp ht
  have hN : t.val < 16 := Nat.lt_of_lt_of_eq t.isLt N_0
  refine ((congrFun (after0_5 m c t) y).trans (dw_at H X m c h0 h1 t.val t.isLt y)).trans ((ref_dw H X h0 h1 _).trans ?_).symm
  rw [show 512 * t.val + 512 = 8192 by omega]
  exact congrArg (fun k => ((dw H X k : ℝ) : EReal)) ((emb_val 5 t rfl y 1).trans (col_eq _ (congrFun (ix t).2.2.2.2.2 1)))

end Run

/-- An array of reals as a function of row and column. -/
theorem reals2 {n k : ℕ} (x : (⟨2, ![n, k]⟩ : Shape).Idx → EReal) (h : x = fun i => ((x i).toReal : EReal)) :
    ∃ f : ℕ → ℕ → ℝ, ∀ y, x y = (f (y 0).val (y 1).val : EReal) := by
  obtain ⟨f, hf⟩ := exists_fun2 (β := ℝ) (fun i => (x i).toReal)
  exact ⟨f, fun y => (congrFun h y).trans (congrArg _ (hf y))⟩

/-- A list of reals as a function of its place. -/
theorem reals1 {n : ℕ} (x : (⟨1, ![n]⟩ : Shape).Idx → EReal) (h : x = fun i => ((x i).toReal : EReal)) :
    ∃ f : ℕ → ℝ, ∀ y, x y = (f (y 0).val : EReal) := by
  refine ⟨fun k => if hk : k < n then (x (fun a => match a with | ⟨0, _⟩ => ⟨k, hk⟩)).toReal else 0, fun y => ?_⟩
  have e : y = (fun a => match a with | ⟨0, _⟩ => ⟨(y 0).val, (y 0).isLt⟩) := funext fun a => match a with | ⟨0, _⟩ => rfl
  refine ((congrFun h y).trans (congrArg (fun z => ((x z).toReal : EReal)) e)).trans (congrArg _ ?_)
  have hk : (y 0).val < n := (y 0).isLt
  beta_reduce
  split
  · rfl
  · contradiction

omit H X D W in
/-- Of real arguments the kernel and the reference end with the same gradients of the input and of the weights. -/
theorem algebraic : Cert.algebraic_RmsIdeal_RmsRefIdeal_pre_finite_rms := by
  intro m ρ m' ρ' hp hm
  refine ⟨fun c => Cert.RmsRefIdeal.Read.val_main_v36 (F := Ideal) (m ((c.tc : Thread nD τ).loc main_arg0)) (m ((c.tc : Thread nD τ).loc main_arg1))
      (m ((c.tc : Thread nD τ).loc main_arg2)) (m ((c.tc : Thread nD τ).loc main_arg3)),
    fun c => Cert.RmsRefIdeal.Read.val_main_v37 (F := Ideal) (m ((c.tc : Thread nD τ).loc main_arg0)) (m ((c.tc : Thread nD τ).loc main_arg1)), ?_, ?_⟩
  · refine (θ_run defs _ _).mono (fun _ h c => ?_) (θ_run_and (run_main m ρ) (unchanged m ρ))
    obtain ⟨H, h0⟩ := reals2 (m ((c.tc : Thread nD τ).loc main_arg0)) (funext fun i => real_of_lt lit_inf (congrFun (hp c).1 i))
    obtain ⟨X, h1⟩ := reals2 (m ((c.tc : Thread nD τ).loc main_arg1)) (funext fun i => real_of_lt lit_inf (congrFun (hp c).2.1 i))
    obtain ⟨D, h3⟩ := reals2 (m ((c.tc : Thread nD τ).loc main_arg3)) (funext fun i => real_of_lt lit_inf (congrFun (hp c).2.2.2 i))
    obtain ⟨W, h2⟩ := reals1 (m ((c.tc : Thread nD τ).loc main_arg2)) (funext fun i => real_of_lt lit_inf (congrFun (hp c).2.2.1 i))
    exact ⟨((h.1 c).1 4).trans (final4 H X D W m c h0 h1 h2 h3), ((h.1 c).1 5).trans (final5 H X m c h0 h1), h.2 c⟩
  · refine (θ_run _ _ _).mono (fun _ h c => ⟨(h c).1.trans ?_, (h c).2.1.trans ?_, (h c).2.2⟩) (Cert.RmsRefIdeal.Value.run (F := Ideal) m' ρ')
    · rw [(hm c).1, (hm c).2.1, (hm c).2.2.1, (hm c).2.2.2]; exact Cert.RmsRefIdeal.Read.val_main_v36_eq _ _ _ _
    · rw [(hm c).1, (hm c).2.1]; exact Cert.RmsRefIdeal.Read.val_main_v37_eq _ _

end Cert.RmsIdeal.Own
-- ==== Proof.Merge.lean ====
/-
  The gradient of the gated merge: at the branches' projections, at the gates' arguments and at the gates' biases. The
  branches lie side by side, so column `q` of 8192 is column `q % 2048` of branch `q / 2048`.
-/
module

public import proofs.«01_k».proof.Defs
public import proofs.«01_k».proof.Proof.Prod
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.PureOps.Ideal.Laws

@[expose] public section

noncomputable section

namespace Cert.MergeIdeal.Own

open Cert.MergeIdeal Cert.MergeIdeal.Gen Cert.Own
open Idealize.ShloMosaic Idealize.ShloMosaic.TcCoe Idealize.SL.Sem Finset

theorem hz : (![0, 0] : Fin 2 → Nat) = fun _ => 0 := funext fun a => by fin_cases a <;> rfl

section Cases

variable {F : FTy → Type} [FloatOps F] (c : Dev nD) (i : grid0.Coords)
  (a3 : Memref sig .tc .vmem S512x512 .f32) (h3 : a3.IsWhole) (a4 : Memref sig .tc .vmem S512x512 .bf16) (h4 : a4.IsWhole)
  (a5 : Memref sig .tc .vmem S512x512 .bf16) (h5 : a5.IsWhole) (a6 : Memref sig .tc .vmem S512x512 .bf16) (h6 : a6.IsWhole)
  (a7 : Memref sig .tc .vmem S512x512 .bf16) (h7 : a7.IsWhole) (a8 : Memref sig .tc .vmem S4x512 .f32) (h8 : a8.IsWhole)
  (x0 : Vec F S512x512 .f32) (x1 x2 : Vec F S512x512 .bf16) (xs : Vec F S4x512 .f32)

theorem dp_A (hc : cond0_0 i) : out0_A_3 c i a3 h3 a4 h4 a5 h5 a6 h6 a7 h7 a8 h8 hc x0 x1 x2 = k0_pay2 x0 x1 := by
  unfold out0_A_3
  rw [View.read_writes_eq_canon _ _ _ (cover0_A_3 c i a3 h3 a4 h4 a5 h5 a6 h6 a7 h7 a8 h8 hc x0 x1 x2)]
  unfold kernelRun0_A
  dsimp only
  rw [View.canon_unit_zero hz]
  simp only [View.readAt_eq_ld, h3.read_unread, h4.read_unread, View.ld_unit_zero (S := S512x512) hz]

theorem dp_B (hc : ¬cond0_0 i) : out0_B_3 c i a3 h3 a4 h4 a5 h5 a6 h6 a7 h7 a8 h8 hc x0 x1 x2 xs = k0_pay2 x0 x1 := by
  unfold out0_B_3
  rw [View.read_writes_eq_canon _ _ _ (cover0_B_3 c i a3 h3 a4 h4 a5 h5 a6 h6 a7 h7 a8 h8 hc x0 x1 x2 xs)]
  unfold kernelRun0_B
  dsimp only
  rw [View.canon_unit_zero hz]
  simp only [View.readAt_eq_ld, h3.read_unread, h4.read_unread, View.ld_unit_zero (S := S512x512) hz]

theorem dt_A (hc : cond0_0 i) : out0_A_4 c i a3 h3 a4 h4 a5 h5 a6 h6 a7 h7 a8 h8 hc x0 x1 x2 = k0_pay4 x0 x1 x2 := by
  unfold out0_A_4
  rw [View.read_writes_eq_canon _ _ _ (cover0_A_4 c i a3 h3 a4 h4 a5 h5 a6 h6 a7 h7 a8 h8 hc x0 x1 x2)]
  unfold kernelRun0_A
  dsimp only
  rw [View.canon_unit_zero hz]
  simp only [View.readAt_eq_ld, h3.read_unread, h4.read_unread, h5.read_unread, View.ld_unit_zero (S := S512x512) hz]

theorem dt_B (hc : ¬cond0_0 i) : out0_B_4 c i a3 h3 a4 h4 a5 h5 a6 h6 a7 h7 a8 h8 hc x0 x1 x2 xs = k0_pay4 x0 x1 x2 := by
  unfold out0_B_4
  rw [View.read_writes_eq_canon _ _ _ (cover0_B_4 c i a3 h3 a4 h4 a5 h5 a6 h6 a7 h7 a8 h8 hc x0 x1 x2 xs)]
  unfold kernelRun0_B
  dsimp only
  rw [View.canon_unit_zero hz]
  simp only [View.readAt_eq_ld, h3.read_unread, h4.read_unread, h5.read_unread, View.ld_unit_zero (S := S512x512) hz]

/-- The bias sums at a column tile's first point: the point's own, over zeros. -/
theorem db_A (hc : cond0_0 i) : out0_A_5 c i a3 h3 a4 h4 a5 h5 a6 h6 a7 h7 a8 h8 hc x0 x1 x2 = k0_pay6 i x0 x1 x2 k0_pay5 := by
  unfold out0_A_5
  rw [View.read_writes_eq_canon _ _ _ (cover0_A_5 c i a3 h3 a4 h4 a5 h5 a6 h6 a7 h7 a8 h8 hc x0 x1 x2)]
  unfold kernelRun0_A
  dsimp only
  sl_unfold_words
  rw [View.canon_cons_unit_zero (S := S4x512) hz, View.readCov_unit_zero (S := S4x512) _ hz]
  simp only [View.readAt_eq_ld, h3.read_unread, h4.read_unread, h5.read_unread, View.ld_unit_zero (S := S512x512) hz]

/-- At every other point: over what the point before left. -/
theorem db_B (hc : ¬cond0_0 i) : out0_B_5 c i a3 h3 a4 h4 a5 h5 a6 h6 a7 h7 a8 h8 hc x0 x1 x2 xs = k0_pay6 i x0 x1 x2 xs := by
  unfold out0_B_5
  rw [View.read_writes_eq_canon _ _ _ (cover0_B_5 c i a3 h3 a4 h4 a5 h5 a6 h6 a7 h7 a8 h8 hc x0 x1 x2 xs)]
  unfold kernelRun0_B
  dsimp only
  sl_unfold_words
  rw [View.canon_unit_zero hz]
  simp only [View.readAt_eq_ld, h3.read_unread, h4.read_unread, h5.read_unread, h8.read_unread, View.ld_unit_zero (S := S512x512) hz,
    View.ld_unit_zero (S := S4x512) hz]

end Cases

set_option maxRecDepth 100000 in
/-- Where the blocks lie. -/
theorem ix : ∀ t : Fin grid0.N, (cfg0.win 0).index t = ![t.val / 4 % 16, t.val / 64]
    ∧ (cfg0.win 1).index t = ![t.val / 4 % 16, 4 * (t.val % 4) + t.val / 64]
    ∧ (cfg0.win 2).index t = ![t.val / 4 % 16, 4 * (t.val % 4) + t.val / 64]
    ∧ (cfg0.win 3).index t = ![t.val / 4 % 16, 4 * (t.val % 4) + t.val / 64]
    ∧ (cfg0.win 4).index t = ![t.val / 4 % 16, 4 * (t.val % 4) + t.val / 64]
    ∧ (cfg0.win 5).index t = ![0, t.val / 64] := by decide +kernel

set_option maxRecDepth 100000 in
theorem cov3 : (cfg0.win 3).Covers := by decide +kernel
set_option maxRecDepth 100000 in
theorem cov4 : (cfg0.win 4).Covers := by decide +kernel
set_option maxRecDepth 100000 in
theorem cov5 : (cfg0.win 5).Covers := by decide +kernel

/-- A coordinate of an element of a block in its array. -/
theorem emb_val (w : Fin 6) (t : Fin cfg0.N) (hk : (cfg0.win w).kind = .blocked) (y) (a) :
    (((cfg0.win w).rect t).emb y a : ℕ) = (cfg0.win w).index t a * (cfg0.win w).size a + y a :=
  Pipeline.Window.rect_emb_val _ t y a hk

/-- What the host's lines leave as the gates. -/
theorem gates_eq {F : FTy → Type} [FloatOps F] (m : (ℓ : Loc nD τ sig) → Buf (Elt F) ℓ) (c : Dev nD) :
    V m c main_v10 = truncf .bf16 (Host.divf (broadcastInDim S8192x8192 ![] bcast_S_S8192x8192 (constant S_ .f32 0x3F800000#32))
      (addf (broadcastInDim S8192x8192 ![] bcast_S_S8192x8192 (constant S_ .f32 0x3F800000#32)) (Host.exp (Host.negf
        (addf (m ((c.tc : Thread nD τ).loc main_arg1)) (broadcastInDim S8192x8192 ![0, 1] bcast_S1x8192_S8192x8192_0_1
          (broadcastInDim S1x8192 ![1] bcast_S8192_S1x8192_1
            (shapeCast _ (m ((c.tc : Thread nD τ).loc main_arg2)) shapeCasts_S4x2048_S8192)))))))) bitsLt_bf16_f32 := by
  after_results_simp <;> rfl

variable (f u : ℕ → ℕ → EReal) (b : ℕ → ℕ → EReal) (p : ℕ → ℕ → EReal)

/-- The gate of a row and a column. -/
def gate (r q : ℕ) : EReal :=
  FloatOps.hostDivf (F := Ideal) (φ := .f32) (FloatOps.ofBits .f32 0x3F800000#32) (FloatOps.addf (F := Ideal) (φ := .f32) (FloatOps.ofBits .f32 0x3F800000#32)
    (FloatOps.hostUnary (F := Ideal) (φ := .f32) .exp (FloatOps.hostNegf (F := Ideal) (φ := .f32) (u r q + b (q / 2048) (q % 2048) : EReal))))

/-- The gradient at a branch's projection. -/
def gradP (r q : ℕ) : EReal := f r (q % 2048) * gate u b r q

/-- The gradient at a gate's argument. -/
def gradT (r q : ℕ) : EReal :=
  f r (q % 2048) * p r q * gate u b r q * (FloatOps.ofBits (F := Ideal) .f32 0x3F800000#32 - gate u b r q)

theorem zero_word : FloatOps.ofBits (F := Ideal) .f32 0x00000000#32 = 0 := Ideal.ofBits_zero_f32

section Ref

open Cert.MergeRefIdeal.Read

variable (X0 : S8192x2048.Idx → EReal) (X1 : S8192x8192.Idx → EReal) (X2 : S4x2048.Idx → EReal) (X3 : S8192x8192.Idx → EReal)
  (h0 : ∀ y, X0 y = f (y 0).val (y 1).val) (h1 : ∀ y, X1 y = u (y 0).val (y 1).val) (h2 : ∀ y, X2 y = b (y 0).val (y 1).val)
  (h3 : ∀ y, X3 y = p (y 0).val (y 1).val)

include h1 h2 in
theorem ref_gate (i : Cert.MergeRefIdeal.S8192x4x2048.Idx) :
    val_main_v10 (F := Ideal) X1 X2 i = gate u b (i 0).val (2048 * (i 1).val + (i 2).val) := by
  have l1 : (i 1).val < 4 := (i 1).isLt
  have l2 : (i 2).val < 2048 := (i 2).isLt
  rw [val_main_v10_apply, val_main_v9_apply, val_main_v8_apply, val_main_v7_apply, val_main_v6_apply, val_main_v5_apply,
    val_main_v4_apply, val_main_v3_apply, val_main_v2_apply, val_main_v1_apply, val_main_cst_apply, val_main_cst_0_apply, h1, h2]
  unfold gate
  congr 4
  refine congrArg₂ (fun x y : EReal => x + y) (congrArg₂ u ?_ ?_) (congrArg₂ b ?_ ?_) <;> dsimp only <;> omega

include h0 h1 h2 in
theorem ref_dp (i : S8192x8192.Idx) : val_main_v26 (F := Ideal) X0 X1 X2 i = gradP f u b (i 0).val (i 1).val := by
  have l1 : (i 1).val < 8192 := (i 1).isLt
  rw [val_main_v26_apply, Ideal.truncf_def, val_main_v20_apply, val_main_v18_apply, val_main_v17_apply, ref_gate u b _ _ h1 h2, h0]
  refine (mul_comm (G := EReal) _ _).trans ?_
  unfold gradP
  refine congrArg₂ (fun x y : EReal => x * y) (congrArg₂ f ?_ ?_) (congrArg₂ (gate u b) ?_ ?_) <;> dsimp only <;> omega

include h0 h1 h2 h3 in
theorem ref_v21 (i : Cert.MergeRefIdeal.S8192x4x2048.Idx) :
    val_main_v21 (F := Ideal) X0 X1 X2 X3 i = gradT f u b p (i 0).val (2048 * (i 1).val + (i 2).val) := by
  have l1 : (i 1).val < 4 := (i 1).isLt
  have l2 : (i 2).val < 2048 := (i 2).isLt
  rw [val_main_v21_apply, val_main_v19_apply, val_main_v13_apply, val_main_v12_apply, val_main_v11_apply, val_main_cst_1_apply,
    val_main_v17_apply, val_main_v14_apply, val_main_v0_apply, Ideal.extf_def, ref_gate u b _ _ h1 h2, h0, h3]
  refine (mul_assoc (G := EReal) _ _ _).symm.trans ?_
  unfold gradT
  refine congrArg₂ (fun x y : EReal => x * y) (congrArg₂ (fun x y : EReal => x * y)
    (congrArg₂ (fun x y : EReal => x * y) (congrArg₂ f ?_ ?_) (congrArg₂ p ?_ ?_)) rfl) rfl <;> dsimp only <;> omega

include h0 h1 h2 h3 in
theorem ref_dt (i : S8192x8192.Idx) : val_main_v27 (F := Ideal) X0 X1 X2 X3 i = gradT f u b p (i 0).val (i 1).val := by
  have l1 : (i 1).val < 8192 := (i 1).isLt
  rw [val_main_v27_apply, Ideal.truncf_def, val_main_v25_apply, ref_v21 f u b p _ _ _ _ h0 h1 h2 h3]
  refine congrArg₂ (gradT f u b p) ?_ ?_ <;> dsimp only <;> omega

include h0 h1 h2 h3 in
theorem ref_db (i : S4x2048.Idx) :
    val_main_v24 (F := Ideal) X0 X1 X2 X3 i = ∑ r ∈ range 8192, gradT f u b p r (2048 * (i 0).val + (i 1).val) := by
  have l0 : (i 0).val < 4 := (i 0).isLt
  have l1 : (i 1).val < 2048 := (i 1).isLt
  rw [val_main_v24_apply, val_main_cst_4_apply, zero_word, zero_add, Fin.sum_univ_one, val_main_v23_apply, val_main_v22_apply,
    val_main_cst_3_apply, zero_word, zero_add, ← Fin.sum_univ_eq_sum_range (fun r => gradT f u b p r (2048 * (i 0).val + (i 1).val))]
  refine sum_congr rfl fun k _ => (ref_v21 f u b p _ _ _ _ h0 h1 h2 h3 _).trans (congrArg (gradT f u b p k.val) ?_)
  dsimp only [Fin.val_zero]
  omega

end Ref

theorem sel_eq {a b : ℕ} (ha : a < 4) (hb : b < 4) (x y : EReal) :
    Scalar.select (IntOp.cmpi .eq (BitVec.ofNat 32 a) (BitVec.ofNat 32 b)) x y = if a = b then x else y := by
  interval_cases a <;> interval_cases b <;> rfl

section Pay

variable (x0 : Vec Ideal S512x512 .f32) (x1 x2 : Vec Ideal S512x512 .bf16) (xs : Vec Ideal S4x512 .f32)

theorem pay2_at (y : S512x512.Idx) : k0_pay2 x0 x1 y = (x0 y * x1 y : EReal) := by
  unfold k0_pay2 k0_pay1
  rw [shapeCast_self]
  rfl

theorem pay3_at (y : S512x512.Idx) :
    k0_pay3 x0 x1 x2 y = (x0 y * x2 y * x1 y * (FloatOps.ofBits (F := Ideal) .f32 0x3F800000#32 - x1 y) : EReal) := by
  unfold k0_pay3 k0_pay1
  rw [shapeCast_self]
  rfl

theorem pay4_at (y : S512x512.Idx) : k0_pay4 x0 x1 x2 y = k0_pay3 x0 x1 x2 y := rfl

/-- A point adds the column sums of its tile to its own branch's row, and nothing to the others. -/
theorem pay6_at (i : grid0.Coords) (T : ℕ → ℕ → EReal) (hT : ∀ y, k0_pay3 x0 x1 x2 y = T (y 0).val (y 1).val) (y : S4x512.Idx) :
    k0_pay6 i x0 x1 x2 xs y = (xs y + if (y 0).val = (i 2).val then ∑ r ∈ range 512, T r (y 1).val else 0 : EReal) := by
  have hi : (i 2).val < 4 := (i 2).isLt
  have hy : (y 0).val < 4 := (y 0).isLt
  unfold k0_pay6
  simp only [shapeCast_self]
  show (xs y : EReal) + Scalar.select (IntOp.cmpi .eq (iota .tc S4x512 32 [0] iota_S4x512_d0_w32 y) (BitVec.ofNat 32 (i 2).val))
    (broadcastTo S4x512 (shapeCast S1x512 (multiReduction .add [0] S512 (k0_pay3 x0 x1 x2) 0x00000000#32 reduces_S512x512_S512 (.inl rfl) rfl)
      shapeCasts_S512_S1x512) broadcasts_S1x512_S4x512 y) (FloatOps.ofBits (F := Ideal) .f32 0x00000000#32) = _
  rw [iota_single_apply, zero_word, sel_eq hy hi]
  refine congrArg (fun z : EReal => (xs y : EReal) + z) (if_congr Iff.rfl ?_ rfl)
  rw [broadcastTo_apply _ _ y (fun a => match a with
      | ⟨0, _⟩ => ⟨0, Nat.one_pos⟩
      | ⟨1, _⟩ => ⟨(y 1).val, (y 1).isLt⟩ : S1x512.Idx) (fun a => match a with
      | ⟨0, _⟩ => rfl
      | ⟨1, _⟩ => rfl), shapeCast_apply _ _ _ (fun a => match a with | ⟨0, _⟩ => ⟨(y 1).val, (y 1).isLt⟩ : S512.Idx) ?_]
  · refine (Ideal.multiReduction_add_single _ _ _ _ _ _).trans ?_
    rw [← Fin.sum_univ_eq_sum_range (fun r => T r (y 1).val)]
    exact sum_congr rfl fun k _ => hT _
  · rw [Shape.rowMajor_val_one, Shape.rowMajor_val_two]
    show (y 1).val = 0 * 512 + (y 1).val
    omega

end Pay

variable (m : (ℓ : Loc nD τ sig) → Buf (Elt Ideal) ℓ) (c : Dev nD)
  (h0 : ∀ y : S8192x2048.Idx, m ((c.tc : Thread nD τ).loc main_arg0) y = f (y 0).val (y 1).val)
  (h1 : ∀ y : S8192x8192.Idx, m ((c.tc : Thread nD τ).loc main_arg1) y = u (y 0).val (y 1).val)
  (h2 : ∀ y : S4x2048.Idx, m ((c.tc : Thread nD τ).loc main_arg2) y = b (y 0).val (y 1).val)
  (h3 : ∀ y : S8192x8192.Idx, m ((c.tc : Thread nD τ).loc main_arg3) y = p (y 0).val (y 1).val)

include h1 h2 in
theorem gates_at (y : S8192x8192.Idx) : V m c main_v10 y = gate u b (y 0).val (y 1).val := by
  have l1 : (y 1).val < 8192 := (y 1).isLt
  rw [gates_eq]
  refine congrArg (fun z : EReal => FloatOps.hostDivf (F := Ideal) (φ := .f32) (FloatOps.ofBits .f32 0x3F800000#32) (FloatOps.addf (F := Ideal) (φ := .f32) (FloatOps.ofBits .f32 0x3F800000#32)
    (FloatOps.hostUnary (F := Ideal) (φ := .f32) .exp (FloatOps.hostNegf (F := Ideal) (φ := .f32) z)))) ?_
  refine congrArg₂ (fun x y : EReal => x + y) (h1 y) ?_
  rw [broadcastInDim_apply _ _ _ y (fun a => match a with
      | ⟨0, _⟩ => ⟨0, Nat.one_pos⟩
      | ⟨1, _⟩ => ⟨(y 1).val, (y 1).isLt⟩ : S1x8192.Idx) (fun a => match a with
      | ⟨0, _⟩ => rfl
      | ⟨1, _⟩ => rfl),
    broadcastInDim_apply _ _ _ _ (fun a => match a with | ⟨0, _⟩ => ⟨(y 1).val, (y 1).isLt⟩ : S8192.Idx) (fun a => match a with
      | ⟨0, _⟩ => rfl),
    shapeCast_apply _ _ _ (fun a => match a with
      | ⟨0, _⟩ => ⟨(y 1).val / 2048, by show _ < 4; omega⟩
      | ⟨1, _⟩ => ⟨(y 1).val % 2048, by show _ < 2048; omega⟩ : S4x2048.Idx) ?_, h2]
  rw [Shape.rowMajor_val_one, Shape.rowMajor_val_two]
  show (y 1).val / 2048 * 2048 + (y 1).val % 2048 = (y 1).val
  omega

include h0 in
theorem blk0 (t : Fin cfg0.N) (y : S512x512.Idx) :
    iblk m c 0 t y = f (512 * (t.val / 4 % 16) + (y 0).val) (512 * (t.val / 64) + (y 1).val) := by
  refine (congrFun (V_main_arg0 m c) _).trans ((h0 (((cfg0.win 0).rect t).emb y)).trans (congrArg₂ f ?_ ?_))
  · rw [emb_val 0 t rfl, (ix t).1]; exact congrArg (· + (y 0).val) (Nat.mul_comm _ _)
  · rw [emb_val 0 t rfl, (ix t).1]; exact congrArg (· + (y 1).val) (Nat.mul_comm _ _)

/-- The row and the column of an element of a point's tile. -/
abbrev row (t y0 : ℕ) : ℕ := 512 * (t / 4 % 16) + y0
abbrev col (t y1 : ℕ) : ℕ := 512 * (4 * (t % 4) + t / 64) + y1

include h1 h2 in
theorem blk1 (t : Fin cfg0.N) (y : S512x512.Idx) : iblk m c 1 t y = gate u b (row t.val (y 0).val) (col t.val (y 1).val) := by
  refine (gates_at u b m c h1 h2 (((cfg0.win 1).rect t).emb y)).trans (congrArg₂ (gate u b) ?_ ?_)
  · rw [emb_val 1 t rfl, (ix t).2.1]; exact congrArg (· + (y 0).val) (Nat.mul_comm _ _)
  · rw [emb_val 1 t rfl, (ix t).2.1]; exact congrArg (· + (y 1).val) (Nat.mul_comm _ _)

include h3 in
theorem blk2 (t : Fin cfg0.N) (y : S512x512.Idx) : iblk m c 2 t y = p (row t.val (y 0).val) (col t.val (y 1).val) := by
  refine (congrFun (V_main_arg3 m c) _).trans ((h3 (((cfg0.win 2).rect t).emb y)).trans (congrArg₂ p ?_ ?_))
  · rw [emb_val 2 t rfl, (ix t).2.2.1]; exact congrArg (· + (y 0).val) (Nat.mul_comm _ _)
  · rw [emb_val 2 t rfl, (ix t).2.2.1]; exact congrArg (· + (y 1).val) (Nat.mul_comm _ _)

theorem col_mod (t : Fin cfg0.N) (y : S512x512.Idx) : col t.val (y 1).val % 2048 = 512 * (t.val / 64) + (y 1).val := by
  have hN : t.val < 256 := Nat.lt_of_lt_of_eq t.isLt N_0
  have hy : (y 1).val < 512 := (y 1).isLt
  unfold col
  omega

include h0 h1 h2 in
theorem dp_pt (t : Fin cfg0.N) (y : S512x512.Idx) :
    k0_pay2 (iblk m c 0 t) (iblk m c 1 t) y = gradP f u b (row t.val (y 0).val) (col t.val (y 1).val) := by
  rw [pay2_at, blk0 f m c h0, blk1 u b m c h1 h2]
  unfold gradP
  rw [col_mod]

include h0 h1 h2 h3 in
theorem dt_pt (t : Fin cfg0.N) (y : S512x512.Idx) :
    k0_pay3 (iblk m c 0 t) (iblk m c 1 t) (iblk m c 2 t) y = gradT f u b p (row t.val (y 0).val) (col t.val (y 1).val) := by
  rw [pay3_at, blk0 f m c h0, blk1 u b m c h1 h2, blk2 p m c h3]
  unfold gradT
  rw [col_mod]

include h0 h1 h2 in
theorem dp_at (t : Fin cfg0.N) (y : S512x512.Idx) :
    (outsAt0 m c t.val t.isLt).1 y = gradP f u b (row t.val (y 0).val) (col t.val (y 1).val) := by
  by_cases h : t.val % 64 = 0
  · rw [outsAt0_A m c t h]; dsimp only; rw [dp_A]; exact dp_pt f u b m c h0 h1 h2 t y
  · rw [outsAt0_B m c t h]; dsimp only; rw [dp_B]; exact dp_pt f u b m c h0 h1 h2 t y

include h0 h1 h2 h3 in
theorem dt_at (t : Fin cfg0.N) (y : S512x512.Idx) :
    (outsAt0 m c t.val t.isLt).2.1 y = gradT f u b p (row t.val (y 0).val) (col t.val (y 1).val) := by
  by_cases h : t.val % 64 = 0
  · rw [outsAt0_A m c t h]; dsimp only; rw [dt_A, pay4_at]; exact dt_pt f u b p m c h0 h1 h2 h3 t y
  · rw [outsAt0_B m c t h]; dsimp only; rw [dt_B, pay4_at]; exact dt_pt f u b p m c h0 h1 h2 h3 t y

/-- The row tiles that branch `g` has summed after point `n`. -/
def done (n g : ℕ) : ℕ := n / 4 % 16 + if g ≤ n % 4 then 1 else 0

theorem coord2 (t : Fin cfg0.N) : (grid0.coords t 2).val = t.val % 4 := by
  have e : (grid0.coords t 2).val = t.val / 1 % 4 := Pipeline.Grid.coords_val t 2 (by decide) rfl
  rw [e, Nat.div_one]

include h0 h1 h2 h3 in
/-- The bias sums after a point. -/
theorem db_at : ∀ (n : ℕ) (hn : n < cfg0.N) (y : S4x512.Idx), (outsAt0 m c n hn).2.2 y
    = ∑ r ∈ range (512 * done n (y 0).val), gradT f u b p r (2048 * (y 0).val + (512 * (n / 64) + (y 1).val))
  | n, hn, y => by
    have hN : n < 256 := Nat.lt_of_lt_of_eq hn N_0
    have hy : (y 0).val < 4 := (y 0).isLt
    have step := fun xs => pay6_at (iblk m c 0 ⟨n, hn⟩) (iblk m c 1 ⟨n, hn⟩) (iblk m c 2 ⟨n, hn⟩) xs (grid0.coords ⟨n, hn⟩)
      (fun a d => gradT f u b p (row n a) (col n d)) (dt_pt f u b p m c h0 h1 h2 h3 ⟨n, hn⟩) y
    rw [coord2] at step
    dsimp only at step
    by_cases h : n % 64 = 0
    · rw [outsAt0_A m c ⟨n, hn⟩ h]
      dsimp only
      rw [db_A, step]
      refine (congrArg (fun z : EReal => z + _) zero_word).trans ((zero_add _).trans ?_)
      unfold done
      by_cases e : (y 0).val = n % 4
      · rw [if_pos e, if_pos (by omega), show 512 * (n / 4 % 16 + 1) = 512 by omega]
        exact sum_congr rfl fun r _ => congrArg₂ (gradT f u b p) (by unfold row; omega) (by unfold col; omega)
      · rw [if_neg e, if_neg (by omega), show 512 * (n / 4 % 16 + 0) = 0 by omega, range_zero, sum_empty]
    · rw [outsAt0_B m c ⟨n, hn⟩ h]
      dsimp only
      rw [db_B, step, db_at (n - 1) (Nat.lt_of_le_of_lt (Nat.sub_le _ _) hn) y, show (n - 1) / 64 = n / 64 by omega]
      by_cases e : (y 0).val = n % 4
      · rw [if_pos e, show done (n - 1) (y 0).val = n / 4 % 16 by unfold done; split_ifs <;> omega,
          show 512 * done n (y 0).val = 512 * (n / 4 % 16) + 512 by unfold done; split_ifs <;> omega, sum_range_add]
        exact congrArg (fun z : EReal => _ + z) (sum_congr rfl fun r _ => congrArg₂ (gradT f u b p) rfl (by unfold col; omega))
      · rw [if_neg e, add_zero, show done (n - 1) (y 0).val = done n (y 0).val by unfold done; split_ifs <;> omega]
termination_by n => n
decreasing_by omega

include h0 h1 h2 in
theorem final3 : (dats m 0 c).arrAt 3 cfg0.N
    = Cert.MergeRefIdeal.Read.val_main_v26 (F := Ideal) (m ((c.tc : Thread nD τ).loc main_arg0)) (m ((c.tc : Thread nD τ).loc main_arg1)) (m ((c.tc : Thread nD τ).loc main_arg2)) := by
  refine (dats m 0 c).arrAt_eq_of_covers 3 _ cov3 fun t ht y => ?_
  refine ((congrFun (after0_3 m c t) y).trans (dp_at f u b m c h0 h1 h2 t y)).trans ((ref_dp f u b _ _ _ h0 h1 h2 _).trans ?_).symm
  refine congrArg₂ (gradP f u b) ?_ ?_
  · refine (emb_val 3 t rfl y 0).trans ?_
    rw [(ix t).2.2.2.1]; exact congrArg (· + (y 0).val) (Nat.mul_comm _ _)
  · refine (emb_val 3 t rfl y 1).trans ?_
    rw [(ix t).2.2.2.1]; exact congrArg (· + (y 1).val) (Nat.mul_comm _ _)

include h0 h1 h2 h3 in
theorem final4 : (dats m 0 c).arrAt 4 cfg0.N
    = Cert.MergeRefIdeal.Read.val_main_v27 (F := Ideal) (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 4 _ cov4 fun t ht y => ?_
  refine ((congrFun (after0_4 m c t) y).trans (dt_at f u b p m c h0 h1 h2 h3 t y)).trans ((ref_dt f u b p _ _ _ _ h0 h1 h2 h3 _).trans ?_).symm
  refine congrArg₂ (gradT f u b p) ?_ ?_
  · refine (emb_val 4 t rfl y 0).trans ?_
    rw [(ix t).2.2.2.2.1]; exact congrArg (· + (y 0).val) (Nat.mul_comm _ _)
  · refine (emb_val 4 t rfl y 1).trans ?_
    rw [(ix t).2.2.2.2.1]; exact congrArg (· + (y 1).val) (Nat.mul_comm _ _)

include h0 h1 h2 h3 in
theorem final5 : (dats m 0 c).arrAt 5 cfg0.N
    = Cert.MergeRefIdeal.Read.val_main_v24 (F := Ideal) (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 5 _ cov5 fun t ht y => ?_
  have h := (flush0_5 t).mp ht
  have hy : (y 0).val < 4 := (y 0).isLt
  refine ((congrFun (after0_5 m c t) y).trans (db_at f u b p m c h0 h1 h2 h3 t.val t.isLt y)).trans ((ref_db f u b p _ _ _ _ h0 h1 h2 h3 _).trans ?_).symm
  have e0 : (((cfg0.win 5).rect t).emb y 0 : ℕ) = (y 0).val := by
    refine (emb_val 5 t rfl y 0).trans ?_
    rw [(ix t).2.2.2.2.2]; exact (congrArg (· + (y 0).val) (Nat.zero_mul _)).trans (Nat.zero_add _)
  have e1 : (((cfg0.win 5).rect t).emb y 1 : ℕ) = 512 * (t.val / 64) + (y 1).val := by
    refine (emb_val 5 t rfl y 1).trans ?_
    rw [(ix t).2.2.2.2.2]; exact congrArg (· + (y 1).val) (Nat.mul_comm _ _)
  rw [show 512 * done t.val (y 0).val = 8192 by unfold done; split_ifs <;> omega]
  exact sum_congr rfl fun r _ => congrArg (gradT f u b p r) (congrArg₂ (fun a d => 2048 * a + d) e0 e1)

omit f u b p in
/-- The kernel and the reference end with the same three gradients. -/
theorem algebraic : Cert.algebraic_MergeIdeal_MergeRefIdeal := by
  intro m ρ m' ρ' _ hm
  refine ⟨fun c => Cert.MergeRefIdeal.Read.val_main_v26 (F := Ideal) (m ((c.tc : Thread nD τ).loc main_arg0)) (m ((c.tc : Thread nD τ).loc main_arg1)) (m ((c.tc : Thread nD τ).loc main_arg2)),
    fun c => Cert.MergeRefIdeal.Read.val_main_v27 (F := Ideal) (m ((c.tc : Thread nD τ).loc main_arg0)) (m ((c.tc : Thread nD τ).loc main_arg1)) (m ((c.tc : Thread nD τ).loc main_arg2))
      (m ((c.tc : Thread nD τ).loc main_arg3)),
    fun c => Cert.MergeRefIdeal.Read.val_main_v24 (F := Ideal) (m ((c.tc : Thread nD τ).loc main_arg0)) (m ((c.tc : Thread nD τ).loc main_arg1)) (m ((c.tc : Thread nD τ).loc main_arg2))
      (m ((c.tc : Thread nD τ).loc main_arg3)), ?_, ?_⟩
  · refine (θ_run defs _ _).mono (fun _ h c => ?_) (θ_run_and (run_main m ρ) (unchanged m ρ))
    obtain ⟨f, h0⟩ := exists_fun2 (β := EReal) (m ((c.tc : Thread nD τ).loc main_arg0))
    obtain ⟨u, h1⟩ := exists_fun2 (β := EReal) (m ((c.tc : Thread nD τ).loc main_arg1))
    obtain ⟨b, h2⟩ := exists_fun2 (β := EReal) (m ((c.tc : Thread nD τ).loc main_arg2))
    obtain ⟨p, h3⟩ := exists_fun2 (β := EReal) (m ((c.tc : Thread nD τ).loc main_arg3))
    exact ⟨((h.1 c).1 3).trans (final3 f u b m c h0 h1 h2), ((h.1 c).1 4).trans (final4 f u b p m c h0 h1 h2 h3),
      ((h.1 c).1 5).trans (final5 f u b p m c h0 h1 h2 h3), h.2 c⟩
  · refine (θ_run _ _ _).mono (fun _ h c => ⟨(h c).1.trans ?_, (h c).2.1.trans ?_, (h c).2.2.1.trans ?_, (h c).2.2.2⟩)
      (Cert.MergeRefIdeal.Value.run (F := Ideal) m' ρ')
    · rw [(hm c).1, (hm c).2.1, (hm c).2.2.1]; exact Cert.MergeRefIdeal.Read.val_main_v26_eq _ _ _
    · rw [(hm c).1, (hm c).2.1, (hm c).2.2.1, (hm c).2.2.2]; exact Cert.MergeRefIdeal.Read.val_main_v27_eq _ _ _ _
    · rw [(hm c).1, (hm c).2.1, (hm c).2.2.1, (hm c).2.2.2]; exact Cert.MergeRefIdeal.Read.val_main_v24_eq _ _ _ _

end Cert.MergeIdeal.Own
-- ==== Proof.Win.lean ====
/-
  The gradient of the input projection's weights: the products of the columns, summed over two halves of the rows.
-/
module

public import proofs.«01_k».proof.Defs
public import proofs.«01_k».proof.Proof.Prod
public import proofs.«01_k».proof.Proof.Gen.WinIdeal.Frame
public import proofs.«01_k».proof.Proof.Gen.WinRefIdeal.Run
public import proofs.«01_k».proof.Proof.Gen.WinRefIdeal.Read
public import Idealize.ShloMosaic.Lib.Pipeline.ValueKit

@[expose] public section

noncomputable section

namespace Cert.WinIdeal.Own

open Cert.WinIdeal Cert.WinIdeal.Gen Cert.Own
open Idealize.ShloMosaic Idealize.ShloMosaic.TcCoe Idealize.SL.Sem Finset

theorem hz : (![0, 0] : Fin 2 → Nat) = fun _ => 0 := funext fun a => by fin_cases a <;> rfl

section Cases

variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 x1 : Vec F S4096x1024 .bf16) (xs : Vec F S1024x1024 .f32)

/-- At the first half the accumulator is the product. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S4096x1024) hz, shapeCast_self]

/-- At the second half the result is the accumulator and the product, rounded. -/
theorem out_B (hc0 : ¬cond0_0 i) (hc1 : cond0_1 i) (hc2 : cond0_2 i) :
    out0_B_2 c i a3 h3 a4 h4 a5 h5 a6 h6 hc0 hc1 hc2 x0 x1 xs = truncf .bf16 (addf xs (k0_pay1 x0 x1)) bitsLt_bf16_f32 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz, View.readCov_unit_zero (S := S1024x1024) _ hz]
  unfold k0_pay4 k0_pay3
  simp only [View.readAt_eq_ld, h3.read_unread, h4.read_unread, h6.read_unread, View.ld_unit_zero (S := S4096x1024) hz,
    View.ld_unit_zero (S := S1024x1024) hz, shapeCast_self]

end Cases

set_option maxRecDepth 100000 in
/-- Where the blocks lie. -/
theorem ix : ∀ t : Fin grid0.N, (cfg0.win 0).index t = ![t.val % 2, t.val / 4] ∧ (cfg0.win 1).index t = ![t.val % 2, t.val / 2 % 2]
    ∧ (cfg0.win 2).index t = ![t.val / 4, t.val / 2 % 2] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

variable (f g : ℕ → ℕ → EReal)

/-- The reference's result at an index. -/
theorem ref_at (X0 : S8192x14336.Idx → EReal) (X1 : S8192x2048.Idx → EReal) (hf : ∀ y, X0 y = f (y 0).val (y 1).val)
    (hg : ∀ y, X1 y = g (y 0).val (y 1).val) (i : S14336x2048.Idx) :
    Cert.WinRefIdeal.Read.val_main_v7 (F := Ideal) X0 X1 i = ∑ r ∈ range 8192, f r (i 0).val * g r (i 1).val := by
  rw [Cert.WinRefIdeal.Read.val_main_v7_apply, Ideal.truncf_def, Cert.WinRefIdeal.Read.val_main_v6_apply,
    Cert.WinRefIdeal.Read.val_main_v5_apply, Cert.WinRefIdeal.Read.val_main_v4_apply,
    ← Fin.sum_univ_eq_sum_range (fun r => f r (i 0).val * g r (i 1).val)]
  refine sum_congr rfl fun k _ => ?_
  rw [Cert.WinRefIdeal.Read.val_main_v3_apply, Cert.WinRefIdeal.Read.val_main_v1_apply, Ideal.extf_def, Ideal.extf_def, hf, hg]

variable (m : (ℓ : Loc nD τ sig) → Buf (Elt Ideal) ℓ) (c : Dev nD)
  (hf : ∀ y : S8192x14336.Idx, m ((c.tc : Thread nD τ).loc main_arg0) y = f (y 0).val (y 1).val)
  (hg : ∀ y : S8192x2048.Idx, m ((c.tc : Thread nD τ).loc main_arg1) y = g (y 0).val (y 1).val)
include hf hg

theorem blk0 (t : Fin cfg0.N) (y : S4096x1024.Idx) :
    iblk m c 0 t y = f (4096 * (t.val % 2) + (y 0).val) (1024 * (t.val / 4) + (y 1).val) := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]; exact congrArg (· + (y 1).val) (Nat.mul_comm _ _)

theorem blk1 (t : Fin cfg0.N) (y : S4096x1024.Idx) :
    iblk m c 1 t y = g (4096 * (t.val % 2) + (y 0).val) (1024 * (t.val / 2 % 2) + (y 1).val) := by
  refine (hg (((cfg0.win 1).rect t).emb y)).trans (congrArg₂ g ?_ ?_)
  · rw [emb_val 1 t rfl, (ix t).2.1]; exact congrArg (· + (y 0).val) (Nat.mul_comm _ _)
  · rw [emb_val 1 t rfl, (ix t).2.1]; exact congrArg (· + (y 1).val) (Nat.mul_comm _ _)

/-- The product of a point's two blocks. -/
theorem prod_at (t : Fin cfg0.N) (y : S1024x1024.Idx) : k0_pay1 (iblk m c 0 t) (iblk m c 1 t) y
    = ∑ r ∈ range 4096, f (4096 * (t.val % 2) + r) (1024 * (t.val / 4) + (y 0).val) * g (4096 * (t.val % 2) + r) (1024 * (t.val / 2 % 2) + (y 1).val) := by
  unfold k0_pay1
  exact matTN _ rfl rfl rfl rfl rfl rfl (iblk m c 0 t) (iblk m c 1 t) (fun r a => f (4096 * (t.val % 2) + r) (1024 * (t.val / 4) + a))
    (fun r a => g (4096 * (t.val % 2) + r) (1024 * (t.val / 2 % 2) + a)) (blk0 f g m c hf hg t) (blk1 f g m c hf hg t) y

/-- What a block of the result is written back with. -/
theorem out_at (t : Fin cfg0.N) (ht : t.val % 2 = 1) (y : S1024x1024.Idx) : (outsAt0 m c t.val t.isLt).1 y
    = ∑ r ∈ range 8192, f r (1024 * (t.val / 4) + (y 0).val) * g r (1024 * (t.val / 2 % 2) + (y 1).val) := by
  have e :=
    outsAt0_A m c ⟨t.val - 1, Nat.lt_of_le_of_lt (Nat.sub_le _ _) t.isLt⟩ (by dsimp only; omega) (by dsimp only; omega) (by dsimp only; omega)
  dsimp only at e
  rw [outsAt0_B m c t (by omega) ht ht, e]
  dsimp only
  rw [out_B, acc_A]
  show (k0_pay1 (F := Ideal) _ _ y : EReal) + k0_pay1 (F := Ideal) _ _ y = _
  rw [prod_at f g m c hf hg, prod_at f g m c hf hg, sum_range_add (n := 4096) (m := 4096)]
  dsimp only
  rw [show (t.val - 1) % 2 = 0 by omega, show (t.val - 1) / 4 = t.val / 4 by omega, show (t.val - 1) / 2 = t.val / 2 by omega, ht]
  simp only [Nat.mul_zero, Nat.zero_add, Nat.mul_one]

/-- The result array. -/
theorem final : (dats m 0 c).arrAt 2 cfg0.N
    = Cert.WinRefIdeal.Read.val_main_v7 (F := Ideal) (m ((c.tc : Thread nD τ).loc main_arg0)) (m ((c.tc : Thread nD τ).loc main_arg1)) := by
  refine (dats m 0 c).arrAt_eq_of_covers 2 _ cov fun t ht y => ?_
  have e := out_at f g m c hf hg t ((flush0_2 t).mp ht) y
  refine ((congrFun (after0_2 m c t) y).trans e).trans ((ref_at f g _ _ hf hg _).trans (sum_congr rfl fun r _ => ?_)).symm
  refine congrArg₂ (· * ·) (congrArg (f r) ?_) (congrArg (g r) ?_)
  · refine (emb_val 2 t rfl y 0).trans ?_
    rw [(ix t).2.2]; exact congrArg (· + (y 0).val) (Nat.mul_comm _ _)
  · refine (emb_val 2 t rfl y 1).trans ?_
    rw [(ix t).2.2]; exact congrArg (· + (y 1).val) (Nat.mul_comm _ _)

omit f g hf hg in
/-- The kernel and the reference end with the same gradient. -/
theorem algebraic : Cert.algebraic_WinIdeal_WinRefIdeal := by
  intro m ρ m' ρ' _ hm
  refine ⟨fun c => Cert.WinRefIdeal.Read.val_main_v7 (F := Ideal) (m ((c.tc : Thread nD τ).loc main_arg0)) (m ((c.tc : Thread nD τ).loc main_arg1)), ?_, ?_⟩
  · refine (θ_run defs _ _).mono (fun _ h c => ⟨?_, ((h c).1 0).trans ((dats m 0 c).arrAt_in 0 rfl _), ((h c).1 1).trans ((dats m 0 c).arrAt_in 1 rfl _)⟩) (run_main m ρ)
    obtain ⟨f, hf⟩ := exists_fun2 (β := EReal) (m ((c.tc : Thread nD τ).loc main_arg0))
    obtain ⟨g, hg⟩ := exists_fun2 (β := EReal) (m ((c.tc : Thread nD τ).loc main_arg1))
    exact ((h c).1 2).trans (final f g m c hf hg)
  · refine (θ_run _ _ _).mono (fun _ h c => ⟨(h c).1.trans ?_, (h c).2⟩) (Cert.WinRefIdeal.Value.run (F := Ideal) m' ρ')
    rw [(hm c).1, (hm c).2]
    exact Cert.WinRefIdeal.Read.val_main_v7_eq _ _

end Cert.WinIdeal.Own
-- ==== Proof.WgateRun.lean ====
/-
  The run of the gradient of the gates' projection: a grid of 32 points in pairs, the first half of the rows kept in the
  scratch at the even points, the second half added and the block of the result stored at the odd ones.
-/
module

public import proofs.«01_k».proof.Defs
public import proofs.«01_k».proof.Proof.Own
public import proofs.«01_k».proof.Proof.Gen.WgateIdeal
public import proofs.«01_k».proof.Proof.Gen.WgateIdeal.Frame
public import Idealize.ShloMosaic.Lib.Claim
public import Idealize.ShloMosaic.Lib.Pipeline.ValueKit

@[expose] public section

noncomputable section

namespace Cert.WgateIdeal.Own

open Cert.WgateIdeal Cert.WgateIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The product of a point's two blocks. -/
def prod (x0 x1 : Vec F S4096x1024 .bf16) : FVec F S1024x1024 .f32 :=
  matmul dot_S4096x1024_S4096x1024_S1024x1024_0_0_1_1_n_n none x0 x1 (constant S1024x1024 .f32 0x00000000#32)

/-- The block of the result: the two halves' sum. -/
def block (s p : FVec F S1024x1024 .f32) : FVec F S1x1024x1024 .bf16 :=
  shapeCast S1x1024x1024 (truncf .bf16 (addf s p) bitsLt_bf16_f32) shapeCasts_S1024x1024_S1x1024x1024

/-! ## The body at a point -/

section Body

variable (c : Dev nD) (i : grid0.Coords)
  (A3 A4 : Memref sig .tc .vmem S4096x1024 .bf16) (A5 : Memref sig .tc .vmem S1x1024x1024 .bf16) (A6 : Memref sig .tc .vmem S1024x1024 .f32)
  (h3 : A3.IsWhole) (h4 : A4.IsWhole) (h5 : A5.IsWhole) (h6 : A6.IsWhole)

abbrev rB : Rect S4096x1024 := Rect.unit (s := S4096x1024) ![0, 0] S4096x1024.size inb_S4096x1024_S4096x1024_0_0
abbrev rS : Rect S1024x1024 := Rect.unit (s := S1024x1024) ![0, 0] S1024x1024.size inb_S1024x1024_S1024x1024_0_0
abbrev rO : Rect S1x1024x1024 := Rect.unit (s := S1x1024x1024) ![0, 0, 0] S1x1024x1024.size inb_S1x1024x1024_S1x1024x1024_0_0_0

theorem even_eq (h : (i 2).val = 0) : cc0_mm_dwg (F := F) i A3 h3 A4 h4 A5 h5 A6 h6 =
    .op (.load A3 rB.toLoadRect (View.loadsAt_vmem h_S4096x1024)) fun (x0 : Vec F S4096x1024 .bf16) =>
    .op (.load A4 rB.toLoadRect (View.loadsAt_vmem h_S4096x1024)) fun (x1 : Vec F S4096x1024 .bf16) =>
    .op (.load A6 rS.toLoadRect (View.loadsAt_vmem h_S1024x1024)) fun (_ : Vec F S1024x1024 .f32) =>
    .op (.store A6 rS (shapeCast S1024x1024 (prod x0 x1) shapeCasts_S1024x1024_S1024x1024) Finset.univ (View.stores_vmem_bits_univ h_S1024x1024 rfl) (.inl rfl))
    fun _ => .ret ⟨⟩ := by
  unfold cc0_mm_dwg k0_cond3
  simp only [h]
  rfl

theorem odd_eq (h : (i 2).val = 1) : cc0_mm_dwg (F := F) i A3 h3 A4 h4 A5 h5 A6 h6 =
    .op (.load A3 rB.toLoadRect (View.loadsAt_vmem h_S4096x1024)) fun (x0 : Vec F S4096x1024 .bf16) =>
    .op (.load A4 rB.toLoadRect (View.loadsAt_vmem h_S4096x1024)) fun (x1 : Vec F S4096x1024 .bf16) =>
    .op (.load A6 rS.toLoadRect (View.loadsAt_vmem h_S1024x1024)) fun (s : Vec F S1024x1024 .f32) =>
    .op (.load A6 rS.toLoadRect (View.loadsAt_vmem h_S1024x1024)) fun (_ : Vec F S1024x1024 .f32) =>
    .op (.store A6 rS (shapeCast S1024x1024 (addf s (prod x0 x1)) shapeCasts_S1024x1024_S1024x1024) Finset.univ (View.stores_vmem_bits_univ h_S1024x1024 rfl) (.inl rfl)) fun _ =>
    .op (.load A6 rS.toLoadRect (View.loadsAt_vmem h_S1024x1024)) fun (s' : Vec F S1024x1024 .f32) =>
    .op (.load A5 rO.toLoadRect (View.loadsAt_vmem h_S1x1024x1024)) fun (_ : Vec F S1x1024x1024 .bf16) =>
    .op (.store A5 rO (shapeCast S1x1024x1024 (truncf .bf16 s' bitsLt_bf16_f32) shapeCasts_S1024x1024_S1x1024x1024) Finset.univ
      (View.stores_vmem h_S1x1024x1024 (h5.storeExact_slice rfl _ packedbf16_S1x1024x1024_S1x1024x1024_0_0_0) (fun _ => rfl)) (.inl rfl))
    fun _ => .ret ⟨⟩ := by
  unfold cc0_mm_dwg k0_cond3
  simp only [h]
  rfl

variable (x0 x1 : Vec F S4096x1024 .bf16) (o : Vec F S1x1024x1024 .bf16) (s : Vec F S1024x1024 .f32)

/-- Holding a point's buffers. -/
abbrev held (o : Vec F S1x1024x1024 .bf16) (s : Vec F S1024x1024 .f32) : sProp (MT nD τ sig Unit (Elt F) ℕ (UR sig nD τ) ℕ) :=
  iprop(owns (c : Thread nD τ) A3 fullShare x0 ∗ owns (c : Thread nD τ) A4 fullShare x1 ∗ owns (c : Thread nD τ) A5 fullShare o ∗ owns (c : Thread nD τ) A6 fullShare s)

theorem sound_even (h : (i 2).val = 0) : held c A3 A4 A5 A6 x0 x1 o s ⊢
    wp frame (wpE (defs₀ (F := F)) Variants.none (c : Thread nD τ) none) Set.univ (cc0_mm_dwg i A3 h3 A4 h4 A5 h5 A6 h6) fun _ =>
      held c A3 A4 A5 A6 x0 x1 o (prod x0 x1) := by
  rw [even_eq _ _ _ _ _ _ _ _ _ h]
  iintro ⟨H3, H4, H5, H6⟩
  iapply (loadAll Variants.none (c : Thread nD τ) none Set.univ (m := A3)) $$ H3
  iintro H3
  iapply (loadAll Variants.none (c : Thread nD τ) none Set.univ (m := A4)) $$ H4
  iintro H4
  iapply (loadAll Variants.none (c : Thread nD τ) none Set.univ (m := A6)) $$ H6
  iintro H6
  iapply (storeAll Variants.none (c : Thread nD τ) none Set.univ (m := A6)) $$ H6
  iintro H6
  rw [shapeCast_self]
  iapply (le_wp_ret frame _ _ _ _)
  isplitl [H3]; · iexact H3
  isplitl [H4]; · iexact H4
  isplitl [H5]; · iexact H5
  iexact H6

theorem sound_odd (h : (i 2).val = 1) : held c A3 A4 A5 A6 x0 x1 o s ⊢
    wp frame (wpE (defs₀ (F := F)) Variants.none (c : Thread nD τ) none) Set.univ (cc0_mm_dwg i A3 h3 A4 h4 A5 h5 A6 h6) fun _ =>
      held c A3 A4 A5 A6 x0 x1 (block s (prod x0 x1)) (addf s (prod x0 x1)) := by
  rw [odd_eq _ _ _ _ _ _ _ _ _ h]
  iintro ⟨H3, H4, H5, H6⟩
  iapply (loadAll Variants.none (c : Thread nD τ) none Set.univ (m := A3)) $$ H3
  iintro H3
  iapply (loadAll Variants.none (c : Thread nD τ) none Set.univ (m := A4)) $$ H4
  iintro H4
  iapply (loadAll Variants.none (c : Thread nD τ) none Set.univ (m := A6)) $$ H6
  iintro H6
  iapply (loadAll Variants.none (c : Thread nD τ) none Set.univ (m := A6)) $$ H6
  iintro H6
  iapply (storeAll Variants.none (c : Thread nD τ) none Set.univ (m := A6)) $$ H6
  iintro H6
  iapply (loadAll Variants.none (c : Thread nD τ) none Set.univ (m := A6)) $$ H6
  iintro H6
  iapply (loadAll Variants.none (c : Thread nD τ) none Set.univ (m := A5)) $$ H5
  iintro H5
  iapply (storeAll Variants.none (c : Thread nD τ) none Set.univ (m := A5)) $$ H5
  iintro H5
  rw [shapeCast_self]
  iapply (le_wp_ret frame _ _ _ _)
  isplitl [H3]; · iexact H3
  isplitl [H4]; · iexact H4
  isplitl [H5]; · iexact H5
  iexact H6

end Body

/-! ## The launch -/

variable (m : (ℓ : Loc nD τ sig) → Buf (Elt F) ℓ)

/-- A point's product. -/
def pr (c : Dev nD) (t : Fin cfg0.N) : FVec F S1024x1024 .f32 := prod (iblk m c 0 t) (iblk m c 1 t)

/-- The point before. -/
def prev (t : Fin cfg0.N) : Fin cfg0.N := ⟨t.val - 1, Nat.lt_of_le_of_lt (Nat.sub_le _ _) t.isLt⟩

/-- What an odd point stores. -/
def res (c : Dev nD) (t : Fin cfg0.N) : FVec F S1x1024x1024 .bf16 := block (pr m c (prev t)) (pr m c t)

/-- Between two points: after an even one the scratch holds its product. -/
def mid (c : Dev nD) (n : ℕ) : sProp (MT nD τ sig Unit (Elt F) ℕ (UR sig nD τ) ℕ) :=
  iprop((∃ d, ⌜∀ t : Fin cfg0.N, t.val + 1 = n → t.val % 2 = 0 → d = pr m c t⌝ ∗ owns (c : Thread nD τ) (Memref.whole cc0_scratch0) fullShare d)
    ∗ (∃ r, prngReg c r))

/-- What the launch reads and leaves. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => res m c t
  Φ t := mid m c t.val
  q _ := fullShare
  owed _ := 0

theorem A_eq (c : Dev nD) (w : Fin cfg0.W) : (dats m 0 c).A w = V m c (Pipeline.arrRef spec0 w) := by
  dsimp only [dats]
theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d

theorem coord2 (t : Fin cfg0.N) : (grid0.coords t 2).val = t.val % 2 := by
  have e : (grid0.coords t 2).val = t.val / 1 % 2 := Pipeline.Grid.coords_val t 2 (by decide) rfl
  rw [e, Nat.div_one]

/-- The result's buffer is stored into at the odd points, and written back only there. -/
theorem idle2 : ∀ t : Fin cfg0.N, cfg0.idle 2 (grid0.coords t) = decide (t.val % 2 = 0) := by decide +kernel
theorem flush2 : ∀ t : Fin cfg0.N, (cfg0.win 2).flush t = true ↔ t.val % 2 = 1 := by decide +kernel

theorem defs₀_row (t : Fin cfg0.N) : defs₀ (F := F) .tc cfg0.body (cfg0.bodyArgs t (cfg0.slots t)) = bodyAt0 t := by
  unfold defs₀; rw [Defs.onTc_tc]

/-- The inputs' buffers are left as they were. -/
theorem leaf0 (c : Dev nD) (t : Fin cfg0.N) : owns (c : Thread nD τ) (win0_0.stage (cfg0.slots t 0)) fullShare (iblk m c 0 t) ⊢ (dats m 0 c).leavesExact 0 t := by
  unfold Pipeline.Dat.leavesExact
  rw [show cfg0.idle 0 (cfg0.grid.coords t) = false from rfl]
  exact .rfl
theorem leaf1 (c : Dev nD) (t : Fin cfg0.N) : owns (c : Thread nD τ) (win0_1.stage (cfg0.slots t 1)) fullShare (iblk m c 1 t) ⊢ (dats m 0 c).leavesExact 1 t := by
  unfold Pipeline.Dat.leavesExact
  rw [show cfg0.idle 1 (cfg0.grid.coords t) = false from rfl]
  exact .rfl
theorem leaf2 (c : Dev nD) (t : Fin cfg0.N) (h : t.val % 2 = 1) : owns (c : Thread nD τ) (win0_2.stage (cfg0.slots t 2)) fullShare (res m c t) ⊢ (dats m 0 c).leavesExact 2 t := by
  unfold Pipeline.Dat.leavesExact
  rw [show cfg0.idle 2 (cfg0.grid.coords t) = false from (idle2 t).trans (decide_eq_false (by omega))]
  exact .rfl

theorem leaf2_even (c : Dev nD) (t : Fin cfg0.N) (h : t.val % 2 = 0) :
    iprop(∃ d, owns (c : Thread nD τ) (win0_2.stage (cfg0.slots t 2)) fullShare ((dats m 0 c).before 2 t d)) ⊢ (dats m 0 c).leavesExact 2 t := by
  rw [(dats m 0 c).leavesExact_idle 2 t ((idle2 t).trans (decide_eq_true h))
    (by cases hb : (cfg0.win 2).flush t with
        | false => rfl
        | true => have := (flush2 t).mp hb; omega)]

/-- The obligation at every point. -/
theorem hbody (c : Dev nD) : Pipeline.BodyObligationLoose (dats m 0 c) (defs₀ (F := F)) Variants.none () Set.univ := fun t => by
  have hN : t.val < 32 := Nat.lt_of_lt_of_eq t.isLt N_0
  rw [bigSep_W0, bigSep_W0, defs₀_row]
  rw [show (dats m 0 c).Φ t.castSucc = mid m c t.val from rfl, show (dats m 0 c).Φ t.succ = mid m c (t.val + 1) from rfl]
  unfold mid
  iintro ⟨⟨⟨%s, %hs, HS⟩, Hp⟩, Ho, ⟨%d0, H0⟩, ⟨%d1, H1⟩, ⟨%d2, H2⟩⟩
  rw [before0, before1]
  by_cases h : t.val % 2 = 0
  · iapply (wp_wand frame _) $$ [HS H0 H1 H2]
    · iapply (sound_even c (grid0.coords t) _ _ _ _ _ _ _ _ (iblk m c 0 t) (iblk m c 1 t) ((dats m 0 c).before 2 t d2) s ((coord2 t).trans h))
      isplitl [H0]; · iexact H0
      isplitl [H1]; · iexact H1
      isplitl [H2]; · iexact H2
      iexact HS
    iintro %_ ⟨H0, H1, H2, HS⟩
    isplitl [HS Hp]
    · isplitl [HS]
      · iexists (prod (iblk m c 0 t) (iblk m c 1 t))
        isplitr
        · ipureintro
          intro t' e _
          obtain rfl : t' = t := Fin.ext (by omega)
          rfl
        iexact HS
      iexact Hp
    isplitl [Ho]; · iexact Ho
    isplitl [H0]; · iapply (leaf0 m c t); iexact H0
    isplitl [H1]; · iapply (leaf1 m c t); iexact H1
    iapply (leaf2_even m c t h); iexists d2; iexact H2
  · iapply (wp_wand frame _) $$ [HS H0 H1 H2]
    · iapply (sound_odd c (grid0.coords t) _ _ _ _ _ _ _ _ (iblk m c 0 t) (iblk m c 1 t) ((dats m 0 c).before 2 t d2) s ((coord2 t).trans (by omega)))
      isplitl [H0]; · iexact H0
      isplitl [H1]; · iexact H1
      isplitl [H2]; · iexact H2
      iexact HS
    have e : s = pr m c (prev t) := hs (prev t) (by show t.val - 1 + 1 = t.val; omega) (by show (t.val - 1) % 2 = 0; omega)
    subst e
    iintro %_ ⟨H0, H1, H2, HS⟩
    isplitl [HS Hp]
    · isplitl [HS]
      · iexists (addf (pr m c (prev t)) (prod (iblk m c 0 t) (iblk m c 1 t)))
        isplitr
        · ipureintro
          intro t' e e'
          omega
        iexact HS
      iexact Hp
    isplitl [Ho]; · iexact Ho
    isplitl [H0]; · iapply (leaf0 m c t); iexact H0
    isplitl [H1]; · iapply (leaf1 m c t); iexact H1
    iapply (leaf2 m c t (by omega)); iexact H2

/-- Before the first point. -/
theorem hin (c : Dev nD) : (Pipeline.ΦA spec0 c : sProp (MT nD τ sig Unit (Elt F) ℕ (UR sig nD τ) ℕ)) ⊢ (dats m 0 c).Φ 0 := by
  show _ ⊢ mid m c 0
  unfold mid Pipeline.ΦA
  rw [scopedRest0_eq]
  simp only [owns_whole]
  iintro ⟨⟨%d, H⟩, Hp⟩
  isplitl [H]
  · iexists d
    isplitr; · ipureintro; intro t e; exact absurd e (Nat.succ_ne_zero _)
    iexact H
  iexact Hp

/-- After the last. -/
theorem hout (c : Dev nD) : (dats m 0 c).Φ (Fin.last cfg0.N) ⊢ (Pipeline.ΦA spec0 c : sProp (MT nD τ sig Unit (Elt F) ℕ (UR sig nD τ) ℕ)) := by
  show mid m c cfg0.N ⊢ _
  unfold mid Pipeline.ΦA
  rw [scopedRest0_eq]
  simp only [owns_whole]
  iintro ⟨⟨%d, %h, H⟩, Hp⟩
  isplitl [H]
  · iexists d; iexact H
  iexact Hp

variable (ρ : Dev nD → PrngReg)

set_option backward.isDefEq.respectTransparency.types false in
/-- The run: every array at what the points wrote back, the semaphores at rest. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => hbody m c) (hshare := fun c => (dats m 0 c).share_full fun _ => rfl)
    (howed := fun _ _ => rfl) (V := V m) (hmain := hmain m Variants.none) (hA := A_eq m) (hin := hin m) (hout := hout m)

/-- The arguments and the semaphores end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.WgateIdeal.Own
-- ==== Proof.WgateBits.lean ====
/-
  The program on bit patterns has the idealized program's text, so its frame is the same run's, at the other instance.
-/
module

public import proofs.«01_k».proof.Defs
public import proofs.«01_k».proof.Proof.WgateRun
public import proofs.«01_k».proof.Proof.Gen.Wgate

@[expose] public section

namespace Cert.Wgate.Own

open Idealize.ShloMosaic

theorem body_same : @Cert.Wgate.cc0_mm_dwg Bits _ _ = @Cert.WgateIdeal.cc0_mm_dwg Bits _ _ := by with_unfolding_all rfl

theorem defs₀_same : Cert.Wgate.defs₀ (F := Bits) = Cert.WgateIdeal.defs₀ (F := Bits) := by
  unfold Cert.Wgate.defs₀ Cert.WgateIdeal.defs₀
  refine congrArg Defs.onTc (funext fun l => funext fun a => ?_)
  match l, a with
  | ⟨0, _⟩, (t, s) => exact congrFun (congrFun (congrFun (congrFun (congrFun (congrFun (congrFun (congrFun (congrFun body_same _) _) _) _) _) _) _) _) _

theorem defs_same : Cert.Wgate.defs (F := Bits) = Cert.WgateIdeal.defs (F := Bits) := congrArg (Pipeline.defs Cert.WgateIdeal.pcfgs) defs₀_same

/-- The arguments and the semaphores end as they were. -/
theorem quiescent : Cert.quiescent_Wgate (hWgate := Cert.Wgate.Gen.facts) := by
  intro m g _
  rw [defs_same]
  exact Cert.WgateIdeal.Own.frame (F := Bits) m g

end Cert.Wgate.Own
-- ==== Proof.Wgate.lean ====
/-
  The gradient of the gates' projection: for each gate the products of the columns, summed over two halves of the rows.
-/
module

public import proofs.«01_k».proof.Defs
public import proofs.«01_k».proof.Proof.Prod
public import proofs.«01_k».proof.Proof.WgateRun
public import proofs.«01_k».proof.Proof.Gen.WgateRefIdeal.Run
public import proofs.«01_k».proof.Proof.Gen.WgateRefIdeal.Read
public import Idealize.ShloMosaic.Lib.Pipeline.ValueKit

@[expose] public section

noncomputable section

namespace Cert.WgateIdeal.Own

open Cert.WgateIdeal Cert.WgateIdeal.Gen Cert.Own
open Idealize.ShloMosaic Idealize.ShloMosaic.TcCoe Idealize.SL.Sem Finset

set_option maxRecDepth 100000 in
/-- Where the blocks lie. -/
theorem ix : ∀ t : Fin grid0.N, (cfg0.win 0).index t = ![t.val % 2, t.val / 16] ∧ (cfg0.win 1).index t = ![t.val % 2, t.val / 2 % 8]
    ∧ (cfg0.win 2).index t = ![t.val / 4 % 4, t.val / 16, t.val / 2 % 2] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

/-- A block of the result at an index: the two halves added. -/
theorem block_at (s p : FVec Ideal S1024x1024 .f32) (y : S1x1024x1024.Idx) (z : S1024x1024.Idx) (h0 : (z 0).val = (y 1).val)
    (h1 : (z 1).val = (y 2).val) : block s p y = (s z + p z : EReal) := by
  unfold block
  rw [shapeCast_apply _ shapeCasts_S1024x1024_S1x1024x1024 y z (by
    rewrite [Shape.rowMajor_val_two, Shape.rowMajor_val_three]
    have hy : (y 0).val < 1 := (y 0).isLt
    show (z 0).val * 1024 + (z 1).val = ((y 0).val * 1024 + (y 1).val) * 1024 + (y 2).val
    omega)]
  rfl

variable (f g : ℕ → ℕ → EReal)

/-- The reference's result at an index. -/
theorem ref_at (X0 : S8192x2048.Idx → EReal) (X1 : S8192x8192.Idx → EReal) (hf : ∀ y, X0 y = f (y 0).val (y 1).val)
    (hg : ∀ y, X1 y = g (y 0).val (y 1).val) (i : S4x2048x2048.Idx) :
    Cert.WgateRefIdeal.Read.val_main_v8 (F := Ideal) X0 X1 i
      = ∑ r ∈ range 8192, f r (i 1).val * g r (2048 * (i 0).val + (i 2).val) := by
  rw [Cert.WgateRefIdeal.Read.val_main_v8_apply, Ideal.truncf_def, Cert.WgateRefIdeal.Read.val_main_v7_apply,
    Cert.WgateRefIdeal.Read.val_main_v6_apply,
    ← Fin.sum_univ_eq_sum_range (fun r => f r (i 1).val * g r (2048 * (i 0).val + (i 2).val))]
  refine sum_congr rfl fun k _ => ?_
  rw [Cert.WgateRefIdeal.Read.val_main_v5_apply, Cert.WgateRefIdeal.Read.val_main_v4_apply, Cert.WgateRefIdeal.Read.val_main_v0_apply,
    Ideal.extf_def, Ideal.extf_def, hf, hg]
  refine (mul_comm _ _).trans (congrArg₂ (· * ·) rfl (congrArg₂ g ?_ ?_))
  · have h0 : (i 0).val < 4 := (i 0).isLt
    have h2 : (i 2).val < 2048 := (i 2).isLt
    show ((k.val * 4 + (i 0).val) * 2048 + (i 2).val) / 8192 = k.val
    omega
  · have h0 : (i 0).val < 4 := (i 0).isLt
    have h2 : (i 2).val < 2048 := (i 2).isLt
    show ((k.val * 4 + (i 0).val) * 2048 + (i 2).val) % 8192 = 2048 * (i 0).val + (i 2).val
    omega

variable (m : (ℓ : Loc nD τ sig) → Buf (Elt Ideal) ℓ) (c : Dev nD)
  (hf : ∀ y : S8192x2048.Idx, m ((c.tc : Thread nD τ).loc main_arg0) y = f (y 0).val (y 1).val)
  (hg : ∀ y : S8192x8192.Idx, m ((c.tc : Thread nD τ).loc main_arg1) y = g (y 0).val (y 1).val)
include hf hg

theorem blk0 (t : Fin cfg0.N) (y : S4096x1024.Idx) :
    iblk m c 0 t y = f (4096 * (t.val % 2) + (y 0).val) (1024 * (t.val / 16) + (y 1).val) := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]; exact congrArg (· + (y 1).val) (Nat.mul_comm _ _)

theorem blk1 (t : Fin cfg0.N) (y : S4096x1024.Idx) :
    iblk m c 1 t y = g (4096 * (t.val % 2) + (y 0).val) (1024 * (t.val / 2 % 8) + (y 1).val) := by
  refine (hg (((cfg0.win 1).rect t).emb y)).trans (congrArg₂ g ?_ ?_)
  · rw [emb_val 1 t rfl, (ix t).2.1]; exact congrArg (· + (y 0).val) (Nat.mul_comm _ _)
  · rw [emb_val 1 t rfl, (ix t).2.1]; exact congrArg (· + (y 1).val) (Nat.mul_comm _ _)

/-- The product of a point's two blocks. -/
theorem prod_at (t : Fin cfg0.N) (y : S1024x1024.Idx) : pr m c t y
    = ∑ r ∈ range 4096, f (4096 * (t.val % 2) + r) (1024 * (t.val / 16) + (y 0).val) * g (4096 * (t.val % 2) + r) (1024 * (t.val / 2 % 8) + (y 1).val) := by
  unfold pr prod
  exact matTN _ rfl rfl rfl rfl rfl rfl (iblk m c 0 t) (iblk m c 1 t) (fun r a => f (4096 * (t.val % 2) + r) (1024 * (t.val / 16) + a))
    (fun r a => g (4096 * (t.val % 2) + r) (1024 * (t.val / 2 % 8) + a)) (blk0 f g m c hf hg t) (blk1 f g m c hf hg t) y

/-- What a block of the result is written back with. -/
theorem out_at (t : Fin cfg0.N) (ht : t.val % 2 = 1) (y : S1x1024x1024.Idx) : res m c t y
    = ∑ r ∈ range 8192, f r (1024 * (t.val / 16) + (y 1).val) * g r (1024 * (t.val / 2 % 8) + (y 2).val) := by
  unfold res
  rw [block_at _ _ y (fun a => match a with
    | ⟨0, _⟩ => ⟨(y 1).val, (y 1).isLt⟩
    | ⟨1, _⟩ => ⟨(y 2).val, (y 2).isLt⟩ : S1024x1024.Idx) rfl rfl,
    prod_at f g m c hf hg, prod_at f g m c hf hg, sum_range_add (n := 4096) (m := 4096)]
  dsimp only [prev]
  rw [show (t.val - 1) % 2 = 0 by omega, show (t.val - 1) / 16 = t.val / 16 by omega, show (t.val - 1) / 2 = t.val / 2 by omega, ht]
  simp only [Nat.mul_zero, Nat.zero_add, Nat.mul_one]

/-- The result array. -/
theorem final : (dats m 0 c).arrAt 2 cfg0.N
    = Cert.WgateRefIdeal.Read.val_main_v8 (F := Ideal) (m ((c.tc : Thread nD τ).loc main_arg0)) (m ((c.tc : Thread nD τ).loc main_arg1)) := by
  refine (dats m 0 c).arrAt_eq_of_covers 2 _ cov fun t ht y => ?_
  have e := out_at f g m c hf hg t ((flush2 t).mp ht) y
  have e0 : ((((cfg0.win 2).rect t).emb y 0 : ℕ)) = t.val / 4 % 4 := by
    have hy : (y 0).val < 1 := (y 0).isLt
    refine (emb_val 2 t rfl y 0).trans ?_
    rw [(ix t).2.2]
    show t.val / 4 % 4 * 1 + (y 0).val = _
    omega
  have e1 : ((((cfg0.win 2).rect t).emb y 1 : ℕ)) = t.val / 16 * 1024 + (y 1).val := by
    refine (emb_val 2 t rfl y 1).trans ?_
    rw [(ix t).2.2]; rfl
  have e2 : ((((cfg0.win 2).rect t).emb y 2 : ℕ)) = t.val / 2 % 2 * 1024 + (y 2).val := by
    refine (emb_val 2 t rfl y 2).trans ?_
    rw [(ix t).2.2]; rfl
  refine Eq.trans ?_ (e.trans ((ref_at f g _ _ hf hg _).trans (sum_congr rfl fun r _ => ?_)).symm)
  · rfl
  · refine congrArg₂ (· * ·) (congrArg (f r) ?_) (congrArg (g r) ?_)
    · exact e1.trans (by omega)
    · refine (congrArg₂ (fun a b => 2048 * a + b) e0 e2).trans ?_
      dsimp only; omega

omit f g hf hg in
/-- The kernel and the reference end with the same gradient. -/
theorem algebraic : Cert.algebraic_WgateIdeal_WgateRefIdeal := by
  intro m ρ m' ρ' _ hm
  refine ⟨fun c => Cert.WgateRefIdeal.Read.val_main_v8 (F := Ideal) (m ((c.tc : Thread nD τ).loc main_arg0)) (m ((c.tc : Thread nD τ).loc main_arg1)), ?_, ?_⟩
  · refine (θ_run defs _ _).mono (fun _ h c => ⟨?_, ((h.1 c).1 0).trans ((dats m 0 c).arrAt_in 0 rfl _), ((h.1 c).1 1).trans ((dats m 0 c).arrAt_in 1 rfl _)⟩) (run m ρ)
    obtain ⟨f, hf⟩ := exists_fun2 (β := EReal) (m ((c.tc : Thread nD τ).loc main_arg0))
    obtain ⟨g, hg⟩ := exists_fun2 (β := EReal) (m ((c.tc : Thread nD τ).loc main_arg1))
    exact ((h.1 c).1 2).trans (final f g m c hf hg)
  · refine (θ_run _ _ _).mono (fun _ h c => ⟨(h c).1.trans ?_, (h c).2⟩) (Cert.WgateRefIdeal.Value.run (F := Ideal) m' ρ')
    rw [(hm c).1, (hm c).2]
    exact Cert.WgateRefIdeal.Read.val_main_v8_eq _ _

end Cert.WgateIdeal.Own
-- ==== Proof.Hgate.lean ====
/-
  The part of the input's gradient that comes through the gates: products of rows, summed over the four branches' gates.
-/
module

public import proofs.«01_k».proof.Defs
public import proofs.«01_k».proof.Proof.Prod
public import proofs.«01_k».proof.Proof.Gen.HgateIdeal.Frame
public import proofs.«01_k».proof.Proof.Gen.HgateRefIdeal.Run
public import proofs.«01_k».proof.Proof.Gen.HgateRefIdeal.Read
public import Idealize.ShloMosaic.Lib.Pipeline.ValueKit
public import Idealize.ShloMosaic.Lib.TwoAxisContraction

@[expose] public section

noncomputable section

namespace Cert.HgateIdeal.Own

open Cert.HgateIdeal Cert.HgateIdeal.Gen Cert.Own
open Idealize.ShloMosaic Idealize.ShloMosaic.TcCoe Idealize.SL.Sem Finset

theorem hz3 : (![0, 0, 0] : Fin 3 → Nat) = fun _ => 0 := funext fun a => by fin_cases a <;> rfl

theorem hz : (![0, 0] : Fin 2 → Nat) = fun _ => 0 := funext fun a => by fin_cases a <;> rfl

section Cases

variable {F : FTy → Type} [FloatOps F] (c : Dev nD) (i : grid0.Coords)
  (a3 : Memref sig .tc .vmem S1024x2048 .bf16) (h3 : a3.IsWhole) (a4 : Memref sig .tc .vmem S1x1024x2048 .bf16) (h4 : a4.IsWhole)
  (a5 : Memref sig .tc .vmem S1024x1024 .f32) (h5 : a5.IsWhole) (a6 : Memref sig .tc .vmem S1024x1024 .f32) (h6 : a6.IsWhole)
  (x0 : Vec F S1024x2048 .bf16) (x1 : Vec F S1x1024x2048 .bf16) (xs : Vec F S1024x1024 .f32)

/-- At the first branch the accumulator is the product. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x2048) hz, View.ld_unit_zero (S := S1x1024x2048) hz3, shapeCast_self]

/-- Then each branch's product is added. -/
theorem acc_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1024x2048) hz, View.ld_unit_zero (S := S1x1024x2048) hz3,
    View.ld_unit_zero (S := S1024x1024) hz, shapeCast_self]

/-- At the last branch the result is the accumulator and the product. -/
theorem out_C (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x2048) hz, View.ld_unit_zero (S := S1x1024x2048) hz3,
    View.ld_unit_zero (S := S1024x1024) hz, shapeCast_self]

end Cases

set_option maxRecDepth 100000 in
/-- Where the blocks lie. -/
theorem ix : ∀ t : Fin grid0.N, (cfg0.win 0).index t = ![t.val / 8, t.val % 4] ∧ (cfg0.win 1).index t = ![t.val % 4, t.val / 4 % 2, 0]
    ∧ (cfg0.win 2).index t = ![t.val / 8, t.val / 4 % 2] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

variable (f : ℕ → ℕ → EReal) (g : ℕ → ℕ → ℕ → EReal)

/-- The reference's result at an index. -/
theorem ref_at (X0 : S8192x8192.Idx → EReal) (X1 : S4x2048x2048.Idx → EReal) (hf : ∀ y, X0 y = f (y 0).val (y 1).val)
    (hg : ∀ y, X1 y = g (y 0).val (y 1).val (y 2).val) (i : S8192x2048.Idx) :
    Cert.HgateRefIdeal.Read.val_main_v6 (F := Ideal) X0 X1 i = ∑ r ∈ range 8192, f (i 0).val r * g (r / 2048) (i 1).val (r % 2048) := by
  unfold Cert.HgateRefIdeal.Read.val_main_v6 Host.dotGeneral
  rw [Ideal.dotGeneral_apply, ValueIdx.sum_contr2 _ 4 2048 rfl rfl rfl, show 8192 = 2048 * 4 from rfl, sum_tiled,
    ← Fin.sum_univ_eq_sum_range (fun k => ∑ x ∈ range 2048, f (i 0).val (2048 * k + x) * g ((2048 * k + x) / 2048) (i 1).val ((2048 * k + x) % 2048))]
  refine sum_congr rfl fun k _ => ?_
  rw [← Fin.sum_univ_eq_sum_range (fun x => f (i 0).val (2048 * k.val + x) * g ((2048 * k.val + x) / 2048) (i 1).val ((2048 * k.val + x) % 2048))]
  refine sum_congr rfl fun x _ => ?_
  have hk := k.isLt
  have hx := x.isLt
  have e0 := ValueIdx.contrEquiv2_symm_val0 Cert.HgateRefIdeal.dot_S8192x4x2048_S4x2048x2048_S8192x2048_12_02_0_1_n_n 4 2048 rfl rfl rfl (k, x)
  have e1 := ValueIdx.contrEquiv2_symm_val1 Cert.HgateRefIdeal.dot_S8192x4x2048_S4x2048x2048_S8192x2048_12_02_0_1_n_n 4 2048 rfl rfl rfl (k, x)
  dsimp only at e0 e1
  refine congrArg₂ (· * ·) ?_ ?_
  · rw [Cert.HgateRefIdeal.Read.val_main_v5_apply, Cert.HgateRefIdeal.Read.val_main_v4_apply, Ideal.extf_def, hf]
    have l0 : (Cert.HgateRefIdeal.dot_S8192x4x2048_S4x2048x2048_S8192x2048_12_02_0_1_n_n.lhsIdx i
        ((ValueIdx.contrEquiv2 _ 4 2048 rfl rfl rfl).symm (k, x)) 0).val = (i 0).val := by
      unfold DotDims.lhsIdx; rw [dif_neg (by decide), dif_pos (by decide)]; rfl
    have l1 : (Cert.HgateRefIdeal.dot_S8192x4x2048_S4x2048x2048_S8192x2048_12_02_0_1_n_n.lhsIdx i
        ((ValueIdx.contrEquiv2 _ 4 2048 rfl rfl rfl).symm (k, x)) 1).val = k.val := by
      unfold DotDims.lhsIdx; rw [dif_neg (by decide), dif_neg (by decide)]; exact e0
    have l2 : (Cert.HgateRefIdeal.dot_S8192x4x2048_S4x2048x2048_S8192x2048_12_02_0_1_n_n.lhsIdx i
        ((ValueIdx.contrEquiv2 _ 4 2048 rfl rfl rfl).symm (k, x)) 2).val = x.val := by
      unfold DotDims.lhsIdx; rw [dif_neg (by decide), dif_neg (by decide)]; exact e1
    dsimp only
    rw [l0, l1, l2]
    exact congrArg₂ f (by omega) (by omega)
  · rw [Cert.HgateRefIdeal.Read.val_main_v1_apply, Ideal.extf_def, hg]
    have r0 : (Cert.HgateRefIdeal.dot_S8192x4x2048_S4x2048x2048_S8192x2048_12_02_0_1_n_n.rhsIdx i
        ((ValueIdx.contrEquiv2 _ 4 2048 rfl rfl rfl).symm (k, x)) 0).val = k.val := by
      unfold DotDims.rhsIdx; rw [dif_neg (by decide), dif_neg (by decide)]; exact e0
    have r1 : (Cert.HgateRefIdeal.dot_S8192x4x2048_S4x2048x2048_S8192x2048_12_02_0_1_n_n.rhsIdx i
        ((ValueIdx.contrEquiv2 _ 4 2048 rfl rfl rfl).symm (k, x)) 1).val = (i 1).val := by
      unfold DotDims.rhsIdx; rw [dif_neg (by decide), dif_pos (by decide)]; rfl
    have r2 : (Cert.HgateRefIdeal.dot_S8192x4x2048_S4x2048x2048_S8192x2048_12_02_0_1_n_n.rhsIdx i
        ((ValueIdx.contrEquiv2 _ 4 2048 rfl rfl rfl).symm (k, x)) 2).val = x.val := by
      unfold DotDims.rhsIdx; rw [dif_neg (by decide), dif_neg (by decide)]; exact e1
    rw [r0, r1, r2, show (2048 * k.val + x.val) / 2048 = k.val by omega, show (2048 * k.val + x.val) % 2048 = x.val by omega]

variable (m : (ℓ : Loc nD τ sig) → Buf (Elt Ideal) ℓ) (c : Dev nD)
  (hf : ∀ y : S8192x8192.Idx, m ((c.tc : Thread nD τ).loc main_arg0) y = f (y 0).val (y 1).val)
  (hg : ∀ y : S4x2048x2048.Idx, m ((c.tc : Thread nD τ).loc main_arg1) y = g (y 0).val (y 1).val (y 2).val)
include hf hg

theorem blk0 (t : Fin cfg0.N) (y : S1024x2048.Idx) :
    iblk m c 0 t y = f (1024 * (t.val / 8) + (y 0).val) (2048 * (t.val % 4) + (y 1).val) := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]; exact congrArg (· + (y 1).val) (Nat.mul_comm _ _)

theorem blk1 (t : Fin cfg0.N) (y : S1024x2048.Idx) :
    shapeCast S1024x2048 (iblk m c 1 t : Vec Ideal S1x1024x2048 .bf16) shapeCasts_S1x1024x2048_S1024x2048 y
      = g (t.val % 4) (1024 * (t.val / 4 % 2) + (y 0).val) (y 1).val := by
  have h0 : (y 0).val < 1024 := (y 0).isLt
  have h1 : (y 1).val < 2048 := (y 1).isLt
  let z : S1x1024x2048.Idx := fun a => match a with
    | ⟨0, _⟩ => ⟨0, Nat.zero_lt_one⟩
    | ⟨1, _⟩ => ⟨(y 0).val, h0⟩
    | ⟨2, _⟩ => ⟨(y 1).val, h1⟩
  rw [shapeCast_apply _ shapeCasts_S1x1024x2048_S1024x2048 y z (by
    rw [Shape.rowMajor_val_two, Shape.rowMajor_val_three]
    show (0 * 1024 + (y 0).val) * 2048 + (y 1).val = (y 0).val * 2048 + (y 1).val
    omega)]
  refine (hg (((cfg0.win 1).rect t).emb z)).trans ?_
  have z0 : ((((cfg0.win 1).rect t).emb z (0 : Fin 3)) : ℕ) = t.val % 4 := by
    refine (emb_val 1 t rfl z (0 : Fin 3)).trans ?_
    rw [(ix t).2.1]
    show t.val % 4 * 1 + 0 = t.val % 4
    omega
  have z1 : ((((cfg0.win 1).rect t).emb z (1 : Fin 3)) : ℕ) = 1024 * (t.val / 4 % 2) + (y 0).val := by
    refine (emb_val 1 t rfl z (1 : Fin 3)).trans ?_
    rw [(ix t).2.1]
    exact congrArg (· + (y 0).val) (Nat.mul_comm _ _)
  have z2 : ((((cfg0.win 1).rect t).emb z (2 : Fin 3)) : ℕ) = (y 1).val := by
    refine (emb_val 1 t rfl z (2 : Fin 3)).trans ?_
    rw [(ix t).2.1]
    show 0 * 2048 + (y 1).val = (y 1).val
    omega
  rw [z0, z1, z2]

/-- The product of a point's two blocks. -/
theorem prod_at (t : Fin cfg0.N) (y : S1024x1024.Idx) : k0_pay1 (iblk m c 0 t) (iblk m c 1 t) y
    = ∑ r ∈ range 2048, f (1024 * (t.val / 8) + (y 0).val) (2048 * (t.val % 4) + r) * g (t.val % 4) (1024 * (t.val / 4 % 2) + (y 1).val) r := by
  unfold k0_pay1
  exact matNT _ rfl rfl rfl rfl rfl rfl (iblk m c 0 t) (shapeCast S1024x2048 (iblk m c 1 t : Vec Ideal S1x1024x2048 .bf16) shapeCasts_S1x1024x2048_S1024x2048)
    (fun a r => f (1024 * (t.val / 8) + a) (2048 * (t.val % 4) + r)) (fun a r => g (t.val % 4) (1024 * (t.val / 4 % 2) + a) r)
    (blk0 f g m c hf hg t) (blk1 f g m c hf hg t) y

/-- The sum over the branches up to a point. -/
abbrev part (t : ℕ) (a b : ℕ) : EReal :=
  ∑ r ∈ range (2048 * (t % 4 + 1)), f (1024 * (t / 8) + a) r * g (r / 2048) (1024 * (t / 4 % 2) + b) (r % 2048)

omit hf hg in
/-- A further branch. -/
theorem part_succ (n a b : ℕ) (h : (n + 1) % 4 ≠ 0) : part f g (n + 1) a b = part f g n a b
    + ∑ r ∈ range 2048, f (1024 * ((n + 1) / 8) + a) (2048 * ((n + 1) % 4) + r) * g ((n + 1) % 4) (1024 * ((n + 1) / 4 % 2) + b) r := by
  unfold part
  rw [Nat.mul_succ, sum_range_add, show (n + 1) / 8 = n / 8 by omega, show (n + 1) / 4 = n / 4 by omega, show (n + 1) % 4 = n % 4 + 1 by omega]
  refine congrArg (_ + ·) (sum_congr rfl fun r hr => ?_)
  have h := mem_range.mp hr
  rw [show (2048 * (n % 4 + 1) + r) / 2048 = n % 4 + 1 by omega, show (2048 * (n % 4 + 1) + r) % 2048 = r by omega]

omit hf hg in
/-- The first branch. -/
theorem part_zero (n a b : ℕ) (h : n % 4 = 0) : part f g n a b
    = ∑ r ∈ range 2048, f (1024 * (n / 8) + a) (2048 * (n % 4) + r) * g (n % 4) (1024 * (n / 4 % 2) + b) r := by
  unfold part
  rw [h]
  refine sum_congr rfl fun r hr => ?_
  have h := mem_range.mp hr
  rw [show r / 2048 = 0 by omega, show r % 2048 = r by omega, show 2048 * 0 + r = r by omega]

/-- The accumulator before a tile's last branch. -/
theorem acc_at (y : S1024x1024.Idx) : ∀ (n : ℕ) (hn : n < cfg0.N), n % 4 ≠ 3 → (outsAt0 m c n hn).2 y = part f g n (y 0).val (y 1).val := by
  intro n
  induction n with
  | zero =>
    intro hn _
    rw [outsAt0_A m c ⟨0, hn⟩ rfl (by dsimp only; omega) (by dsimp only; omega)]
    dsimp only
    rw [acc_A]
    exact (prod_at f g m c hf hg ⟨0, hn⟩ y).trans (part_zero f g 0 _ _ rfl).symm
  | succ n ih =>
    intro hn h3
    by_cases h0 : (n + 1) % 4 = 0
    · rw [outsAt0_A m c ⟨n + 1, hn⟩ h0 (by dsimp only; omega) h3]
      dsimp only
      rw [acc_A]
      exact (prod_at f g m c hf hg ⟨n + 1, hn⟩ y).trans (part_zero f g (n + 1) _ _ h0).symm
    · rw [outsAt0_B m c ⟨n + 1, hn⟩ h0 (by dsimp only; omega) h3]
      dsimp only
      rw [acc_B]
      show ((outsAt0 m c n _).2 y : EReal) + k0_pay1 (F := Ideal) _ _ y = _
      rw [ih _ (by omega), prod_at f g m c hf hg, part_succ f g n _ _ h0]

/-- What a block of the result is written back with. -/
theorem out_at (t : Fin cfg0.N) (ht : t.val % 4 = 3) (y : S1024x1024.Idx) : (outsAt0 m c t.val t.isLt).1 y
    = ∑ r ∈ range 8192, f (1024 * (t.val / 8) + (y 0).val) r * g (r / 2048) (1024 * (t.val / 4 % 2) + (y 1).val) (r % 2048) := by
  rw [outsAt0_C m c t (by omega) (by omega) ht]
  dsimp only
  rw [out_C]
  show ((outsAt0 m c (t.val - 1) _).2 y : EReal) + k0_pay1 (F := Ideal) _ _ y = _
  rw [acc_at f g m c hf hg y _ _ (by omega), prod_at f g m c hf hg]
  have e := part_succ f g (t.val - 1) (y 0).val (y 1).val (by omega)
  rw [show t.val - 1 + 1 = t.val by omega] at e
  rw [← e]
  unfold part
  rw [ht]

/-- The result array. -/
theorem final : (dats m 0 c).arrAt 2 cfg0.N
    = Cert.HgateRefIdeal.Read.val_main_v6 (F := Ideal) (m ((c.tc : Thread nD τ).loc main_arg0)) (m ((c.tc : Thread nD τ).loc main_arg1)) := by
  refine (dats m 0 c).arrAt_eq_of_covers 2 _ cov fun t ht y => ?_
  have e := out_at f g m c hf hg t ((flush0_2 t).mp ht) y
  refine ((congrFun (after0_2 m c t) y).trans e).trans ((ref_at f g _ _ hf hg _).trans (sum_congr rfl fun r _ => ?_)).symm
  refine congrArg₂ (· * ·) (congrArg (f · r) ?_) (congrArg (g (r / 2048) · (r % 2048)) ?_)
  · refine (emb_val 2 t rfl y 0).trans ?_
    rw [(ix t).2.2]; exact congrArg (· + (y 0).val) (Nat.mul_comm _ _)
  · refine (emb_val 2 t rfl y 1).trans ?_
    rw [(ix t).2.2]; exact congrArg (· + (y 1).val) (Nat.mul_comm _ _)

omit f g hf hg in
/-- The kernel and the reference end with the same gradient. -/
theorem algebraic : Cert.algebraic_HgateIdeal_HgateRefIdeal := by
  intro m ρ m' ρ' _ hm
  refine ⟨fun c => Cert.HgateRefIdeal.Read.val_main_v6 (F := Ideal) (m ((c.tc : Thread nD τ).loc main_arg0)) (m ((c.tc : Thread nD τ).loc main_arg1)), ?_, ?_⟩
  · refine (θ_run defs _ _).mono (fun _ h c => ⟨?_, ((h c).1 0).trans ((dats m 0 c).arrAt_in 0 rfl _), ((h c).1 1).trans ((dats m 0 c).arrAt_in 1 rfl _)⟩) (run_main m ρ)
    obtain ⟨f, hf⟩ := exists_fun2 (β := EReal) (m ((c.tc : Thread nD τ).loc main_arg0))
    obtain ⟨g, hg⟩ := exists_fun3 (β := EReal) (m ((c.tc : Thread nD τ).loc main_arg1))
    exact ((h c).1 2).trans (final f g m c hf hg)
  · refine (θ_run _ _ _).mono (fun _ h c => ⟨(h c).1.trans ?_, (h c).2⟩) (Cert.HgateRefIdeal.Value.run (F := Ideal) m' ρ')
    rw [(hm c).1, (hm c).2]
    exact Cert.HgateRefIdeal.Read.val_main_v6_eq _ _

end Cert.HgateIdeal.Own
-- ==== Proof.Merged.lean ====
/-
  The gradient of the merged branches: products of rows, tile by tile.
-/
module

public import proofs.«01_k».proof.Defs
public import proofs.«01_k».proof.Proof.Prod
public import proofs.«01_k».proof.Proof.Gen.MergedIdeal.Frame
public import proofs.«01_k».proof.Proof.Gen.MergedRefIdeal.Run
public import proofs.«01_k».proof.Proof.Gen.MergedRefIdeal.Read
public import Idealize.ShloMosaic.Lib.Pipeline.ValueKit

@[expose] public section

noncomputable section

namespace Cert.MergedIdeal.Own

open Cert.MergedIdeal Cert.MergedIdeal.Gen Cert.Own
open Idealize.ShloMosaic Idealize.ShloMosaic.TcCoe Idealize.SL.Sem Finset

theorem hz : (![0, 0] : Fin 2 → Nat) = fun _ => 0 := funext fun a => by fin_cases a <;> rfl

set_option maxRecDepth 100000 in
/-- Where the blocks lie. -/
theorem ix : ∀ t : Fin grid0.N, (cfg0.win 0).index t = ![t.val / 2, 0] ∧ (cfg0.win 1).index t = ![t.val % 2, 0]
    ∧ (cfg0.win 2).index t = ![t.val / 2, t.val % 2] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

variable (f g : ℕ → ℕ → EReal)

/-- The reference's result at an index. -/
theorem ref_at (X0 : S8192x2048.Idx → EReal) (X1 : S2048x2048.Idx → EReal) (hf : ∀ y, X0 y = f (y 0).val (y 1).val)
    (hg : ∀ y, X1 y = g (y 0).val (y 1).val) (i : S8192x2048.Idx) :
    Cert.MergedRefIdeal.Read.val_main_v3 (F := Ideal) X0 X1 i = ∑ r ∈ range 2048, f (i 0).val r * g (i 1).val r := by
  rw [Cert.MergedRefIdeal.Read.val_main_v3_apply, ← Fin.sum_univ_eq_sum_range (fun r => f (i 0).val r * g (i 1).val r)]
  refine sum_congr rfl fun k _ => ?_
  rw [Cert.MergedRefIdeal.Read.val_main_v1_apply, Ideal.extf_def, hf, hg]

variable (m : (ℓ : Loc nD τ sig) → Buf (Elt Ideal) ℓ) (c : Dev nD)
  (hf : ∀ y : S8192x2048.Idx, m ((c.tc : Thread nD τ).loc main_arg0) y = f (y 0).val (y 1).val)
  (hg : ∀ y : S2048x2048.Idx, m ((c.tc : Thread nD τ).loc main_arg1) y = g (y 0).val (y 1).val)
include hf hg

theorem blk0 (t : Fin cfg0.N) (y : S1024x2048.Idx) : iblk m c 0 t y = f (1024 * (t.val / 2) + (y 0).val) (y 1).val := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]
    show 0 * 2048 + (y 1).val = (y 1).val
    omega

theorem blk1 (t : Fin cfg0.N) (y : S1024x2048.Idx) : iblk m c 1 t y = g (1024 * (t.val % 2) + (y 0).val) (y 1).val := by
  refine (hg (((cfg0.win 1).rect t).emb y)).trans (congrArg₂ g ?_ ?_)
  · rw [emb_val 1 t rfl, (ix t).2.1]; exact congrArg (· + (y 0).val) (Nat.mul_comm _ _)
  · rw [emb_val 1 t rfl, (ix t).2.1]
    show 0 * 2048 + (y 1).val = (y 1).val
    omega

/-- What a block of the result is written back with. -/
theorem out_at (t : Fin cfg0.N) (y : S1024x1024.Idx) : out0_2 (iblk m c 0 t) (iblk m c 1 t) y
    = ∑ r ∈ range 2048, f (1024 * (t.val / 2) + (y 0).val) r * g (1024 * (t.val % 2) + (y 1).val) r := by
  unfold out0_2
  rw [View.canon_unit_zero hz, View.ld_unit_zero (S := S1024x2048) hz, View.ld_unit_zero (S := S1024x2048) hz]
  unfold k0_pay1
  exact matNT _ rfl rfl rfl rfl rfl rfl (truncf .bf16 (iblk m c 0 t : Vec Ideal S1024x2048 .f32) bitsLt_bf16_f32) (iblk m c 1 t)
    (fun a r => f (1024 * (t.val / 2) + a) r) (fun a r => g (1024 * (t.val % 2) + a) r) (blk0 f g m c hf hg t) (blk1 f g m c hf hg t) y

/-- The result array. -/
theorem final : (dats m 0 c).arrAt 2 cfg0.N
    = Cert.MergedRefIdeal.Read.val_main_v3 (F := Ideal) (m ((c.tc : Thread nD τ).loc main_arg0)) (m ((c.tc : Thread nD τ).loc main_arg1)) := by
  refine (dats m 0 c).arrAt_eq_of_covers 2 _ cov fun t ht y => ?_
  have e := out_at f g m c hf hg t y
  refine ((congrFun (after0_2 m c t) y).trans e).trans ((ref_at f g _ _ hf hg _).trans (sum_congr rfl fun r _ => ?_)).symm
  refine congrArg₂ (· * ·) (congrArg (f · r) ?_) (congrArg (g · r) ?_)
  · refine (emb_val 2 t rfl y 0).trans ?_
    rw [(ix t).2.2]; exact congrArg (· + (y 0).val) (Nat.mul_comm _ _)
  · refine (emb_val 2 t rfl y 1).trans ?_
    rw [(ix t).2.2]; exact congrArg (· + (y 1).val) (Nat.mul_comm _ _)

omit f g hf hg in
/-- The kernel and the reference end with the same gradient. -/
theorem algebraic : Cert.algebraic_MergedIdeal_MergedRefIdeal := by
  intro m ρ m' ρ' _ hm
  refine ⟨fun c => Cert.MergedRefIdeal.Read.val_main_v3 (F := Ideal) (m ((c.tc : Thread nD τ).loc main_arg0)) (m ((c.tc : Thread nD τ).loc main_arg1)), ?_, ?_⟩
  · refine (θ_run defs _ _).mono (fun _ h c => ⟨?_, ((h c).1 0).trans ((dats m 0 c).arrAt_in 0 rfl _), ((h c).1 1).trans ((dats m 0 c).arrAt_in 1 rfl _)⟩) (run_main m ρ)
    obtain ⟨f, hf⟩ := exists_fun2 (β := EReal) (m ((c.tc : Thread nD τ).loc main_arg0))
    obtain ⟨g, hg⟩ := exists_fun2 (β := EReal) (m ((c.tc : Thread nD τ).loc main_arg1))
    exact ((h c).1 2).trans (final f g m c hf hg)
  · refine (θ_run _ _ _).mono (fun _ h c => ⟨(h c).1.trans ?_, (h c).2⟩) (Cert.MergedRefIdeal.Value.run (F := Ideal) m' ρ')
    rw [(hm c).1, (hm c).2]
    exact Cert.MergedRefIdeal.Read.val_main_v3_eq _ _

end Cert.MergedIdeal.Own
-- ==== Proof.Wout.lean ====
/-
  The gradient of the output projection's weights: the products of the columns, summed over four quarters of the rows.
-/
module

public import proofs.«01_k».proof.Defs
public import proofs.«01_k».proof.Proof.Prod
public import proofs.«01_k».proof.Proof.Gen.WoutIdeal.Frame
public import proofs.«01_k».proof.Proof.Gen.WoutRefIdeal.Run
public import proofs.«01_k».proof.Proof.Gen.WoutRefIdeal.Read
public import Idealize.ShloMosaic.Lib.Pipeline.ValueKit

@[expose] public section

noncomputable section

namespace Cert.WoutIdeal.Own

open Cert.WoutIdeal Cert.WoutIdeal.Gen Cert.Own
open Idealize.ShloMosaic Idealize.ShloMosaic.TcCoe Idealize.SL.Sem Finset

theorem hz : (![0, 0] : Fin 2 → Nat) = fun _ => 0 := funext fun a => by fin_cases a <;> rfl

section Cases

variable {F : FTy → Type} [FloatOps F] (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .bf16) (h5 : a5.IsWhole) (a6 : Memref sig .tc .vmem S1024x1024 .f32) (h6 : a6.IsWhole)
  (x0 : Vec F S2048x1024 .bf16) (x1 : Vec F S2048x1024 .f32) (xs : Vec F S1024x1024 .f32)

/-- At the first quarter the accumulator is the product. -/
theorem acc_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S2048x1024) hz, shapeCast_self]

/-- Then each quarter's product is added. -/
theorem acc_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S2048x1024) hz,
    View.ld_unit_zero (S := S1024x1024) hz, shapeCast_self]

/-- At the last quarter the result is the accumulator and the product, rounded. -/
theorem out_C (hc0 : ¬cond0_0 i) (hc1 : cond0_1 i) (hc2 : cond0_2 i) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  unfold k0_pay4 k0_pay3
  simp only [View.readAt_eq_ld, h3.read_unread, h4.read_unread, h6.read_unread, View.ld_unit_zero (S := S2048x1024) hz,
    View.ld_unit_zero (S := S1024x1024) hz, shapeCast_self]

end Cases

set_option maxRecDepth 100000 in
/-- Where the blocks lie. -/
theorem ix : ∀ t : Fin grid0.N, (cfg0.win 0).index t = ![t.val % 4, t.val / 8] ∧ (cfg0.win 1).index t = ![t.val % 4, t.val / 4 % 2]
    ∧ (cfg0.win 2).index t = ![t.val / 8, t.val / 4 % 2] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

variable (f g : ℕ → ℕ → EReal)

/-- The reference's result at an index. -/
theorem ref_at (X0 : S8192x2048.Idx → EReal) (X1 : S8192x2048.Idx → EReal) (hf : ∀ y, X0 y = f (y 0).val (y 1).val)
    (hg : ∀ y, X1 y = g (y 0).val (y 1).val) (i : S2048x2048.Idx) :
    Cert.WoutRefIdeal.Read.val_main_v5 (F := Ideal) X0 X1 i = ∑ r ∈ range 8192, f r (i 0).val * g r (i 1).val := by
  rw [Cert.WoutRefIdeal.Read.val_main_v5_apply, Ideal.truncf_def, Cert.WoutRefIdeal.Read.val_main_v4_apply,
    Cert.WoutRefIdeal.Read.val_main_v3_apply, ← Fin.sum_univ_eq_sum_range (fun r => f r (i 0).val * g r (i 1).val)]
  refine sum_congr rfl fun k _ => ?_
  rw [Cert.WoutRefIdeal.Read.val_main_v1_apply, Ideal.extf_def, hf, hg]
  exact mul_comm _ _

variable (m : (ℓ : Loc nD τ sig) → Buf (Elt Ideal) ℓ) (c : Dev nD)
  (hf : ∀ y : S8192x2048.Idx, m ((c.tc : Thread nD τ).loc main_arg0) y = f (y 0).val (y 1).val)
  (hg : ∀ y : S8192x2048.Idx, m ((c.tc : Thread nD τ).loc main_arg1) y = g (y 0).val (y 1).val)
include hf hg

theorem blk0 (t : Fin cfg0.N) (y : S2048x1024.Idx) :
    iblk m c 0 t y = f (2048 * (t.val % 4) + (y 0).val) (1024 * (t.val / 8) + (y 1).val) := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]; exact congrArg (· + (y 1).val) (Nat.mul_comm _ _)

theorem blk1 (t : Fin cfg0.N) (y : S2048x1024.Idx) :
    iblk m c 1 t y = g (2048 * (t.val % 4) + (y 0).val) (1024 * (t.val / 4 % 2) + (y 1).val) := by
  refine (hg (((cfg0.win 1).rect t).emb y)).trans (congrArg₂ g ?_ ?_)
  · rw [emb_val 1 t rfl, (ix t).2.1]; exact congrArg (· + (y 0).val) (Nat.mul_comm _ _)
  · rw [emb_val 1 t rfl, (ix t).2.1]; exact congrArg (· + (y 1).val) (Nat.mul_comm _ _)

/-- The product of a point's two blocks. -/
theorem prod_at (t : Fin cfg0.N) (y : S1024x1024.Idx) : k0_pay1 (iblk m c 0 t) (iblk m c 1 t) y
    = ∑ r ∈ range 2048, f (2048 * (t.val % 4) + r) (1024 * (t.val / 8) + (y 0).val) * g (2048 * (t.val % 4) + r) (1024 * (t.val / 4 % 2) + (y 1).val) := by
  unfold k0_pay1
  exact matTN _ rfl rfl rfl rfl rfl rfl (iblk m c 0 t) (truncf .bf16 (iblk m c 1 t : Vec Ideal S2048x1024 .f32) bitsLt_bf16_f32)
    (fun r a => f (2048 * (t.val % 4) + r) (1024 * (t.val / 8) + a)) (fun r a => g (2048 * (t.val % 4) + r) (1024 * (t.val / 4 % 2) + a))
    (blk0 f g m c hf hg t) (blk1 f g m c hf hg t) y

/-- The sum over the quarters up to a point. -/
abbrev part (t : ℕ) (a b : ℕ) : EReal := ∑ r ∈ range (2048 * (t % 4 + 1)), f r (1024 * (t / 8) + a) * g r (1024 * (t / 4 % 2) + b)

omit hf hg in
/-- A further quarter. -/
theorem part_succ (n a b : ℕ) (h : (n + 1) % 4 ≠ 0) : part f g (n + 1) a b = part f g n a b
    + ∑ r ∈ range 2048, f (2048 * ((n + 1) % 4) + r) (1024 * ((n + 1) / 8) + a) * g (2048 * ((n + 1) % 4) + r) (1024 * ((n + 1) / 4 % 2) + b) := by
  unfold part
  rw [Nat.mul_succ, sum_range_add, show (n + 1) / 8 = n / 8 by omega, show (n + 1) / 4 = n / 4 by omega, show (n + 1) % 4 = n % 4 + 1 by omega]

/-- The accumulator before a tile's last quarter. -/
theorem acc_at (y : S1024x1024.Idx) : ∀ (n : ℕ) (hn : n < cfg0.N), n % 4 ≠ 3 → (outsAt0 m c n hn).2 y = part f g n (y 0).val (y 1).val := by
  intro n
  induction n with
  | zero =>
    intro hn _
    rw [outsAt0_A m c ⟨0, hn⟩ rfl (by dsimp only; omega) (by dsimp only; omega)]
    dsimp only
    rw [acc_A]
    exact (prod_at f g m c hf hg ⟨0, hn⟩ y).trans (by simp [part])
  | succ n ih =>
    intro hn h3
    by_cases h0 : (n + 1) % 4 = 0
    · rw [outsAt0_A m c ⟨n + 1, hn⟩ h0 (by dsimp only; omega) h3]
      dsimp only
      rw [acc_A]
      refine (prod_at f g m c hf hg ⟨n + 1, hn⟩ y).trans ?_
      unfold part
      simp only [h0, Nat.mul_zero, Nat.zero_add, Nat.mul_one]
    · rw [outsAt0_B m c ⟨n + 1, hn⟩ h0 (by dsimp only; omega) h3]
      dsimp only
      rw [acc_B]
      show ((outsAt0 m c n _).2 y : EReal) + k0_pay1 (F := Ideal) _ _ y = _
      rw [ih _ (by omega), prod_at f g m c hf hg, part_succ f g n _ _ h0]

/-- What a block of the result is written back with. -/
theorem out_at (t : Fin cfg0.N) (ht : t.val % 4 = 3) (y : S1024x1024.Idx) : (outsAt0 m c t.val t.isLt).1 y
    = ∑ r ∈ range 8192, f r (1024 * (t.val / 8) + (y 0).val) * g r (1024 * (t.val / 4 % 2) + (y 1).val) := by
  rw [outsAt0_C m c t (by omega) (by omega) ht]
  dsimp only
  rw [out_C]
  show ((outsAt0 m c (t.val - 1) _).2 y : EReal) + k0_pay1 (F := Ideal) _ _ y = _
  rw [acc_at f g m c hf hg y _ _ (by omega), prod_at f g m c hf hg]
  have e := part_succ f g (t.val - 1) (y 0).val (y 1).val (by omega)
  rw [show t.val - 1 + 1 = t.val by omega] at e
  rw [← e]
  unfold part
  rw [ht]

/-- The result array. -/
theorem final : (dats m 0 c).arrAt 2 cfg0.N
    = Cert.WoutRefIdeal.Read.val_main_v5 (F := Ideal) (m ((c.tc : Thread nD τ).loc main_arg0)) (m ((c.tc : Thread nD τ).loc main_arg1)) := by
  refine (dats m 0 c).arrAt_eq_of_covers 2 _ cov fun t ht y => ?_
  have e := out_at f g m c hf hg t ((flush0_2 t).mp ht) y
  refine ((congrFun (after0_2 m c t) y).trans e).trans ((ref_at f g _ _ hf hg _).trans (sum_congr rfl fun r _ => ?_)).symm
  refine congrArg₂ (· * ·) (congrArg (f r) ?_) (congrArg (g r) ?_)
  · refine (emb_val 2 t rfl y 0).trans ?_
    rw [(ix t).2.2]; exact congrArg (· + (y 0).val) (Nat.mul_comm _ _)
  · refine (emb_val 2 t rfl y 1).trans ?_
    rw [(ix t).2.2]; exact congrArg (· + (y 1).val) (Nat.mul_comm _ _)

omit f g hf hg in
/-- The kernel and the reference end with the same gradient. -/
theorem algebraic : Cert.algebraic_WoutIdeal_WoutRefIdeal := by
  intro m ρ m' ρ' _ hm
  refine ⟨fun c => Cert.WoutRefIdeal.Read.val_main_v5 (F := Ideal) (m ((c.tc : Thread nD τ).loc main_arg0)) (m ((c.tc : Thread nD τ).loc main_arg1)), ?_, ?_⟩
  · refine (θ_run defs _ _).mono (fun _ h c => ⟨?_, ((h c).1 0).trans ((dats m 0 c).arrAt_in 0 rfl _), ((h c).1 1).trans ((dats m 0 c).arrAt_in 1 rfl _)⟩) (run_main m ρ)
    obtain ⟨f, hf⟩ := exists_fun2 (β := EReal) (m ((c.tc : Thread nD τ).loc main_arg0))
    obtain ⟨g, hg⟩ := exists_fun2 (β := EReal) (m ((c.tc : Thread nD τ).loc main_arg1))
    exact ((h c).1 2).trans (final f g m c hf hg)
  · refine (θ_run _ _ _).mono (fun _ h c => ⟨(h c).1.trans ?_, (h c).2⟩) (Cert.WoutRefIdeal.Value.run (F := Ideal) m' ρ')
    rw [(hm c).1, (hm c).2]
    exact Cert.WoutRefIdeal.Read.val_main_v5_eq _ _

end Cert.WoutIdeal.Own
-- ==== Proof.FwdBits.lean ====
/-
  The program on bit patterns has the idealized program's text, so its frame is the same run's, at the other instance.
-/
module

public import proofs.«01_k».proof.Defs
public import proofs.«01_k».proof.Proof.Gen.FwdIdeal.Frame
public import proofs.«01_k».proof.Proof.Gen.Fwd

@[expose] public section

namespace Cert.Fwd.Own

open Idealize.ShloMosaic

theorem body_same : @Cert.Fwd.cc0_merge_fwd Bits _ _ = @Cert.FwdIdeal.cc0_merge_fwd Bits _ _ := by with_unfolding_all rfl

theorem defs₀_same : Cert.Fwd.defs₀ (F := Bits) = Cert.FwdIdeal.defs₀ (F := Bits) := by
  unfold Cert.Fwd.defs₀ Cert.FwdIdeal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _

theorem defs_same : Cert.Fwd.defs (F := Bits) = Cert.FwdIdeal.defs (F := Bits) := congrArg (Pipeline.defs Cert.FwdIdeal.pcfgs) defs₀_same

/-- The arguments and the semaphores end as they were. -/
theorem quiescent : Cert.quiescent_Fwd (hFwd := Cert.Fwd.Gen.facts) := by
  intro m g _
  rw [defs_same]
  exact Cert.FwdIdeal.Gen.frame (F := Bits) m g

end Cert.Fwd.Own
-- ==== Proof.FwdCases.lean ====
/-
  What one call of the body leaves: in the two saved arrays' blocks the gate and the projection of its branch, rounded; in
  the accumulator their product, added to what it held after the first branch; after the last one, in the merged block, the
  accumulator rounded.
-/
module

public import proofs.«01_k».proof.Proof.Gen.FwdIdeal.Frame
public import Idealize.ShloMosaic.Lib.Pipeline.ValueKit

@[expose] public section

noncomputable section

namespace Cert.FwdIdeal.Own

open Cert.FwdIdeal Cert.FwdIdeal.Gen
open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

section Cases

variable (c : Dev nD) (i : grid0.Coords)
  (a3 : Memref sig .tc .vmem S1024x2048 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .bf16) (h7 : a7.IsWhole) (a8 : Memref sig .tc .vmem S1x2048x512 .bf16) (h8 : a8.IsWhole)
  (a9 : Memref sig .tc .vmem S1x1x512 .f32) (h9 : a9.IsWhole) (a10 : Memref sig .tc .vmem S1x1024x512 .bf16) (h10 : a10.IsWhole)
  (a11 : Memref sig .tc .vmem S1024x512 .bf16) (h11 : a11.IsWhole) (a12 : Memref sig .tc .vmem S1024x512 .bf16) (h12 : a12.IsWhole)
  (a13 : Memref sig .tc .vmem S1024x512 .bf16) (h13 : a13.IsWhole) (a14 : Memref sig .tc .vmem S1024x512 .f32) (h14 : a14.IsWhole)
  (x0 : Vec F S1024x2048 .bf16) (x1 x2 x3 x4 : Vec F S1024x1024 .bf16) (x5 : Vec F S1x2048x512 .bf16) (x6 : Vec F S1x1x512 .f32)
  (x7 : Vec F S1x1024x512 .bf16) (xs : Vec F S1024x512 .f32)

/-- At the first branch. -/
theorem body_A (hc0 : cond0_0 i) (hc1 : ¬cond0_1 i) (hc2 : ¬cond0_2 i) (hc3 : ¬cond0_3 i) (hc4 : ¬cond0_4 i) :
    out0_A_9 c i a3 h3 a4 h4 a5 h5 a6 h6 a7 h7 a8 h8 a9 h9 a10 h10 a11 h11 a12 h12 a13 h13 a14 h14
        hc0 hc1 hc2 hc3 hc4 x0 x1 x2 x3 x4 x5 x6 x7
      = truncf .bf16 (k0_pay1 x0 x5 x6) bitsLt_bf16_f32
    ∧ out0_A_10 c i a3 h3 a4 h4 a5 h5 a6 h6 a7 h7 a8 h8 a9 h9 a10 h10 a11 h11 a12 h12 a13 h13 a14 h14
        hc0 hc1 hc2 hc3 hc4 x0 x1 x2 x3 x4 x5 x6 x7
      = truncf .bf16 (k0_pay2 x1 x7) bitsLt_bf16_f32
    ∧ sout0_A_0 c i a3 h3 a4 h4 a5 h5 a6 h6 a7 h7 a8 h8 a9 h9 a10 h10 a11 h11 a12 h12 a13 h13 a14 h14
        hc0 hc1 hc2 hc3 hc4 x0 x1 x2 x3 x4 x5 x6 x7
      = mulf (k0_pay1 x0 x5 x6) (k0_pay2 x1 x7) := by
  unfold out0_A_9 out0_A_10 sout0_A_0
  rw [View.read_writes_eq_canon _ _ _ (cover0_A_9 c i a3 h3 a4 h4 a5 h5 a6 h6 a7 h7 a8 h8 a9 h9 a10 h10 a11 h11 a12 h12 a13 h13 a14 h14 hc0 hc1 hc2 hc3 hc4 x0 x1 x2 x3 x4 x5 x6 x7),
    View.read_writes_eq_canon _ _ _ (cover0_A_10 c i a3 h3 a4 h4 a5 h5 a6 h6 a7 h7 a8 h8 a9 h9 a10 h10 a11 h11 a12 h12 a13 h13 a14 h14 hc0 hc1 hc2 hc3 hc4 x0 x1 x2 x3 x4 x5 x6 x7),
    View.read_writes_eq_canon _ _ _ (scover0_A_0 c i a3 h3 a4 h4 a5 h5 a6 h6 a7 h7 a8 h8 a9 h9 a10 h10 a11 h11 a12 h12 a13 h13 a14 h14 hc0 hc1 hc2 hc3 hc4 x0 x1 x2 x3 x4 x5 x6 x7)]
  unfold kernelRun0_A
  dsimp only
  rw [View.canon_unit_zero hz, View.canon_unit_zero hz, View.canon_unit_zero hz]
  unfold k0_pay3 k0_pay4 k0_pay5
  simp only [View.readAt_eq_ld, h3.read_unread, h4.read_unread, h5.read_unread, h6.read_unread, h7.read_unread, h8.read_unread,
    h9.read_unread, h10.read_unread, h14.read_unread, View.ld_unit_zero (S := S1024x2048) hz, View.ld_unit_zero (S := S1024x1024) hz,
    View.ld_unit_zero (S := S1x2048x512) hz3, View.ld_unit_zero (S := S1x1x512) hz3, View.ld_unit_zero (S := S1x1024x512) hz3,
    View.ld_unit_zero (S := S1024x512) hz, shapeCast_self]
  refine ⟨?_, ?_, ?_⟩ <;> first | trivial | rfl

/-- At the second branch. -/
theorem body_B (hc0 : ¬cond0_0 i) (hc1 : cond0_1 i) (hc2 : ¬cond0_2 i) (hc3 : ¬cond0_3 i) (hc4 : ¬cond0_4 i) :
    out0_B_9 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay1 x0 x5 x6) bitsLt_bf16_f32
    ∧ out0_B_10 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay2 x2 x7) bitsLt_bf16_f32
    ∧ sout0_B_0 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = addf xs (mulf (k0_pay1 x0 x5 x6) (k0_pay2 x2 x7)) := by
  unfold out0_B_9 out0_B_10 sout0_B_0
  rw [View.read_writes_eq_canon _ _ _ (cover0_B_9 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (cover0_B_10 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (scover0_B_0 c i a3 h3 a4 h4 a5 h5 a6 h6 a7 h7 a8 h8 a9 h9 a10 h10 a11 h11 a12 h12 a13 h13 a14 h14 hc0 hc1 hc2 hc3 hc4 x0 x1 x2 x3 x4 x5 x6 x7 xs)]
  unfold kernelRun0_B
  dsimp only
  rw [View.canon_unit_zero hz, View.canon_unit_zero hz, View.canon_unit_zero hz]
  unfold k0_pay7 k0_pay8 k0_pay9
  simp only [View.readAt_eq_ld, h3.read_unread, h4.read_unread, h5.read_unread, h6.read_unread, h7.read_unread, h8.read_unread,
    h9.read_unread, h10.read_unread, h14.read_unread, View.ld_unit_zero (S := S1024x2048) hz, View.ld_unit_zero (S := S1024x1024) hz,
    View.ld_unit_zero (S := S1x2048x512) hz3, View.ld_unit_zero (S := S1x1x512) hz3, View.ld_unit_zero (S := S1x1024x512) hz3,
    View.ld_unit_zero (S := S1024x512) hz, shapeCast_self]
  refine ⟨?_, ?_, ?_⟩ <;> first | trivial | rfl

/-- At the third branch. -/
theorem body_C (hc0 : ¬cond0_0 i) (hc1 : ¬cond0_1 i) (hc2 : cond0_2 i) (hc3 : ¬cond0_3 i) (hc4 : ¬cond0_4 i) :
    out0_C_9 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay1 x0 x5 x6) bitsLt_bf16_f32
    ∧ out0_C_10 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay2 x3 x7) bitsLt_bf16_f32
    ∧ sout0_C_0 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = addf xs (mulf (k0_pay1 x0 x5 x6) (k0_pay2 x3 x7)) := by
  unfold out0_C_9 out0_C_10 sout0_C_0
  rw [View.read_writes_eq_canon _ _ _ (cover0_C_9 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (cover0_C_10 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (scover0_C_0 c i a3 h3 a4 h4 a5 h5 a6 h6 a7 h7 a8 h8 a9 h9 a10 h10 a11 h11 a12 h12 a13 h13 a14 h14 hc0 hc1 hc2 hc3 hc4 x0 x1 x2 x3 x4 x5 x6 x7 xs)]
  unfold kernelRun0_C
  dsimp only
  rw [View.canon_unit_zero hz, View.canon_unit_zero hz, View.canon_unit_zero hz]
  unfold k0_pay11 k0_pay12 k0_pay13
  simp only [View.readAt_eq_ld, h3.read_unread, h4.read_unread, h5.read_unread, h6.read_unread, h7.read_unread, h8.read_unread,
    h9.read_unread, h10.read_unread, h14.read_unread, View.ld_unit_zero (S := S1024x2048) hz, View.ld_unit_zero (S := S1024x1024) hz,
    View.ld_unit_zero (S := S1x2048x512) hz3, View.ld_unit_zero (S := S1x1x512) hz3, View.ld_unit_zero (S := S1x1024x512) hz3,
    View.ld_unit_zero (S := S1024x512) hz, shapeCast_self]
  refine ⟨?_, ?_, ?_⟩ <;> first | trivial | rfl

/-- At the last branch. -/
theorem body_D (hc0 : ¬cond0_0 i) (hc1 : ¬cond0_1 i) (hc2 : ¬cond0_2 i) (hc3 : cond0_3 i) (hc4 : cond0_4 i) :
    out0_D_9 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay1 x0 x5 x6) bitsLt_bf16_f32
    ∧ out0_D_10 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (k0_pay2 x4 x7) bitsLt_bf16_f32
    ∧ sout0_D_0 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = addf xs (mulf (k0_pay1 x0 x5 x6) (k0_pay2 x4 x7)) := by
  unfold out0_D_9 out0_D_10 sout0_D_0
  rw [View.read_writes_eq_canon _ _ _ (cover0_D_9 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (cover0_D_10 c i a3 h3 a4 h4 a5 h5 a6 h6 a7 h7 a8 h8 a9 h9 a10 h10 a11 h11 a12 h12 a13 h13 a14 h14 hc0 hc1 hc2 hc3 hc4 x0 x1 x2 x3 x4 x5 x6 x7 xs),
    View.read_writes_eq_canon _ _ _ (scover0_D_0 c i a3 h3 a4 h4 a5 h5 a6 h6 a7 h7 a8 h8 a9 h9 a10 h10 a11 h11 a12 h12 a13 h13 a14 h14 hc0 hc1 hc2 hc3 hc4 x0 x1 x2 x3 x4 x5 x6 x7 xs)]
  unfold kernelRun0_D
  dsimp only
  sl_unfold_words
  rw [View.canon_unit_zero hz, View.canon_unit_zero hz, View.canon_unit_zero hz]
  unfold k0_pay15 k0_pay16 k0_pay17
  simp only [View.readAt_eq_ld, h3.read_unread, h4.read_unread, h5.read_unread, h6.read_unread, h7.read_unread, h8.read_unread,
    h9.read_unread, h10.read_unread, h14.read_unread, View.ld_unit_zero (S := S1024x2048) hz, View.ld_unit_zero (S := S1024x1024) hz,
    View.ld_unit_zero (S := S1x2048x512) hz3, View.ld_unit_zero (S := S1x1x512) hz3, View.ld_unit_zero (S := S1x1024x512) hz3,
    View.ld_unit_zero (S := S1024x512) hz, shapeCast_self]
  refine ⟨?_, ?_, ?_⟩ <;> first | trivial | rfl

/-- The merged block after the last branch. -/
theorem body_last (hc0 : ¬cond0_0 i) (hc1 : ¬cond0_1 i) (hc2 : ¬cond0_2 i) (hc3 : cond0_3 i) (hc4 : cond0_4 i) :
    out0_D_8 c i a3 h3 a4 h4 a5 h5 a6 h6 a7 h7 a8 h8 a9 h9 a10 h10 a11 h11 a12 h12 a13 h13 a14 h14
        hc0 hc1 hc2 hc3 hc4 x0 x1 x2 x3 x4 x5 x6 x7 xs
      = truncf .bf16 (addf xs (mulf (k0_pay1 x0 x5 x6) (k0_pay2 x4 x7))) bitsLt_bf16_f32 := by
  unfold out0_D_8
  rw [View.read_writes_eq_canon _ _ _ (cover0_D_8 c i a3 h3 a4 h4 a5 h5 a6 h6 a7 h7 a8 h8 a9 h9 a10 h10 a11 h11 a12 h12 a13 h13 a14 h14 hc0 hc1 hc2 hc3 hc4 x0 x1 x2 x3 x4 x5 x6 x7 xs)]
  unfold kernelRun0_D
  dsimp only
  sl_unfold_words
  rw [View.canon_unit_zero hz, View.readCov_unit_zero (S := S1024x512) _ hz]
  unfold k0_pay18 k0_pay17
  simp only [View.readAt_eq_ld, h3.read_unread, h4.read_unread, h5.read_unread, h6.read_unread, h7.read_unread, h8.read_unread,
    h9.read_unread, h10.read_unread, h14.read_unread, View.ld_unit_zero (S := S1024x2048) hz, View.ld_unit_zero (S := S1024x1024) hz,
    View.ld_unit_zero (S := S1x2048x512) hz3, View.ld_unit_zero (S := S1x1x512) hz3, View.ld_unit_zero (S := S1x1024x512) hz3,
    View.ld_unit_zero (S := S1024x512) hz, shapeCast_self]
  try rfl

end Cases

end Cert.FwdIdeal.Own
-- ==== Proof.FwdRef.lean ====
/-
  The merge of the branches with exact arithmetic: a gate, a projection and their sum over the branches at an entry, and
  the reference's three results as these.
-/
module

public import proofs.«01_k».proof.Proof.Prod
public import proofs.«01_k».proof.Proof.Gen.FwdRefIdeal.Run
public import proofs.«01_k».proof.Proof.Gen.FwdRefIdeal.Read

@[expose] public section

noncomputable section

namespace Cert.Own

open Idealize.ShloMosaic Finset

/-- Rows against columns. -/
theorem matNN {K M N : ℕ} {φ₁ φ₂ : FTy} (D : DotDims ⟨2, ![M, K]⟩ ⟨2, ![K, N]⟩ ⟨2, ![M, N]⟩) (h1 : D.lhsContracting = [1])
    (h2 : D.rhsContracting = [0]) (h3 : D.lhsNonContracting = [0]) (h4 : D.rhsNonContracting = [1]) (h5 : D.lhsBatch = [])
    (h6 : D.rhsBatch = []) (a : FVec Ideal ⟨2, ![M, K]⟩ φ₁) (b : FVec Ideal ⟨2, ![K, N]⟩ φ₂) (f g : ℕ → ℕ → EReal)
    (ha : ∀ y, a y = f (y 0).val (y 1).val) (hb : ∀ y, b y = g (y 0).val (y 1).val) (i : (⟨2, ![M, N]⟩ : Shape).Idx) :
    FloatOps.matmul D none a b (constant ⟨2, ![M, N]⟩ .f32 0x00000000#32) i = ∑ r ∈ range K, f (i 0).val r * g r (i 1).val := by
  obtain ⟨l1, l2, l3, l4, l5, l6, wf⟩ := D
  subst h1 h2 h3 h4 h5 h6
  rw [Ideal.matmul_constant_zero_apply, ← Fin.sum_univ_eq_sum_range (fun r => f (i 0).val r * g r (i 1).val),
    ← Equiv.sum_comp (ValueIdx.contrEquiv1 _ K rfl rfl).symm]
  refine sum_congr rfl fun k _ => ?_
  have hk := ValueIdx.contrEquiv1_symm_val (DotDims.mk [1] [0] [0] [1] [] [] wf) K rfl rfl k
  rw [ha, hb]
  refine congrArg₂ (· * ·) (congrArg₂ f ?_ ((DotDims.lhsIdx_val_of_single _ rfl i _).trans hk))
    (congrArg₂ g ((DotDims.rhsIdx_val_of_single _ rfl i _).trans hk) ?_)
  · unfold DotDims.lhsIdx
    rw [dif_neg (by simp), dif_pos (by simp)]; rfl
  · unfold DotDims.rhsIdx
    rw [dif_neg (by simp), dif_pos (by simp)]; rfl

/-- The logistic function, as both programs compute it. -/
def sg (z : EReal) : EReal :=
  Ideal.div (Ideal.ofBits .f32 0x3F800000#32) (Ideal.ofBits .f32 0x3F800000#32 + Ideal.exp (-z))

section Entries

variable (h : ℕ → ℕ → EReal) (ys wg wb : ℕ → ℕ → ℕ → EReal) (bg : ℕ → ℕ → EReal)

/-- Branch `i`'s gate. -/
def gate (i s e : ℕ) : EReal := sg (∑ d ∈ range 2048, h s d * wg i d e + bg i e)

/-- Branch `i`'s projection. -/
def proj (i s e : ℕ) : EReal := ∑ d ∈ range 1024, ys i s d * wb i d e

/-- The merge of the first `n` branches. -/
def merged (n s e : ℕ) : EReal := ∑ i ∈ range n, gate h wg bg i s e * proj ys wb i s e

end Entries

end Cert.Own

namespace Cert.FwdRefIdeal.Own

open Cert.FwdRefIdeal Cert.FwdRefIdeal.Read Cert.Own
open Idealize.ShloMosaic Finset

variable (h : ℕ → ℕ → EReal) (ys wg wb : ℕ → ℕ → ℕ → EReal) (bg : ℕ → ℕ → EReal)
  (X0 : S8192x2048.Idx → EReal) (X1 X2 X3 X4 : S8192x1024.Idx → EReal) (X5 : S4x2048x2048.Idx → EReal) (X6 : S4x2048.Idx → EReal)
  (X7 : S4x1024x2048.Idx → EReal)

/-- A gate at an entry. -/
theorem gate_at (h0 : ∀ y, X0 y = h (y 0).val (y 1).val) (h5 : ∀ y, X5 y = wg (y 0).val (y 1).val (y 2).val)
    (h6 : ∀ y, X6 y = bg (y 0).val (y 1).val) (i : S8192x4x2048.Idx) :
    val_main_v11 (F := Ideal) X0 X5 X6 i = gate h wg bg (i 1).val (i 0).val (i 2).val := by
  rw [val_main_v11_apply, val_main_v10_apply, val_main_v9_apply, val_main_v8_apply, val_main_v7_apply, val_main_v6_apply,
    val_main_v5_apply, val_main_v4_apply, val_main_v3_apply, val_main_v2_apply, h6]
  refine Eq.trans (b := sg _) rfl (congrArg sg (congrArg₂ (· + ·) ?_ rfl))
  rw [← Fin.sum_univ_eq_sum_range (fun d => h (i 0).val d * wg (i 1).val d (i 2).val)]
  refine sum_congr rfl fun k _ => ?_
  rw [val_main_v0_apply, val_main_v1_apply, Ideal.extf_def, Ideal.extf_def, h0, h5]

/-- The stack of the branches at an entry. -/
theorem stack_at (h1 : ∀ y, X1 y = ys 0 (y 0).val (y 1).val) (h2 : ∀ y, X2 y = ys 1 (y 0).val (y 1).val)
    (h3 : ∀ y, X3 y = ys 2 (y 0).val (y 1).val) (h4 : ∀ y, X4 y = ys 3 (y 0).val (y 1).val) (i : S4x8192x1024.Idx) :
    val_main_v20 (F := Ideal) X1 X2 X3 X4 i = ys (i 0).val (i 1).val (i 2).val := by
  let z : S1x8192x1024.Idx := fun a => match a with
    | ⟨0, _⟩ => ⟨0, Nat.zero_lt_one⟩
    | ⟨1, _⟩ => ⟨(i 1).val, (i 1).isLt⟩
    | ⟨2, _⟩ => ⟨(i 2).val, (i 2).isLt⟩
  let f : Fin 4 → S1x8192x1024.Idx → EReal := ![val_main_v16 (F := Ideal) X1, val_main_v17 (F := Ideal) X2, val_main_v18 (F := Ideal) X3, val_main_v19 (F := Ideal) X4]
  have key : ∀ n : Fin 4, f n z = ys n.val (i 1).val (i 2).val := by
    intro n
    match n with
    | ⟨0, _⟩ => show val_main_v16 (F := Ideal) X1 z = _; rw [val_main_v16_apply, val_main_v12_apply, Ideal.extf_def, h1]
    | ⟨1, _⟩ => show val_main_v17 (F := Ideal) X2 z = _; rw [val_main_v17_apply, val_main_v13_apply, Ideal.extf_def, h2]
    | ⟨2, _⟩ => show val_main_v18 (F := Ideal) X3 z = _; rw [val_main_v18_apply, val_main_v14_apply, Ideal.extf_def, h3]
    | ⟨3, _⟩ => show val_main_v19 (F := Ideal) X4 z = _; rw [val_main_v19_apply, val_main_v15_apply, Ideal.extf_def, h4]
  refine Eq.trans ?_ (key ⟨(i 0).val, (i 0).isLt⟩)
  unfold val_main_v20
  exact concatenate_ofFn_unit_apply (t := S4x8192x1024) (s₁ := S1x8192x1024) 0 f _ rfl rfl i ⟨(i 0).val, (i 0).isLt⟩ rfl z (fun b hb => match b with
    | ⟨0, _⟩ => absurd rfl hb
    | ⟨1, _⟩ => rfl
    | ⟨2, _⟩ => rfl)

/-- A projection at an entry. -/
theorem proj_at (h1 : ∀ y, X1 y = ys 0 (y 0).val (y 1).val) (h2 : ∀ y, X2 y = ys 1 (y 0).val (y 1).val)
    (h3 : ∀ y, X3 y = ys 2 (y 0).val (y 1).val) (h4 : ∀ y, X4 y = ys 3 (y 0).val (y 1).val)
    (h7 : ∀ y, X7 y = wb (y 0).val (y 1).val (y 2).val) (i : S8192x4x2048.Idx) :
    val_main_v23 (F := Ideal) X1 X2 X3 X4 X7 i = proj ys wb (i 1).val (i 0).val (i 2).val := by
  rw [val_main_v23_apply, val_main_v22_apply]
  unfold proj
  rw [← Fin.sum_univ_eq_sum_range (fun d => ys (i 1).val (i 0).val d * wb (i 1).val d (i 2).val)]
  refine sum_congr rfl fun k _ => ?_
  rw [val_main_v21_apply, Ideal.extf_def, h7, stack_at ys X1 X2 X3 X4 h1 h2 h3 h4]
  exact mul_comm _ _

/-- The merged result at an entry. -/
theorem merged_at (h0 : ∀ y, X0 y = h (y 0).val (y 1).val) (h1 : ∀ y, X1 y = ys 0 (y 0).val (y 1).val)
    (h2 : ∀ y, X2 y = ys 1 (y 0).val (y 1).val) (h3 : ∀ y, X3 y = ys 2 (y 0).val (y 1).val)
    (h4 : ∀ y, X4 y = ys 3 (y 0).val (y 1).val) (h5 : ∀ y, X5 y = wg (y 0).val (y 1).val (y 2).val)
    (h6 : ∀ y, X6 y = bg (y 0).val (y 1).val) (h7 : ∀ y, X7 y = wb (y 0).val (y 1).val (y 2).val) (i : S8192x2048.Idx) :
    val_main_v26 (F := Ideal) X0 X1 X2 X3 X4 X5 X6 X7 i = merged h ys wg wb bg 4 (i 0).val (i 1).val := by
  rw [val_main_v26_apply, Ideal.truncf_def, val_main_v25_apply]
  refine (congrArg₂ (· + ·) (show _ = (0 : EReal) from Ideal.ofBits_zero_f32) rfl).trans ((zero_add _).trans ?_)
  unfold merged
  rw [← Fin.sum_univ_eq_sum_range (fun k => gate h wg bg k (i 0).val (i 1).val * proj ys wb k (i 0).val (i 1).val)]
  refine sum_congr rfl fun k _ => ?_
  rw [val_main_v24_apply, gate_at h wg bg X0 X5 X6 h0 h5 h6, proj_at ys wb X1 X2 X3 X4 X7 h1 h2 h3 h4 h7]
  rfl

/-- The saved gates at an entry. -/
theorem gates_at (h0 : ∀ y, X0 y = h (y 0).val (y 1).val) (h5 : ∀ y, X5 y = wg (y 0).val (y 1).val (y 2).val)
    (h6 : ∀ y, X6 y = bg (y 0).val (y 1).val) (i : S8192x8192.Idx) :
    val_main_v28 (F := Ideal) X0 X5 X6 i = gate h wg bg ((i 1).val / 2048) (i 0).val ((i 1).val % 2048) := by
  have hi : (i 1).val < 8192 := (i 1).isLt
  rw [val_main_v28_apply, Ideal.truncf_def, val_main_v27_apply, gate_at h wg bg X0 X5 X6 h0 h5 h6]
  dsimp only
  rw [show ((i 0).val * 8192 + (i 1).val) / 2048 % 4 = (i 1).val / 2048 by omega,
    show ((i 0).val * 8192 + (i 1).val) / 8192 = (i 0).val by omega, show ((i 0).val * 8192 + (i 1).val) % 2048 = (i 1).val % 2048 by omega]

/-- The saved projections at an entry. -/
theorem projs_at (h1 : ∀ y, X1 y = ys 0 (y 0).val (y 1).val) (h2 : ∀ y, X2 y = ys 1 (y 0).val (y 1).val)
    (h3 : ∀ y, X3 y = ys 2 (y 0).val (y 1).val) (h4 : ∀ y, X4 y = ys 3 (y 0).val (y 1).val)
    (h7 : ∀ y, X7 y = wb (y 0).val (y 1).val (y 2).val) (i : S8192x8192.Idx) :
    val_main_v30 (F := Ideal) X1 X2 X3 X4 X7 i = proj ys wb ((i 1).val / 2048) (i 0).val ((i 1).val % 2048) := by
  have hi : (i 1).val < 8192 := (i 1).isLt
  rw [val_main_v30_apply, Ideal.truncf_def, val_main_v29_apply, proj_at ys wb X1 X2 X3 X4 X7 h1 h2 h3 h4 h7]
  dsimp only
  rw [show ((i 0).val * 8192 + (i 1).val) / 2048 % 4 = (i 1).val / 2048 by omega,
    show ((i 0).val * 8192 + (i 1).val) / 8192 = (i 0).val by omega, show ((i 0).val * 8192 + (i 1).val) % 2048 = (i 1).val % 2048 by omega]

end Cert.FwdRefIdeal.Own
-- ==== Proof.Fwd.lean ====
/-
  The merge of the branches: at every point the gate and the projection of a branch on a block of rows and columns, and the
  sum of their products over the branches so far.
-/
module

public import proofs.«01_k».proof.Defs
public import proofs.«01_k».proof.Proof.FwdCases
public import proofs.«01_k».proof.Proof.FwdRef

@[expose] public section

noncomputable section

namespace Cert.FwdIdeal.Own

open Cert.FwdIdeal Cert.FwdIdeal.Gen Cert.Own
open Idealize.ShloMosaic Idealize.ShloMosaic.TcCoe Idealize.SL.Sem Finset

set_option maxRecDepth 100000 in
/-- Where the blocks lie. -/
theorem ix : ∀ t : Fin grid0.N, (cfg0.win 0).index t = ![t.val / 16, 0] ∧ (cfg0.win 1).index t = ![t.val / 16, 0]
    ∧ (cfg0.win 2).index t = ![t.val / 16, 0] ∧ (cfg0.win 3).index t = ![t.val / 16, 0] ∧ (cfg0.win 4).index t = ![t.val / 16, 0]
    ∧ (cfg0.win 5).index t = ![t.val % 4, 0, t.val / 4 % 4] ∧ (cfg0.win 6).index t = ![t.val % 4, 0, t.val / 4 % 4]
    ∧ (cfg0.win 7).index t = ![t.val % 4, 0, t.val / 4 % 4] ∧ (cfg0.win 8).index t = ![t.val / 16, t.val / 4 % 4]
    ∧ (cfg0.win 9).index t = ![t.val / 16, t.val % 4 * 4 + t.val / 4 % 4]
    ∧ (cfg0.win 10).index t = ![t.val / 16, t.val % 4 * 4 + t.val / 4 % 4] := by decide +kernel

set_option maxRecDepth 100000 in
theorem cov : (cfg0.win 8).Covers ∧ (cfg0.win 9).Covers ∧ (cfg0.win 10).Covers := by decide +kernel

/-- A coordinate of an element of a block in its array. -/
theorem emb_val (w : Fin 11) (t : Fin cfg0.N) (hk : (cfg0.win w).kind = .blocked) (y) (a) :
    (((cfg0.win w).rect t).emb y a : ℕ) = (cfg0.win w).index t a * (cfg0.win w).size a + y a :=
  Pipeline.Window.rect_emb_val _ t y a hk

/-- A row and a column of the whole arrays. -/
def row (t a : ℕ) : ℕ := t / 16 * 1024 + a
def col (t b : ℕ) : ℕ := t / 4 % 4 * 512 + b

/-- The gate's block at an entry. -/
theorem pay1_at (x0 : S1024x2048.Idx → EReal) (x5 : S1x2048x512.Idx → EReal) (x6 : S1x1x512.Idx → EReal) (h w : ℕ → ℕ → EReal)
    (b : ℕ → EReal) (h0 : ∀ y, x0 y = h (y 0).val (y 1).val) (h5 : ∀ y, x5 y = w (y 1).val (y 2).val) (h6 : ∀ y, x6 y = b (y 2).val)
    (y : S1024x512.Idx) : k0_pay1 (F := Ideal) x0 x5 x6 y
      = sg (∑ d ∈ range 2048, h (y 0).val d * w d (y 1).val + b (y 1).val) := by
  have e1 : FloatOps.matmul (F := Ideal) (φ₁ := .bf16) (φ₂ := .bf16) dot_S1024x2048_S2048x512_S1024x512_1_0_0_1_n_n none x0 (shapeCast S2048x512 x5 shapeCasts_S1x2048x512_S2048x512)
      (constant S1024x512 .f32 0x00000000#32) y = ∑ d ∈ range 2048, h (y 0).val d * w d (y 1).val :=
    matNN _ rfl rfl rfl rfl rfl rfl x0 _ h w h0 (fun z => (shapeCast_apply x5 shapeCasts_S1x2048x512_S2048x512 z (fun a => match a with
      | ⟨0, _⟩ => ⟨0, Nat.zero_lt_one⟩
      | ⟨1, _⟩ => ⟨(z 0).val, (z 0).isLt⟩
      | ⟨2, _⟩ => ⟨(z 1).val, (z 1).isLt⟩ : S1x2048x512.Idx) (by
        rewrite [Shape.rowMajor_val_two, Shape.rowMajor_val_three]
        show (0 * 2048 + (z 0).val) * 512 + (z 1).val = (z 0).val * 512 + (z 1).val
        omega)).trans (h5 _)) y
  have e2 : broadcastTo S1024x512 (shapeCast S1x512 x6 shapeCasts_S1x1x512_S1x512) broadcasts_S1x512_S1024x512 y = b (y 1).val := by
    let z : S1x512.Idx := fun a => match a with
      | ⟨0, _⟩ => ⟨0, Nat.zero_lt_one⟩
      | ⟨1, _⟩ => ⟨(y 1).val, (y 1).isLt⟩
    rw [broadcastTo_apply _ broadcasts_S1x512_S1024x512 y z (fun a => match a with
      | ⟨0, _⟩ => rfl
      | ⟨1, _⟩ => rfl)]
    refine (shapeCast_apply x6 shapeCasts_S1x1x512_S1x512 z (fun a => match a with
      | ⟨0, _⟩ => ⟨0, Nat.zero_lt_one⟩
      | ⟨1, _⟩ => ⟨0, Nat.zero_lt_one⟩
      | ⟨2, _⟩ => ⟨(y 1).val, (y 1).isLt⟩ : S1x1x512.Idx) (by
        rewrite [Shape.rowMajor_val_two, Shape.rowMajor_val_three]
        show (0 * 1 + 0) * 512 + (y 1).val = 0 * 512 + (y 1).val
        omega)).trans (h6 _)
  rw [← e1, ← e2]
  unfold sg
  refine Eq.trans (b := Ideal.div (Ideal.ofBits .f32 0x3F800000#32) (Ideal.ofBits .f32 0x3F800000#32
    + Ideal.exp (Ideal.ofBits .f32 0x00000000#32 - (FloatOps.matmul (F := Ideal) (φ₁ := .bf16) (φ₂ := .bf16) dot_S1024x2048_S2048x512_S1024x512_1_0_0_1_n_n none x0 (shapeCast S2048x512 x5 shapeCasts_S1x2048x512_S2048x512)
      (constant S1024x512 .f32 0x00000000#32) y + broadcastTo S1024x512 (shapeCast S1x512 x6 shapeCasts_S1x1x512_S1x512) broadcasts_S1x512_S1024x512 y)))) rfl ?_
  rw [Ideal.ofBits_zero_f32, zero_sub]

/-- The projection's block at an entry. -/
theorem pay2_at (x : S1024x1024.Idx → EReal) (x7 : S1x1024x512.Idx → EReal) (u w : ℕ → ℕ → EReal)
    (hx : ∀ y, x y = u (y 0).val (y 1).val) (h7 : ∀ y, x7 y = w (y 1).val (y 2).val)
    (y : S1024x512.Idx) : k0_pay2 (F := Ideal) x x7 y = ∑ d ∈ range 1024, u (y 0).val d * w d (y 1).val := by
  unfold k0_pay2
  exact matNN _ rfl rfl rfl rfl rfl rfl x _ u w hx (fun z => (shapeCast_apply x7 shapeCasts_S1x1024x512_S1024x512 z (fun a => match a with
      | ⟨0, _⟩ => ⟨0, Nat.zero_lt_one⟩
      | ⟨1, _⟩ => ⟨(z 0).val, (z 0).isLt⟩
      | ⟨2, _⟩ => ⟨(z 1).val, (z 1).isLt⟩ : S1x1024x512.Idx) (by
        rewrite [Shape.rowMajor_val_two, Shape.rowMajor_val_three]
        show (0 * 1024 + (z 0).val) * 512 + (z 1).val = (z 0).val * 512 + (z 1).val
        omega)).trans (h7 _)) y

/-- What the host's line leaves as the bias. -/
theorem bias_eq {F : FTy → Type} [FloatOps F] (m : (ℓ : Loc nD τ sig) → Buf (Elt F) ℓ) (c : Dev nD) :
    V m c main_v0 = broadcastInDim S4x1x2048 ![0, 2] bcast_S4x2048_S4x1x2048_0_2 (m ((c.tc : Thread nD τ).loc main_arg6)) := by
  after_results_simp <;> rfl

/-- The bias with its unit axis at an entry. -/
theorem bias_at (x : S4x2048.Idx → EReal) (bg : ℕ → ℕ → EReal) (hx : ∀ y, x y = bg (y 0).val (y 1).val) (i : S4x1x2048.Idx) :
    broadcastInDim S4x1x2048 ![0, 2] bcast_S4x2048_S4x1x2048_0_2 x i = bg (i 0).val (i 2).val :=
  (broadcastInDim_apply _ bcast_S4x2048_S4x1x2048_0_2 x i (fun a => match a with
    | ⟨0, _⟩ => ⟨(i 0).val, (i 0).isLt⟩
    | ⟨1, _⟩ => ⟨(i 2).val, (i 2).isLt⟩ : S4x2048.Idx) (fun a => match a with
    | ⟨0, _⟩ => by show (i 0).val = if (4 : Nat) = 1 then 0 else (i 0).val; rw [if_neg (by decide)]
    | ⟨1, _⟩ => by show (i 2).val = if (2048 : Nat) = 1 then 0 else (i 2).val; rw [if_neg (by decide)])).trans (hx _)

variable (h : ℕ → ℕ → EReal) (ys wg wb : ℕ → ℕ → ℕ → EReal) (bg : ℕ → ℕ → EReal)
  (m : (ℓ : Loc nD τ sig) → Buf (Elt Ideal) ℓ) (c : Dev nD)

/-- The arguments as functions of numbers. -/
structure Args : Prop where
  a0 : ∀ y : S8192x2048.Idx, m ((c.tc : Thread nD τ).loc main_arg0) y = h (y 0).val (y 1).val
  a1 : ∀ y : S8192x1024.Idx, m ((c.tc : Thread nD τ).loc main_arg1) y = ys 0 (y 0).val (y 1).val
  a2 : ∀ y : S8192x1024.Idx, m ((c.tc : Thread nD τ).loc main_arg2) y = ys 1 (y 0).val (y 1).val
  a3 : ∀ y : S8192x1024.Idx, m ((c.tc : Thread nD τ).loc main_arg3) y = ys 2 (y 0).val (y 1).val
  a4 : ∀ y : S8192x1024.Idx, m ((c.tc : Thread nD τ).loc main_arg4) y = ys 3 (y 0).val (y 1).val
  a5 : ∀ y : S4x2048x2048.Idx, m ((c.tc : Thread nD τ).loc main_arg5) y = wg (y 0).val (y 1).val (y 2).val
  a6 : ∀ y : S4x2048.Idx, m ((c.tc : Thread nD τ).loc main_arg6) y = bg (y 0).val (y 1).val
  a7 : ∀ y : S4x1024x2048.Idx, m ((c.tc : Thread nD τ).loc main_arg7) y = wb (y 0).val (y 1).val (y 2).val

variable (A : Args h ys wg wb bg m c)
include A

theorem blk0 (t : Fin cfg0.N) (y : S1024x2048.Idx) : iblk m c 0 t y = h (row t.val (y 0).val) (y 1).val := by
  refine (A.a0 (((cfg0.win 0).rect t).emb y)).trans (congrArg₂ h ?_ ?_)
  · rw [emb_val 0 t rfl, (ix t).1]; rfl
  · rw [emb_val 0 t rfl, (ix t).1]; exact (congrArg (· + (y 1).val) (Nat.zero_mul _)).trans (Nat.zero_add _)

/-- The four branches' blocks. -/
theorem blkY (t : Fin cfg0.N) (y : S1024x1024.Idx) :
    iblk m c 1 t y = ys 0 (row t.val (y 0).val) (y 1).val ∧ iblk m c 2 t y = ys 1 (row t.val (y 0).val) (y 1).val
    ∧ iblk m c 3 t y = ys 2 (row t.val (y 0).val) (y 1).val ∧ iblk m c 4 t y = ys 3 (row t.val (y 0).val) (y 1).val := by
  have e : ∀ w : Fin 11, ∀ hk : (cfg0.win w).kind = .blocked, ∀ a z, (cfg0.win w).index t a = 0 →
      (((cfg0.win w).rect t).emb z a : ℕ) = z a := fun w hk a z hi => by
    rw [emb_val w t hk, hi]; exact (congrArg (· + _) (Nat.zero_mul _)).trans (Nat.zero_add _)
  obtain ⟨-, i1, i2, i3, i4, -⟩ := ix t
  refine ⟨(A.a1 (((cfg0.win 1).rect t).emb y)).trans (congrArg₂ (ys 0) ?_ (e 1 rfl 1 y (congrFun i1 1))),
    (A.a2 (((cfg0.win 2).rect t).emb y)).trans (congrArg₂ (ys 1) ?_ (e 2 rfl 1 y (congrFun i2 1))),
    (A.a3 (((cfg0.win 3).rect t).emb y)).trans (congrArg₂ (ys 2) ?_ (e 3 rfl 1 y (congrFun i3 1))),
    (A.a4 (((cfg0.win 4).rect t).emb y)).trans (congrArg₂ (ys 3) ?_ (e 4 rfl 1 y (congrFun i4 1)))⟩
  · rw [emb_val 1 t rfl, i1]; rfl
  · rw [emb_val 2 t rfl, i2]; rfl
  · rw [emb_val 3 t rfl, i3]; rfl
  · rw [emb_val 4 t rfl, i4]; rfl

theorem blk5 (t : Fin cfg0.N) (y : S1x2048x512.Idx) : iblk m c 5 t y = wg (t.val % 4) (y 1).val (col t.val (y 2).val) := by
  have hy : (y 0).val < 1 := (y 0).isLt
  obtain ⟨-, -, -, -, -, i5, -⟩ := ix t
  have e0 : ((((cfg0.win 5).rect t).emb y 0 : ℕ)) = t.val % 4 := by
    refine (emb_val 5 t rfl y 0).trans ?_
    rw [i5]; show t.val % 4 * 1 + (y 0).val = _; omega
  have e1 : ((((cfg0.win 5).rect t).emb y 1 : ℕ)) = (y 1).val := by
    refine (emb_val 5 t rfl y 1).trans ?_
    rw [i5]; show 0 * 2048 + (y 1).val = _; omega
  have e2 : ((((cfg0.win 5).rect t).emb y 2 : ℕ)) = col t.val (y 2).val := by
    refine (emb_val 5 t rfl y 2).trans ?_
    rw [i5]; rfl
  exact (A.a5 (((cfg0.win 5).rect t).emb y)).trans ((congrArg₂ (fun a b => wg a b _) e0 e1).trans (congrArg (wg _ _) e2))

theorem blk6 (t : Fin cfg0.N) (y : S1x1x512.Idx) : iblk m c 6 t y = bg (t.val % 4) (col t.val (y 2).val) := by
  have hy : (y 0).val < 1 := (y 0).isLt
  obtain ⟨-, -, -, -, -, -, i6, -⟩ := ix t
  have e0 : ((((cfg0.win 6).rect t).emb y 0 : ℕ)) = t.val % 4 := by
    refine (emb_val 6 t rfl y 0).trans ?_
    rw [i6]; show t.val % 4 * 1 + (y 0).val = _; omega
  have e2 : ((((cfg0.win 6).rect t).emb y 2 : ℕ)) = col t.val (y 2).val := by
    refine (emb_val 6 t rfl y 2).trans ?_
    rw [i6]; rfl
  exact (congrFun (bias_eq m c) (((cfg0.win 6).rect t).emb y)).trans ((bias_at _ bg A.a6 _).trans (congrArg₂ bg e0 e2))

theorem blk7 (t : Fin cfg0.N) (y : S1x1024x512.Idx) : iblk m c 7 t y = wb (t.val % 4) (y 1).val (col t.val (y 2).val) := by
  have hy : (y 0).val < 1 := (y 0).isLt
  obtain ⟨-, -, -, -, -, -, -, i7, -⟩ := ix t
  have e0 : ((((cfg0.win 7).rect t).emb y 0 : ℕ)) = t.val % 4 := by
    refine (emb_val 7 t rfl y 0).trans ?_
    rw [i7]; show t.val % 4 * 1 + (y 0).val = _; omega
  have e1 : ((((cfg0.win 7).rect t).emb y 1 : ℕ)) = (y 1).val := by
    refine (emb_val 7 t rfl y 1).trans ?_
    rw [i7]; show 0 * 1024 + (y 1).val = _; omega
  have e2 : ((((cfg0.win 7).rect t).emb y 2 : ℕ)) = col t.val (y 2).val := by
    refine (emb_val 7 t rfl y 2).trans ?_
    rw [i7]; rfl
  exact (A.a7 (((cfg0.win 7).rect t).emb y)).trans ((congrArg₂ (fun a b => wb a b _) e0 e1).trans (congrArg (wb _ _) e2))

/-- A point's gate. -/
theorem gate_pt (t : Fin cfg0.N) (y : S1024x512.Idx) : k0_pay1 (F := Ideal) (iblk m c 0 t) (iblk m c 5 t) (iblk m c 6 t) y
    = gate h wg bg (t.val % 4) (row t.val (y 0).val) (col t.val (y 1).val) :=
  pay1_at (iblk m c 0 t) (iblk m c 5 t) (iblk m c 6 t) (fun a d => h (row t.val a) d) (fun d b => wg (t.val % 4) d (col t.val b))
    (fun b => bg (t.val % 4) (col t.val b)) (blk0 h ys wg wb bg m c A t) (blk5 h ys wg wb bg m c A t) (blk6 h ys wg wb bg m c A t) y

/-- A point's projection, from its branch's block. -/
theorem proj_pt (t : Fin cfg0.N) (x : S1024x1024.Idx → EReal) (k : ℕ) (hk : t.val % 4 = k)
    (hx : ∀ y, x y = ys k (row t.val (y 0).val) (y 1).val) (y : S1024x512.Idx) : k0_pay2 (F := Ideal) x (iblk m c 7 t) y
    = proj ys wb (t.val % 4) (row t.val (y 0).val) (col t.val (y 1).val) := by
  subst hk
  exact pay2_at x (iblk m c 7 t) (fun a d => ys (t.val % 4) (row t.val a) d) (fun d b => wb (t.val % 4) d (col t.val b)) hx (blk7 h ys wg wb bg m c A t) y

/-- What a point leaves. -/
theorem pt (t : Fin cfg0.N) (y : S1024x512.Idx) :
    (outsAt0 m c t.val t.isLt).2.1 y = gate h wg bg (t.val % 4) (row t.val (y 0).val) (col t.val (y 1).val)
    ∧ (outsAt0 m c t.val t.isLt).2.2.1 y = proj ys wb (t.val % 4) (row t.val (y 0).val) (col t.val (y 1).val)
    ∧ (outsAt0 m c t.val t.isLt).2.2.2 y = merged h ys wg wb bg (t.val % 4 + 1) (row t.val (y 0).val) (col t.val (y 1).val)
    ∧ (t.val % 4 = 3 → (outsAt0 m c t.val t.isLt).1 y = merged h ys wg wb bg 4 (row t.val (y 0).val) (col t.val (y 1).val)) := by
  have hN : t.val < 128 := lt_of_lt_of_eq t.isLt N_0
  obtain ⟨k, hk⟩ : ∃ k, t.val % 4 = k := ⟨_, rfl⟩
  induction k generalizing t with
  | zero =>
    rw [outsAt0_A m c t hk (by omega) (by omega) (by omega) (by omega)]
    dsimp only
    rw [(body_A ..).1, (body_A ..).2.1, (body_A ..).2.2]
    have g := gate_pt h ys wg wb bg m c A t y
    have p := proj_pt h ys wg wb bg m c A t _ 0 hk (fun y => (blkY h ys wg wb bg m c A t y).1) y
    refine ⟨g, p, ?_, fun h3 => absurd h3 (by omega)⟩
    refine (congrArg₂ (· * ·) g p).trans ?_
    unfold merged
    rw [hk, sum_range_one]
  | succ k ih =>
    have g := gate_pt h ys wg wb bg m c A t y
    have e := (ih ⟨t.val - 1, Nat.lt_of_le_of_lt (Nat.sub_le _ _) t.isLt⟩ (by dsimp only; omega) (by dsimp only; omega)).2.2.1
    dsimp only at e
    rw [show (t.val - 1) % 4 + 1 = t.val % 4 by omega, show row (t.val - 1) = row t.val from funext fun a => by unfold row; omega,
      show col (t.val - 1) = col t.val from funext fun a => by unfold col; omega] at e
    have step : ∀ p : EReal, p = proj ys wb (t.val % 4) (row t.val (y 0).val) (col t.val (y 1).val) →
        (outsAt0 m c (t.val - 1) (Nat.lt_of_le_of_lt (Nat.sub_le _ _) t.isLt)).2.2.2 y
          + k0_pay1 (F := Ideal) (iblk m c 0 t) (iblk m c 5 t) (iblk m c 6 t) y * p
        = merged h ys wg wb bg (t.val % 4 + 1) (row t.val (y 0).val) (col t.val (y 1).val) := fun p hp => by
      rw [e, hp]
      unfold merged
      rw [sum_range_succ]
      exact congrArg₂ (· + ·) rfl (congrArg₂ (· * ·) g rfl)
    match k, hk with
    | 0, hk =>
      have p := proj_pt h ys wg wb bg m c A t _ 1 hk (fun y => (blkY h ys wg wb bg m c A t y).2.1) y
      rw [outsAt0_B m c t (by omega) hk (by omega) (by omega) (by omega)]
      dsimp only
      rw [(body_B ..).1, (body_B ..).2.1, (body_B ..).2.2]
      exact ⟨g, p, step _ p, fun h3 => absurd h3 (by omega)⟩
    | 1, hk =>
      have p := proj_pt h ys wg wb bg m c A t _ 2 hk (fun y => (blkY h ys wg wb bg m c A t y).2.2.1) y
      rw [outsAt0_C m c t (by omega) (by omega) hk (by omega) (by omega)]
      dsimp only
      rw [(body_C ..).1, (body_C ..).2.1, (body_C ..).2.2]
      exact ⟨g, p, step _ p, fun h3 => absurd h3 (by omega)⟩
    | 2, hk =>
      have p := proj_pt h ys wg wb bg m c A t _ 3 hk (fun y => (blkY h ys wg wb bg m c A t y).2.2.2) y
      rw [outsAt0_D m c t (by omega) (by omega) (by omega) hk hk]
      dsimp only
      rw [(body_D ..).1, (body_D ..).2.1, (body_D ..).2.2, body_last]
      exact ⟨g, p, step _ p, fun h3 => (step _ p).trans (by rw [h3])⟩
    | k + 3, hk => exact absurd hk (by omega)

/-- The merged array. -/
theorem final8 : (dats m 0 c).arrAt 8 cfg0.N = Cert.FwdRefIdeal.Read.val_main_v26 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine (dats m 0 c).arrAt_eq_of_covers 8 _ cov.1 fun t ht y => ?_
  obtain ⟨-, -, -, -, -, -, -, -, i8, -⟩ := ix t
  refine ((congrFun (after0_8 m c t) y).trans ((pt h ys wg wb bg m c A t y).2.2.2 ((flush0_8 t).mp ht))).trans
    ((Cert.FwdRefIdeal.Own.merged_at h ys wg wb bg _ _ _ _ _ _ _ _ A.a0 A.a1 A.a2 A.a3 A.a4 A.a5 A.a6 A.a7 _).trans
      (congrArg₂ (merged h ys wg wb bg 4) ((emb_val 8 t rfl y 0).trans ?_) ((emb_val 8 t rfl y 1).trans ?_))).symm
  · rw [i8]; rfl
  · rw [i8]; rfl

omit A in
/-- A block's column in the arrays that hold the branches side by side. -/
theorem col_branch (t b : ℕ) (hb : b < 512) : ((t % 4 * 4 + t / 4 % 4) * 512 + b) / 2048 = t % 4
    ∧ ((t % 4 * 4 + t / 4 % 4) * 512 + b) % 2048 = col t b := by
  unfold col; omega

/-- The saved gates. -/
theorem final9 : (dats m 0 c).arrAt 9 cfg0.N = Cert.FwdRefIdeal.Read.val_main_v28 (F := Ideal) (m ((c.tc : Thread nD τ).loc main_arg0))
    (m ((c.tc : Thread nD τ).loc main_arg5)) (m ((c.tc : Thread nD τ).loc main_arg6)) := by
  refine (dats m 0 c).arrAt_eq_of_covers 9 _ cov.2.1 fun t ht y => ?_
  obtain ⟨-, -, -, -, -, -, -, -, -, i9, -⟩ := ix t
  have e0 : ((((cfg0.win 9).rect t).emb y 0 : ℕ)) = row t.val (y 0).val := by
    refine (emb_val 9 t rfl y 0).trans ?_
    rw [i9]; rfl
  have e1 : ((((cfg0.win 9).rect t).emb y 1 : ℕ)) = (t.val % 4 * 4 + t.val / 4 % 4) * 512 + (y 1).val := by
    refine (emb_val 9 t rfl y 1).trans ?_
    rw [i9]; rfl
  have cb := col_branch t.val (y 1).val (y 1).isLt
  refine ((congrFun (after0_9 m c t) y).trans (pt h ys wg wb bg m c A t y).1).trans
    ((Cert.FwdRefIdeal.Own.gates_at h wg bg _ _ _ A.a0 A.a5 A.a6 _).trans
      ((congrArg₂ (fun a b => gate h wg bg (b / 2048) a (b % 2048)) e0 e1).trans ?_)).symm
  dsimp only
  rw [cb.1, cb.2]

/-- The saved projections. -/
theorem final10 : (dats m 0 c).arrAt 10 cfg0.N = Cert.FwdRefIdeal.Read.val_main_v30 (F := Ideal) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg7)) := by
  refine (dats m 0 c).arrAt_eq_of_covers 10 _ cov.2.2 fun t ht y => ?_
  obtain ⟨-, -, -, -, -, -, -, -, -, -, i10⟩ := ix t
  have e0 : ((((cfg0.win 10).rect t).emb y 0 : ℕ)) = row t.val (y 0).val := by
    refine (emb_val 10 t rfl y 0).trans ?_
    rw [i10]; rfl
  have e1 : ((((cfg0.win 10).rect t).emb y 1 : ℕ)) = (t.val % 4 * 4 + t.val / 4 % 4) * 512 + (y 1).val := by
    refine (emb_val 10 t rfl y 1).trans ?_
    rw [i10]; rfl
  have cb := col_branch t.val (y 1).val (y 1).isLt
  refine ((congrFun (after0_10 m c t) y).trans (pt h ys wg wb bg m c A t y).2.1).trans
    ((Cert.FwdRefIdeal.Own.projs_at ys wb _ _ _ _ _ A.a1 A.a2 A.a3 A.a4 A.a7 _).trans
      ((congrArg₂ (fun a b => proj ys wb (b / 2048) a (b % 2048)) e0 e1).trans ?_)).symm
  dsimp only
  rw [cb.1, cb.2]

omit h ys wg wb bg m c A in
/-- The kernel and the reference end with the same merged array, gates and projections. -/
theorem algebraic : Cert.algebraic_FwdIdeal_FwdRefIdeal := by
  intro m ρ m' ρ' _ hm
  refine ⟨fun c => Cert.FwdRefIdeal.Read.val_main_v26 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)),
    fun c => Cert.FwdRefIdeal.Read.val_main_v28 (F := Ideal) (m ((c.tc : Thread nD τ).loc main_arg0)) (m ((c.tc : Thread nD τ).loc main_arg5))
      (m ((c.tc : Thread nD τ).loc main_arg6)),
    fun c => Cert.FwdRefIdeal.Read.val_main_v30 (F := Ideal) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg7)), ?_, ?_⟩
  · refine (θ_run defs _ _).mono (fun _ h c => ?_) (θ_run_and (run_main m ρ) (unchanged m ρ))
    obtain ⟨f, h0⟩ := exists_fun2 (β := EReal) (m ((c.tc : Thread nD τ).loc main_arg0))
    obtain ⟨y0, h1⟩ := exists_fun2 (β := EReal) (m ((c.tc : Thread nD τ).loc main_arg1))
    obtain ⟨y1, h2⟩ := exists_fun2 (β := EReal) (m ((c.tc : Thread nD τ).loc main_arg2))
    obtain ⟨y2, h3⟩ := exists_fun2 (β := EReal) (m ((c.tc : Thread nD τ).loc main_arg3))
    obtain ⟨y3, h4⟩ := exists_fun2 (β := EReal) (m ((c.tc : Thread nD τ).loc main_arg4))
    obtain ⟨wg, h5⟩ := exists_fun3 (β := EReal) (m ((c.tc : Thread nD τ).loc main_arg5))
    obtain ⟨bg, h6⟩ := exists_fun2 (β := EReal) (m ((c.tc : Thread nD τ).loc main_arg6))
    obtain ⟨wb, h7⟩ := exists_fun3 (β := EReal) (m ((c.tc : Thread nD τ).loc main_arg7))
    let ys : ℕ → ℕ → ℕ → EReal := fun k => match k with
      | 0 => y0
      | 1 => y1
      | 2 => y2
      | _ => y3
    have A : Args f ys wg wb bg m c := ⟨h0, h1, h2, h3, h4, h5, h6, h7⟩
    exact ⟨((h.1 c).1 8).trans (final8 f ys wg wb bg m c A), ((h.1 c).1 9).trans (final9 f ys wg wb bg m c A),
      ((h.1 c).1 10).trans (final10 f ys wg wb bg m c A), h.2 c⟩
  · refine (θ_run _ _ _).mono (fun _ h c => ⟨(h c).1.trans ?_, (h c).2.1.trans ?_, (h c).2.2.1.trans ?_, (h c).2.2.2⟩)
      (Cert.FwdRefIdeal.Value.run (F := Ideal) m' ρ')
    all_goals obtain ⟨e0, e1, e2, e3, e4, e5, e6, e7⟩ := hm c
    · rw [e0, e1, e2, e3, e4, e5, e6, e7]; exact Cert.FwdRefIdeal.Read.val_main_v26_eq _ _ _ _ _ _ _ _
    · rw [e0, e5, e6]; exact Cert.FwdRefIdeal.Read.val_main_v28_eq _ _ _
    · rw [e1, e2, e3, e4, e7]; exact Cert.FwdRefIdeal.Read.val_main_v30_eq _ _ _ _ _

end Cert.FwdIdeal.Own
-- ==== Proof.In.lean ====
/-
  The input projection: products of rows, tile by tile.
-/
module

public import proofs.«01_k».proof.Defs
public import proofs.«01_k».proof.Proof.Prod
public import proofs.«01_k».proof.Proof.Gen.InIdeal.Frame
public import proofs.«01_k».proof.Proof.Gen.InRefIdeal.Run
public import proofs.«01_k».proof.Proof.Gen.InRefIdeal.Read
public import Idealize.ShloMosaic.Lib.Pipeline.ValueKit

@[expose] public section

noncomputable section

namespace Cert.InIdeal.Own

open Cert.InIdeal Cert.InIdeal.Gen Cert.Own
open Idealize.ShloMosaic Idealize.ShloMosaic.TcCoe Idealize.SL.Sem Finset

theorem hz : (![0, 0] : Fin 2 → Nat) = fun _ => 0 := funext fun a => by fin_cases a <;> rfl

set_option maxRecDepth 100000 in
/-- Where the blocks lie. -/
theorem ix : ∀ t : Fin grid0.N, (cfg0.win 0).index t = ![t.val / 14, 0] ∧ (cfg0.win 1).index t = ![t.val % 14, 0]
    ∧ (cfg0.win 2).index t = ![t.val / 14, t.val % 14] := by decide +kernel

set_option maxRecDepth 100000 in
theorem cov : (cfg0.win 2).Covers := by decide +kernel

/-- A coordinate of an element of a block in its array. -/
theorem emb_val (w : Fin 3) (t : Fin cfg0.N) (hk : (cfg0.win w).kind = .blocked) (y) (a) :
    (((cfg0.win w).rect t).emb y a : ℕ) = (cfg0.win w).index t a * (cfg0.win w).size a + y a :=
  Pipeline.Window.rect_emb_val _ t y a hk

variable (f g : ℕ → ℕ → EReal)

/-- The reference's result at an index. -/
theorem ref_at (X0 : S8192x2048.Idx → EReal) (X1 : S14336x2048.Idx → EReal) (hf : ∀ y, X0 y = f (y 0).val (y 1).val)
    (hg : ∀ y, X1 y = g (y 0).val (y 1).val) (i : S8192x14336.Idx) :
    Cert.InRefIdeal.Read.val_main_v3 (F := Ideal) X0 X1 i = ∑ r ∈ range 2048, f (i 0).val r * g (i 1).val r := by
  rw [Cert.InRefIdeal.Read.val_main_v3_apply, ← Fin.sum_univ_eq_sum_range (fun r => f (i 0).val r * g (i 1).val r)]
  refine sum_congr rfl fun k _ => ?_
  rw [Cert.InRefIdeal.Read.val_main_v0_apply, Cert.InRefIdeal.Read.val_main_v2_apply, Cert.InRefIdeal.Read.val_main_v1_apply,
    Ideal.extf_def, Ideal.extf_def, hf, hg]

variable (m : (ℓ : Loc nD τ sig) → Buf (Elt Ideal) ℓ) (c : Dev nD)
  (hf : ∀ y : S8192x2048.Idx, m ((c.tc : Thread nD τ).loc main_arg0) y = f (y 0).val (y 1).val)
  (hg : ∀ y : S14336x2048.Idx, m ((c.tc : Thread nD τ).loc main_arg1) y = g (y 0).val (y 1).val)
include hf hg

theorem blk0 (t : Fin cfg0.N) (y : S1024x2048.Idx) : iblk m c 0 t y = f (1024 * (t.val / 14) + (y 0).val) (y 1).val := by
  refine (hf (((cfg0.win 0).rect t).emb y)).trans (congrArg₂ f ?_ ?_)
  · rw [emb_val 0 t rfl, (ix t).1]; exact congrArg (· + (y 0).val) (Nat.mul_comm _ _)
  · rw [emb_val 0 t rfl, (ix t).1]
    show 0 * 2048 + (y 1).val = (y 1).val
    omega

theorem blk1 (t : Fin cfg0.N) (y : S1024x2048.Idx) : iblk m c 1 t y = g (1024 * (t.val % 14) + (y 0).val) (y 1).val := by
  refine (hg (((cfg0.win 1).rect t).emb y)).trans (congrArg₂ g ?_ ?_)
  · rw [emb_val 1 t rfl, (ix t).2.1]; exact congrArg (· + (y 0).val) (Nat.mul_comm _ _)
  · rw [emb_val 1 t rfl, (ix t).2.1]
    show 0 * 2048 + (y 1).val = (y 1).val
    omega

/-- What a block of the result is written back with. -/
theorem out_at (t : Fin cfg0.N) (y : S1024x1024.Idx) : out0_2 (iblk m c 0 t) (iblk m c 1 t) y
    = ∑ r ∈ range 2048, f (1024 * (t.val / 14) + (y 0).val) r * g (1024 * (t.val % 14) + (y 1).val) r := by
  unfold out0_2
  rw [View.canon_unit_zero hz, View.ld_unit_zero (S := S1024x2048) hz, View.ld_unit_zero (S := S1024x2048) hz]
  unfold k0_pay1
  exact matNT _ rfl rfl rfl rfl rfl rfl (iblk m c 0 t) (iblk m c 1 t)
    (fun a r => f (1024 * (t.val / 14) + a) r) (fun a r => g (1024 * (t.val % 14) + a) r) (blk0 f g m c hf hg t) (blk1 f g m c hf hg t) y

/-- The result array. -/
theorem final : (dats m 0 c).arrAt 2 cfg0.N
    = Cert.InRefIdeal.Read.val_main_v3 (F := Ideal) (m ((c.tc : Thread nD τ).loc main_arg0)) (m ((c.tc : Thread nD τ).loc main_arg1)) := by
  refine (dats m 0 c).arrAt_eq_of_covers 2 _ cov fun t ht y => ?_
  have e := out_at f g m c hf hg t y
  refine ((congrFun (after0_2 m c t) y).trans e).trans ((ref_at f g _ _ hf hg _).trans (sum_congr rfl fun r _ => ?_)).symm
  refine congrArg₂ (· * ·) (congrArg (f · r) ?_) (congrArg (g · r) ?_)
  · refine (emb_val 2 t rfl y 0).trans ?_
    rw [(ix t).2.2]; exact congrArg (· + (y 0).val) (Nat.mul_comm _ _)
  · refine (emb_val 2 t rfl y 1).trans ?_
    rw [(ix t).2.2]; exact congrArg (· + (y 1).val) (Nat.mul_comm _ _)

omit f g hf hg in
/-- The kernel and the reference end with the same projection. -/
theorem algebraic : Cert.algebraic_InIdeal_InRefIdeal := by
  intro m ρ m' ρ' _ hm
  refine ⟨fun c => Cert.InRefIdeal.Read.val_main_v3 (F := Ideal) (m ((c.tc : Thread nD τ).loc main_arg0)) (m ((c.tc : Thread nD τ).loc main_arg1)), ?_, ?_⟩
  · refine (θ_run defs _ _).mono (fun _ h c => ⟨?_, ((h c).1 0).trans ((dats m 0 c).arrAt_in 0 rfl _), ((h c).1 1).trans ((dats m 0 c).arrAt_in 1 rfl _)⟩) (run_main m ρ)
    obtain ⟨f, hf⟩ := exists_fun2 (β := EReal) (m ((c.tc : Thread nD τ).loc main_arg0))
    obtain ⟨g, hg⟩ := exists_fun2 (β := EReal) (m ((c.tc : Thread nD τ).loc main_arg1))
    exact ((h c).1 2).trans (final f g m c hf hg)
  · refine (θ_run _ _ _).mono (fun _ h c => ⟨(h c).1.trans ?_, (h c).2⟩) (Cert.InRefIdeal.Value.run (F := Ideal) m' ρ')
    rw [(hm c).1, (hm c).2]
    exact Cert.InRefIdeal.Read.val_main_v3_eq _ _

end Cert.InIdeal.Own
-- ==== Proof.DyRun.lean ====
/-
  The run of the four products of `mm_dy`, one per branch: the buffers at its end.
-/
module

public import proofs.«01_k».proof.Defs
public import proofs.«01_k».proof.Proof.Gen.DyIdeal.Frame

@[expose] public section

noncomputable section

namespace Cert.DyIdeal.Own

open Cert.DyIdeal Cert.DyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- The run ends with every buffer as the last of its boundaries says. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- A result of one of the four calls is what the call left: nothing later writes it. -/
theorem res0 (c : Dev nD) : W8 m ρ c (Proc.devRef .tc main_v2) = (dat0 (V1 m ρ) c).arrAt 2 cfg0.N :=
  (W8_of m ρ c _ (by decide)).trans ((W7_of m ρ c _ (by decide)).trans ((W6_of m ρ c _ (by decide)).trans ((W5_of m ρ c _ (by decide)).trans
    ((W4_of m ρ c _ (by decide)).trans ((W3_of m ρ c _ (by decide)).trans (W2_arr m ρ c 2))))))
theorem res1 (c : Dev nD) : W8 m ρ c (Proc.devRef .tc main_v5) = (dat1 (V3 m ρ) c).arrAt 2 cfg1.N :=
  (W8_of m ρ c _ (by decide)).trans ((W7_of m ρ c _ (by decide)).trans ((W6_of m ρ c _ (by decide)).trans ((W5_of m ρ c _ (by decide)).trans
    (W4_arr m ρ c 2))))
theorem res2 (c : Dev nD) : W8 m ρ c (Proc.devRef .tc main_v8) = (dat2 (V5 m ρ) c).arrAt 2 cfg2.N :=
  (W8_of m ρ c _ (by decide)).trans ((W7_of m ρ c _ (by decide)).trans (W6_arr m ρ c 2))
theorem res3 (c : Dev nD) : W8 m ρ c (Proc.devRef .tc main_v11) = (dat3 (V7 m ρ) c).arrAt 2 cfg3.N := W8_arr m ρ c 2

end Cert.DyIdeal.Own
-- ==== Proof.Dy.lean ====
/-
  The gradients at the four branches through their projections: products of rows, branch by branch, tile by tile.
-/
module

public import proofs.«01_k».proof.Defs
public import proofs.«01_k».proof.Proof.Prod
public import proofs.«01_k».proof.Proof.DyRun
public import proofs.«01_k».proof.Proof.Gen.DyRefIdeal.Run
public import proofs.«01_k».proof.Proof.Gen.DyRefIdeal.Read
public import Idealize.ShloMosaic.Lib.Pipeline.ValueKit

@[expose] public section

noncomputable section

namespace Cert.DyIdeal.Own

open Cert.DyIdeal Cert.DyIdeal.Gen Cert.Own
open Idealize.ShloMosaic Idealize.ShloMosaic.TcCoe Idealize.SL.Sem Finset

theorem hz : (![0, 0] : Fin 2 → Nat) = fun _ => 0 := funext fun a => by fin_cases a <;> rfl

variable (f : ℕ → ℕ → EReal) (g : ℕ → ℕ → ℕ → EReal)

/-- The gradient at branch `p`: its 2048 columns of the first argument times the rows of its weights. -/
def grad (p : ℕ) (i : S8192x1024.Idx) : EReal := ∑ r ∈ range 2048, f (i 0).val (2048 * p + r) * g p (i 1).val r

theorem grad_at (p : ℕ) (i : S8192x1024.Idx) (a b : ℕ) (ha : (i 0).val = a) (hb : (i 1).val = b) :
    grad f g p i = ∑ r ∈ range 2048, f a (2048 * p + r) * g p b r := by subst ha hb; rfl

/-- One block's product. -/
theorem tile (t p : ℕ) (x0 x1 : Vec Ideal S1024x2048 .bf16) (h0 : ∀ y, x0 y = f (1024 * t + (y 0).val) (2048 * p + (y 1).val))
    (h1 : ∀ y, x1 y = g p (y 0).val (y 1).val) (y : S1024x1024.Idx) : out0_2 x0 x1 y
    = ∑ r ∈ range 2048, f (1024 * t + (y 0).val) (2048 * p + r) * g p (y 1).val r := by
  unfold out0_2
  rw [View.canon_unit_zero hz, View.ld_unit_zero (S := S1024x2048) hz, View.ld_unit_zero (S := S1024x2048) hz]
  unfold k0_pay1
  rw [shapeCast_self]
  exact matNT _ rfl rfl rfl rfl rfl rfl x0 x1 (fun a r => f (1024 * t + a) (2048 * p + r)) (g p) h0 h1 y

/-- A coordinate of an element of a block in its array. -/
theorem place {G : Pipeline.Grid} (w : Pipeline.Window sig G) (t : Fin G.N) (n : ℕ) (y) (a) (hk : w.kind = .blocked) (hn : w.index t a = n) :
    ((w.rect t).emb y a : ℕ) = w.size a * n + y a := by
  subst hn
  exact (Pipeline.Window.rect_emb_val w t y a hk).trans (congrArg (· + (y a : ℕ)) (Nat.mul_comm _ _))

theorem place_zero {G : Pipeline.Grid} (w : Pipeline.Window sig G) (t : Fin G.N) (y) (a) (hk : w.kind = .blocked) (hn : w.index t a = 0) :
    ((w.rect t).emb y a : ℕ) = y a := (place w t 0 y a hk hn).trans (Nat.zero_add _)

variable (V : (c : Dev nD) → (b : Ref sig .tc) → Buf (Elt Ideal) ((c : Thread nD τ).loc b)) (c : Dev nD)

set_option maxRecDepth 100000 in
theorem ix0 : ∀ t : Fin grid0.N, (cfg0.win 0).index t = ![t.val, 0] ∧ (cfg0.win 1).index t = ![0, 0]
    ∧ (cfg0.win 2).index t = ![t.val, 0] := by decide +kernel

set_option maxRecDepth 100000 in
theorem cov0 : (cfg0.win 2).Covers := by decide +kernel

/-- The result of branch 0. -/
theorem final0 (hf : ∀ y, V c main_arg0 y = f (y 0).val (y 1).val) (hg : ∀ y, V c main_v1 y = g 0 (y 0).val (y 1).val) :
    (dat0 V c).arrAt 2 cfg0.N = grad f g 0 := by
  refine (dat0 V c).arrAt_eq_of_covers 2 _ cov0 fun t ht y => (congrFun (after0_2 V c t) y).trans ?_
  have i0 := congrFun (ix0 t).1
  have i1 := congrFun (ix0 t).2.1
  have i2 := congrFun (ix0 t).2.2
  refine (tile f g t.val 0 (iblk0 V c 0 t) (iblk0 V c 1 t) (fun z => (hf _).trans (congrArg₂ f ?_ ?_)) (fun z => (hg _).trans (congrArg₂ (g 0) ?_ ?_)) y).trans
    (grad_at f g 0 _ _ _ ?_ ?_).symm
  · exact place _ t _ z 0 rfl (i0 0)
  · exact place _ t _ z 1 rfl (i0 1)
  · exact place_zero _ t z 0 rfl (i1 0)
  · exact place_zero _ t z 1 rfl (i1 1)
  · exact place _ t _ y 0 rfl (i2 0)
  · exact place_zero _ t y 1 rfl (i2 1)

set_option maxRecDepth 100000 in
theorem ix1 : ∀ t : Fin grid1.N, (cfg1.win 0).index t = ![t.val, 1] ∧ (cfg1.win 1).index t = ![0, 0]
    ∧ (cfg1.win 2).index t = ![t.val, 0] := by decide +kernel

set_option maxRecDepth 100000 in
theorem cov1 : (cfg1.win 2).Covers := by decide +kernel

/-- The result of branch 1. -/
theorem final1 (hf : ∀ y, V c main_arg0 y = f (y 0).val (y 1).val) (hg : ∀ y, V c main_v4 y = g 1 (y 0).val (y 1).val) :
    (dat1 V c).arrAt 2 cfg1.N = grad f g 1 := by
  refine (dat1 V c).arrAt_eq_of_covers 2 _ cov1 fun t ht y => (congrFun (after1_2 V c t) y).trans ?_
  have i0 := congrFun (ix1 t).1
  have i1 := congrFun (ix1 t).2.1
  have i2 := congrFun (ix1 t).2.2
  refine (tile f g t.val 1 (iblk1 V c 0 t) (iblk1 V c 1 t) (fun z => (hf _).trans (congrArg₂ f ?_ ?_)) (fun z => (hg _).trans (congrArg₂ (g 1) ?_ ?_)) y).trans
    (grad_at f g 1 _ _ _ ?_ ?_).symm
  · exact place _ t _ z 0 rfl (i0 0)
  · exact place _ t _ z 1 rfl (i0 1)
  · exact place_zero _ t z 0 rfl (i1 0)
  · exact place_zero _ t z 1 rfl (i1 1)
  · exact place _ t _ y 0 rfl (i2 0)
  · exact place_zero _ t y 1 rfl (i2 1)

set_option maxRecDepth 100000 in
theorem ix2 : ∀ t : Fin grid2.N, (cfg2.win 0).index t = ![t.val, 2] ∧ (cfg2.win 1).index t = ![0, 0]
    ∧ (cfg2.win 2).index t = ![t.val, 0] := by decide +kernel

set_option maxRecDepth 100000 in
theorem cov2 : (cfg2.win 2).Covers := by decide +kernel

/-- The result of branch 2. -/
theorem final2 (hf : ∀ y, V c main_arg0 y = f (y 0).val (y 1).val) (hg : ∀ y, V c main_v7 y = g 2 (y 0).val (y 1).val) :
    (dat2 V c).arrAt 2 cfg2.N = grad f g 2 := by
  refine (dat2 V c).arrAt_eq_of_covers 2 _ cov2 fun t ht y => (congrFun (after2_2 V c t) y).trans ?_
  have i0 := congrFun (ix2 t).1
  have i1 := congrFun (ix2 t).2.1
  have i2 := congrFun (ix2 t).2.2
  refine (tile f g t.val 2 (iblk2 V c 0 t) (iblk2 V c 1 t) (fun z => (hf _).trans (congrArg₂ f ?_ ?_)) (fun z => (hg _).trans (congrArg₂ (g 2) ?_ ?_)) y).trans
    (grad_at f g 2 _ _ _ ?_ ?_).symm
  · exact place _ t _ z 0 rfl (i0 0)
  · exact place _ t _ z 1 rfl (i0 1)
  · exact place_zero _ t z 0 rfl (i1 0)
  · exact place_zero _ t z 1 rfl (i1 1)
  · exact place _ t _ y 0 rfl (i2 0)
  · exact place_zero _ t y 1 rfl (i2 1)

set_option maxRecDepth 100000 in
theorem ix3 : ∀ t : Fin grid3.N, (cfg3.win 0).index t = ![t.val, 3] ∧ (cfg3.win 1).index t = ![0, 0]
    ∧ (cfg3.win 2).index t = ![t.val, 0] := by decide +kernel

set_option maxRecDepth 100000 in
theorem cov3 : (cfg3.win 2).Covers := by decide +kernel

/-- The result of branch 3. -/
theorem final3 (hf : ∀ y, V c main_arg0 y = f (y 0).val (y 1).val) (hg : ∀ y, V c main_v10 y = g 3 (y 0).val (y 1).val) :
    (dat3 V c).arrAt 2 cfg3.N = grad f g 3 := by
  refine (dat3 V c).arrAt_eq_of_covers 2 _ cov3 fun t ht y => (congrFun (after3_2 V c t) y).trans ?_
  have i0 := congrFun (ix3 t).1
  have i1 := congrFun (ix3 t).2.1
  have i2 := congrFun (ix3 t).2.2
  refine (tile f g t.val 3 (iblk3 V c 0 t) (iblk3 V c 1 t) (fun z => (hf _).trans (congrArg₂ f ?_ ?_)) (fun z => (hg _).trans (congrArg₂ (g 3) ?_ ?_)) y).trans
    (grad_at f g 3 _ _ _ ?_ ?_).symm
  · exact place _ t _ z 0 rfl (i0 0)
  · exact place _ t _ z 1 rfl (i0 1)
  · exact place_zero _ t z 0 rfl (i1 0)
  · exact place_zero _ t z 1 rfl (i1 1)
  · exact place _ t _ y 0 rfl (i2 0)
  · exact place_zero _ t y 1 rfl (i2 1)

omit f g V
/-- A branch's weights at an entry. -/
theorem row_at (x : S4x1024x2048.Idx → EReal) (g : ℕ → ℕ → ℕ → EReal) (hx : ∀ y, x y = g (y 0).val (y 1).val (y 2).val) (p : ℕ) (hp : p < 4)
    (h : S4x1024x2048.Slices ![p, 0, 0] S1x1024x2048) (y : S1024x2048.Idx) :
    shapeCast S1024x2048 (extractStridedSlice S1x1024x2048 ![p, 0, 0] x h) shapeCasts_S1x1024x2048_S1024x2048 y = g p (y 0).val (y 1).val :=
  (shapeCast_apply _ shapeCasts_S1x1024x2048_S1024x2048 y (fun a => match a with
    | ⟨0, _⟩ => ⟨0, Nat.one_pos⟩
    | ⟨1, _⟩ => ⟨(y 0).val, (y 0).isLt⟩
    | ⟨2, _⟩ => ⟨(y 1).val, (y 1).isLt⟩ : S1x1024x2048.Idx) (by
      rewrite [Shape.rowMajor_val_two, Shape.rowMajor_val_three]
      show (0 * 1024 + (y 0).val) * 2048 + (y 1).val = (y 0).val * 2048 + (y 1).val
      omega)).trans
  ((extractStridedSlice_apply ![p, 0, 0] x h _ (fun a => match a with
    | ⟨0, _⟩ => ⟨p, hp⟩
    | ⟨1, _⟩ => ⟨(y 0).val, (y 0).isLt⟩
    | ⟨2, _⟩ => ⟨(y 1).val, (y 1).isLt⟩ : S4x1024x2048.Idx) (fun a => match a with
    | ⟨0, _⟩ => rfl
    | ⟨1, _⟩ => (Nat.zero_add _).symm
    | ⟨2, _⟩ => (Nat.zero_add _).symm)).trans (hx _))

section Reference
open Cert.DyRefIdeal.Read

/-- The reference's four products at an entry. -/
theorem ref_all (X0 : S8192x8192.Idx → EReal) (X1 : S4x1024x2048.Idx → EReal) (f : ℕ → ℕ → EReal) (g : ℕ → ℕ → ℕ → EReal)
    (hf : ∀ y, X0 y = f (y 0).val (y 1).val) (hg : ∀ y, X1 y = g (y 0).val (y 1).val (y 2).val)
    (i : Cert.DyRefIdeal.S4x8192x1024.Idx) (p : ℕ) (j : S8192x1024.Idx) (h0 : (i 0).val = p) (h1 : (i 1).val = (j 0).val) (h2 : (i 2).val = (j 1).val) :
    val_main_v7 (F := Ideal) X0 X1 i = grad f g p j := by
  rw [val_main_v7_apply, grad, ← Fin.sum_univ_eq_sum_range (fun r => f (j 0).val (2048 * p + r) * g p (j 1).val r)]
  refine sum_congr rfl fun k _ => ?_
  rw [val_main_v6_apply, val_main_v1_apply, val_main_v0_apply, val_main_v3_apply, Ideal.extf_def, Ideal.extf_def, hf, hg]
  have hk := k.isLt
  have hi0 : (i 0).val < 4 := (i 0).isLt
  have hi1 : (i 1).val < 8192 := (i 1).isLt
  refine congrArg₂ (· * ·) (congrArg₂ f ?_ ?_) ?_
  · show (((i 1).val * 4 + (i 0).val) * 2048 + k.val) / 8192 = _
    omega
  · show (((i 1).val * 4 + (i 0).val) * 2048 + k.val) % 8192 = _
    omega
  · show g (i 0).val (i 2).val k.val = _
    rw [h0, h2]

/-- Each of the reference's results. -/
theorem ref_at (X0 : S8192x8192.Idx → EReal) (X1 : S4x1024x2048.Idx → EReal) (f : ℕ → ℕ → EReal) (g : ℕ → ℕ → ℕ → EReal)
    (hf : ∀ y, X0 y = f (y 0).val (y 1).val) (hg : ∀ y, X1 y = g (y 0).val (y 1).val (y 2).val) :
    grad f g 0 = val_main_v9 (F := Ideal) X0 X1 ∧ grad f g 1 = val_main_v11 (F := Ideal) X0 X1
    ∧ grad f g 2 = val_main_v13 (F := Ideal) X0 X1 ∧ grad f g 3 = val_main_v15 (F := Ideal) X0 X1 := by
  have e0 : ∀ j : S8192x1024.Idx, ((j 0).val * 1024 + (j 1).val) / 1024 % 8192 = (j 0).val := fun j => by
    have a : (j 0).val < 8192 := (j 0).isLt
    have b : (j 1).val < 1024 := (j 1).isLt
    omega
  have e1 : ∀ j : S8192x1024.Idx, ((j 0).val * 1024 + (j 1).val) % 1024 = (j 1).val := fun j => by
    have b : (j 1).val < 1024 := (j 1).isLt
    omega
  refine ⟨funext fun j => Eq.symm ?_, funext fun j => Eq.symm ?_, funext fun j => Eq.symm ?_, funext fun j => Eq.symm ?_⟩
  · rw [val_main_v9_apply, val_main_v8_apply]; exact ref_all X0 X1 f g hf hg _ 0 j rfl (e0 j) (e1 j)
  · rw [val_main_v11_apply, val_main_v10_apply]; exact ref_all X0 X1 f g hf hg _ 1 j rfl (e0 j) (e1 j)
  · rw [val_main_v13_apply, val_main_v12_apply]; exact ref_all X0 X1 f g hf hg _ 2 j rfl (e0 j) (e1 j)
  · rw [val_main_v15_apply, val_main_v14_apply]; exact ref_all X0 X1 f g hf hg _ 3 j rfl (e0 j) (e1 j)

end Reference

variable (m : (ℓ : Loc nD τ sig) → Buf (Elt Ideal) ℓ) (ρ : Dev nD → PrngReg)

theorem host0 : V1 m ρ c main_v1 = shapeCast S1024x2048 (extractStridedSlice S1x1024x2048 ![0, 0, 0] (m ((c.tc : Thread nD τ).loc main_arg1))
    slices_S4x1024x2048_S1x1024x2048_0_0_0) shapeCasts_S1x1024x2048_S1024x2048 := by
  rw [← W0_args m ρ c main_arg1 (by decide)]
  show StableHlo.after hostOps0 (W0 m ρ c) (Proc.devRef .tc main_v1) = _
  generalize W0 m ρ c = W
  after_results <;> rfl
theorem host1 : V3 m ρ c main_v4 = shapeCast S1024x2048 (extractStridedSlice S1x1024x2048 ![1, 0, 0] (m ((c.tc : Thread nD τ).loc main_arg1))
    slices_S4x1024x2048_S1x1024x2048_1_0_0) shapeCasts_S1x1024x2048_S1024x2048 := by
  rw [← W2_args m ρ c main_arg1 (by decide)]
  show StableHlo.after hostOps1 (W2 m ρ c) (Proc.devRef .tc main_v4) = _
  generalize W2 m ρ c = W
  after_results <;> rfl
theorem host2 : V5 m ρ c main_v7 = shapeCast S1024x2048 (extractStridedSlice S1x1024x2048 ![2, 0, 0] (m ((c.tc : Thread nD τ).loc main_arg1))
    slices_S4x1024x2048_S1x1024x2048_2_0_0) shapeCasts_S1x1024x2048_S1024x2048 := by
  rw [← W4_args m ρ c main_arg1 (by decide)]
  show StableHlo.after hostOps2 (W4 m ρ c) (Proc.devRef .tc main_v7) = _
  generalize W4 m ρ c = W
  after_results <;> rfl
theorem host3 : V7 m ρ c main_v10 = shapeCast S1024x2048 (extractStridedSlice S1x1024x2048 ![3, 0, 0] (m ((c.tc : Thread nD τ).loc main_arg1))
    slices_S4x1024x2048_S1x1024x2048_3_0_0) shapeCasts_S1x1024x2048_S1024x2048 := by
  rw [← W6_args m ρ c main_arg1 (by decide)]
  show StableHlo.after hostOps3 (W6 m ρ c) (Proc.devRef .tc main_v10) = _
  generalize W6 m ρ c = W
  after_results <;> rfl

/-- The four results. -/
theorem final : W8 m ρ c (Proc.devRef .tc main_v2) = Cert.DyRefIdeal.Read.val_main_v9 (F := Ideal) (m ((c.tc : Thread nD τ).loc main_arg0)) (m ((c.tc : Thread nD τ).loc main_arg1))
    ∧ W8 m ρ c (Proc.devRef .tc main_v5) = Cert.DyRefIdeal.Read.val_main_v11 (F := Ideal) (m ((c.tc : Thread nD τ).loc main_arg0)) (m ((c.tc : Thread nD τ).loc main_arg1))
    ∧ W8 m ρ c (Proc.devRef .tc main_v8) = Cert.DyRefIdeal.Read.val_main_v13 (F := Ideal) (m ((c.tc : Thread nD τ).loc main_arg0)) (m ((c.tc : Thread nD τ).loc main_arg1))
    ∧ W8 m ρ c (Proc.devRef .tc main_v11) = Cert.DyRefIdeal.Read.val_main_v15 (F := Ideal) (m ((c.tc : Thread nD τ).loc main_arg0)) (m ((c.tc : Thread nD τ).loc main_arg1)) := by
  obtain ⟨f, hf⟩ := exists_fun2 (β := EReal) (m ((c.tc : Thread nD τ).loc main_arg0))
  obtain ⟨g, hg⟩ := exists_fun3 (β := EReal) (m ((c.tc : Thread nD τ).loc main_arg1))
  obtain ⟨r0, r1, r2, r3⟩ := ref_at _ _ f g hf hg
  refine ⟨(res0 m ρ c).trans ((final0 f g (V1 m ρ) c ?_ ?_).trans r0), (res1 m ρ c).trans ((final1 f g (V3 m ρ) c ?_ ?_).trans r1),
    (res2 m ρ c).trans ((final2 f g (V5 m ρ) c ?_ ?_).trans r2), (res3 m ρ c).trans ((final3 f g (V7 m ρ) c ?_ ?_).trans r3)⟩
  · exact fun y => (congrFun (W1_args m ρ c main_arg0 (by decide)) y).trans (hf y)
  · exact fun y => (congrFun (host0 c m ρ) y).trans (row_at _ g hg 0 (by decide) _ y)
  · exact fun y => (congrFun (W3_args m ρ c main_arg0 (by decide)) y).trans (hf y)
  · exact fun y => (congrFun (host1 c m ρ) y).trans (row_at _ g hg 1 (by decide) _ y)
  · exact fun y => (congrFun (W5_args m ρ c main_arg0 (by decide)) y).trans (hf y)
  · exact fun y => (congrFun (host2 c m ρ) y).trans (row_at _ g hg 2 (by decide) _ y)
  · exact fun y => (congrFun (W7_args m ρ c main_arg0 (by decide)) y).trans (hf y)
  · exact fun y => (congrFun (host3 c m ρ) y).trans (row_at _ g hg 3 (by decide) _ y)

omit c m ρ in
/-- The four calls and the reference end with the same gradients. -/
theorem algebraic : Cert.algebraic_DyIdeal_DyRefIdeal := by
  intro m ρ m' ρ' _ hm
  refine ⟨_, _, _, _, (θ_run defs _ _).mono (fun _ h c => ⟨(h c _ (mem_uc main_v2 (by decide))).trans (final c m ρ).1,
    (h c _ (mem_uc main_v5 (by decide))).trans (final c m ρ).2.1, (h c _ (mem_uc main_v8 (by decide))).trans (final c m ρ).2.2.1,
    (h c _ (mem_uc main_v11 (by decide))).trans (final c m ρ).2.2.2, (h c _ (mem_uc main_arg0 (by decide))).trans (W8_main_arg0 m ρ c),
    (h c _ (mem_uc main_arg1 (by decide))).trans (W8_main_arg1 m ρ c)⟩) (run_main m ρ), ?_⟩
  refine (θ_run _ _ _).mono (fun _ h c => ⟨(h c).1.trans ?_, (h c).2.1.trans ?_, (h c).2.2.1.trans ?_, (h c).2.2.2.1.trans ?_, (h c).2.2.2.2⟩)
    (Cert.DyRefIdeal.Value.run (F := Ideal) m' ρ')
  · rw [(hm c).1, (hm c).2]; exact Cert.DyRefIdeal.Read.val_main_v9_eq _ _
  · rw [(hm c).1, (hm c).2]; exact Cert.DyRefIdeal.Read.val_main_v11_eq _ _
  · rw [(hm c).1, (hm c).2]; exact Cert.DyRefIdeal.Read.val_main_v13_eq _ _
  · rw [(hm c).1, (hm c).2]; exact Cert.DyRefIdeal.Read.val_main_v15_eq _ _

end Cert.DyIdeal.Own
-- ==== Proof.AI.Step.lean ====
/-
  One grid point of the forward attention: what it computes, as a function of the blocks it is given and of what it
  carries (`St`), and the kernel's body cut into pieces that compute it.
-/
module

public import proofs.«01_k».proof.Proof.Gen.AttnIdeal.Skeleton
public import proofs.«01_k».proof.Proof.Gen.AttnIdeal.Launch
public import proofs.«01_k».proof.Proof.Own

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the body carries from point to point: each query's greatest logit so far, the sum of its exponentials, and the
    values weighted by them. -/
structure St (F : FTy → Type) where
  m : Vec F S1024x1 .f32
  l : Vec F S1024x1 .f32
  a : Vec F S1024x128 .f32

/-- The blocks a point is given. -/
structure Blk (F : FTy → Type) where
  q : Vec F S1024x128 .f32
  k : Vec F S1024x128 .f32
  v : Vec F S1024x128 .f32
  c : Vec F S1x1x1024 .f32
  g : Vec F S1024x128 .f32

/-- The step below the diagonal. -/
def stepU (b : Blk F) (s : St F) : St F where
  m := k0_pay5 (k0_pay8 b.q b.k b.c s.m)
  l := k0_pay11 b.q b.k b.c s.m s.l
  a := k0_pay4 (k0_pay9 b.q b.k b.c s.m) (k0_pay13 b.q b.k b.c s.m) (k0_pay14 b.v) (k0_pay15 b.q b.k b.c s.m b.v)
    (constant S1024x128 .f32 0x00000000#32) s.a

/-- The step on the diagonal. -/
def stepD (b : Blk F) (s : St F) : St F where
  m := k0_pay24 (k0_pay17 b.q b.k b.c s.m)
  l := k0_pay20 b.q b.k b.c s.m s.l
  a := k0_pay23 (k0_pay18 b.q b.k b.c s.m) (k0_pay21 b.q b.k b.c s.m) (k0_pay22 b.q b.k b.c s.m) b.v s.a

/-- The conditions of the body: the first key tile, and a key tile below the diagonal. -/
abbrev condZ (v3 : BitVec 32) : Prop := Scalar.cmpi .ne (Scalar.extui (Scalar.cmpi .eq v3 0#32)) 0#32 = 1#1
abbrev condL (v1 v3 : BitVec 32) : Prop := Scalar.cmpi .ne (Scalar.extui (Scalar.cmpi .slt v3 v1)) 0#32 = 1#1

/-- The whole point. -/
def clear (v3 : BitVec 32) (s : St F) : St F := if condZ v3 then ⟨k0_pay1, k0_pay2, k0_pay3⟩ else s
def addU (v1 v3 : BitVec 32) (b : Blk F) (s : St F) : St F := if condL v1 v3 then stepU b s else s
def addD (v1 v3 : BitVec 32) (b : Blk F) (s : St F) : St F := if k0_cond3 v1 v3 = 1#1 then stepD b s else s
def next (v1 v3 : BitVec 32) (b : Blk F) (s : St F) : St F := addD v1 v3 b (addU v1 v3 b (clear v3 s))

/-- The gated output stored on the diagonal. -/
abbrev gated (s : St F) (g : Vec F S1024x128 .f32) : FVec F S1024x128 .bf16 :=
  k0_pay6 (k0_pay25 s.a s.l) g (Scalar.ofBits .f32 0x00000000#32)

section Pieces

variable (A4 A5 A6 : Memref sig .tc .vmem S1024x128 .f32) (A7 : Memref sig .tc .vmem S1x1x1024 .f32)
  (A8 A9 : Memref sig .tc .vmem S1024x128 .f32) (A10 : Memref sig .tc .vmem S1x1024x1 .f32)
  (A11 : Memref sig .tc .vmem S1024x128 .bf16) (h11 : A11.IsWhole)
  (A12 A13 : Memref sig .tc .vmem S1024x1 .f32) (A14 : Memref sig .tc .vmem S1024x128 .f32)

abbrev rT : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rK : Rect S1x1024x1 := Rect.unit (s := S1x1024x1) ![0, 0, 0] S1x1024x1.size inb_S1x1024x1_S1x1024x1_0_0_0
abbrev rL : Rect S1x1x1024 := Rect.unit (s := S1x1x1024) ![0, 0, 0] S1x1x1024.size inb_S1x1x1024_S1x1x1024_0_0_0

abbrev ldT (A : Memref sig .tc .vmem S1024x128 .f32) (k : Vec F S1024x128 .f32 → Prog (TpuEff nD τ sig (Elt F) Λ₀ .tc) PUnit.{1}) : Prog (TpuEff nD τ sig (Elt F) Λ₀ .tc) PUnit.{1} :=
  .op (.load A rT.toLoadRect (View.loadsAt_vmem h_S1024x128)) k
abbrev ldB (A : Memref sig .tc .vmem S1024x128 .bf16) (k : Vec F S1024x128 .bf16 → Prog (TpuEff nD τ sig (Elt F) Λ₀ .tc) PUnit.{1}) : Prog (TpuEff nD τ sig (Elt F) Λ₀ .tc) PUnit.{1} :=
  .op (.load A rT.toLoadRect (View.loadsAt_vmem h_S1024x128)) k
abbrev ldC (A : Memref sig .tc .vmem S1024x1 .f32) (k : Vec F S1024x1 .f32 → Prog (TpuEff nD τ sig (Elt F) Λ₀ .tc) PUnit.{1}) : Prog (TpuEff nD τ sig (Elt F) Λ₀ .tc) PUnit.{1} :=
  .op (.load A rC.toLoadRect (View.loadsAt_vmem h_S1024x1)) k
abbrev ldK (A : Memref sig .tc .vmem S1x1024x1 .f32) (k : Vec F S1x1024x1 .f32 → Prog (TpuEff nD τ sig (Elt F) Λ₀ .tc) PUnit.{1}) : Prog (TpuEff nD τ sig (Elt F) Λ₀ .tc) PUnit.{1} :=
  .op (.load A rK.toLoadRect (View.loadsAt_vmem h_S1x1024x1)) k
abbrev ldL (A : Memref sig .tc .vmem S1x1x1024 .f32) (k : Vec F S1x1x1024 .f32 → Prog (TpuEff nD τ sig (Elt F) Λ₀ .tc) PUnit.{1}) : Prog (TpuEff nD τ sig (Elt F) Λ₀ .tc) PUnit.{1} :=
  .op (.load A rL.toLoadRect (View.loadsAt_vmem h_S1x1x1024)) k
abbrev stT (A : Memref sig .tc .vmem S1024x128 .f32) (w : FVec F S1024x128 .f32) (k : PUnit.{1} → Prog (TpuEff nD τ sig (Elt F) Λ₀ .tc) PUnit.{1}) : Prog (TpuEff nD τ sig (Elt F) Λ₀ .tc) PUnit.{1} :=
  .op (.store A rT w Finset.univ (View.stores_vmem_bits_univ h_S1024x128 rfl) (.inl rfl)) k
abbrev stC (A : Memref sig .tc .vmem S1024x1 .f32) (w : FVec F S1024x1 .f32) (k : PUnit.{1} → Prog (TpuEff nD τ sig (Elt F) Λ₀ .tc) PUnit.{1}) : Prog (TpuEff nD τ sig (Elt F) Λ₀ .tc) PUnit.{1} :=
  .op (.store A rC w Finset.univ (View.stores_vmem_bits_univ h_S1024x1 rfl) (.inl rfl)) k
abbrev stK (A : Memref sig .tc .vmem S1x1024x1 .f32) (w : FVec F S1x1024x1 .f32) (k : PUnit.{1} → Prog (TpuEff nD τ sig (Elt F) Λ₀ .tc) PUnit.{1}) : Prog (TpuEff nD τ sig (Elt F) Λ₀ .tc) PUnit.{1} :=
  .op (.store A rK w Finset.univ (View.stores_vmem_bits_univ h_S1x1024x1 rfl) (.inl rfl)) k
abbrev stB (A : Memref sig .tc .vmem S1024x128 .bf16) (hA : A.IsWhole) (w : FVec F S1024x128 .bf16) (k : PUnit.{1} → Prog (TpuEff nD τ sig (Elt F) Λ₀ .tc) PUnit.{1}) : Prog (TpuEff nD τ sig (Elt F) Λ₀ .tc) PUnit.{1} :=
  .op (.store A rT w Finset.univ (View.stores_vmem h_S1024x128 (hA.storeExact_slice rfl _ packedbf16_S1024x128_S1024x128_0_0) (fun _ => rfl)) (.inl rfl)) k

/-- Starting a query tile. -/
abbrev pClear (v3 : BitVec 32) (kk : PUnit.{1} → Prog (TpuEff nD τ sig (Elt F) Λ₀ .tc) PUnit.{1}) : Prog (TpuEff nD τ sig (Elt F) Λ₀ .tc) PUnit.{1} :=
  if condZ v3 then
    ldC A12 fun _ => stC A12 k0_pay1 fun _ => ldC A13 fun _ => stC A13 k0_pay2 fun _ => ldT A14 fun _ => stT A14 k0_pay3 kk
  else kk ⟨⟩

/-- The step below the diagonal. -/
abbrev pU (v1 v3 : BitVec 32) (kk : PUnit.{1} → Prog (TpuEff nD τ sig (Elt F) Λ₀ .tc) PUnit.{1}) : Prog (TpuEff nD τ sig (Elt F) Λ₀ .tc) PUnit.{1} :=
  if condL v1 v3 then
    ldT A4 fun q => ldT A5 fun k => ldL A7 fun c => ldC A12 fun m => ldC A13 fun l => ldC A13 fun _ =>
    stC A13 (k0_pay11 q k c m l) fun _ => ldT A6 fun v => ldT A14 fun a => ldT A14 fun _ =>
    stT A14 (k0_pay4 (k0_pay9 q k c m) (k0_pay13 q k c m) (k0_pay14 v) (k0_pay15 q k c m v) (constant S1024x128 .f32 0x00000000#32) a) fun _ =>
    ldC A12 fun _ => stC A12 (k0_pay5 (k0_pay8 q k c m)) kk
  else kk ⟨⟩

/-- The step on the diagonal, and the stores of the results. -/
abbrev pD (v1 v3 : BitVec 32) (kk : PUnit.{1} → Prog (TpuEff nD τ sig (Elt F) Λ₀ .tc) PUnit.{1}) : Prog (TpuEff nD τ sig (Elt F) Λ₀ .tc) PUnit.{1} :=
  if k0_cond3 v1 v3 = 1#1 then
    ldT A4 fun q => ldT A5 fun k => ldL A7 fun c => ldC A12 fun m => ldC A13 fun l => ldC A13 fun _ =>
    stC A13 (k0_pay20 q k c m l) fun _ => ldT A6 fun v => ldT A14 fun a => ldT A14 fun _ =>
    stT A14 (k0_pay23 (k0_pay18 q k c m) (k0_pay21 q k c m) (k0_pay22 q k c m) v a) fun _ =>
    ldC A12 fun _ => stC A12 (k0_pay24 (k0_pay17 q k c m)) fun _ =>
    ldT A14 fun a' => ldC A13 fun l' => ldT A9 fun _ => stT A9 (k0_pay25 a' l') fun _ =>
    ldC A12 fun m' => ldC A13 fun l'' => ldK A10 fun _ => stK A10 (k0_pay26 m' l'') fun _ =>
    ldT A8 fun g => ldB A11 fun _ => stB A11 h11 (k0_pay6 (k0_pay25 a' l') g (Scalar.ofBits .f32 0x00000000#32)) kk
  else kk ⟨⟩

/-- All the pieces, from the two words on. -/
abbrev pAll (v1 v3 : BitVec 32) : Prog (TpuEff nD τ sig (Elt F) Λ₀ .tc) PUnit.{1} :=
  pClear A12 A13 A14 v3 fun _ => pU A4 A5 A6 A7 A12 A13 A14 v1 v3 fun _ =>
  pD A4 A5 A6 A7 A8 A9 A10 A11 h11 A12 A13 A14 v1 v3 fun _ => .ret ⟨⟩

/-- The reading of a table's word. -/
abbrev rW (i : grid0.Coords) : Rect S36 := Rect.unit (s := S36) (k0_off1 i) S1.size (k0_off1_inb i)
abbrev xW : S1.Idx := Shape.Idx.first (numel1_S1.symm ▸ Nat.one_pos)

end Pieces

/-- The body is its pieces in order. -/
theorem body_eq (i : grid0.Coords) (arg2 : Memref sig .tc .smem S36 .i32) (harg2 : arg2.IsWhole) (arg3 : Memref sig .tc .smem S36 .i32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x1024x1 .f32) (harg10 : arg10.IsWhole) (arg11 : Memref sig .tc .vmem S1024x128 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) :
    cc0_attn_fwd (F := F) i arg2 harg2 arg3 harg3 arg4 harg4 arg5 harg5 arg6 harg6 arg7 harg7 arg8 harg8 arg9 harg9 arg10 harg10 arg11 harg11 arg12 harg12 arg13 harg13 arg14 harg14 =
      smemLoadElt arg2 (rW i) (View.loads_smem_one rfl numel1_S1) xW fun (v1 : Elt F .i32) =>
      smemLoadElt arg3 (rW i) (View.loads_smem_one rfl numel1_S1) xW fun (v3 : Elt F .i32) =>
      pAll arg4 arg5 arg6 arg7 arg8 arg9 arg10 arg11 harg11 arg12 arg13 arg14 v1 v3 := by
  rw [cc0_attn_fwd_eq_skeleton]
  unfold cc0_attn_fwd_skel
  unfold smemLoad smemLoadElt
  simp only [Prog.lift, Prog.bind_op, Prog.bind_ret]
  refine congrArg (Prog.op _) (funext fun f1 => ?_)
  refine congrArg (Prog.op _) (funext fun f3 => ?_)
  simp only [k0_part1_eq_skeleton, k0_part2_eq_skeleton, k0_part3_eq_skeleton, k0_part1_skel, k0_part2_skel, k0_part3_skel, Prog.lift, Prog.bind_op, Prog.bind_ret, Prog.bind_assoc, Prog.pure_eq_ret]
  rfl

end Cert.AttnIdeal.Own
-- ==== Proof.AI.Triple.lean ====
/-
  The run of one grid point: each piece of the body takes what is carried from what it is to what the step's function
  says, and so does the whole.
-/
module

public import proofs.«01_k».proof.Proof.AI.Step

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- No loop's variant is counted. -/
abbrev 𝒱₀ : Variants := Variants.none

variable (c : Dev nD)
  (A4 A5 A6 : Memref sig .tc .vmem S1024x128 .f32) (A7 : Memref sig .tc .vmem S1x1x1024 .f32)
  (A8 A9 : Memref sig .tc .vmem S1024x128 .f32) (A10 : Memref sig .tc .vmem S1x1024x1 .f32)
  (A11 : Memref sig .tc .vmem S1024x128 .bf16) (h11 : A11.IsWhole)
  (A12 A13 : Memref sig .tc .vmem S1024x1 .f32) (A14 : Memref sig .tc .vmem S1024x128 .f32)

/-- Holding what is carried, -/
def hSt (s : St F) : sProp (MT nD τ sig Unit (Elt F) ℕ (UR sig nD τ) ℕ) :=
  iprop(owns (c : Thread nD τ) A12 fullShare s.m ∗ owns (c : Thread nD τ) A13 fullShare s.l ∗ owns (c : Thread nD τ) A14 fullShare s.a)

/-- the blocks, -/
def hBlk (b : Blk F) : sProp (MT nD τ sig Unit (Elt F) ℕ (UR sig nD τ) ℕ) :=
  iprop(owns (c : Thread nD τ) A4 fullShare b.q ∗ owns (c : Thread nD τ) A5 fullShare b.k ∗
    owns (c : Thread nD τ) A6 fullShare b.v ∗ owns (c : Thread nD τ) A7 fullShare b.c ∗ owns (c : Thread nD τ) A8 fullShare b.g)

/-- and the results' buffers. -/
def hOut (o : Vec F S1024x128 .f32) (e : Vec F S1x1024x1 .f32) (y : Vec F S1024x128 .bf16) : sProp (MT nD τ sig Unit (Elt F) ℕ (UR sig nD τ) ℕ) :=
  iprop(owns (c : Thread nD τ) A9 fullShare o ∗ owns (c : Thread nD τ) A10 fullShare e ∗ owns (c : Thread nD τ) A11 fullShare y)

variable {Q : PUnit.{1} → sProp (MT nD τ sig Unit (Elt F) ℕ (UR sig nD τ) ℕ)}
  {kk : PUnit.{1} → Prog (TpuEff nD τ sig (Elt F) Λ₀ .tc) PUnit.{1}}

theorem sound_clear (v3 : BitVec 32) (s : St F) :
    (hSt c A12 A13 A14 s : sProp (MT nD τ sig Unit (Elt F) ℕ (UR sig nD τ) ℕ)) ⊢
      iprop((hSt c A12 A13 A14 (clear v3 s) -∗ wp frame (wpE defs₀ 𝒱₀ (c : Thread nD τ) none) Set.univ (kk ⟨⟩) Q)
        -∗ wp frame (wpE defs₀ 𝒱₀ (c : Thread nD τ) none) Set.univ (pClear A12 A13 A14 v3 kk) Q) := by
  unfold hSt clear pClear
  split
  · iintro ⟨Hm, Hl, Ha⟩ K
    iapply (loadAll 𝒱₀ (c : Thread nD τ) none Set.univ (m := A12)) $$ Hm
    iintro Hm
    iapply (storeAll 𝒱₀ (c : Thread nD τ) none Set.univ (m := A12)) $$ Hm
    iintro Hm
    iapply (loadAll 𝒱₀ (c : Thread nD τ) none Set.univ (m := A13)) $$ Hl
    iintro Hl
    iapply (storeAll 𝒱₀ (c : Thread nD τ) none Set.univ (m := A13)) $$ Hl
    iintro Hl
    iapply (loadAll 𝒱₀ (c : Thread nD τ) none Set.univ (m := A14)) $$ Ha
    iintro Ha
    iapply (storeAll 𝒱₀ (c : Thread nD τ) none Set.univ (m := A14)) $$ Ha
    iintro Ha
    iapply K
    isplitl [Hm]; · iexact Hm
    isplitl [Hl]; · iexact Hl
    iexact Ha
  · iintro H K
    iapply K
    iexact H

theorem sound_U (v1 v3 : BitVec 32) (b : Blk F) (s : St F) :
    (iprop(hSt c A12 A13 A14 s ∗ hBlk c A4 A5 A6 A7 A8 b) : sProp (MT nD τ sig Unit (Elt F) ℕ (UR sig nD τ) ℕ)) ⊢
      iprop((iprop(hSt c A12 A13 A14 (addU v1 v3 b s) ∗ hBlk c A4 A5 A6 A7 A8 b) -∗ wp frame (wpE defs₀ 𝒱₀ (c : Thread nD τ) none) Set.univ (kk ⟨⟩) Q)
        -∗ wp frame (wpE defs₀ 𝒱₀ (c : Thread nD τ) none) Set.univ (pU A4 A5 A6 A7 A12 A13 A14 v1 v3 kk) Q) := by
  unfold hSt hBlk addU pU
  split
  · unfold stepU
    iintro ⟨⟨Hm, Hl, Ha⟩, H4, H5, H6, H7, H8⟩ K
    iapply (loadAll 𝒱₀ (c : Thread nD τ) none Set.univ (m := A4)) $$ H4
    iintro H4
    iapply (loadAll 𝒱₀ (c : Thread nD τ) none Set.univ (m := A5)) $$ H5
    iintro H5
    iapply (loadAll 𝒱₀ (c : Thread nD τ) none Set.univ (m := A7)) $$ H7
    iintro H7
    iapply (loadAll 𝒱₀ (c : Thread nD τ) none Set.univ (m := A12)) $$ Hm
    iintro Hm
    iapply (loadAll 𝒱₀ (c : Thread nD τ) none Set.univ (m := A13)) $$ Hl
    iintro Hl
    iapply (loadAll 𝒱₀ (c : Thread nD τ) none Set.univ (m := A13)) $$ Hl
    iintro Hl
    iapply (storeAll 𝒱₀ (c : Thread nD τ) none Set.univ (m := A13)) $$ Hl
    iintro Hl
    iapply (loadAll 𝒱₀ (c : Thread nD τ) none Set.univ (m := A6)) $$ H6
    iintro H6
    iapply (loadAll 𝒱₀ (c : Thread nD τ) none Set.univ (m := A14)) $$ Ha
    iintro Ha
    iapply (loadAll 𝒱₀ (c : Thread nD τ) none Set.univ (m := A14)) $$ Ha
    iintro Ha
    iapply (storeAll 𝒱₀ (c : Thread nD τ) none Set.univ (m := A14)) $$ Ha
    iintro Ha
    iapply (loadAll 𝒱₀ (c : Thread nD τ) none Set.univ (m := A12)) $$ Hm
    iintro Hm
    iapply (storeAll 𝒱₀ (c : Thread nD τ) none Set.univ (m := A12)) $$ Hm
    iintro Hm
    iapply K
    isplitl [Hm Hl Ha]
    · isplitl [Hm]; · iexact Hm
      isplitl [Hl]; · iexact Hl
      iexact Ha
    isplitl [H4]; · iexact H4
    isplitl [H5]; · iexact H5
    isplitl [H6]; · iexact H6
    isplitl [H7]; · iexact H7
    iexact H8
  · iintro H K
    iapply K
    iexact H

theorem sound_D (v1 v3 : BitVec 32) (b : Blk F) (s : St F) (o : Vec F S1024x128 .f32) (e : Vec F S1x1024x1 .f32) (y : Vec F S1024x128 .bf16) :
    (iprop(hSt c A12 A13 A14 s ∗ hBlk c A4 A5 A6 A7 A8 b ∗ hOut c A9 A10 A11 o e y) : sProp (MT nD τ sig Unit (Elt F) ℕ (UR sig nD τ) ℕ)) ⊢
      iprop((iprop(hSt c A12 A13 A14 (addD v1 v3 b s) ∗ hBlk c A4 A5 A6 A7 A8 b ∗
          hOut c A9 A10 A11 (if k0_cond3 v1 v3 = 1#1 then k0_pay25 (addD v1 v3 b s).a (addD v1 v3 b s).l else o)
            (if k0_cond3 v1 v3 = 1#1 then k0_pay26 (addD v1 v3 b s).m (addD v1 v3 b s).l else e)
            (if k0_cond3 v1 v3 = 1#1 then gated (addD v1 v3 b s) b.g else y)) -∗ wp frame (wpE defs₀ 𝒱₀ (c : Thread nD τ) none) Set.univ (kk ⟨⟩) Q)
        -∗ wp frame (wpE defs₀ 𝒱₀ (c : Thread nD τ) none) Set.univ (pD A4 A5 A6 A7 A8 A9 A10 A11 h11 A12 A13 A14 v1 v3 kk) Q) := by
  unfold hSt hBlk hOut addD pD
  by_cases h : k0_cond3 v1 v3 = 1#1
  · simp only [if_pos h]
    unfold stepD
    iintro ⟨⟨Hm, Hl, Ha⟩, ⟨H4, H5, H6, H7, H8⟩, H9, H10, H11⟩ K
    iapply (loadAll 𝒱₀ (c : Thread nD τ) none Set.univ (m := A4)) $$ H4
    iintro H4
    iapply (loadAll 𝒱₀ (c : Thread nD τ) none Set.univ (m := A5)) $$ H5
    iintro H5
    iapply (loadAll 𝒱₀ (c : Thread nD τ) none Set.univ (m := A7)) $$ H7
    iintro H7
    iapply (loadAll 𝒱₀ (c : Thread nD τ) none Set.univ (m := A12)) $$ Hm
    iintro Hm
    iapply (loadAll 𝒱₀ (c : Thread nD τ) none Set.univ (m := A13)) $$ Hl
    iintro Hl
    iapply (loadAll 𝒱₀ (c : Thread nD τ) none Set.univ (m := A13)) $$ Hl
    iintro Hl
    iapply (storeAll 𝒱₀ (c : Thread nD τ) none Set.univ (m := A13)) $$ Hl
    iintro Hl
    iapply (loadAll 𝒱₀ (c : Thread nD τ) none Set.univ (m := A6)) $$ H6
    iintro H6
    iapply (loadAll 𝒱₀ (c : Thread nD τ) none Set.univ (m := A14)) $$ Ha
    iintro Ha
    iapply (loadAll 𝒱₀ (c : Thread nD τ) none Set.univ (m := A14)) $$ Ha
    iintro Ha
    iapply (storeAll 𝒱₀ (c : Thread nD τ) none Set.univ (m := A14)) $$ Ha
    iintro Ha
    iapply (loadAll 𝒱₀ (c : Thread nD τ) none Set.univ (m := A12)) $$ Hm
    iintro Hm
    iapply (storeAll 𝒱₀ (c : Thread nD τ) none Set.univ (m := A12)) $$ Hm
    iintro Hm
    iapply (loadAll 𝒱₀ (c : Thread nD τ) none Set.univ (m := A14)) $$ Ha
    iintro Ha
    iapply (loadAll 𝒱₀ (c : Thread nD τ) none Set.univ (m := A13)) $$ Hl
    iintro Hl
    iapply (loadAll 𝒱₀ (c : Thread nD τ) none Set.univ (m := A9)) $$ H9
    iintro H9
    iapply (storeAll 𝒱₀ (c : Thread nD τ) none Set.univ (m := A9)) $$ H9
    iintro H9
    iapply (loadAll 𝒱₀ (c : Thread nD τ) none Set.univ (m := A12)) $$ Hm
    iintro Hm
    iapply (loadAll 𝒱₀ (c : Thread nD τ) none Set.univ (m := A13)) $$ Hl
    iintro Hl
    iapply (loadAll 𝒱₀ (c : Thread nD τ) none Set.univ (m := A10)) $$ H10
    iintro H10
    iapply (storeAll 𝒱₀ (c : Thread nD τ) none Set.univ (m := A10)) $$ H10
    iintro H10
    iapply (loadAll 𝒱₀ (c : Thread nD τ) none Set.univ (m := A8)) $$ H8
    iintro H8
    iapply (loadAll 𝒱₀ (c : Thread nD τ) none Set.univ (m := A11)) $$ H11
    iintro H11
    iapply (storeAll 𝒱₀ (c : Thread nD τ) none Set.univ (m := A11)) $$ H11
    iintro H11
    iapply K
    isplitl [Hm Hl Ha]
    · isplitl [Hm]; · iexact Hm
      isplitl [Hl]; · iexact Hl
      iexact Ha
    isplitl [H4 H5 H6 H7 H8]
    · isplitl [H4]; · iexact H4
      isplitl [H5]; · iexact H5
      isplitl [H6]; · iexact H6
      isplitl [H7]; · iexact H7
      iexact H8
    isplitl [H9]; · iexact H9
    isplitl [H10]; · iexact H10
    iexact H11
  · simp only [if_neg h]
    iintro H K
    iapply K
    iexact H

/-- The whole point, from the two words on. -/
theorem sound_all (v1 v3 : BitVec 32) (b : Blk F) (s : St F) (o : Vec F S1024x128 .f32) (e : Vec F S1x1024x1 .f32) (y : Vec F S1024x128 .bf16) :
    (iprop(hSt c A12 A13 A14 s ∗ hBlk c A4 A5 A6 A7 A8 b ∗ hOut c A9 A10 A11 o e y) : sProp (MT nD τ sig Unit (Elt F) ℕ (UR sig nD τ) ℕ)) ⊢
      wp frame (wpE defs₀ 𝒱₀ (c : Thread nD τ) none) Set.univ (pAll A4 A5 A6 A7 A8 A9 A10 A11 h11 A12 A13 A14 v1 v3) fun _ =>
        iprop(hSt c A12 A13 A14 (next v1 v3 b s) ∗ hBlk c A4 A5 A6 A7 A8 b ∗
          hOut c A9 A10 A11 (if k0_cond3 v1 v3 = 1#1 then k0_pay25 (next v1 v3 b s).a (next v1 v3 b s).l else o)
            (if k0_cond3 v1 v3 = 1#1 then k0_pay26 (next v1 v3 b s).m (next v1 v3 b s).l else e)
            (if k0_cond3 v1 v3 = 1#1 then gated (next v1 v3 b s) b.g else y)) := by
  iintro ⟨HS, HB, HO⟩
  iapply (sound_clear c A12 A13 A14 v3 s) $$ HS
  iintro HS
  iapply (sound_U c A4 A5 A6 A7 A8 A12 A13 A14 v1 v3 b _) $$ [HS HB]
  · isplitl [HS]; · iexact HS
    iexact HB
  iintro ⟨HS, HB⟩
  iapply (sound_D c A4 A5 A6 A7 A8 A9 A10 A11 h11 A12 A13 A14 v1 v3 b _ o e y) $$ [HS HB HO]
  · isplitl [HS]; · iexact HS
    isplitl [HB]; · iexact HB
    iexact HO
  iintro ⟨HS, HB, HO⟩
  iapply (le_wp_ret frame _ _ _ _)
  isplitl [HS]; · iexact HS
  isplitl [HB]; · iexact HB
  iexact HO

end Cert.AttnIdeal.Own
-- ==== Proof.AI.Tab.lean ====
/-
  The two tables the launch reads: their contents are literals, and everything of the schedule that depends on them is
  decided here, point by point.
-/
module

public import proofs.«01_k».proof.Proof.AI.Triple
public import Idealize.ShloMosaic.PureOps.Ideal
public import Idealize.ShloMosaic.Lib.Pipeline.TableIdle
public import Idealize.ShloMosaic.Lib.Pipeline.FrameBody

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The tables' contents. -/
def pfT : pre0.Contents (Elt F) := fun
  | 0 => fun i => lit0 (S36.rowMajor i)
  | 1 => fun i => lit1 (S36.rowMajor i)

set_option maxRecDepth 100000 in
theorem pfT_okI : ok0 (F := Ideal) pfT := by
  decide +kernel

theorem pfT_ok : ok0 (F := F) pfT := pfT_okI

/-- The tables, passed. -/
def aT : (p : Fin 1) → (pcfgs (F := F) p).Adm := fun _ => ⟨pfT, pfT_ok⟩

/-- The launch's schedule at these tables. -/
abbrev cfgT : Pipeline.Cfg sig Λ₀ := Pipeline.pin (pcfgs (F := F)) aT 0

/-- A point's words: the query tile and the key tile. -/
def wI (i : grid0.Coords) : BitVec 32 := lit0 (S36.rowMajor ((rW i).emb xW))
def wJ (i : grid0.Coords) : BitVec 32 := lit1 (S36.rowMajor ((rW i).emb xW))

set_option maxRecDepth 100000 in
/-- The first point starts a query tile. -/
theorem first : ∀ t : Fin grid0.N, t.val = 0 → condZ (wJ (grid0.coords t)) := by
  decide +kernel

set_option maxRecDepth 100000 in
theorem flushI : ∀ t : Fin grid0.N, (((cfgT (F := Ideal)).win (5 : Fin 8)).flushF t = true ∨ ((cfgT (F := Ideal)).win (6 : Fin 8)).flushF t = true
    ∨ ((cfgT (F := Ideal)).win (7 : Fin 8)).flushF t = true) → k0_cond3 (wI (grid0.coords t)) (wJ (grid0.coords t)) = 1#1 := by
  decide +kernel

set_option maxRecDepth 100000 in
theorem idleI : ∀ i : grid0.Coords, (idle0 (F := Ideal) pfT 5 i = !(k0_cond3 (wI i) (wJ i) == 1#1)) ∧ (idle0 (F := Ideal) pfT 6 i = !(k0_cond3 (wI i) (wJ i) == 1#1))
    ∧ (idle0 (F := Ideal) pfT 7 i = !(k0_cond3 (wI i) (wJ i) == 1#1)) := by
  decide +kernel

/-- The results are written back only where they were stored. -/
theorem flush5 (t : Fin grid0.N) (hf : ((cfgT (F := F)).win (5 : Fin 8)).flush t = true) : k0_cond3 (wI (grid0.coords t)) (wJ (grid0.coords t)) = 1#1 :=
  flushI t (.inl ((Pipeline.Window.flush_eq_flushF _ t).symm.trans hf))
theorem flush6 (t : Fin grid0.N) (hf : ((cfgT (F := F)).win (6 : Fin 8)).flush t = true) : k0_cond3 (wI (grid0.coords t)) (wJ (grid0.coords t)) = 1#1 :=
  flushI t (.inr (.inl ((Pipeline.Window.flush_eq_flushF _ t).symm.trans hf)))
theorem flush7 (t : Fin grid0.N) (hf : ((cfgT (F := F)).win (7 : Fin 8)).flush t = true) : k0_cond3 (wI (grid0.coords t)) (wJ (grid0.coords t)) = 1#1 :=
  flushI t (.inr (.inr ((Pipeline.Window.flush_eq_flushF _ t).symm.trans hf)))

theorem idle5 (i : grid0.Coords) : (cfgT (F := F)).idle (5 : Fin 8) i = !(k0_cond3 (wI i) (wJ i) == 1#1) := (idleI i).1
theorem idle6 (i : grid0.Coords) : (cfgT (F := F)).idle (6 : Fin 8) i = !(k0_cond3 (wI i) (wJ i) == 1#1) := (idleI i).2.1
theorem idle7 (i : grid0.Coords) : (cfgT (F := F)).idle (7 : Fin 8) i = !(k0_cond3 (wI i) (wJ i) == 1#1) := (idleI i).2.2

end Cert.AttnIdeal.Own
-- ==== Proof.AI.Traj.lean ====
/-
  What is carried after each point, and the launch's proof data.
-/
module

public import proofs.«01_k».proof.Proof.AI.Tab

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The arrays behind the windows when the launch begins. -/
abbrev Arrs (F : FTy → Type) (c : Dev nD) : Type := (b : Ref sig .tc) → Buf (Elt F) ((c.tc : Thread nD τ).loc b)

section Traj

variable {c : Dev nD} (V : Arrs F c)

/-- A window's block at a point. -/
abbrev blkAt (w : Fin 8) (t : Fin grid0.N) : ((cfgT (F := F)).win w).block.Idx → Elt F ((cfgT (F := F)).win w).elt :=
  (((cfgT (F := F)).win w).blk t).view.read (Elt F) (V (Pipeline.arrRef spec0 w))

/-- The blocks the body reads at a point. -/
def bOf (t : Fin grid0.N) : Blk F where
  q := blkAt V 0 t
  k := blkAt V 1 t
  v := blkAt V 2 t
  c := blkAt V 3 t
  g := blkAt V 4 t

/-- One point's step. -/
def stepAt (t : Fin grid0.N) (s : St F) : St F :=
  next (wI (grid0.coords t)) (wJ (grid0.coords t)) (bOf V t) s

/-- What is carried before point `n`. -/
def st : ℕ → St F
  | 0 => ⟨k0_pay1, k0_pay2, k0_pay3⟩
  | n + 1 => if h : n < grid0.N then stepAt V ⟨n, h⟩ (st n) else st n

theorem st_succ (t : Fin grid0.N) : st V (t.val + 1) = stepAt V t (st V t.val) := by
  rw [st, dif_pos t.isLt]

/-- A point that starts a query tile does not look at what came before. -/
theorem stepAt_congr (t : Fin grid0.N) (s s' : St F) (h : ¬ condZ (wJ (grid0.coords t)) → s = s') : stepAt V t s = stepAt V t s' := by
  have e : clear (wJ (grid0.coords t)) s = clear (wJ (grid0.coords t)) s' := by
    unfold clear
    by_cases h1 : condZ (wJ (grid0.coords t))
    · rw [if_pos h1, if_pos h1]
    · rw [if_neg h1, if_neg h1, h h1]
  unfold stepAt next
  rw [e]

end Traj

/-- The body's own buffers before point `n`: what is carried, once a point has run. -/
def PhiS (c : Dev nD) (V : Arrs F c) (n : ℕ) : sProp (MT nD τ sig Unit (Elt F) ℕ (UR sig nD τ) ℕ) :=
  iprop((∃ m l a, ⌜n ≠ 0 → (⟨m, l, a⟩ : St F) = st V n⌝ ∗
      owns (c : Thread nD τ) (Memref.whole cc0_scratch0) fullShare m ∗ owns (c : Thread nD τ) (Memref.whole cc0_scratch1) fullShare l ∗
      owns (c : Thread nD τ) (Memref.whole cc0_scratch2) fullShare a) ∗
    (∃ r, prngReg c r) ∗ Pipeline.ΦT (U := UR sig nD τ) pre0 (pfT (F := F)) c)

/-- The launch's proof data. -/
def dat (c : Dev nD) (V : Arrs F c) : Pipeline.Dat τ (Elt F) Unit ℕ (UR sig nD τ) ℕ (cfgT (F := F)) c where
  A w := V (Pipeline.arrRef spec0 w)
  after := fun
    | 0 => fun t => blkAt V 0 t
    | 1 => fun t => blkAt V 1 t
    | 2 => fun t => blkAt V 2 t
    | 3 => fun t => blkAt V 3 t
    | 4 => fun t => blkAt V 4 t
    | 5 => fun t => k0_pay25 (st V (t.val + 1)).a (st V (t.val + 1)).l
    | 6 => fun t => k0_pay26 (st V (t.val + 1)).m (st V (t.val + 1)).l
    | 7 => fun t => gated (st V (t.val + 1)) (bOf V t).g
    | ⟨_ + 8, h⟩ => absurd h (Nat.not_lt.2 (Nat.le_add_left _ _))
  Φ t := PhiS c V t.val
  q := fun w => Pipeline.shareOf spec0 w
  owed _ := 0

/-- `dat` once per launch of the program (there is one). -/
def dats (V : (c : Dev nD) → Arrs F c) : (p : Fin 1) → (c : Dev nD) → Pipeline.Dat τ (Elt F) Unit ℕ (UR sig nD τ) ℕ (Pipeline.pin (pcfgs (F := F)) aT p) c
  | 0, c => dat c (V c)
  | ⟨_ + 1, h⟩, _ => absurd h (Nat.not_lt.2 (Nat.le_add_left _ _))

section Before

variable (c : Dev nD) (V : Arrs F c) (t : Fin grid0.N)

/-- An input's buffer holds its block. -/
theorem before0 (d) : (dat c V).before (0 : Fin 8) t d = blkAt V 0 t :=
  (dat c V).before_in_eq_fetched (0 : Fin 8) rfl (fun _ => rfl) (fun _ _ _ => rfl) (fun _ => rfl) t d
theorem before1 (d) : (dat c V).before (1 : Fin 8) t d = blkAt V 1 t :=
  (dat c V).before_in_eq_fetched (1 : Fin 8) rfl (fun _ => rfl) (fun _ _ _ => rfl) (fun _ => rfl) t d
theorem before2 (d) : (dat c V).before (2 : Fin 8) t d = blkAt V 2 t :=
  (dat c V).before_in_eq_fetched (2 : Fin 8) rfl (fun _ => rfl) (fun _ _ _ => rfl) (fun _ => rfl) t d
theorem before3 (d) : (dat c V).before (3 : Fin 8) t d = blkAt V 3 t :=
  (dat c V).before_in_eq_fetched (3 : Fin 8) rfl (fun _ => rfl) (fun _ _ _ => rfl) (fun _ => rfl) t d
theorem before4 (d) : (dat c V).before (4 : Fin 8) t d = blkAt V 4 t :=
  (dat c V).before_in_eq_fetched (4 : Fin 8) rfl (fun _ => rfl) (fun _ _ _ => rfl) (fun _ => rfl) t d

end Before

end Cert.AttnIdeal.Own
-- ==== Proof.AI.Oblig.lean ====
/-
  The obligation the launch puts on the kernel's body: from what the launch hands it at a point, the body runs and leaves
  what the proof data says.
-/
module

public import proofs.«01_k».proof.Proof.AI.Traj

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Body

variable (c : Dev nD) (i : grid0.Coords)
  (A4 A5 A6 : Memref sig .tc .vmem S1024x128 .f32) (A7 : Memref sig .tc .vmem S1x1x1024 .f32)
  (A8 A9 : Memref sig .tc .vmem S1024x128 .f32) (A10 : Memref sig .tc .vmem S1x1024x1 .f32)
  (A11 : Memref sig .tc .vmem S1024x128 .bf16)
  (h4 : A4.IsWhole) (h5 : A5.IsWhole) (h6 : A6.IsWhole) (h7 : A7.IsWhole) (h8 : A8.IsWhole) (h9 : A9.IsWhole) (h10 : A10.IsWhole) (h11 : A11.IsWhole)

/-- The body at a point, the tables held at their contents. -/
theorem sound_body (b : Blk F) (s : St F) (o : Vec F S1024x128 .f32) (e : Vec F S1x1024x1 .f32) (y : Vec F S1024x128 .bf16) :
    (iprop(Pipeline.ΦT (U := UR sig nD τ) pre0 (pfT (F := F)) c ∗ hSt c (Memref.whole cc0_scratch0) (Memref.whole cc0_scratch1) (Memref.whole cc0_scratch2) s ∗
        hBlk c A4 A5 A6 A7 A8 b ∗ hOut c A9 A10 A11 o e y) : sProp (MT nD τ sig Unit (Elt F) ℕ (UR sig nD τ) ℕ)) ⊢
      wp frame (wpE defs₀ 𝒱₀ (c : Thread nD τ) none) Set.univ
        (cc0_attn_fwd i (Memref.whole main_c) (Memref.isWhole_whole _) (Memref.whole main_c_0) (Memref.isWhole_whole _)
          A4 h4 A5 h5 A6 h6 A7 h7 A8 h8 A9 h9 A10 h10 A11 h11 (Memref.whole cc0_scratch0) (Memref.isWhole_whole _) (Memref.whole cc0_scratch1) (Memref.isWhole_whole _)
      (Memref.whole cc0_scratch2) (Memref.isWhole_whole _)) fun _ =>
        iprop(Pipeline.ΦT (U := UR sig nD τ) pre0 (pfT (F := F)) c ∗ hSt c (Memref.whole cc0_scratch0) (Memref.whole cc0_scratch1) (Memref.whole cc0_scratch2) (next (wI i) (wJ i) b s) ∗
          hBlk c A4 A5 A6 A7 A8 b ∗ hOut c A9 A10 A11 (if k0_cond3 (wI i) (wJ i) = 1#1 then k0_pay25 (next (wI i) (wJ i) b s).a (next (wI i) (wJ i) b s).l else o)
            (if k0_cond3 (wI i) (wJ i) = 1#1 then k0_pay26 (next (wI i) (wJ i) b s).m (next (wI i) (wJ i) b s).l else e) (if k0_cond3 (wI i) (wJ i) = 1#1 then gated (next (wI i) (wJ i) b s) b.g else y)) := by
  rw [body_eq]
  have eT : (Pipeline.ΦT (U := UR sig nD τ) pre0 (pfT (F := F)) c : sProp (MT nD τ sig Unit (Elt F) ℕ (UR sig nD τ) ℕ))
      = iprop((((Memref.whole main_c).view.loc (c : Thread nD τ)) ↦[Finset.univ]{fullShare.right} (fun i => lit0 (S36.rowMajor i))) ∗
        (((Memref.whole main_c_0).view.loc (c : Thread nD τ)) ↦[Finset.univ]{fullShare.right} (fun i => lit1 (S36.rowMajor i)))) :=
    bigSep_univ_eq_bigSepL [(0 : Fin 2), (1 : Fin 2)] (by decide) (by decide) _
  rw [eT]
  iintro ⟨⟨H2, H3⟩, HS, HB, HO⟩
  iapply (wp_smemLoadElt 𝒱₀ (c : Thread nD τ) none Set.univ (m := Memref.whole main_c) (r := rW i) (Finset.subset_univ _)) $$ H2
  iintro H2
  iapply (wp_smemLoadElt 𝒱₀ (c : Thread nD τ) none Set.univ (m := Memref.whole main_c_0) (r := rW i) (Finset.subset_univ _)) $$ H3
  iintro H3
  iapply (wp_wand frame _) $$ [HS HB HO]
  · iapply (sound_all c A4 A5 A6 A7 A8 A9 A10 A11 h11 (Memref.whole cc0_scratch0) (Memref.whole cc0_scratch1) (Memref.whole cc0_scratch2) (wI i) (wJ i) b s o e y)
    isplitl [HS]; · iexact HS
    isplitl [HB]; · iexact HB
    iexact HO
  iintro %_ ⟨HS, HB, HO⟩
  isplitl [H2 H3]
  · isplitl [H2]; · iexact H2
    iexact H3
  isplitl [HS]; · iexact HS
  isplitl [HB]; · iexact HB
  iexact HO

end Body

theorem defs₀_row (t : Fin grid0.N) (s : (w : Fin 8) → Fin (spec0 w).nbuf) :
    defs₀ (F := F) .tc (0 : Fin 1) (t, s) = cc0_attn_fwd (grid0.coords t) (Memref.whole main_c) (Memref.isWhole_whole _) (Memref.whole main_c_0) (Memref.isWhole_whole _)
      (spec0_0.stage (s 0)) (hstage0_0 ((s 0).cast nbuf0_0))
      (spec0_1.stage (s 1)) (hstage0_1 ((s 1).cast nbuf0_1))
      (spec0_2.stage (s 2)) (hstage0_2 ((s 2).cast nbuf0_2))
      (spec0_3.stage (s 3)) (hstage0_3 ((s 3).cast nbuf0_3))
      (spec0_4.stage (s 4)) (hstage0_4 ((s 4).cast nbuf0_4))
      (spec0_5.stage (s 5)) (hstage0_5 ((s 5).cast nbuf0_5))
      (spec0_6.stage (s 6)) (hstage0_6 ((s 6).cast nbuf0_6))
      (spec0_7.stage (s 7)) (hstage0_7 ((s 7).cast nbuf0_7))
      (Memref.whole cc0_scratch0) (Memref.isWhole_whole _) (Memref.whole cc0_scratch1) (Memref.isWhole_whole _)
      (Memref.whole cc0_scratch2) (Memref.isWhole_whole _) := by
  unfold defs₀; rw [Defs.onTc_tc]

section Leaf

variable (c : Dev nD) (V : Arrs F c) (t : Fin grid0.N)

/-- What a result's buffer holds after a point that may have stored it. -/
theorem leaf (w : Fin 8) (hi : (cfgT (F := F)).idle w (grid0.coords t) = !(k0_cond3 (wI (grid0.coords t)) (wJ (grid0.coords t)) == 1#1))
    (hf : ((cfgT (F := F)).win w).flush t = true → k0_cond3 (wI (grid0.coords t)) (wJ (grid0.coords t)) = 1#1) (d)
    (X) (hX : X = if k0_cond3 (wI (grid0.coords t)) (wJ (grid0.coords t)) = 1#1 then (dat c V).after w t else (dat c V).before w t d) :
    owns (c : Thread nD τ) (((cfgT (F := F)).win w).stage ((cfgT (F := F)).slots t w)) fullShare X
      ⊢ (dat c V).leavesExact w t := by
  subst hX
  by_cases h : k0_cond3 (wI (grid0.coords t)) (wJ (grid0.coords t)) = 1#1
  · rw [if_pos h, Pipeline.Dat.leavesExact]
    rw [show (cfgT (F := F)).idle w ((cfgT (F := F)).grid.coords t) = false by
      rw [show (cfgT (F := F)).idle w ((cfgT (F := F)).grid.coords t) = _ from hi, h]; rfl]
  · rw [if_neg h, (dat c V).leavesExact_idle w t (by
      rw [show (cfgT (F := F)).idle w ((cfgT (F := F)).grid.coords t) = _ from hi]; simpa using h)
      (by cases hb : ((cfgT (F := F)).win w).flush t with
          | false => rfl
          | true => exact absurd (hf hb) h)]
    iintro H; iexists d; iexact H

end Leaf

/-- What the invariant says before a point, opened. -/
theorem phi_open (c : Dev nD) (V : Arrs F c) (t : Fin grid0.N) : (dat c V).Φ t.castSucc ⊢
    iprop((∃ m l a, ⌜t.val ≠ 0 → (⟨m, l, a⟩ : St F) = st V t.val⌝
      ∗ owns (c : Thread nD τ) (Memref.whole cc0_scratch0) fullShare m ∗ owns (c : Thread nD τ) (Memref.whole cc0_scratch1) fullShare l
      ∗ owns (c : Thread nD τ) (Memref.whole cc0_scratch2) fullShare a) ∗ (∃ r, prngReg c r) ∗ Pipeline.ΦT pre0 pfT c) := .rfl

/-- The invariant after a point. -/
theorem phi_close (c : Dev nD) (V : Arrs F c) (t : Fin grid0.N) :
    iprop((owns (c : Thread nD τ) (Memref.whole cc0_scratch0) fullShare (st V (t.val + 1)).m
      ∗ owns (c : Thread nD τ) (Memref.whole cc0_scratch1) fullShare (st V (t.val + 1)).l
      ∗ owns (c : Thread nD τ) (Memref.whole cc0_scratch2) fullShare (st V (t.val + 1)).a) ∗ (∃ r, prngReg c r) ∗ Pipeline.ΦT pre0 pfT c)
      ⊢ (dat c V).Φ t.succ := by
  show _ ⊢ PhiS c V (t.val + 1)
  unfold PhiS
  iintro ⟨⟨HS0, HS1, HS2⟩, Hp, HT⟩
  isplitl [HS0 HS1 HS2]
  · iexists (st V (t.val + 1)).m, (st V (t.val + 1)).l, (st V (t.val + 1)).a
    isplitr; · ipureintro; exact fun _ => rfl
    isplitl [HS0]; · iexact HS0
    isplitl [HS1]; · iexact HS1
    iexact HS2
  isplitl [Hp]; · iexact Hp
  iexact HT

/-- The obligation. -/
theorem hbody (c : Dev nD) (V : Arrs F c) : Pipeline.BodyObligationLoose (dat c V) defs₀ 𝒱₀ () Set.univ := fun t => by
  rw [Gen.bigSep_W0, Gen.bigSep_W0, defs₀_row]
  iintro ⟨H, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HH := (phi_open c V t) $$ H
  icases HH with ⟨⟨%m, %l, %a, %hs, HS0, HS1, HS2⟩, Hp, HT⟩
  rw [before0, before1, before2, before3, before4]
  iapply (wp_wand frame _) $$ [HS0 HS1 HS2 HT H0 H1 H2 H3 H4 H5 H6 H7]
  · iapply (sound_body c (grid0.coords t) _ _ _ _ _ _ _ _ _ _ _ _ _ _ _ _ (bOf V t)
      ⟨m, l, a⟩ ((dat c V).before (5 : Fin 8) t d5) ((dat c V).before (6 : Fin 8) t d6)
      ((dat c V).before (7 : Fin 8) t d7))
    isplitl [HT]; · iexact HT
    isplitl [HS0 HS1 HS2]
    · unfold hSt
      isplitl [HS0]; · iexact HS0
      isplitl [HS1]; · iexact HS1
      iexact HS2
    isplitl [H0 H1 H2 H3 H4]
    · unfold hBlk
      isplitl [H0]; · iexact H0
      isplitl [H1]; · iexact H1
      isplitl [H2]; · iexact H2
      isplitl [H3]; · iexact H3
      iexact H4
    unfold hOut
    isplitl [H5]; · iexact H5
    isplitl [H6]; · iexact H6
    iexact H7
  have e : stepAt V t ⟨m, l, a⟩ = st V (t.val + 1) := by
    rw [st_succ]
    exact stepAt_congr V t _ _ fun h => hs fun h0 => h (first t h0)
  unfold stepAt at e
  rw [e]
  unfold hSt hBlk hOut
  iintro %_ ⟨HT, ⟨HS0, HS1, HS2⟩, ⟨H0, H1, H2, H3, H4⟩, H5, H6, H7⟩
  isplitl [HS0 HS1 HS2 Hp HT]
  · iapply (phi_close c V t)
    isplitl [HS0 HS1 HS2]
    · isplitl [HS0]; · iexact HS0
      isplitl [HS1]; · iexact HS1
      iexact HS2
    isplitl [Hp]; · iexact Hp
    iexact HT
  isplitl [Ho]; · iexact Ho
  isplitl [H0]; · iexact H0
  isplitl [H1]; · iexact H1
  isplitl [H2]; · iexact H2
  isplitl [H3]; · iexact H3
  isplitl [H4]; · iexact H4
  isplitl [H5]
  · iapply (leaf c V t (5 : Fin 8) (idle5 _) (flush5 t) d5 _ rfl); iexact H5
  isplitl [H6]
  · iapply (leaf c V t (6 : Fin 8) (idle6 _) (flush6 t) d6 _ rfl); iexact H6
  iapply (leaf c V t (7 : Fin 8) (idle7 _) (flush7 t) d7 _ rfl); iexact H7

end Cert.AttnIdeal.Own
-- ==== Proof.AI.Run.lean ====
/-
  The run of the forward attention: the host lines, the launch, and what the program leaves.
-/
module

public import proofs.«01_k».proof.Proof.AI.Oblig
public import Idealize.ShloMosaic.Lib.Pipeline.FrameSuffix
public import Idealize.ShloMosaic.Lib.StableHlo.RunRead

@[expose] public section

noncomputable section

namespace Cert.AttnIdeal.Own

open Cert.AttnIdeal Cert.AttnIdeal.Gen Cert.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The host lines after the two tables. -/
abbrev rest : List (HloOp τ sig (Elt F)) := (hostOps0 (F := F)).drop 2

/-- What they write. -/
def restW : List (Ref sig .tc) := [main_v0, main_v1]

theorem rest_writes : (rest (F := F)).map HloOp.writes = restW.map fun w => {Proc.devRef (τ := τ) .tc w} := rfl

theorem lines_eq : [hostOps0 (F := F)].flatten = StableHlo.nullary main_c (fun i => lit0 (S36.rowMajor i))
    :: StableHlo.nullary main_c_0 (fun i => lit1 (S36.rowMajor i)) :: rest := rfl

section Entry

variable (m : (ℓ : Loc nD τ sig) → Buf (Elt F) ℓ) (c : Dev nD)

/-- What every buffer holds when the launch begins. -/
def atLaunch : Valuation τ sig (Elt F) := StableHlo.after [hostOps0 (F := F)].flatten (fun b => m (c, b))

/-- An argument is left as it was. -/
theorem atLaunch_arg (r : Ref sig .tc) (h : r ∉ restW) (h0 : r ≠ main_c) (h1 : r ≠ main_c_0) :
    atLaunch m c (Proc.devRef .tc r) = m (c, Proc.devRef .tc r) := by
  unfold atLaunch
  rw [lines_eq, StableHlo.after_cons, StableHlo.after_cons, StableHlo.after_unwritten restW rest_writes h,
    StableHlo.nullary_result_ne _ _ _ _ h1, StableHlo.nullary_result_ne _ _ _ _ h0]

theorem atLaunch_c0 : atLaunch m c (Proc.devRef .tc main_c_0) = (fun i => lit1 (S36.rowMajor i)) := by
  unfold atLaunch
  rw [lines_eq, StableHlo.after_cons, StableHlo.after_cons, StableHlo.after_unwritten restW rest_writes (by decide),
    StableHlo.nullary_result]
  rfl

theorem atLaunch_c : atLaunch m c (Proc.devRef .tc main_c) = (fun i => lit0 (S36.rowMajor i)) := by
  unfold atLaunch
  rw [lines_eq, StableHlo.after_cons, StableHlo.after_cons, StableHlo.after_unwritten restW rest_writes (by decide),
    StableHlo.nullary_result_ne _ _ _ _ (by decide), StableHlo.nullary_result]
  rfl

/-- The same, by reference. -/
def atL (c : Dev nD) : Arrs F c := fun b => atLaunch m c (Proc.devRef .tc b)

end Entry

section Out

variable (m : (ℓ : Loc nD τ sig) → Buf (Elt F) ℓ) (r : PUnit × MemSt nD τ sig (Elt F)) (c : Dev nD)

/-- The launch's own post. -/
abbrev FP : Prop := Pipeline.FramePost (Pipeline.pin (pcfgs (F := F)) aT) (dats fun c => atL m c) 0
  (Pipeline.afterTail pcfgs aT (dats fun c => atL m c) 0 (fun c => atLaunch m c) []) r

/-- A result's array after the launch. -/
abbrev resAt (w : Fin 8) := (dats (fun c => atL m c) 0 c).arrAt w (cfgT (F := F)).N

theorem in0 (h : FP m r) : r.2.mem ((c.tc : Thread nD τ).loc main_arg0) = atL m c main_arg0 :=
  ((h c).1 (0 : Fin 8)).trans (((dats (fun c => atL m c) 0 c).arrAt_in (0 : Fin 8) rfl _))

theorem rest1 : main_arg1 ∈ Pipeline.restRefs sig spec0 := by decide

theorem ne1 : ∀ w, Pipeline.arrRef spec0 w ≠ main_arg1 := by decide

theorem in1 (h : FP m r) : r.2.mem ((c.tc : Thread nD τ).loc main_arg1) = atL m c main_arg1 := by
  refine ((h c).2 main_arg1 rest1).trans ?_
  unfold Pipeline.afterTail
  rw [List.flatten_nil, StableHlo.after_nil]
  exact Pipeline.withArrays_of_ne spec0 c (atLaunch m c) _ main_arg1 ne1

theorem at0 : atL m c main_arg0 = m ((c.tc : Thread nD τ).loc main_arg0) :=
  atLaunch_arg m c main_arg0 (by decide) (by decide) (by decide)

theorem at1 : atL m c main_arg1 = m ((c.tc : Thread nD τ).loc main_arg1) :=
  atLaunch_arg m c main_arg1 (by decide) (by decide) (by decide)

end Out

/-- What the program leaves: the results as the launch's write-backs made them, the arguments as they were, the
    semaphores at rest. -/
def Post (m : (ℓ : Loc nD τ sig) → Buf (Elt F) ℓ) (r : PUnit × MemSt nD τ sig (Elt F)) : Prop :=
  (∀ c : Dev nD, r.2.mem ((c.tc : Thread nD τ).loc main_v2_0) = resAt m c (5 : Fin 8)
    ∧ r.2.mem ((c.tc : Thread nD τ).loc main_v2_1) = resAt m c (6 : Fin 8)
    ∧ r.2.mem ((c.tc : Thread nD τ).loc main_v2_2) = resAt m c (7 : Fin 8)
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

theorem post_of (m : (ℓ : Loc nD τ sig) → Buf (Elt F) ℓ) (r : PUnit × MemSt nD τ sig (Elt F)) (h : FP m r)
    (hs : r.2.sem = fun _ => 0) : Post m r :=
  ⟨fun c => ⟨(h c).1 (5 : Fin 8), (h c).1 (6 : Fin 8), (h c).1 (7 : Fin 8), (in0 m r c h).trans (at0 m c), (in1 m r c h).trans (at1 m c)⟩, hs⟩

/-- The invariant at the first point. -/
theorem hin (c : Dev nD) (V : Arrs F c) :
    iprop((Pipeline.ΦA spec0 c : sProp (MT nD τ sig Unit (Elt F) ℕ (UR sig nD τ) ℕ)) ∗ Pipeline.ΦT pre0 pfT c) ⊢ (dat c V).Φ 0 := by
  show _ ⊢ PhiS c V 0
  unfold PhiS Pipeline.ΦA
  rw [scopedRest0_eq]
  simp only [owns_whole]
  iintro ⟨⟨⟨⟨%d0, H0⟩, ⟨%d1, H1⟩, ⟨%d2, H2⟩⟩, Hp⟩, HT⟩
  isplitl [H0 H1 H2]
  · iexists d0, d1, d2
    isplitr; · ipureintro; exact fun h => absurd rfl h
    isplitl [H0]; · iexact H0
    isplitl [H1]; · iexact H1
    iexact H2
  isplitl [Hp]; · iexact Hp
  iexact HT

/-- The invariant after the last. -/
theorem hout (c : Dev nD) (V : Arrs F c) :
    (dat c V).Φ (Fin.last grid0.N) ⊢ (Pipeline.ΦA spec0 c : sProp (MT nD τ sig Unit (Elt F) ℕ (UR sig nD τ) ℕ)) := by
  show PhiS c V grid0.N ⊢ _
  unfold PhiS Pipeline.ΦA
  rw [scopedRest0_eq]
  simp only [owns_whole]
  iintro ⟨⟨%d0, %d1, %d2, %h, H0, H1, H2⟩, Hp, HT⟩
  isplitl [H0 H1 H2]
  · isplitl [H0]; · iexists d0; iexact H0
    isplitl [H1]; · iexists d1; iexact H1
    iexists d2; iexact H2
  iexact Hp

/-- The run. -/
theorem run (m : (ℓ : Loc nD τ sig) → Buf (Elt F) ℓ) (g : Dev nD → PrngReg) :
    θ_run (defs (F := F)) (onTc (τ := τ) (main (F := F))) ⟨m, fun _ => 0, g⟩ (Post m) := by
  refine Pipeline.θ_run_frameP_around_track_shared (pcfgs (F := F)) aT (dats fun c => atL m c) 0 launch₀0 (defs₀ (F := F)) 𝒱₀ m g (main (F := F))
    (fun c => hbody c _) (fun c w h => rfl) (fun c t => rfl) (fun c => atLaunch m c) []
    (fun _ h => absurd h List.not_mem_nil) (fun _ h => absurd h List.not_mem_nil) (fun _ h => absurd h List.not_mem_nil)
    (Pipeline.hmainP_around (pcfgs (F := F)) 0 (defs₀ (F := F)) 𝒱₀ m (main (F := F)) [hostOps0] []
      hostOps0_sub ?_ main_chain)
    (fun c w => rfl) (fun c k => ?_) (fun c => hin c _) (fun c => hout c _) (Post m) (fun r h => ?_)
  · exact StableHlo.forall_fresh_of_map rfl
  · match k with
    | 0 => exact atLaunch_c m c
    | 1 => exact atLaunch_c0 m c
  · exact post_of m r h.1 h.2

/-- The program ends and leaves its arguments and every semaphore as they were. -/
theorem quiescent (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun _ h => ⟨fun c => (h.1 c).2.2.2, h.2⟩) (run m g)

end Cert.AttnIdeal.Own
-- ==== Proof.AI.Sched.lean ====
/-
  The schedule in numbers: a point's head, query tile and key tile, what its conditions mean, and where its blocks lie.
-/
module

public import proofs.«01_k».proof.Proof.AI.Traj
public import Idealize.ShloMosaic.Lib.Pipeline.ValueKit

@[expose] public section

noncomputable section

namespace Cert.AttnIdeal.Own

open Cert.AttnIdeal Cert.AttnIdeal.Gen Cert.Own
open Idealize.ShloMosaic Idealize.ShloMosaic.TcCoe

/-- A point's head, query tile and key tile. -/
def hh (t : Fin grid0.N) : ℕ := t.val / 36
def ti (t : Fin grid0.N) : ℕ := (wI (grid0.coords t)).toNat
def tj (t : Fin grid0.N) : ℕ := (wJ (grid0.coords t)).toNat

set_option maxRecDepth 100000 in
theorem bounds : ∀ t : Fin grid0.N, hh t < 8 ∧ ti t < 8 ∧ tj t ≤ ti t := by decide +kernel

set_option maxRecDepth 100000 in
/-- What the body's conditions mean. -/
theorem conds : ∀ t : Fin grid0.N, (condZ (wJ (grid0.coords t)) ↔ tj t = 0)
    ∧ (condL (wI (grid0.coords t)) (wJ (grid0.coords t)) ↔ tj t < ti t)
    ∧ (k0_cond3 (wI (grid0.coords t)) (wJ (grid0.coords t)) = 1#1 ↔ ti t = tj t) := by decide +kernel

set_option maxRecDepth 100000 in
/-- A query tile's first key tile is the first; -/
theorem row_start : ∀ t : Fin grid0.N, t.val = 0 → tj t = 0 := by decide +kernel

set_option maxRecDepth 100000 in
/-- and from there it goes along the row. -/
theorem row_step : ∀ t : Fin grid0.N, ∀ h : t.val + 1 < grid0.N, ¬ tj ⟨t.val + 1, h⟩ = 0 → hh ⟨t.val + 1, h⟩ = hh t ∧
    ti ⟨t.val + 1, h⟩ = ti t ∧ tj ⟨t.val + 1, h⟩ = tj t + 1 := by decide +kernel

set_option maxRecDepth 100000 in
/-- Where the blocks lie. -/
theorem ixI : ∀ t : Fin grid0.N,
    ((cfgT (F := Ideal)).win (0 : Fin 8)).index t = ![ti t, hh t] ∧ ((cfgT (F := Ideal)).win (1 : Fin 8)).index t = ![tj t, 8 + hh t]
      ∧ ((cfgT (F := Ideal)).win (2 : Fin 8)).index t = ![tj t, 16 + hh t] ∧ ((cfgT (F := Ideal)).win (3 : Fin 8)).index t = ![hh t, 0, tj t]
      ∧ ((cfgT (F := Ideal)).win (4 : Fin 8)).index t = ![ti t, 24 + hh t] := by decide +kernel

set_option maxRecDepth 100000 in
theorem ixO : ∀ t : Fin grid0.N,
    ((cfgT (F := Ideal)).win (5 : Fin 8)).index t = ![ti t, hh t] ∧ ((cfgT (F := Ideal)).win (6 : Fin 8)).index t = ![hh t, ti t, 0]
      ∧ ((cfgT (F := Ideal)).win (7 : Fin 8)).index t = ![ti t, hh t] := by
  decide +kernel

set_option maxRecDepth 100000 in
theorem cov5 : ((cfgT (F := Ideal)).win (5 : Fin 8)).Covers := by decide +kernel
set_option maxRecDepth 100000 in
theorem cov6 : ((cfgT (F := Ideal)).win (6 : Fin 8)).Covers := by decide +kernel
set_option maxRecDepth 100000 in
theorem cov7 : ((cfgT (F := Ideal)).win (7 : Fin 8)).Covers := by decide +kernel

end Cert.AttnIdeal.Own
-- ==== Proof.Online.lean ====
/-
  A query's softmax taken one tile of keys at a time, in powers of two: the greatest logit so far, the sum of the
  exponentials shifted by it, and the values weighted by them. When every key has been seen their quotient is the
  attention's output, and their logarithm that of the sum of all exponentials.
-/
module

public import proofs.«01_k».proof.Proof.Lits

@[expose] public section

noncomputable section

namespace Cert.Own

open Finset Idealize.ShloMosaic

theorem log2_ne : Real.log 2 ≠ 0 := (Real.log_pos (by norm_num)).ne'

/-- A power of two, as an exponential. -/
theorem exp2_real (x : ℝ) : Ideal.exp2 (x : EReal) = ((Real.exp (x * Real.log 2) : ℝ) : EReal) := by
  rw [Ideal.exp2_coe, Real.rpow_eq_pow, Real.rpow_def_of_pos (by norm_num), mul_comm]

namespace Head

variable (H : Head)

/-- The output of a query, in one column of the values. -/
def out (t d : ℕ) : ℝ := ∑ s ∈ range 8192, H.v s d * H.p t s

/-- A masked logit, base two. -/
def lg2 (t s : ℕ) : EReal := if s ≤ t then ((H.lg t s * (Real.log 2)⁻¹ : ℝ) : EReal) else ⊥

theorem exp2_lg2 (t s : ℕ) (M : ℝ) : Ideal.exp2 (H.lg2 t s - (M : EReal)) = ((Real.exp (-M * Real.log 2) * H.ez t s : ℝ) : EReal) := by
  unfold lg2 ez
  split_ifs
  · rw [← EReal.coe_sub, exp2_real, ← Real.exp_add]
    congr 2
    field_simp [log2_ne]
    ring
  · rw [EReal.bot_sub, Ideal.exp2_bot, mul_zero]; rfl

/-- What a query carries once the first `n` keys have been seen: the greatest logit `m`, the sum `l` and the weighted
    values `a`. -/
def Part (t n : ℕ) (m l : EReal) (a : ℕ → EReal) : Prop :=
  (n = 0 ∧ m = ⊥ ∧ l = 0 ∧ ∀ d < 128, a d = 0)
  ∨ ∃ M : ℝ, m = (M : EReal) ∧ l = ((Real.exp (-M * Real.log 2) * ∑ s ∈ range n, H.ez t s : ℝ) : EReal)
    ∧ ∀ d < 128, a d = ((Real.exp (-M * Real.log 2) * ∑ s ∈ range n, H.ez t s * H.v s d : ℝ) : EReal)

variable {H} {t n : ℕ} {m l : EReal} {a : ℕ → EReal}

theorem Part.lt_top (P : H.Part t n m l a) : m < ⊤ := by
  obtain ⟨_, rfl, _⟩ | ⟨M, rfl, _⟩ := P
  · exact bot_lt_top
  · exact EReal.coe_lt_top M

theorem rescale (M M' x : ℝ) : Ideal.exp2 ((M : EReal) - (M' : EReal)) * ((Real.exp (-M * Real.log 2) * x : ℝ) : EReal)
    = ((Real.exp (-M' * Real.log 2) * x : ℝ) : EReal) := by
  rw [← EReal.coe_sub, exp2_real, ← EReal.coe_mul, ← mul_assoc, ← Real.exp_add]
  congr 3
  ring_nf

/-- Another shift. -/
theorem Part.shift (P : H.Part t n m l a) (M' : ℝ) :
    Ideal.exp2 (m - (M' : EReal)) * l = ((Real.exp (-M' * Real.log 2) * ∑ s ∈ range n, H.ez t s : ℝ) : EReal)
    ∧ ∀ d < 128, Ideal.exp2 (m - (M' : EReal)) * a d = ((Real.exp (-M' * Real.log 2) * ∑ s ∈ range n, H.ez t s * H.v s d : ℝ) : EReal) := by
  obtain ⟨rfl, rfl, rfl, h⟩ | ⟨M, rfl, rfl, h⟩ := P
  · refine ⟨?_, fun d hd => ?_⟩
    · rw [mul_zero, range_zero, sum_empty, mul_zero, EReal.coe_zero]
    · rw [h d hd, mul_zero, range_zero, sum_empty, mul_zero, EReal.coe_zero]
  · exact ⟨rescale _ _ _, fun d hd => by rw [h d hd]; exact rescale _ _ _⟩

/-- One more tile of keys. -/
theorem Part.add (P : H.Part t n m l a) (M' : ℝ) :
    H.Part t (n + 1024) (M' : EReal)
      (Ideal.exp2 (m - (M' : EReal)) * l + ((∑ x ∈ range 1024, Real.exp (-M' * Real.log 2) * H.ez t (n + x) : ℝ) : EReal))
      (fun d => Ideal.exp2 (m - (M' : EReal)) * a d
        + ((∑ x ∈ range 1024, Real.exp (-M' * Real.log 2) * H.ez t (n + x) * H.v (n + x) d : ℝ) : EReal)) := by
  obtain ⟨h1, h2⟩ := P.shift M'
  refine .inr ⟨M', rfl, ?_, fun d hd => ?_⟩
  · rw [h1, ← EReal.coe_add, sum_range_add, mul_add, mul_sum]
    exact congrArg (fun w : ℝ => ((_ + w : ℝ) : EReal)) (mul_sum _ _ _).symm
  · show Ideal.exp2 (m - (M' : EReal)) * a d + _ = _
    rw [h2 d hd, ← EReal.coe_add, sum_range_add, mul_add, mul_sum (range 1024)]
    exact congrArg (fun w : ℝ => ((_ + w : ℝ) : EReal)) (sum_congr rfl fun x _ => mul_assoc _ _ _)

/-- Once the query's own key has been seen, nothing is left to add. -/
theorem sum_seen (h : t < n) (hn : n ≤ 8192) (f : ℕ → ℝ) :
    ∑ s ∈ range n, H.ez t s * f s = ∑ s ∈ range 8192, H.ez t s * f s := by
  refine sum_subset (range_mono hn) fun s _ hs => ?_
  rw [mem_range] at hs
  unfold ez
  rw [if_neg (by omega), zero_mul]

theorem z_seen (h : t < n) (hn : n ≤ 8192) : ∑ s ∈ range n, H.ez t s = H.z t := by
  have e := sum_seen (H := H) h hn fun _ => 1
  simp only [mul_one] at e
  exact e

/-- The quotient is the output, -/
theorem Part.quot (P : H.Part t n m l a) (h : t < n) (hn : n ≤ 8192) {d : ℕ} (hd : d < 128) :
    Ideal.div (a d) l = ((H.out t d : ℝ) : EReal) := by
  obtain ⟨rfl, _⟩ | ⟨M, _, rfl, h'⟩ := P
  · omega
  have hz := H.z_pos (show t < 8192 by omega)
  rw [h' d hd, z_seen h hn, sum_seen h hn, div_real (mul_pos (Real.exp_pos _) hz).ne', mul_div_mul_left _ _ (Real.exp_ne_zero _)]
  refine congrArg Real.toEReal ?_
  unfold out p
  rw [sum_div]
  exact sum_congr rfl fun s _ => by ring

/-- and the logarithm that of the sum. -/
theorem Part.logs (P : H.Part t n m l a) (h : t < n) (hn : n ≤ 8192) :
    m + Ideal.log l * (((Real.log 2)⁻¹ : ℝ) : EReal) = ((Real.log (H.z t) / Real.log 2 : ℝ) : EReal) := by
  obtain ⟨rfl, _⟩ | ⟨M, rfl, rfl, _⟩ := P
  · omega
  have hz := H.z_pos (show t < 8192 by omega)
  rw [z_seen h hn, Ideal.log_coe, if_neg (not_le.mpr (mul_pos (Real.exp_pos _) hz)), ← EReal.coe_mul, ← EReal.coe_add,
    Real.log_mul (Real.exp_ne_zero _) hz.ne', Real.log_exp]
  refine congrArg Real.toEReal ?_
  field_simp [log2_ne]
  ring

/-- The saved logarithm does not depend on the shift. -/
theorem lse_eq (H : Head) (M : ℕ → ℝ) {t : ℕ} (ht : t < 8192) : H.lse M t = Real.log (H.z t) := by
  unfold lse
  rw [zs_eq, Real.log_mul (Real.exp_ne_zero _) (H.z_pos ht).ne', Real.log_exp]
  ring

end Head

end Cert.Own
-- ==== Proof.AI.Pay.lean ====
/-
  What one grid point computes, in the reals: a tile of logits, and what taking it into account makes of the greatest logit,
  of the sum and of the weighted values.
-/
module

public import proofs.«01_k».proof.Proof.AI.Step
public import proofs.«01_k».proof.Proof.Heads
public import proofs.«01_k».proof.Proof.Online
public import Idealize.ShloMosaic.Lib.Pipeline.Value
public import Idealize.ShloMosaic.Lib.ValueIdx

@[expose] public section

noncomputable section

namespace Cert.AttnIdeal.Own

open Cert.AttnIdeal Cert.AttnIdeal.Gen Cert.Own
open Idealize.ShloMosaic Idealize.ShloMosaic.TcCoe

open Finset

/-! ## Products of matrices read at an index -/

abbrev dA := dot_S1024x128_S1024x128_S1024x1024_1_1_0_0_n_n
abbrev dB := dot_S1024x1024_S1024x128_S1024x128_1_0_0_1_n_n

theorem lA0 (i : S1024x1024.Idx) (q : dA.contr.Idx) : (dA.lhsIdx i q 0).val = (i 0).val := by
  unfold DotDims.lhsIdx
  rw [dif_neg (show ¬(0 : Fin S1024x128.rank) ∈ dA.lhsBatch by decide), dif_pos (show (0 : Fin S1024x128.rank) ∈ dA.lhsNonContracting by decide)]
  rfl
theorem rA0 (i : S1024x1024.Idx) (q : dA.contr.Idx) : (dA.rhsIdx i q 0).val = (i 1).val := by
  unfold DotDims.rhsIdx
  rw [dif_neg (show ¬(0 : Fin S1024x128.rank) ∈ dA.rhsBatch by decide), dif_pos (show (0 : Fin S1024x128.rank) ∈ dA.rhsNonContracting by decide)]
  rfl
theorem lB0 (i : S1024x128.Idx) (q : dB.contr.Idx) : (dB.lhsIdx i q 0).val = (i 0).val := by
  unfold DotDims.lhsIdx
  rw [dif_neg (show ¬(0 : Fin S1024x1024.rank) ∈ dB.lhsBatch by decide), dif_pos (show (0 : Fin S1024x1024.rank) ∈ dB.lhsNonContracting by decide)]
  rfl
theorem rB1 (i : S1024x128.Idx) (q : dB.contr.Idx) : (dB.rhsIdx i q 1).val = (i 1).val := by
  unfold DotDims.rhsIdx
  rw [dif_neg (show ¬(1 : Fin S1024x128.rank) ∈ dB.rhsBatch by decide), dif_pos (show (1 : Fin S1024x128.rank) ∈ dB.rhsNonContracting by decide)]
  rfl

/-- Rows against rows. -/
theorem matA {φ₁ φ₂ : FTy} (a : FVec Ideal S1024x128 φ₁) (b : FVec Ideal S1024x128 φ₂) (f g : ℕ → ℕ → ℝ)
    (ha : ∀ y, a y = (f (y 0).val (y 1).val : EReal)) (hb : ∀ y, b y = (g (y 0).val (y 1).val : EReal)) (i : S1024x1024.Idx) :
    FloatOps.matmul dA none a b (constant S1024x1024 .f32 0x00000000#32) i
      = ((∑ d ∈ range 128, f (i 0).val d * g (i 1).val d : ℝ) : EReal) := by
  rw [Ideal.matmul_constant_zero_apply, ← coe_sum_fin, ← Equiv.sum_comp (ValueIdx.contrEquiv1 dA 128 rfl rfl).symm]
  refine sum_congr rfl fun k _ => ?_
  have hk := ValueIdx.contrEquiv1_symm_val dA 128 rfl rfl k
  rw [ha, hb, ← EReal.coe_mul, lA0, rA0, dA.lhsIdx_val_of_single rfl i _, dA.rhsIdx_val_of_single rfl i _]
  exact congrArg (fun n => ((f (i 0).val n * g (i 1).val n : ℝ) : EReal)) hk

/-- Rows against columns. -/
theorem matB {φ₁ φ₂ : FTy} (a : FVec Ideal S1024x1024 φ₁) (b : FVec Ideal S1024x128 φ₂) (f g : ℕ → ℕ → ℝ)
    (ha : ∀ y, a y = (f (y 0).val (y 1).val : EReal)) (hb : ∀ y, b y = (g (y 0).val (y 1).val : EReal)) (i : S1024x128.Idx) :
    FloatOps.matmul dB none a b (constant S1024x128 .f32 0x00000000#32) i
      = ((∑ x ∈ range 1024, f (i 0).val x * g x (i 1).val : ℝ) : EReal) := by
  rw [Ideal.matmul_constant_zero_apply, ← coe_sum_fin, ← Equiv.sum_comp (ValueIdx.contrEquiv1 dB 1024 rfl rfl).symm]
  refine sum_congr rfl fun k _ => ?_
  have hk := ValueIdx.contrEquiv1_symm_val dB 1024 rfl rfl k
  rw [ha, hb, ← EReal.coe_mul, lB0, rB1, dB.lhsIdx_val_of_single rfl i _, dB.rhsIdx_val_of_single rfl i _]
  exact congrArg (fun n => ((f (i 0).val n * g n (i 1).val : ℝ) : EReal)) hk

/-! ## Layout -/

/-- An entry of a column, and of a tile. -/
abbrev cx (r : ℕ) : S1024x1.Idx := ix2 1024 1 (by decide) (by decide) r 0
abbrev tx (r d : ℕ) : S1024x128.Idx := ix2 1024 128 (by decide) (by decide) r d

theorem row_apply (x : FVec Ideal S1x1024 .f32) (i : S1024x1024.Idx) :
    broadcastTo S1024x1024 x broadcasts_S1x1024_S1024x1024 i = x (ix2 1 1024 (by decide) (by decide) 0 (i 1).val) :=
  broadcastTo_apply x _ i _ fun a => match a with
    | ⟨0, _⟩ => rfl
    | ⟨1, _⟩ => Nat.mod_eq_of_lt (i 1).isLt
theorem col_apply (x : FVec Ideal S1024x1 .f32) (i : S1024x1024.Idx) :
    broadcastTo S1024x1024 x broadcasts_S1024x1_S1024x1024 i = x (cx (i 0).val) :=
  broadcastTo_apply x _ i _ fun a => match a with
    | ⟨0, _⟩ => Nat.mod_eq_of_lt (i 0).isLt
    | ⟨1, _⟩ => rfl
theorem wide_apply (x : FVec Ideal S1024x1 .f32) (i : S1024x128.Idx) :
    broadcastTo S1024x128 x broadcasts_S1024x1_S1024x128 i = x (cx (i 0).val) :=
  broadcastTo_apply x _ i _ fun a => match a with
    | ⟨0, _⟩ => Nat.mod_eq_of_lt (i 0).isLt
    | ⟨1, _⟩ => rfl
theorem rowCast_apply (x : Vec Ideal S1x1x1024 .f32) (g : ℕ → ℝ) (hx : ∀ y, x y = (g (y 2).val : EReal)) (i : S1x1024.Idx) :
    shapeCast S1x1024 x shapeCasts_S1x1x1024_S1x1024 i = (g (i 1).val : EReal) := by
  refine (shapeCast_apply x _ i (fun a => match a with | ⟨0, _⟩ => ⟨0, Nat.one_pos⟩ | ⟨1, _⟩ => ⟨0, Nat.one_pos⟩ | ⟨2, _⟩ => ⟨(i 1).val, (i 1).isLt⟩) ?_).trans (hx _)
  rw [Shape.rowMajor_val_two, Shape.rowMajor_val_three]
  have h0 : (i 0).val < 1 := (i 0).isLt
  show (0 * 1 + 0) * 1024 + (i 1).val = (i 0).val * 1024 + (i 1).val
  omega
theorem colUncast_apply (x : FVec Ideal S1024x1 .f32) (i : S1x1024x1.Idx) :
    shapeCast S1x1024x1 x shapeCasts_S1024x1_S1x1024x1 i = x (cx (i 1).val) := by
  refine shapeCast_apply x _ i _ ?_
  rw [Shape.rowMajor_val_two, Shape.rowMajor_val_three]
  have h0 : (i 0).val < 1 := (i 0).isLt
  have h1 : (i 1).val < 1024 := (i 1).isLt
  have h2 : (i 2).val < 1 := (i 2).isLt
  show (i 1).val % 1024 * 1 + 0 % 1 = ((i 0).val * 1024 + (i 1).val) * 1 + (i 2).val
  omega
theorem sameT (x : FVec Ideal S1024x128 .f32) (i : S1024x128.Idx) : shapeCast S1024x128 x shapeCasts_S1024x128_S1024x128 i = x i :=
  shapeCast_apply x _ i i rfl
theorem sameC (x : FVec Ideal S1024x1 .f32) (i : S1024x1.Idx) : shapeCast S1024x1 x shapeCasts_S1024x1_S1024x1 i = x i :=
  shapeCast_apply x _ i i rfl
/-- A row of a vector, as an entry of a column. -/
abbrev vx (i : S1024x1.Idx) : S1024.Idx := fun a => match a with | ⟨0, _⟩ => ⟨(i 0).val, (i 0).isLt⟩
theorem newCol_apply (x : FVec Ideal S1024 .f32) (i : S1024x1.Idx) :
    shapeCast S1024x1 x shapeCasts_S1024_S1024x1 i = x (vx i) := by
  refine shapeCast_apply x _ i _ ?_
  rw [Shape.rowMajor_val_one, Shape.rowMajor_val_two]
  have h1 : (i 1).val < 1 := (i 1).isLt
  show (i 0).val = (i 0).val * 1 + (i 1).val
  omega
/-- A row's sum, and its greatest entry. -/
theorem rowSum_apply (x : FVec Ideal S1024x1024 .f32) (f : ℕ → ℕ → ℝ) (hx : ∀ y, x y = (f (y 0).val (y 1).val : EReal)) (i : S1024.Idx) :
    multiReduction .add [1] S1024 x 0x00000000#32 reduces_S1024x1024_S1024 (.inl rfl) rfl i
      = ((∑ k ∈ range 1024, f (i 0).val k : ℝ) : EReal) := by
  refine (Ideal.multiReduction_add_single x _ _ _ _ i).trans ?_
  refine Eq.trans (sum_congr rfl fun k _ => hx _) ?_
  exact coe_sum_fin 1024 fun k => f (i 0).val k
theorem rowMax_real (x : FVec Ideal S1024x1024 .f32) (i : S1024.Idx) (ht : ∀ y, x y < ⊤) (hb : ∀ y : S1024x1024.Idx, (y 0).val = (i 0).val → (y 1).val = 0 → ⊥ < x y) :
    ∃ M : ℝ, multiReduction .maximumf [1] S1024 x 0xFF800000#32 reduces_S1024x1024_S1024 (.inl rfl) rfl i = (M : EReal) := by
  refine ⟨(univ.fold max ⊥ (x ∘ reduces_S1024x1024_S1024.lift i) : EReal).toReal, (Ideal.multiReduction_maximumf_single x _ _ _ _ i).trans ?_⟩
  rw [Ideal.ofBits_def, lit_bot]
  exact (fold_max_real _ _ (fun k _ => ht _) ⟨⟨0, by decide⟩, mem_univ _, hb _ rfl rfl⟩).symm

/-! ## A tile of logits taken into account -/

/-- The new greatest logits, the tile's exponentials shifted by them, and the factor for what was there. -/
def mNew (x : FVec Ideal S1024x1024 .f32) (m : FVec Ideal S1024x1 .f32) : FVec Ideal S1024x1 .f32 :=
  maximumf m (shapeCast S1024x1 (multiReduction .maximumf [1] S1024 x 0xFF800000#32 reduces_S1024x1024_S1024 (.inl rfl) rfl) shapeCasts_S1024_S1024x1)
def pNew (x : FVec Ideal S1024x1024 .f32) (m : FVec Ideal S1024x1 .f32) : FVec Ideal S1024x1024 .f32 :=
  exp2 (subf x (broadcastTo S1024x1024 (mNew x m) broadcasts_S1024x1_S1024x1024))
def fac (x : FVec Ideal S1024x1024 .f32) (m : FVec Ideal S1024x1 .f32) : FVec Ideal S1024x1 .f32 := exp2 (subf m (mNew x m))

/-- The new sums, and the new weighted values. -/
def lNew (x : FVec Ideal S1024x1024 .f32) (m l : FVec Ideal S1024x1 .f32) : FVec Ideal S1024x1 .f32 :=
  addf (mulf (fac x m) l) (shapeCast S1024x1 (multiReduction .add [1] S1024 (pNew x m) 0x00000000#32
    reduces_S1024x1024_S1024 (.inl rfl) rfl) shapeCasts_S1024_S1024x1)
/-- The exponentials' low parts. -/
def pLow (x : FVec Ideal S1024x1024 .f32) (m : FVec Ideal S1024x1 .f32) : FVec Ideal S1024x1024 .f32 :=
  subf (pNew x m) (extf .f32 (truncf .bf16 (pNew x m) bitsLt_bf16_f32) bitsLt_bf16_f32)
def aNew (x : FVec Ideal S1024x1024 .f32) (v : FVec Ideal S1024x128 .f32) (m : FVec Ideal S1024x1 .f32) (a : FVec Ideal S1024x128 .f32) : FVec Ideal S1024x128 .f32 :=
  addf (mulf (broadcastTo S1024x128 (fac x m) broadcasts_S1024x1_S1024x128) a)
    (addf (FloatOps.matmul dB none (truncf .bf16 (pNew x m) bitsLt_bf16_f32) (truncf .bf16 v bitsLt_bf16_f32) (constant S1024x128 .f32 0x00000000#32))
      (FloatOps.matmul dB none (truncf .bf16 (pLow x m) bitsLt_bf16_f32) (truncf .bf16 v bitsLt_bf16_f32) (constant S1024x128 .f32 0x00000000#32)))

/-- The step from a tile of logits. -/
def upd (x : FVec Ideal S1024x1024 .f32) (v : FVec Ideal S1024x128 .f32) (s : St Ideal) : St Ideal where
  m := shapeCast S1024x1 (mNew x s.m) shapeCasts_S1024x1_S1024x1
  l := shapeCast S1024x1 (lNew x s.m s.l) shapeCasts_S1024x1_S1024x1
  a := shapeCast S1024x128 (aNew x v s.m s.a) shapeCasts_S1024x128_S1024x128

theorem stepU_eq (b : Blk Ideal) (s : St Ideal) : stepU b s = upd (k0_pay7 b.q b.k b.c) b.v s := rfl
theorem stepD_eq (b : Blk Ideal) (s : St Ideal) : stepD b s = upd (k0_pay16 b.q b.k b.c) b.v s := rfl

/-- The rows of query tile `i` once the first `n` keys have been seen. -/
def Rows (H : Head) (i n : ℕ) (s : St Ideal) : Prop :=
  ∀ r < 1024, H.Part (1024 * i + r) n (s.m (cx r)) (s.l (cx r)) (fun d => s.a (tx r d))

variable {H : Head} {i j : ℕ}

section Upd

variable {x : FVec Ideal S1024x1024 .f32} (hx : ∀ y, x y = H.lg2 (1024 * i + (y 0).val) (1024 * j + (y 1).val)) (hij : j ≤ i)
variable {s : St Ideal} (hs : Rows H i (1024 * j) s)
include hx hij hs

/-- The new greatest logit of a row is a real. -/
theorem mNew_real (r : ℕ) (hr : r < 1024) : ∃ M : ℝ, mNew x s.m (cx r) = (M : EReal) := by
  have e : (vx (cx r) 0).val = r := Nat.mod_eq_of_lt hr
  obtain ⟨M, hM⟩ := rowMax_real x (vx (cx r)) (fun y => by rw [hx]; unfold Head.lg2; split_ifs; exacts [EReal.coe_lt_top _, bot_lt_top])
    (fun y h0 h1 => by rw [hx]; unfold Head.lg2; rw [if_pos (by omega)]; exact EReal.bot_lt_coe _)
  have ht := (hs r hr).lt_top
  have e' : mNew x s.m (cx r) = max (s.m (cx r)) ((M : ℝ) : EReal) := by
    refine congrArg (max (s.m (cx r))) ((newCol_apply _ _).trans hM)
  rw [e']
  refine ⟨_, (EReal.coe_toReal ?_ ?_).symm⟩
  · exact ne_of_lt (max_lt ht (EReal.coe_lt_top _))
  · exact ne_of_gt (lt_of_lt_of_le (EReal.bot_lt_coe M) (le_max_right _ _))

/-- The tile's part is added to every row. -/
theorem upd_rows {v : FVec Ideal S1024x128 .f32} (hv : ∀ y, v y = (H.v (1024 * j + (y 0).val) (y 1).val : EReal)) :
    Rows H i (1024 * (j + 1)) (upd x v s) := by
  have hM : ∀ r, ∃ M : ℝ, r < 1024 → mNew x s.m (cx r) = (M : EReal) := fun r => by
    by_cases hr : r < 1024
    · exact (mNew_real hx hij hs r hr).imp fun _ h _ => h
    · exact ⟨0, fun h => absurd h hr⟩
  choose M hM using hM
  have hp : ∀ y, pNew x s.m y = ((Real.exp (-M (y 0).val * Real.log 2) * H.ez (1024 * i + (y 0).val) (1024 * j + (y 1).val) : ℝ) : EReal) := fun y => by
    have e : pNew x s.m y = Ideal.exp2 (x y - broadcastTo S1024x1024 (mNew x s.m) broadcasts_S1024x1_S1024x1024 y) := rfl
    rw [e, col_apply, hM _ (y 0).isLt, hx]
    exact H.exp2_lg2 _ _ _
  have hf : ∀ r < 1024, fac x s.m (cx r) = Ideal.exp2 (s.m (cx r) - ((M r : ℝ) : EReal)) := fun r hr => by
    have e : fac x s.m (cx r) = Ideal.exp2 (s.m (cx r) - mNew x s.m (cx r)) := rfl
    rw [e, hM r hr]
  have hlo : ∀ y, pLow x s.m y = ((0 : ℝ) : EReal) := fun y => by
    have e : pLow x s.m y = (pNew x s.m y - pNew x s.m y : EReal) := rfl
    rw [e, hp, ← EReal.coe_sub, sub_self]
  intro r hr
  have P := (hs r hr).add (M r)
  have er : (cx r 0).val = r := Nat.mod_eq_of_lt hr
  have hm : (upd x v s).m (cx r) = ((M r : ℝ) : EReal) := (sameC _ _).trans (hM r hr)
  have hl : (upd x v s).l (cx r) = Ideal.exp2 (s.m (cx r) - ((M r : ℝ) : EReal)) * s.l (cx r)
      + ((∑ k ∈ range 1024, Real.exp (-M r * Real.log 2) * H.ez (1024 * i + r) (1024 * j + k) : ℝ) : EReal) := by
    refine (sameC (lNew x s.m s.l) (cx r)).trans ?_
    show (fac x s.m (cx r) * s.l (cx r) + shapeCast S1024x1 _ shapeCasts_S1024_S1024x1 (cx r) : EReal) = _
    refine congrArg₂ (fun a b : EReal => a + b) (congrArg (fun a : EReal => a * s.l (cx r)) (hf r hr)) ?_
    refine (newCol_apply _ _).trans ((rowSum_apply _ (fun a k => Real.exp (-M a * Real.log 2) * H.ez (1024 * i + a) (1024 * j + k)) hp _).trans ?_)
    rw [show (vx (cx r) 0).val = r from er]
  have ha : ∀ d < 128, (upd x v s).a (tx r d) = Ideal.exp2 (s.m (cx r) - ((M r : ℝ) : EReal)) * s.a (tx r d)
      + ((∑ k ∈ range 1024, Real.exp (-M r * Real.log 2) * H.ez (1024 * i + r) (1024 * j + k) * H.v (1024 * j + k) d : ℝ) : EReal) := fun d hd => by
    have e0 : (tx r d 0).val = r := er
    have e1 : (tx r d 1).val = d := Nat.mod_eq_of_lt hd
    refine (sameT (aNew x v s.m s.a) (tx r d)).trans ?_
    show ((broadcastTo S1024x128 (fac x s.m) broadcasts_S1024x1_S1024x128 (tx r d) : EReal) * s.a (tx r d) + _ : EReal) = _
    refine congrArg₂ (fun a b : EReal => a + b) (congrArg (fun a : EReal => a * s.a (tx r d)) ?_) ?_
    · rw [wide_apply, e0]
      exact hf r hr
    · refine (congrArg₂ (fun a b : EReal => a + b)
        (matB (φ₁ := .bf16) (φ₂ := .bf16) (pNew x s.m) v (fun a k => Real.exp (-M a * Real.log 2) * H.ez (1024 * i + a) (1024 * j + k)) (fun k d => H.v (1024 * j + k) d) hp hv (tx r d))
        (matB (φ₁ := .bf16) (φ₂ := .bf16) (pLow x s.m) v (fun _ _ => 0) (fun k d => H.v (1024 * j + k) d) hlo hv (tx r d))).trans ?_
      rw [e0, e1, ← EReal.coe_add]
      simp only [zero_mul, sum_const_zero, add_zero]
  unfold Head.Part at P ⊢
  rw [hm, hl, Nat.mul_succ]
  obtain ⟨h, _⟩ | ⟨M', h1, h2, h3⟩ := P
  · omega
  · exact .inr ⟨M', h1, h2, fun d hd => (ha d hd).trans (h3 d hd)⟩

end Upd

/-! ## The tiles of logits -/

/-- The blocks hold the rows of query tile `i` and key tile `j` of a head. -/
structure Rd (b : Blk Ideal) (H : Head) (i j : ℕ) : Prop where
  q : ∀ y, b.q y = (H.q (1024 * i + (y 0).val) (y 1).val : EReal)
  k : ∀ y, b.k y = (H.k (1024 * j + (y 0).val) (y 1).val : EReal)
  v : ∀ y, b.v y = (H.v (1024 * j + (y 0).val) (y 1).val : EReal)
  c : ∀ y, b.c y = (H.c (1024 * j + (y 2).val) : EReal)

theorem named_log2e : Named.named (F := Ideal) κ "log2e" (φ := .f32) 0x3FB8AA3B#32 = (((Real.log 2)⁻¹ : ℝ) : EReal) :=
  IdealRules.named_const.ideal_named_scalar _ _ _ _ rfl
theorem named_scale : Named.named (F := Ideal) κ "scale_log2e" (φ := .f32) 0x3E0293EE#32
    = (((11863283 / 134217728) * (Real.log 2)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

/-- The queries scaled for powers of two. -/
def scaled (q : Vec Ideal S1024x128 .f32) : FVec Ideal S1024x128 .bf16 :=
  truncf .bf16 (mulf (q : FVec Ideal S1024x128 .f32) (broadcast S1024x128 (Named.named κ "scale_log2e" 0x3E0293EE#32))) bitsLt_bf16_f32
theorem scaled_apply (q : Vec Ideal S1024x128 .f32) (z : S1024x128.Idx) :
    scaled q z = (q z * (((11863283 / 134217728) * (Real.log 2)⁻¹ : ℝ) : EReal) : EReal) :=
  congrArg (fun w : EReal => (q z * w : EReal)) named_scale

variable {b : Blk Ideal} (R : Rd b H i j)
include R

/-- Without the mask; -/
theorem pay7_apply (y : S1024x1024.Idx) :
    k0_pay7 b.q b.k b.c y = ((H.lg (1024 * i + (y 0).val) (1024 * j + (y 1).val) * (Real.log 2)⁻¹ : ℝ) : EReal) := by
  have h1 : (y 1).val < 1024 := (y 1).isLt
  have e : k0_pay7 b.q b.k b.c y = (
    (FloatOps.matmul dA none (scaled b.q) (truncf .bf16 (b.k : FVec Ideal S1024x128 .f32) bitsLt_bf16_f32) (constant S1024x1024 .f32 0x00000000#32) y : EReal)
    - (broadcastTo S1024x1024 (fun z => (shapeCast S1x1024 b.c shapeCasts_S1x1x1024_S1x1024 z * Named.named (F := Ideal) κ "log2e" (φ := .f32) 0x3FB8AA3B#32 : EReal)) broadcasts_S1x1024_S1024x1024 y : EReal) : EReal) := rfl
  rw [e, row_apply, rowCast_apply b.c (fun n => H.c (1024 * j + n)) R.c, named_log2e,
    matA (scaled b.q) (truncf .bf16 (b.k : FVec Ideal S1024x128 .f32) bitsLt_bf16_f32) (fun n d => H.q (1024 * i + n) d * (11863283 / 134217728 * (Real.log 2)⁻¹))
      (fun n d => H.k (1024 * j + n) d) (fun z => by rw [scaled_apply, R.q]; exact (EReal.coe_mul _ _).symm) R.k,
    ← EReal.coe_mul, ← EReal.coe_sub]
  refine congrArg Real.toEReal ?_
  show _ - H.c (1024 * j + (y 1).val % 1024) * (Real.log 2)⁻¹ = _
  rw [Nat.mod_eq_of_lt h1]
  unfold Head.lg Head.qk sc
  rw [sub_mul, sum_mul, sum_mul]
  exact congrArg (· - _) (sum_congr rfl fun d _ => by ring)

/-- below the diagonal none is masked; -/
theorem pay7_lg2 (hij : j < i) (y : S1024x1024.Idx) : k0_pay7 b.q b.k b.c y = H.lg2 (1024 * i + (y 0).val) (1024 * j + (y 1).val) := by
  have h1 : (y 1).val < 1024 := (y 1).isLt
  unfold Head.lg2
  rw [if_pos (by omega), pay7_apply R]

/-- and on it the mask is the query's row. -/
theorem pay16_lg2 (hij : i = j) (y : S1024x1024.Idx) : k0_pay16 b.q b.k b.c y = H.lg2 (1024 * i + (y 0).val) (1024 * j + (y 1).val) := by
  have h1 : (y 1).val < 1024 := (y 1).isLt
  have h0 : (y 0).val < 1024 := (y 0).isLt
  show Scalar.select (IntOp.cmpi .sle (iota .tc S1024x1024 32 [1] iota_S1024x1024_d1_w32 y) (iota .tc S1024x1024 32 [0] iota_S1024x1024_d0_w32 y))
    (k0_pay7 b.q b.k b.c y) (Named.named (F := Ideal) κ "mask" (φ := .f32) 0xF149F2CA#32) = _
  rw [iota_single_apply, iota_single_apply, cmpi_sle (by omega) (by omega), named_mask, pay7_apply R]
  unfold Head.lg2
  by_cases h : (y 1).val ≤ (y 0).val
  · rw [if_pos h, if_pos (by omega)]
  · rw [if_neg h, if_neg (by omega)]

end Cert.AttnIdeal.Own
-- ==== Proof.AI.Blocks.lean ====
/-
  The blocks a point is given are the rows of its query tile and key tile of its head; and what is carried after each point.
-/
module

public import proofs.«01_k».proof.Proof.AI.Sched
public import proofs.«01_k».proof.Proof.AI.Pay

@[expose] public section

noncomputable section

namespace Cert.AttnIdeal.Own

open Cert.AttnIdeal Cert.AttnIdeal.Gen Cert.Own
open Idealize.ShloMosaic Idealize.ShloMosaic.TcCoe

section Emb

variable (t : Fin grid0.N)

/-- A coordinate of an element of a block in its array. -/
theorem emb_val (w : Fin 8) (hk : ((cfgT (F := Ideal)).win w).kind = .blocked) (y) (a) :
    ((((cfgT (F := Ideal)).win w).rect t).emb y a : ℕ) = ((cfgT (F := Ideal)).win w).index t a * ((cfgT (F := Ideal)).win w).size a + y a :=
  Pipeline.Window.rect_emb_val _ t y a hk

end Emb

/-! ## One point -/

theorem none_m (z : S1024x1.Idx) : k0_pay1 (F := Ideal) z = (⊥ : EReal) :=
  (sameC (broadcast S1024x1 (Named.named (F := Ideal) κ "mask" (φ := .f32) 0xF149F2CA#32)) z).trans named_mask
theorem none_l (z : S1024x1.Idx) : k0_pay2 (F := Ideal) z = (0 : EReal) :=
  (sameC (broadcast S1024x1 (Scalar.ofBits (F := Ideal) .f32 0x00000000#32)) z).trans Ideal.ofBits_zero_f32
theorem none_a (z : S1024x128.Idx) : k0_pay3 (F := Ideal) z = (0 : EReal) :=
  (sameT (broadcast S1024x128 (Scalar.ofBits (F := Ideal) .f32 0x00000000#32)) z).trans Ideal.ofBits_zero_f32

/-- A query tile begins with nothing seen. -/
theorem clear_rows (H : Head) (i : ℕ) : Rows H i 0 ⟨k0_pay1 (F := Ideal), k0_pay2 (F := Ideal), k0_pay3 (F := Ideal)⟩ :=
  fun r _ => .inl ⟨rfl, none_m (cx r), none_l (cx r), fun d _ => none_a (tx r d)⟩

variable {H : Head} {i j : ℕ} {b : Blk Ideal}

/-- A point sees one more tile of keys. -/
theorem next_rows (R : Rd b H i j) (hij : j ≤ i) {v1 v3 : BitVec 32} (hZ : condZ v3 ↔ j = 0) (hL : condL v1 v3 ↔ j < i)
    (hD : k0_cond3 v1 v3 = 1#1 ↔ i = j) {s : St Ideal} (hs : ¬ j = 0 → Rows H i (1024 * j) s) :
    Rows H i (1024 * (j + 1)) (next v1 v3 b s) := by
  have h0 : Rows H i (1024 * j) (clear v3 s) := by
    unfold clear
    by_cases h : condZ v3
    · rw [if_pos h, hZ.mp h]
      exact clear_rows H i
    · rw [if_neg h]
      exact hs fun e => h (hZ.mpr e)
  unfold next addD addU
  rcases Nat.lt_or_eq_of_le hij with h | h
  · have hn : ¬ k0_cond3 v1 v3 = 1#1 := fun e => by have := hD.mp e; omega
    rw [if_neg hn, if_pos (hL.mpr h), stepU_eq]
    exact upd_rows (pay7_lg2 R h) hij h0 R.v
  · have hn : ¬ condL v1 v3 := fun e => by have := hL.mp e; omega
    rw [if_pos (hD.mpr h.symm), if_neg hn, stepD_eq]
    exact upd_rows (pay16_lg2 R h.symm) hij h0 R.v

/-! ## All points -/

variable {c : Dev nD} (V : Arrs Ideal c)
variable (X0 : S8192x14336.Idx → ℝ) (X1 : S8192x8.Idx → ℝ)

/-- A head, with no gradient. -/
abbrev hdK (h : ℕ) : Head := hd X0 X1 (fun _ => 0) h

/-- The arrays the launch reads. -/
structure Reads : Prop where
  u : ∀ i : S8192x14336.Idx, V main_arg0 i = (X0 i : EReal)
  c : ∀ i : S8x1x8192.Idx, V main_v1 i = ((hdK X0 X1 (i 0).val).c (i 2).val : EReal)

variable {V X0 X1} (R : Reads V X0 X1)
include R

theorem rd (t : Fin grid0.N) : Rd (bOf V t) (hdK X0 X1 (hh t)) (ti t) (tj t) where
  q y := by
    refine (R.u ((((cfgT (F := Ideal)).win (0 : Fin 8)).rect t).emb y)).trans (congrArg Real.toEReal (uAt_eq X0 _ ?_ ?_))
    · rw [emb_val t 0 rfl, (ixI t).1]; exact congrArg (· + (y 0).val) (Nat.mul_comm _ _)
    · rw [emb_val t 0 rfl, (ixI t).1]; exact congrArg (· + (y 1).val) (Nat.mul_comm _ _)
  k y := by
    refine (R.u ((((cfgT (F := Ideal)).win (1 : Fin 8)).rect t).emb y)).trans (congrArg Real.toEReal (uAt_eq X0 _ ?_ ?_))
    · rw [emb_val t 1 rfl, (ixI t).2.1]; exact congrArg (· + (y 0).val) (Nat.mul_comm _ _)
    · rw [emb_val t 1 rfl, (ixI t).2.1]
      show (8 + hh t) * 128 + (y 1).val = 1024 + 128 * hh t + (y 1).val
      omega
  v y := by
    refine (R.u ((((cfgT (F := Ideal)).win (2 : Fin 8)).rect t).emb y)).trans (congrArg Real.toEReal (uAt_eq X0 _ ?_ ?_))
    · rw [emb_val t 2 rfl, (ixI t).2.2.1]; exact congrArg (· + (y 0).val) (Nat.mul_comm _ _)
    · rw [emb_val t 2 rfl, (ixI t).2.2.1]
      show (16 + hh t) * 128 + (y 1).val = 2048 + 128 * hh t + (y 1).val
      omega
  c y := by
    refine (R.c ((((cfgT (F := Ideal)).win (3 : Fin 8)).rect t).emb y)).trans ?_
    have e0 : (((((cfgT (F := Ideal)).win (3 : Fin 8)).rect t).emb y (0 : Fin 3)) : ℕ) = hh t := by
      refine (emb_val t 3 rfl y (0 : Fin 3)).trans ?_
      rw [(ixI t).2.2.2.1]
      have h : (y 0).val < 1 := (y 0).isLt
      show hh t * 1 + (y 0).val = hh t
      omega
    have e1 : (((((cfgT (F := Ideal)).win (3 : Fin 8)).rect t).emb y (2 : Fin 3)) : ℕ) = 1024 * tj t + (y 2).val := by
      refine (emb_val t 3 rfl y (2 : Fin 3)).trans ?_
      rw [(ixI t).2.2.2.1]
      exact congrArg (· + (y 2).val) (Nat.mul_comm _ _)
    exact congrArg₂ (fun n m => (((hdK X0 X1 n).c m : ℝ) : EReal)) e0 e1

/-- The gate's block. -/
theorem rd_g (t : Fin grid0.N) (y : S1024x128.Idx) :
    (bOf V t).g y = ((uAt X0 (1024 * ti t + (y 0).val) (3072 + (hh t * 128 + (y 1).val)) : ℝ) : EReal) := by
  refine (R.u ((((cfgT (F := Ideal)).win (4 : Fin 8)).rect t).emb y)).trans (congrArg Real.toEReal (uAt_eq X0 _ ?_ ?_))
  · rw [emb_val t 4 rfl, (ixI t).2.2.2.2]; exact congrArg (· + (y 0).val) (Nat.mul_comm _ _)
  · rw [emb_val t 4 rfl, (ixI t).2.2.2.2]
    show (24 + hh t) * 128 + (y 1).val = 3072 + (hh t * 128 + (y 1).val)
    omega

/-- What is carried after a point. -/
theorem rows (n : ℕ) : ∀ h : n < grid0.N, Rows (hdK X0 X1 (hh ⟨n, h⟩)) (ti ⟨n, h⟩) (1024 * (tj ⟨n, h⟩ + 1)) (st V (n + 1)) := by
  have go : ∀ t : Fin grid0.N, (¬ tj t = 0 → Rows (hdK X0 X1 (hh t)) (ti t) (1024 * tj t) (st V t.val)) →
      Rows (hdK X0 X1 (hh t)) (ti t) (1024 * (tj t + 1)) (st V (t.val + 1)) := fun t hs => by
    rw [st_succ]
    exact next_rows (rd R t) (bounds t).2.2 (conds t).1 (conds t).2.1 (conds t).2.2 hs
  induction n with
  | zero => exact fun h => go ⟨0, h⟩ fun e => absurd (row_start ⟨0, h⟩ rfl) e
  | succ n ih =>
    intro h
    have hn : n < grid0.N := Nat.lt_of_succ_lt h
    refine go ⟨n + 1, h⟩ fun e => ?_
    obtain ⟨e1, e2, e3⟩ := row_step ⟨n, hn⟩ h e
    have e1' : hh ⟨n + 1, h⟩ = hh ⟨n, hn⟩ := e1
    have e2' : ti ⟨n + 1, h⟩ = ti ⟨n, hn⟩ := e2
    have e3' : tj ⟨n + 1, h⟩ = tj ⟨n, hn⟩ + 1 := e3
    rw [e1', e2', e3']
    exact ih hn

end Cert.AttnIdeal.Own
-- ==== Proof.AttnRef.lean ====
/-
  What the reference of the forward attention computes on real arguments: the output, its saved logarithm base two, and
  the output times the gate. Its stages up to the output are those of the gradient's reference.
-/
module

public import proofs.«01_k».proof.Proof.KI.HostVal
public import proofs.«01_k».proof.Proof.Online
public import proofs.«01_k».proof.Proof.Gen.AttnRefIdeal.Read

@[expose] public section

noncomputable section

namespace Cert.AttnRefIdeal.Own

open Cert.AttnRefIdeal Cert.AttnRefIdeal.Gen Cert.Own Idealize.ShloMosaic
open Cert.ReferenceIdeal.Own (a0 a1 v54_val)
open Cert.AttnRefIdeal.Read
open Cert.KernelIdeal.Own (lseOf refL refC lseOf_val)

variable (X0 : S8192x14336.Idx → ℝ) (X1 : S8192x8.Idx → ℝ)

/-- A head, with no gradient. -/
abbrev hdA (h : ℕ) : Head := hd X0 X1 (fun _ => 0) h

/-- A real times its logistic. -/
def silu (g : ℝ) : ℝ := g * (1 / (1 + Real.exp (-g)))

/-- The three results. -/
def outO : FVec Ideal S8192x1024 .f32 := fun i => (((hdA X0 X1 ((i 1).val / 128)).out (i 0).val ((i 1).val % 128) : ℝ) : EReal)
def outL : FVec Ideal S8x8192x1 .f32 := fun i => ((Real.log ((hdA X0 X1 (i 0).val).z (i 1).val) / Real.log 2 : ℝ) : EReal)
def outY : FVec Ideal S8192x1024 .bf16 := fun i =>
  (((hdA X0 X1 ((i 1).val / 128)).out (i 0).val ((i 1).val % 128) * silu (uAt X0 (i 0).val (3072 + (i 1).val)) : ℝ) : EReal)

/-- The gate in extended reals. -/
theorem silu_real (g : ℝ) : (g : EReal) * Ideal.div ((1 : ℝ) : EReal) (((1 : ℝ) : EReal) + Ideal.exp (-(g : EReal))) = ((silu g : ℝ) : EReal) := by
  have h : (1 : ℝ) + Real.exp (-g) ≠ 0 := (add_pos one_pos (Real.exp_pos _)).ne'
  rw [← EReal.coe_neg, Ideal.exp_coe, ← EReal.coe_add, div_real h, ← EReal.coe_mul]
  rfl

theorem v38_same (x0 : FVec Ideal S8192x14336 .f32) (x1 : FVec Ideal S8192x8 .f32) :
    val_main_v38 (F := Ideal) x0 x1 = Cert.ReferenceIdeal.Read.val_main_v54 (F := Ideal) x0 x1 := rfl

theorem v38_val (i : S8192x1024.Idx) : val_main_v38 (F := Ideal) (a0 X0) (a1 X1) i = outO X0 X1 i := by
  rw [v38_same]
  exact v54_val X0 X1 (fun _ => 0) i

theorem v50_same : val_main_v50 (F := Ideal) (a0 X0) (a1 X1) = lseOf (refL X0 X1) (refC X1) := rfl

theorem lit_two : Ideal.ofBits .f32 0x40000000#32 = ((2 : ℝ) : EReal) := by
  simp [Ideal.ofBits, Ideal.ieee, -EReal.coe_mul]; try norm_num

theorem v54_out (i : S8x8192x1.Idx) : val_main_v54 (F := Ideal) (a0 X0) (a1 X1) i = outL X0 X1 i := by
  rw [val_main_v54_apply, val_main_v53_apply, v50_same, lseOf_val X0 X1 (fun _ => 0), val_main_v52_apply, val_main_v51_apply,
    val_main_cst_6_apply, Ideal.ofBits_def, lit_two, Ideal.hostUnary_log_def, Ideal.hostDivf_def, Ideal.log_coe,
    if_neg (by norm_num), div_real log2_ne, Head.lse_eq _ _ (i 1).isLt]
  rfl

theorem v3_val (i : S8192x1024.Idx) : val_main_v3 (F := Ideal) (a0 X0) i = ((uAt X0 (i 0).val (3072 + (i 1).val) : ℝ) : EReal) := by
  rw [val_main_v3_apply]
  exact congrArg Real.toEReal (uAt_eq X0 _ rfl rfl)

theorem v39_val (i : S8192x1024.Idx) : val_main_v39 (F := Ideal) (a0 X0) i = ((silu (uAt X0 (i 0).val (3072 + (i 1).val)) : ℝ) : EReal) := by
  rw [val_main_v39_apply, val_main_call1_v5_apply, val_main_call1_v4_apply, val_main_call1_v3_apply, val_main_call1_v2_apply,
    val_main_call1_v1_apply, val_main_call1_v0_apply, val_main_call1_cst_apply, val_main_call1_cst_0_apply, v3_val, ← silu_real, ← lit_one]
  rfl

theorem v55_val (i : S8192x1024.Idx) : val_main_v55 (F := Ideal) (a0 X0) (a1 X1) i = outY X0 X1 i := by
  rw [val_main_v55_apply, val_main_v40_apply, v38_val, v39_val]
  exact (EReal.coe_mul _ _).symm

end Cert.AttnRefIdeal.Own
-- ==== Proof.AI.Value.lean ====
/-
  The launch's results: every array ends holding what the reference computes.
-/
module

public import proofs.«01_k».proof.Proof.AI.Run
public import proofs.«01_k».proof.Proof.AI.Blocks
public import proofs.«01_k».proof.Proof.AttnRef

@[expose] public section

noncomputable section

namespace Cert.AttnIdeal.Own

open Cert.AttnIdeal Cert.AttnIdeal.Gen Cert.Own
open Idealize.ShloMosaic Idealize.ShloMosaic.TcCoe
open Cert.ReferenceIdeal.Own (a0 a1)
open Cert.AttnRefIdeal.Own (outO outL outY silu silu_real)

variable (X0 : S8192x14336.Idx → ℝ) (X1 : S8192x8.Idx → ℝ)

/-! ## What the arrays hold when the launch begins -/

/-- The host's row of the gate. -/
theorem host_c (W : Valuation τ sig (Elt Ideal)) : StableHlo.after [hostOps0 (F := Ideal)].flatten W (Proc.devRef .tc main_v1)
    = broadcastInDim S8x1x8192 ![0, 2] bcast_S8x8192_S8x1x8192_0_2 (transpose S8x8192 [1, 0] (W (Proc.devRef .tc main_arg1)) transposes_S8192x8_S8x8192_1_0) := by
  simp only [List.flatten_cons, List.flatten_nil, List.append_nil, hostOps0]
  after_results_simp <;> rfl

theorem bcast_row (x : FVec Ideal S8x8192 .f32) (i : S8x1x8192.Idx) :
    broadcastInDim S8x1x8192 ![0, 2] bcast_S8x8192_S8x1x8192_0_2 x i = x (ix2 8 8192 (by decide) (by decide) (i 0).val (i 2).val) :=
  broadcastInDim_apply _ bcast_S8x8192_S8x1x8192_0_2 x i _ (fun a => match a with
    | ⟨0, _⟩ => by show (i 0).val % 8 = if (8 : Nat) = 1 then 0 else (i 0).val; rw [if_neg (by decide)]; exact Nat.mod_eq_of_lt (i 0).isLt
    | ⟨1, _⟩ => by show (i 2).val % 8192 = if (8192 : Nat) = 1 then 0 else (i 2).val; rw [if_neg (by decide)]; exact Nat.mod_eq_of_lt (i 2).isLt)

theorem swap_heads (x : FVec Ideal S8192x8 .f32) (i : S8x8192.Idx) :
    transpose S8x8192 [1, 0] x transposes_S8192x8_S8x8192_1_0 i = x (ix2 8192 8 (by decide) (by decide) (i 1).val (i 0).val) :=
  transpose_apply [1, 0] x transposes_S8192x8_S8x8192_1_0 i _ (fun b => match b with
    | ⟨0, _⟩ => Nat.mod_eq_of_lt (i 0).isLt
    | ⟨1, _⟩ => Nat.mod_eq_of_lt (i 1).isLt)

/-- What the launch reads. -/
theorem reads (m : (ℓ : Loc nD τ sig) → Buf (Elt Ideal) ℓ) (c : Dev nD)
    (h0 : m ((c.tc : Thread nD τ).loc main_arg0) = a0 X0) (h1 : m ((c.tc : Thread nD τ).loc main_arg1) = a1 X1) : Reads (atL m c) X0 X1 where
  u i := congrFun ((at0 m c).trans h0) i
  c i := by
    have e : atL m c main_v1 = _ := host_c (fun b => m (c, b))
    have h1' : m (c, Proc.devRef .tc main_arg1) = a1 X1 := h1
    rw [e, h1', bcast_row, swap_heads]
    refine congrArg Real.toEReal (cAt_eq X1 _ ?_ ?_)
    · show ((i 2).val % 8192) % 8192 = (i 2).val
      rw [Nat.mod_mod]; exact Nat.mod_eq_of_lt (i 2).isLt
    · show ((i 0).val % 8) % 8 = (i 0).val
      rw [Nat.mod_mod]; exact Nat.mod_eq_of_lt (i 0).isLt

/-! ## What it leaves -/

variable {X0 X1}

theorem outO_at (i : S8192x1024.Idx) {r d h : ℕ} (h0 : (i 0).val = r) (h1 : (i 1).val = h * 128 + d) (hd' : d < 128) :
    outO X0 X1 i = (((hdK X0 X1 h).out r d : ℝ) : EReal) := by
  unfold outO; rw [h0, h1, show (h * 128 + d) / 128 = h by omega, show (h * 128 + d) % 128 = d by omega]
theorem outY_at (i : S8192x1024.Idx) {r d h : ℕ} (h0 : (i 0).val = r) (h1 : (i 1).val = h * 128 + d) (hd' : d < 128) :
    outY X0 X1 i = (((hdK X0 X1 h).out r d * silu (uAt X0 r (3072 + (h * 128 + d))) : ℝ) : EReal) := by
  unfold outY; rw [h0, h1, show (h * 128 + d) / 128 = h by omega, show (h * 128 + d) % 128 = d by omega]
theorem outL_at (i : S8x8192x1.Idx) {r h : ℕ} (h0 : (i 0).val = h) (h1 : (i 1).val = r) :
    outL X0 X1 i = ((Real.log ((hdK X0 X1 h).z r) / Real.log 2 : ℝ) : EReal) := by
  unfold outL; rw [h0, h1]

/-- The quotient stored on the diagonal; -/
theorem quot_apply {H : Head} {i : ℕ} (hi : i < 8) {s : St Ideal} (S : Rows H i (1024 * (i + 1)) s) (y : S1024x128.Idx) :
    k0_pay25 s.a s.l y = ((H.out (1024 * i + (y 0).val) (y 1).val : ℝ) : EReal) := by
  have h0 : (y 0).val < 1024 := (y 0).isLt
  have e : k0_pay25 s.a s.l y = Ideal.div (s.a y) (broadcastTo S1024x128 s.l broadcasts_S1024x1_S1024x128 y) := rfl
  have ey : y = tx (y 0).val (y 1).val := eq_ix2 _ _ y rfl rfl
  rw [e, wide_apply]
  have Q := (S (y 0).val h0).quot (by omega) (by omega) (y 1).isLt
  rw [← ey] at Q
  exact Q

/-- and the logarithm. -/
theorem logs_apply {H : Head} {i : ℕ} (hi : i < 8) {s : St Ideal} (S : Rows H i (1024 * (i + 1)) s) (y : S1x1024x1.Idx) :
    k0_pay26 s.m s.l y = ((Real.log (H.z (1024 * i + (y 1).val)) / Real.log 2 : ℝ) : EReal) := by
  have h1 : (y 1).val < 1024 := (y 1).isLt
  have e : k0_pay26 s.m s.l y = shapeCast S1x1024x1 (fun z => (s.m z + Ideal.log (s.l z) * Named.named (F := Ideal) κ "log2e" (φ := .f32) 0x3FB8AA3B#32 : EReal))
    shapeCasts_S1024x1_S1x1024x1 y := rfl
  rw [e, colUncast_apply, named_log2e]
  exact (S (y 1).val h1).logs (by omega) (by omega)

/-- The gated quotient. -/
theorem gated_apply {s : St Ideal} {g : Vec Ideal S1024x128 .f32} (y : S1024x128.Idx) {o w : ℝ} (ho : k0_pay25 s.a s.l y = (o : EReal)) (hg : g y = (w : EReal)) :
    gated s g y = ((o * silu w : ℝ) : EReal) := by
  have e : gated s g y = (k0_pay25 s.a s.l y * (g y * Ideal.div (Ideal.ofBits .f32 0x3F800000#32)
    (Ideal.ofBits .f32 0x3F800000#32 + Ideal.exp (Ideal.ofBits .f32 0x00000000#32 - g y))) : EReal) := rfl
  rw [e, ho, hg, lit_one, Ideal.ofBits_zero_f32, zero_sub, silu_real, ← EReal.coe_mul]

variable (m : (ℓ : Loc nD τ sig) → Buf (Elt Ideal) ℓ) (c : Dev nD) (R : Reads (atL m c) X0 X1)
include R

/-- A stored row has seen every key it may. -/
theorem rows_at (t : Fin grid0.N) (h : k0_cond3 (wI (grid0.coords t)) (wJ (grid0.coords t)) = 1#1) :
    Rows (hdK X0 X1 (hh t)) (ti t) (1024 * (ti t + 1)) (st (atL m c) (t.val + 1)) := by
  have S := rows R t.val t.isLt
  have e : tj t = ti t := ((conds t).2.2.mp h).symm
  change Rows (hdK X0 X1 (hh t)) (ti t) (1024 * (tj t + 1)) _ at S
  rw [e] at S
  exact S

theorem res5 : resAt m c (5 : Fin 8) = outO X0 X1 := by
  refine (dat c (atL m c)).arrAt_eq_of_covers (5 : Fin 8) (outO X0 X1) cov5 fun t hf y => ?_
  have S := rows_at m c R t (flush5 t hf)
  have e0 : ((((cfgT (F := Ideal)).win (5 : Fin 8)).rect t).emb y 0 : ℕ) = 1024 * ti t + ((y : S1024x128.Idx) 0).val := by
    rw [emb_val t 5 rfl, (ixO t).1]; exact congrArg (· + _) (Nat.mul_comm _ _)
  have e1 : ((((cfgT (F := Ideal)).win (5 : Fin 8)).rect t).emb y 1 : ℕ) = hh t * 128 + ((y : S1024x128.Idx) 1).val := by
    rw [emb_val t 5 rfl, (ixO t).1]; rfl
  exact (quot_apply (bounds t).2.1 S y).trans (outO_at _ e0 e1 ((y : S1024x128.Idx) 1).isLt).symm

theorem res6 : resAt m c (6 : Fin 8) = outL X0 X1 := by
  refine (dat c (atL m c)).arrAt_eq_of_covers (6 : Fin 8) (outL X0 X1) cov6 fun t hf y => ?_
  have S := rows_at m c R t (flush6 t hf)
  have e0 : ((((cfgT (F := Ideal)).win (6 : Fin 8)).rect t).emb y 0 : ℕ) = hh t := by
    have h : ((y : S1x1024x1.Idx) 0).val < 1 := ((y : S1x1024x1.Idx) 0).isLt
    rw [emb_val t 6 rfl, (ixO t).2.1]
    show hh t * 1 + ((y : S1x1024x1.Idx) 0).val = _
    omega
  have e1 : ((((cfgT (F := Ideal)).win (6 : Fin 8)).rect t).emb y 1 : ℕ) = 1024 * ti t + ((y : S1x1024x1.Idx) 1).val := by
    rw [emb_val t 6 rfl, (ixO t).2.1]; exact congrArg (· + _) (Nat.mul_comm _ _)
  exact (logs_apply (bounds t).2.1 S y).trans (outL_at _ e0 e1).symm

theorem res7 : resAt m c (7 : Fin 8) = outY X0 X1 := by
  refine (dat c (atL m c)).arrAt_eq_of_covers (7 : Fin 8) (outY X0 X1) cov7 fun t hf y => ?_
  have S := rows_at m c R t (flush7 t hf)
  have e0 : ((((cfgT (F := Ideal)).win (7 : Fin 8)).rect t).emb y 0 : ℕ) = 1024 * ti t + ((y : S1024x128.Idx) 0).val := by
    rw [emb_val t 7 rfl, (ixO t).2.2]; exact congrArg (· + _) (Nat.mul_comm _ _)
  have e1 : ((((cfgT (F := Ideal)).win (7 : Fin 8)).rect t).emb y 1 : ℕ) = hh t * 128 + ((y : S1024x128.Idx) 1).val := by
    rw [emb_val t 7 rfl, (ixO t).2.2]; rfl
  exact (gated_apply y (quot_apply (bounds t).2.1 S y) (rd_g R t y)).trans (outY_at _ e0 e1 ((y : S1024x128.Idx) 1).isLt).symm

end Cert.AttnIdeal.Own
-- ==== Proof.AI.Equal.lean ====
/-
  On real arguments the forward attention and its reference leave the same three results.
-/
module

public import proofs.«01_k».proof.Defs
public import proofs.«01_k».proof.Proof.Gen.Pre_finite_attn
public import proofs.«01_k».proof.Proof.Gen.AttnRefIdeal.Run
public import proofs.«01_k».proof.Proof.Finite
public import proofs.«01_k».proof.Proof.AI.Value

@[expose] public section

noncomputable section

namespace Cert.AttnIdeal.Own

open Cert.Own
open Idealize.ShloMosaic Idealize.ShloMosaic.TcCoe
open Cert.ReferenceIdeal.Own (a0 a1)
open Cert.AttnRefIdeal.Own Cert.AttnRefIdeal.Read

/-- The precondition makes the arguments real. -/
theorem real_args {x0 : FVec Ideal Cert.Pre_finite_attn.S8192x14336 .f32} {x1 : FVec Ideal Cert.Pre_finite_attn.S8192x8 .f32}
    (h0 : (Cert.Pre_finite_attn.fn (F := Ideal) x0 x1).1 = fun _ => 1#1) (h1 : (Cert.Pre_finite_attn.fn (F := Ideal) x0 x1).2 = fun _ => 1#1) :
    (x0 = fun i => ((x0 i).toReal : EReal)) ∧ (x1 = fun i => ((x1 i).toReal : EReal)) :=
  ⟨funext fun i => real_of_lt lit_inf (congrFun h0 i), funext fun i => real_of_lt lit_inf (congrFun h1 i)⟩

theorem algebraic : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.Gen.facts) := by
  intro m g m' g' hp hm
  obtain ⟨X0, e0⟩ : ∃ X0 : Dev Cert.AttnIdeal.nD → _, ∀ c : Dev Cert.AttnIdeal.nD,
      m ((c.tc : Thread Cert.AttnIdeal.nD Cert.AttnIdeal.τ).loc Cert.AttnIdeal.main_arg0) = a0 (X0 c) :=
    ⟨_, fun c => (real_args (hp c).1 (hp c).2).1⟩
  obtain ⟨X1, e1⟩ : ∃ X1 : Dev Cert.AttnIdeal.nD → _, ∀ c : Dev Cert.AttnIdeal.nD,
      m ((c.tc : Thread Cert.AttnIdeal.nD Cert.AttnIdeal.τ).loc Cert.AttnIdeal.main_arg1) = a1 (X1 c) :=
    ⟨_, fun c => (real_args (hp c).1 (hp c).2).2⟩
  have R := fun c => reads (X0 c) (X1 c) m c (e0 c) (e1 c)
  refine ⟨fun c => outO (X0 c) (X1 c), fun c => outL (X0 c) (X1 c), fun c => outY (X0 c) (X1 c), ?_, ?_⟩
  rotate_left
  · refine (θ_run _ _ _).mono (fun r h c => ?_) (Cert.AttnRefIdeal.Value.run (F := Ideal) m' g')
    obtain ⟨h0, h1, h2, h3, h4⟩ := h c
    obtain ⟨k0, k1⟩ := hm c
    refine ⟨h0.trans ?_, h1.trans ?_, h2.trans ?_, h3, h4⟩
    · rw [val_main_v38_eq, k0, k1, e0 c, e1 c]; exact funext (v38_val _ _)
    · rw [val_main_v54_eq, k0, k1, e0 c, e1 c]; exact funext (v54_out _ _)
    · rw [val_main_v55_eq, k0, k1, e0 c, e1 c]; exact funext (v55_val _ _)
  · refine (θ_run _ _ _).mono (fun r h c => ?_) (Cert.AttnIdeal.Own.run (F := Ideal) m g)
    obtain ⟨h0, h1, h2, ha⟩ := h.1 c
    exact ⟨h0.trans (res5 m c (R c)), h1.trans (res6 m c (R c)), h2.trans (res7 m c (R c)), ha⟩

end Cert.AttnIdeal.Own
-- ==== Proof.lean ====
/-
  The claims: each program runs and leaves its arguments and every semaphore as they were; the idealized kernel differs
  from the kernel by named constants only.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KI.Value
public import proofs.«01_k».proof.Proof.Finite
public import proofs.«01_k».proof.Proof.KB.Run
public import proofs.«01_k».proof.Proof.Gen.Rms
public import proofs.«01_k».proof.Proof.Gen.Rms.Frame
public import proofs.«01_k».proof.Proof.Gen.RmsIdeal
public import proofs.«01_k».proof.Proof.Gen.RmsRefIdeal
public import proofs.«01_k».proof.Proof.Rms
public import proofs.«01_k».proof.Proof.Gen.Pre_finite_rms
public import proofs.«01_k».proof.Proof.Gen.Merge
public import proofs.«01_k».proof.Proof.Gen.Merge.Frame
public import proofs.«01_k».proof.Proof.Gen.MergeIdeal
public import proofs.«01_k».proof.Proof.Gen.MergeRefIdeal
public import proofs.«01_k».proof.Proof.Merge
public import proofs.«01_k».proof.Proof.Gen.Win
public import proofs.«01_k».proof.Proof.Gen.Win.Frame
public import proofs.«01_k».proof.Proof.Gen.WinIdeal
public import proofs.«01_k».proof.Proof.Gen.WinRefIdeal
public import proofs.«01_k».proof.Proof.Win
public import proofs.«01_k».proof.Proof.Gen.Wgate
public import proofs.«01_k».proof.Proof.WgateBits
public import proofs.«01_k».proof.Proof.Gen.WgateIdeal
public import proofs.«01_k».proof.Proof.Gen.WgateRefIdeal
public import proofs.«01_k».proof.Proof.Wgate
public import proofs.«01_k».proof.Proof.Gen.Hgate
public import proofs.«01_k».proof.Proof.Gen.Hgate.Frame
public import proofs.«01_k».proof.Proof.Gen.HgateIdeal
public import proofs.«01_k».proof.Proof.Gen.HgateRefIdeal
public import proofs.«01_k».proof.Proof.Hgate
public import proofs.«01_k».proof.Proof.Gen.Merged
public import proofs.«01_k».proof.Proof.Gen.Merged.Frame
public import proofs.«01_k».proof.Proof.Gen.MergedIdeal
public import proofs.«01_k».proof.Proof.Gen.MergedRefIdeal
public import proofs.«01_k».proof.Proof.Merged
public import proofs.«01_k».proof.Proof.Gen.Wout
public import proofs.«01_k».proof.Proof.Gen.Wout.Frame
public import proofs.«01_k».proof.Proof.Gen.WoutIdeal
public import proofs.«01_k».proof.Proof.Gen.WoutRefIdeal
public import proofs.«01_k».proof.Proof.Wout
public import proofs.«01_k».proof.Proof.Gen.Fwd
public import proofs.«01_k».proof.Proof.FwdBits
public import proofs.«01_k».proof.Proof.Gen.FwdIdeal
public import proofs.«01_k».proof.Proof.Gen.FwdRefIdeal
public import proofs.«01_k».proof.Proof.Fwd
public import proofs.«01_k».proof.Proof.Gen.In
public import proofs.«01_k».proof.Proof.Gen.In.Frame
public import proofs.«01_k».proof.Proof.Gen.InIdeal
public import proofs.«01_k».proof.Proof.Gen.InRefIdeal
public import proofs.«01_k».proof.Proof.In
public import proofs.«01_k».proof.Proof.Gen.Dy
public import proofs.«01_k».proof.Proof.Gen.Dy.Frame
public import proofs.«01_k».proof.Proof.Gen.DyIdeal
public import proofs.«01_k».proof.Proof.Gen.DyRefIdeal
public import proofs.«01_k».proof.Proof.Dy
public import proofs.«01_k».proof.Proof.Gen.Attn
public import proofs.«01_k».proof.Proof.Gen.AttnIdeal
public import proofs.«01_k».proof.Proof.Gen.AttnRefIdeal
public import proofs.«01_k».proof.Proof.Gen.Pre_finite_attn
public import proofs.«01_k».proof.Proof.AB.Run
public import proofs.«01_k».proof.Proof.AI.Equal
public import Idealize.ShloMosaic.Adequacy
public import Idealize.ShloMosaic.Init

@[expose] public section

noncomputable section

namespace Cert.Proof

open Idealize.ShloMosaic Idealize.SL.Sem

theorem frameKernel : Cert.quiescent_Kernel (hKernel := Cert.Kernel.Gen.facts) := fun m g _ =>
  (θ_run _ _ _).mono (fun r h => ⟨fun c => (h.1 c).2.2.2.2, h.2⟩) (Cert.Kernel.Own.run (F := Bits) m g)

theorem frameKernelIdeal : Cert.quiescent_KernelIdeal (hKernelIdeal := Cert.KernelIdeal.Gen.facts) := fun m g _ =>
  (θ_run _ _ _).mono (fun r h => ⟨fun c => (h.1 c).2.2.2.2, h.2⟩) (Cert.KernelIdeal.Own.run (F := Ideal) m g)

theorem frameReferenceIdeal : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩)
    (Cert.ReferenceIdeal.Value.run (F := Ideal) m g)

theorem preserved : Cert.preserves_Kernel_KernelIdeal :=
  ⟨IdealRules.named_const.statement Cert.KernelIdeal.κ "scale_log2e" .f32 0x3E0293EE#32 _ rfl,
    IdealRules.named_const.statement Cert.KernelIdeal.κ "log2e" .f32 0x3FB8AA3B#32 _ rfl⟩

open Cert.Own Cert.KernelIdeal.Own Cert.ReferenceIdeal.Own Cert.ReferenceIdeal.Read in
/-- On real arguments the two idealized programs leave the same four gradients. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  obtain ⟨X0, e0⟩ : ∃ X0 : Dev Cert.KernelIdeal.nD → _, ∀ c : Dev Cert.KernelIdeal.nD,
      m ((c.tc : Thread Cert.KernelIdeal.nD Cert.KernelIdeal.τ).loc Cert.KernelIdeal.main_arg0) = a0 (X0 c) :=
    ⟨_, fun c => (real_args (hp c).1 (hp c).2.1 (hp c).2.2).1⟩
  obtain ⟨X1, e1⟩ : ∃ X1 : Dev Cert.KernelIdeal.nD → _, ∀ c : Dev Cert.KernelIdeal.nD,
      m ((c.tc : Thread Cert.KernelIdeal.nD Cert.KernelIdeal.τ).loc Cert.KernelIdeal.main_arg1) = a1 (X1 c) :=
    ⟨_, fun c => (real_args (hp c).1 (hp c).2.1 (hp c).2.2).2.1⟩
  obtain ⟨X2, e2⟩ : ∃ X2 : Dev Cert.KernelIdeal.nD → _, ∀ c : Dev Cert.KernelIdeal.nD,
      m ((c.tc : Thread Cert.KernelIdeal.nD Cert.KernelIdeal.τ).loc Cert.KernelIdeal.main_arg2) = a2 (X2 c) :=
    ⟨_, fun c => (real_args (hp c).1 (hp c).2.1 (hp c).2.2).2.2⟩
  have R := fun c => reads (X0 c) (X1 c) (X2 c) m c (e0 c) (e1 c) (e2 c)
  refine ⟨fun c => outQ (X0 c) (X1 c) (X2 c), fun c => outK (X0 c) (X1 c) (X2 c), fun c => outV (X0 c) (X1 c) (X2 c),
    fun c => outC (X0 c) (X1 c) (X2 c), ?_, ?_⟩
  rotate_left
  · refine (θ_run _ _ _).mono (fun r h c => ?_) (Cert.ReferenceIdeal.Value.run (F := Ideal) m' g')
    obtain ⟨h0, h1, h2, h3, h4, h5, h6⟩ := h c
    obtain ⟨k0, k1, k2⟩ := hm c
    refine ⟨h0.trans ?_, h1.trans ?_, h2.trans ?_, h3.trans ?_, h4, h5, h6⟩
    · rw [val_main_v92_eq, k0, k1, k2, e0 c, e1 c, e2 c]; exact funext (v92_val _ _ _)
    · rw [val_main_v93_eq, k0, k1, k2, e0 c, e1 c, e2 c]; exact funext (v93_val _ _ _)
    · rw [val_main_v94_eq, k0, k1, k2, e0 c, e1 c, e2 c]; exact funext (v94_val _ _ _)
    · rw [val_main_v96_eq, k0, k1, k2, e0 c, e1 c, e2 c]; exact funext (v96_val _ _ _)
  · refine (θ_run _ _ _).mono (fun r h c => ?_) (Cert.KernelIdeal.Own.run (F := Ideal) m g)
    obtain ⟨h0, h1, h2, h3, ha⟩ := h.1 c
    exact ⟨h0.trans (res7 m c (R c)), h1.trans (res8 m c (R c)), h2.trans (res9 m c (R c)), h3.trans (res10 m c (R c)), ha⟩

/-- `Rms` ends and leaves its arguments and every semaphore as they were. -/
theorem frameRms : Cert.quiescent_Rms := fun m g _ => Cert.Rms.Gen.frame (F := Bits) m g

/-- The idealized `Rms` likewise. -/
theorem frameRmsIdeal : Cert.quiescent_RmsIdeal := fun m g _ => Cert.RmsIdeal.Gen.frame (F := Ideal) m g

/-- The reference of `Rms` likewise. -/
theorem frameRmsRefIdeal : Cert.quiescent_RmsRefIdeal :=
  fun m g _ => (θ_run _ _ _).mono (fun r h => ⟨fun c => (h c).2.2, sem_eq_zero_of_no_sems (by decide) r.2⟩)
    (Cert.RmsRefIdeal.Value.run (F := Ideal) m g)

/-- `Merge` ends and leaves its arguments and every semaphore as they were. -/
theorem frameMerge : Cert.quiescent_Merge := fun m g _ => Cert.Merge.Gen.frame (F := Bits) m g

/-- The idealized `Merge` likewise. -/
theorem frameMergeIdeal : Cert.quiescent_MergeIdeal := fun m g _ => Cert.MergeIdeal.Gen.frame (F := Ideal) m g

/-- The reference of `Merge` likewise. -/
theorem frameMergeRefIdeal : Cert.quiescent_MergeRefIdeal :=
  fun m g _ => (θ_run _ _ _).mono (fun r h => ⟨fun c => (h c).2.2.2, sem_eq_zero_of_no_sems (by decide) r.2⟩)
    (Cert.MergeRefIdeal.Value.run (F := Ideal) m g)

/-- `Win` ends and leaves its arguments and every semaphore as they were. -/
theorem frameWin : Cert.quiescent_Win := fun m g _ => Cert.Win.Gen.frame (F := Bits) m g

/-- The idealized `Win` likewise. -/
theorem frameWinIdeal : Cert.quiescent_WinIdeal := fun m g _ => Cert.WinIdeal.Gen.frame (F := Ideal) m g

/-- The reference of `Win` likewise. -/
theorem frameWinRefIdeal : Cert.quiescent_WinRefIdeal :=
  fun m g _ => (θ_run _ _ _).mono (fun r h => ⟨fun c => (h c).2, sem_eq_zero_of_no_sems (by decide) r.2⟩)
    (Cert.WinRefIdeal.Value.run (F := Ideal) m g)

/-- `Wgate` ends and leaves its arguments and every semaphore as they were. -/
theorem frameWgate : Cert.quiescent_Wgate := Cert.Wgate.Own.quiescent

/-- The idealized `Wgate` likewise. -/
theorem frameWgateIdeal : Cert.quiescent_WgateIdeal := fun m g _ => Cert.WgateIdeal.Own.frame (F := Ideal) m g

/-- The reference of `Wgate` likewise. -/
theorem frameWgateRefIdeal : Cert.quiescent_WgateRefIdeal :=
  fun m g _ => (θ_run _ _ _).mono (fun r h => ⟨fun c => (h c).2, sem_eq_zero_of_no_sems (by decide) r.2⟩)
    (Cert.WgateRefIdeal.Value.run (F := Ideal) m g)

/-- `Hgate` ends and leaves its arguments and every semaphore as they were. -/
theorem frameHgate : Cert.quiescent_Hgate := fun m g _ => Cert.Hgate.Gen.frame (F := Bits) m g

/-- The idealized `Hgate` likewise. -/
theorem frameHgateIdeal : Cert.quiescent_HgateIdeal := fun m g _ => Cert.HgateIdeal.Gen.frame (F := Ideal) m g

/-- The reference of `Hgate` likewise. -/
theorem frameHgateRefIdeal : Cert.quiescent_HgateRefIdeal :=
  fun m g _ => (θ_run _ _ _).mono (fun r h => ⟨fun c => (h c).2, sem_eq_zero_of_no_sems (by decide) r.2⟩)
    (Cert.HgateRefIdeal.Value.run (F := Ideal) m g)

/-- `Merged` ends and leaves its arguments and every semaphore as they were. -/
theorem frameMerged : Cert.quiescent_Merged := fun m g _ => Cert.Merged.Gen.frame (F := Bits) m g

/-- The idealized `Merged` likewise. -/
theorem frameMergedIdeal : Cert.quiescent_MergedIdeal := fun m g _ => Cert.MergedIdeal.Gen.frame (F := Ideal) m g

/-- The reference of `Merged` likewise. -/
theorem frameMergedRefIdeal : Cert.quiescent_MergedRefIdeal :=
  fun m g _ => (θ_run _ _ _).mono (fun r h => ⟨fun c => (h c).2, sem_eq_zero_of_no_sems (by decide) r.2⟩)
    (Cert.MergedRefIdeal.Value.run (F := Ideal) m g)

/-- `Wout` ends and leaves its arguments and every semaphore as they were. -/
theorem frameWout : Cert.quiescent_Wout := fun m g _ => Cert.Wout.Gen.frame (F := Bits) m g

/-- The idealized `Wout` likewise. -/
theorem frameWoutIdeal : Cert.quiescent_WoutIdeal := fun m g _ => Cert.WoutIdeal.Gen.frame (F := Ideal) m g

/-- The reference of `Wout` likewise. -/
theorem frameWoutRefIdeal : Cert.quiescent_WoutRefIdeal :=
  fun m g _ => (θ_run _ _ _).mono (fun r h => ⟨fun c => (h c).2, sem_eq_zero_of_no_sems (by decide) r.2⟩)
    (Cert.WoutRefIdeal.Value.run (F := Ideal) m g)

/-- `Fwd` ends and leaves its arguments and every semaphore as they were. -/
theorem frameFwd : Cert.quiescent_Fwd := Cert.Fwd.Own.quiescent

/-- The idealized `Fwd` likewise. -/
theorem frameFwdIdeal : Cert.quiescent_FwdIdeal := fun m g _ => Cert.FwdIdeal.Gen.frame (F := Ideal) m g

/-- The reference of `Fwd` likewise. -/
theorem frameFwdRefIdeal : Cert.quiescent_FwdRefIdeal :=
  fun m g _ => (θ_run _ _ _).mono (fun r h => ⟨fun c => (h c).2.2.2, sem_eq_zero_of_no_sems (by decide) r.2⟩)
    (Cert.FwdRefIdeal.Value.run (F := Ideal) m g)

/-- `In` ends and leaves its arguments and every semaphore as they were. -/
theorem frameIn : Cert.quiescent_In := fun m g _ => Cert.In.Gen.frame (F := Bits) m g

/-- The idealized `In` likewise. -/
theorem frameInIdeal : Cert.quiescent_InIdeal := fun m g _ => Cert.InIdeal.Gen.frame (F := Ideal) m g

/-- The reference of `In` likewise. -/
theorem frameInRefIdeal : Cert.quiescent_InRefIdeal :=
  fun m g _ => (θ_run _ _ _).mono (fun r h => ⟨fun c => (h c).2, sem_eq_zero_of_no_sems (by decide) r.2⟩)
    (Cert.InRefIdeal.Value.run (F := Ideal) m g)

/-- `Dy` ends and leaves its arguments and every semaphore as they were. -/
theorem frameDy : Cert.quiescent_Dy := fun m g _ => Cert.Dy.Gen.frame (F := Bits) m g

/-- The idealized `Dy` likewise. -/
theorem frameDyIdeal : Cert.quiescent_DyIdeal := fun m g _ => Cert.DyIdeal.Gen.frame (F := Ideal) m g

/-- The reference of `Dy` likewise. -/
theorem frameDyRefIdeal : Cert.quiescent_DyRefIdeal :=
  fun m g _ => (θ_run _ _ _).mono (fun r h => ⟨fun c => (h c).2.2.2.2, sem_eq_zero_of_no_sems (by decide) r.2⟩)
    (Cert.DyRefIdeal.Value.run (F := Ideal) m g)

/-- `Attn` ends and leaves its arguments and every semaphore as they were. -/
theorem frameAttn : Cert.quiescent_Attn := fun m g _ => Cert.Attn.Own.quiescent (F := Bits) m g

/-- The idealized `Attn` likewise. -/
theorem frameAttnIdeal : Cert.quiescent_AttnIdeal := fun m g _ => Cert.AttnIdeal.Own.quiescent (F := Ideal) m g

/-- The reference of `Attn` likewise. -/
theorem frameAttnRefIdeal : Cert.quiescent_AttnRefIdeal :=
  fun m g _ => (θ_run _ _ _).mono (fun r h => ⟨fun c => (h c).2.2.2, sem_eq_zero_of_no_sems (by decide) r.2⟩)
    (Cert.AttnRefIdeal.Value.run (F := Ideal) m g)

/-- The three constants that are named in `Attn`. -/
theorem preservedAttn : Cert.preserves_Attn_AttnIdeal :=
  ⟨IdealRules.named_const.statement Cert.AttnIdeal.κ "mask" .f32 0xF149F2CA#32 _ rfl,
    IdealRules.named_const.statement Cert.AttnIdeal.κ "scale_log2e" .f32 0x3E0293EE#32 _ rfl,
    IdealRules.named_const.statement Cert.AttnIdeal.κ "log2e" .f32 0x3FB8AA3B#32 _ rfl⟩

theorem claim : Cert.Claim :=
  ⟨
    Cert.Kernel.Gen.facts, Cert.KernelIdeal.Gen.facts, Cert.ReferenceIdeal.Gen.facts, Cert.Rms.Gen.facts,
    Cert.RmsIdeal.Gen.facts, Cert.RmsRefIdeal.Gen.facts, Cert.Merge.Gen.facts, Cert.MergeIdeal.Gen.facts,
    Cert.MergeRefIdeal.Gen.facts, Cert.Win.Gen.facts, Cert.WinIdeal.Gen.facts, Cert.WinRefIdeal.Gen.facts,
    Cert.Wgate.Gen.facts, Cert.WgateIdeal.Gen.facts, Cert.WgateRefIdeal.Gen.facts, Cert.Hgate.Gen.facts,
    Cert.HgateIdeal.Gen.facts, Cert.HgateRefIdeal.Gen.facts, Cert.Merged.Gen.facts, Cert.MergedIdeal.Gen.facts,
    Cert.MergedRefIdeal.Gen.facts, Cert.Wout.Gen.facts, Cert.WoutIdeal.Gen.facts, Cert.WoutRefIdeal.Gen.facts,
    Cert.Fwd.Gen.facts, Cert.FwdIdeal.Gen.facts, Cert.FwdRefIdeal.Gen.facts, Cert.In.Gen.facts,
    Cert.InIdeal.Gen.facts, Cert.InRefIdeal.Gen.facts, Cert.Dy.Gen.facts, Cert.DyIdeal.Gen.facts,
    Cert.DyRefIdeal.Gen.facts, Cert.Attn.Gen.facts, Cert.AttnIdeal.Gen.facts, Cert.AttnRefIdeal.Gen.facts,
    Cert.Pre_finite.Gen.facts, Cert.Pre_finite_rms.Gen.facts, Cert.Pre_finite_attn.Gen.facts,
    frameKernel, frameKernelIdeal, fun m g _ => frameKernelIdeal m g trivial, frameReferenceIdeal, fun m g _ =>
    frameReferenceIdeal m g trivial, frameRms, frameRmsIdeal, fun m g _ => frameRmsIdeal m g trivial,
    frameRmsRefIdeal, fun m g _ => frameRmsRefIdeal m g trivial, frameMerge, frameMergeIdeal, frameMergeRefIdeal,
    frameWin, frameWinIdeal, frameWinRefIdeal, frameWgate, frameWgateIdeal, frameWgateRefIdeal, frameHgate,
    frameHgateIdeal, frameHgateRefIdeal, frameMerged, frameMergedIdeal, frameMergedRefIdeal, frameWout,
    frameWoutIdeal, frameWoutRefIdeal, frameFwd, frameFwdIdeal, frameFwdRefIdeal, frameIn, frameInIdeal,
    frameInRefIdeal, frameDy, frameDyIdeal, frameDyRefIdeal, frameAttn, frameAttnIdeal,
    fun m g _ => frameAttnIdeal m g trivial, frameAttnRefIdeal, fun m g _ => frameAttnRefIdeal m g trivial,
    preserved, equal, trivial, Cert.RmsIdeal.Own.algebraic, trivial, Cert.MergeIdeal.Own.algebraic, trivial,
    Cert.WinIdeal.Own.algebraic, trivial, Cert.WgateIdeal.Own.algebraic, trivial, Cert.HgateIdeal.Own.algebraic,
    trivial, Cert.MergedIdeal.Own.algebraic, trivial, Cert.WoutIdeal.Own.algebraic, trivial,
    Cert.FwdIdeal.Own.algebraic, trivial, Cert.InIdeal.Own.algebraic, trivial, Cert.DyIdeal.Own.algebraic,
    preservedAttn, Cert.AttnIdeal.Own.algebraic⟩

end Cert.Proof
